-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arrays [hPre_finite_arrays : Cert.Pre_finite_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arrays [hPre_finite_arrays : Cert.Pre_finite_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Dv (m : (ℓ : Loc Cert.Dv.nD Cert.Dv.τ Cert.Dv.sig) → Buf (Elt Bits) ℓ) : Prop :=
  True

def Pre_DvIdeal (m : (ℓ : Loc Cert.DvIdeal.nD Cert.DvIdeal.τ Cert.DvIdeal.sig) → Buf (Elt Ideal) ℓ) : Prop :=
  True

def Pre_DvReferenceIdeal (m : (ℓ : Loc Cert.DvReferenceIdeal.nD Cert.DvReferenceIdeal.τ Cert.DvReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_ffn [hPre_finite_ffn : Cert.Pre_finite_ffn.Facts] (m : (ℓ : Loc Cert.DxIdeal.nD Cert.DxIdeal.τ Cert.DxIdeal.sig) → Buf (Elt Ideal) ℓ) : Prop :=
  ∀ c : Dev Cert.DxIdeal.nD,
    (Cert.Pre_finite_ffn.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))) = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_finite_ffn [hPre_finite_ffn : Cert.Pre_finite_ffn.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_finite_ffn.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4)) (m ((c.tc : Thread Cert.DxReferenceIdeal.nD Cert.DxReferenceIdeal.τ).loc Cert.DxReferenceIdeal.main_arg5))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ix (m : (ℓ : Loc Cert.Ix.nD Cert.Ix.τ Cert.Ix.sig) → Buf (Elt Bits) ℓ) : Prop :=
  True

def Pre_IxIdeal (m : (ℓ : Loc Cert.IxIdeal.nD Cert.IxIdeal.τ Cert.IxIdeal.sig) → Buf (Elt Ideal) ℓ) : Prop :=
  True

def Pre_IxReferenceIdeal (m : (ℓ : Loc Cert.IxReferenceIdeal.nD Cert.IxReferenceIdeal.τ Cert.IxReferenceIdeal.sig) → Buf (Elt Ideal) ℓ) : Prop :=
  True

def Pre_Iw (m : (ℓ : Loc Cert.Iw.nD Cert.Iw.τ Cert.Iw.sig) → Buf (Elt Bits) ℓ) : Prop :=
  True

def Pre_IwIdeal (m : (ℓ : Loc Cert.IwIdeal.nD Cert.IwIdeal.τ Cert.IwIdeal.sig) → Buf (Elt Ideal) ℓ) : Prop :=
  True

def Pre_IwReferenceIdeal (m : (ℓ : Loc Cert.IwReferenceIdeal.nD Cert.IwReferenceIdeal.τ Cert.IwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arrays [hKernelIdeal : Cert.KernelIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arrays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arrays [hReferenceIdeal : Cert.ReferenceIdeal.Facts] [hPre_finite_arrays : Cert.Pre_finite_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arrays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_Dv [hDv : Cert.Dv.Facts] : Prop :=
  ∀ (m : (ℓ : Loc Cert.Dv.nD Cert.Dv.τ Cert.Dv.sig) → Buf (Elt Bits) ℓ) (g : Dev Cert.Dv.nD → PrngReg), Pre_Dv m →
    θ_run (Cert.Dv.defs (F := Bits)) (onTc (τ := Cert.Dv.τ) (Cert.Dv.main (F := Bits))) ⟨m, fun _ => 0, g⟩ (fun r => (∀ c : Dev Cert.Dv.nD,
      r.2.mem ((c.tc : Thread Cert.Dv.nD Cert.Dv.τ).loc Cert.Dv.main_arg0) = m ((c.tc : Thread Cert.Dv.nD Cert.Dv.τ).loc Cert.Dv.main_arg0)
      ∧ r.2.mem ((c.tc : Thread Cert.Dv.nD Cert.Dv.τ).loc Cert.Dv.main_arg1) = m ((c.tc : Thread Cert.Dv.nD Cert.Dv.τ).loc Cert.Dv.main_arg1))
      ∧ r.2.sem = fun _ => 0)

def quiescent_DvIdeal [hDvIdeal : Cert.DvIdeal.Facts] : Prop :=
  ∀ (m : (ℓ : Loc Cert.DvIdeal.nD Cert.DvIdeal.τ Cert.DvIdeal.sig) → Buf (Elt Ideal) ℓ) (g : Dev Cert.DvIdeal.nD → PrngReg), Pre_DvIdeal m →
    θ_run (Cert.DvIdeal.defs (F := Ideal)) (onTc (τ := Cert.DvIdeal.τ) (Cert.DvIdeal.main (F := Ideal))) ⟨m, fun _ => 0, g⟩ (fun r => (∀ c : Dev Cert.DvIdeal.nD,
      r.2.mem ((c.tc : Thread Cert.DvIdeal.nD Cert.DvIdeal.τ).loc Cert.DvIdeal.main_arg0) = m ((c.tc : Thread Cert.DvIdeal.nD Cert.DvIdeal.τ).loc Cert.DvIdeal.main_arg0)
      ∧ r.2.mem ((c.tc : Thread Cert.DvIdeal.nD Cert.DvIdeal.τ).loc Cert.DvIdeal.main_arg1) = m ((c.tc : Thread Cert.DvIdeal.nD Cert.DvIdeal.τ).loc Cert.DvIdeal.main_arg1))
      ∧ r.2.sem = fun _ => 0)

def quiescent_DvReferenceIdeal [hDvReferenceIdeal : Cert.DvReferenceIdeal.Facts] : Prop :=
  ∀ (m : (ℓ : Loc Cert.DvReferenceIdeal.nD Cert.DvReferenceIdeal.τ Cert.DvReferenceIdeal.sig) → Buf (Elt Ideal) ℓ) (g : Dev Cert.DvReferenceIdeal.nD → PrngReg), Pre_DvReferenceIdeal m →
    θ_run (Cert.DvReferenceIdeal.defs (F := Ideal)) (onTc (τ := Cert.DvReferenceIdeal.τ) (Cert.DvReferenceIdeal.main (F := Ideal))) ⟨m, fun _ => 0, g⟩ (fun r => (∀ c : Dev Cert.DvReferenceIdeal.nD,
      r.2.mem ((c.tc : Thread Cert.DvReferenceIdeal.nD Cert.DvReferenceIdeal.τ).loc Cert.DvReferenceIdeal.main_arg0) = m ((c.tc : Thread Cert.DvReferenceIdeal.nD Cert.DvReferenceIdeal.τ).loc Cert.DvReferenceIdeal.main_arg0)
      ∧ r.2.mem ((c.tc : Thread Cert.DvReferenceIdeal.nD Cert.DvReferenceIdeal.τ).loc Cert.DvReferenceIdeal.main_arg1) = m ((c.tc : Thread Cert.DvReferenceIdeal.nD Cert.DvReferenceIdeal.τ).loc Cert.DvReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxIdeal_pre_finite_ffn [hDxIdeal : Cert.DxIdeal.Facts] [hPre_finite_ffn : Cert.Pre_finite_ffn.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_ffn m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def quiescent_DxReferenceIdeal_pre_finite_ffn [hDxReferenceIdeal : Cert.DxReferenceIdeal.Facts] [hPre_finite_ffn : Cert.Pre_finite_ffn.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_finite_ffn m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Ix [hIx : Cert.Ix.Facts] : Prop :=
  ∀ (m : (ℓ : Loc Cert.Ix.nD Cert.Ix.τ Cert.Ix.sig) → Buf (Elt Bits) ℓ) (g : Dev Cert.Ix.nD → PrngReg), Pre_Ix m →
    θ_run (Cert.Ix.defs (F := Bits)) (onTc (τ := Cert.Ix.τ) (Cert.Ix.main (F := Bits))) ⟨m, fun _ => 0, g⟩ (fun r => (∀ c : Dev Cert.Ix.nD,
      r.2.mem ((c.tc : Thread Cert.Ix.nD Cert.Ix.τ).loc Cert.Ix.main_arg0) = m ((c.tc : Thread Cert.Ix.nD Cert.Ix.τ).loc Cert.Ix.main_arg0)
      ∧ r.2.mem ((c.tc : Thread Cert.Ix.nD Cert.Ix.τ).loc Cert.Ix.main_arg1) = m ((c.tc : Thread Cert.Ix.nD Cert.Ix.τ).loc Cert.Ix.main_arg1))
      ∧ r.2.sem = fun _ => 0)

def quiescent_IxIdeal [hIxIdeal : Cert.IxIdeal.Facts] : Prop :=
  ∀ (m : (ℓ : Loc Cert.IxIdeal.nD Cert.IxIdeal.τ Cert.IxIdeal.sig) → Buf (Elt Ideal) ℓ) (g : Dev Cert.IxIdeal.nD → PrngReg), Pre_IxIdeal m →
    θ_run (Cert.IxIdeal.defs (F := Ideal)) (onTc (τ := Cert.IxIdeal.τ) (Cert.IxIdeal.main (F := Ideal))) ⟨m, fun _ => 0, g⟩ (fun r => (∀ c : Dev Cert.IxIdeal.nD,
      r.2.mem ((c.tc : Thread Cert.IxIdeal.nD Cert.IxIdeal.τ).loc Cert.IxIdeal.main_arg0) = m ((c.tc : Thread Cert.IxIdeal.nD Cert.IxIdeal.τ).loc Cert.IxIdeal.main_arg0)
      ∧ r.2.mem ((c.tc : Thread Cert.IxIdeal.nD Cert.IxIdeal.τ).loc Cert.IxIdeal.main_arg1) = m ((c.tc : Thread Cert.IxIdeal.nD Cert.IxIdeal.τ).loc Cert.IxIdeal.main_arg1))
      ∧ r.2.sem = fun _ => 0)

def quiescent_IxReferenceIdeal [hIxReferenceIdeal : Cert.IxReferenceIdeal.Facts] : Prop :=
  ∀ (m : (ℓ : Loc Cert.IxReferenceIdeal.nD Cert.IxReferenceIdeal.τ Cert.IxReferenceIdeal.sig) → Buf (Elt Ideal) ℓ) (g : Dev Cert.IxReferenceIdeal.nD → PrngReg), Pre_IxReferenceIdeal m →
    θ_run (Cert.IxReferenceIdeal.defs (F := Ideal)) (onTc (τ := Cert.IxReferenceIdeal.τ) (Cert.IxReferenceIdeal.main (F := Ideal))) ⟨m, fun _ => 0, g⟩ (fun r => (∀ c : Dev Cert.IxReferenceIdeal.nD,
      r.2.mem ((c.tc : Thread Cert.IxReferenceIdeal.nD Cert.IxReferenceIdeal.τ).loc Cert.IxReferenceIdeal.main_arg0) = m ((c.tc : Thread Cert.IxReferenceIdeal.nD Cert.IxReferenceIdeal.τ).loc Cert.IxReferenceIdeal.main_arg0)
      ∧ r.2.mem ((c.tc : Thread Cert.IxReferenceIdeal.nD Cert.IxReferenceIdeal.τ).loc Cert.IxReferenceIdeal.main_arg1) = m ((c.tc : Thread Cert.IxReferenceIdeal.nD Cert.IxReferenceIdeal.τ).loc Cert.IxReferenceIdeal.main_arg1))
      ∧ r.2.sem = fun _ => 0)

def quiescent_Iw [hIw : Cert.Iw.Facts] : Prop :=
  ∀ (m : (ℓ : Loc Cert.Iw.nD Cert.Iw.τ Cert.Iw.sig) → Buf (Elt Bits) ℓ) (g : Dev Cert.Iw.nD → PrngReg), Pre_Iw m →
    θ_run (Cert.Iw.defs (F := Bits)) (onTc (τ := Cert.Iw.τ) (Cert.Iw.main (F := Bits))) ⟨m, fun _ => 0, g⟩ (fun r => (∀ c : Dev Cert.Iw.nD,
      r.2.mem ((c.tc : Thread Cert.Iw.nD Cert.Iw.τ).loc Cert.Iw.main_arg0) = m ((c.tc : Thread Cert.Iw.nD Cert.Iw.τ).loc Cert.Iw.main_arg0)
      ∧ r.2.mem ((c.tc : Thread Cert.Iw.nD Cert.Iw.τ).loc Cert.Iw.main_arg1) = m ((c.tc : Thread Cert.Iw.nD Cert.Iw.τ).loc Cert.Iw.main_arg1))
      ∧ r.2.sem = fun _ => 0)

def quiescent_IwIdeal [hIwIdeal : Cert.IwIdeal.Facts] : Prop :=
  ∀ (m : (ℓ : Loc Cert.IwIdeal.nD Cert.IwIdeal.τ Cert.IwIdeal.sig) → Buf (Elt Ideal) ℓ) (g : Dev Cert.IwIdeal.nD → PrngReg), Pre_IwIdeal m →
    θ_run (Cert.IwIdeal.defs (F := Ideal)) (onTc (τ := Cert.IwIdeal.τ) (Cert.IwIdeal.main (F := Ideal))) ⟨m, fun _ => 0, g⟩ (fun r => (∀ c : Dev Cert.IwIdeal.nD,
      r.2.mem ((c.tc : Thread Cert.IwIdeal.nD Cert.IwIdeal.τ).loc Cert.IwIdeal.main_arg0) = m ((c.tc : Thread Cert.IwIdeal.nD Cert.IwIdeal.τ).loc Cert.IwIdeal.main_arg0)
      ∧ r.2.mem ((c.tc : Thread Cert.IwIdeal.nD Cert.IwIdeal.τ).loc Cert.IwIdeal.main_arg1) = m ((c.tc : Thread Cert.IwIdeal.nD Cert.IwIdeal.τ).loc Cert.IwIdeal.main_arg1))
      ∧ r.2.sem = fun _ => 0)

def quiescent_IwReferenceIdeal [hIwReferenceIdeal : Cert.IwReferenceIdeal.Facts] : Prop :=
  ∀ (m : (ℓ : Loc Cert.IwReferenceIdeal.nD Cert.IwReferenceIdeal.τ Cert.IwReferenceIdeal.sig) → Buf (Elt Ideal) ℓ) (g : Dev Cert.IwReferenceIdeal.nD → PrngReg), Pre_IwReferenceIdeal m →
    θ_run (Cert.IwReferenceIdeal.defs (F := Ideal)) (onTc (τ := Cert.IwReferenceIdeal.τ) (Cert.IwReferenceIdeal.main (F := Ideal))) ⟨m, fun _ => 0, g⟩ (fun r => (∀ c : Dev Cert.IwReferenceIdeal.nD,
      r.2.mem ((c.tc : Thread Cert.IwReferenceIdeal.nD Cert.IwReferenceIdeal.τ).loc Cert.IwReferenceIdeal.main_arg0) = m ((c.tc : Thread Cert.IwReferenceIdeal.nD Cert.IwReferenceIdeal.τ).loc Cert.IwReferenceIdeal.main_arg0)
      ∧ r.2.mem ((c.tc : Thread Cert.IwReferenceIdeal.nD Cert.IwReferenceIdeal.τ).loc Cert.IwReferenceIdeal.main_arg1) = m ((c.tc : Thread Cert.IwReferenceIdeal.nD Cert.IwReferenceIdeal.τ).loc Cert.IwReferenceIdeal.main_arg1))
      ∧ r.2.sem = fun _ => 0)

def preserves_Kernel_KernelIdeal : Prop :=
  IdealRules.named_const.Statement Cert.KernelIdeal.κ "log_gamma_2" .f32 0xBC0080AC#32 ((Real.log (127 / 128) : ℝ) : EReal)
  ∧ IdealRules.named_const.Statement Cert.KernelIdeal.κ "log_gamma_3" .f32 0xBB80402B#32 ((Real.log (255 / 256) : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "log_gamma_0" .f32 0xBD020AEC#32 ((Real.log (31 / 32) : ℝ) : EReal)

def algebraic_KernelIdeal_ReferenceIdeal_pre_finite_arrays [hKernelIdeal : Cert.KernelIdeal.Facts] [hReferenceIdeal : Cert.ReferenceIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arrays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17_2)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v18_1)) (v3 : (c : Dev Cert.KernelIdeal.nD) → Buf (Elt Ideal) ((c.tc : Thread Cert.KernelIdeal.nD Cert.KernelIdeal.τ).loc Cert.KernelIdeal.main_v18_2)) (v4 : (c : Dev Cert.KernelIdeal.nD) → Buf (Elt Ideal) ((c.tc : Thread Cert.KernelIdeal.nD Cert.KernelIdeal.τ).loc Cert.KernelIdeal.main_v18_3)) (v5 : (c : Dev Cert.KernelIdeal.nD) → Buf (Elt Ideal) ((c.tc : Thread Cert.KernelIdeal.nD Cert.KernelIdeal.τ).loc Cert.KernelIdeal.main_v18_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_2) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_v18_2) = v3 c
          ∧ r.2.mem ((c.tc : Thread Cert.KernelIdeal.nD Cert.KernelIdeal.τ).loc Cert.KernelIdeal.main_v18_3) = v4 c
          ∧ r.2.mem ((c.tc : Thread Cert.KernelIdeal.nD Cert.KernelIdeal.τ).loc Cert.KernelIdeal.main_v18_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v476) = v1 c
          ∧ r.2.mem ((c.tc : Thread Cert.ReferenceIdeal.nD Cert.ReferenceIdeal.τ).loc Cert.ReferenceIdeal.main_v475) = v2 c
          ∧ r.2.mem ((c.tc : Thread Cert.ReferenceIdeal.nD Cert.ReferenceIdeal.τ).loc Cert.ReferenceIdeal.main_v474) = v3 c
          ∧ r.2.mem ((c.tc : Thread Cert.ReferenceIdeal.nD Cert.ReferenceIdeal.τ).loc Cert.ReferenceIdeal.main_v275) = v4 c
          ∧ r.2.mem ((c.tc : Thread Cert.ReferenceIdeal.nD Cert.ReferenceIdeal.τ).loc Cert.ReferenceIdeal.main_v477) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1_1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v13) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_Dv_DvIdeal : Prop :=
  True

def algebraic_DvIdeal_DvReferenceIdeal [hDvIdeal : Cert.DvIdeal.Facts] [hDvReferenceIdeal : Cert.DvReferenceIdeal.Facts] : Prop :=
  ∀ (m : (ℓ : Loc Cert.DvIdeal.nD Cert.DvIdeal.τ Cert.DvIdeal.sig) → Buf (Elt Ideal) ℓ) (g : Dev Cert.DvIdeal.nD → PrngReg)
    (m' : (ℓ : Loc Cert.DvReferenceIdeal.nD Cert.DvReferenceIdeal.τ Cert.DvReferenceIdeal.sig) → Buf (Elt Ideal) ℓ) (g' : Dev Cert.DvReferenceIdeal.nD → PrngReg), Pre_DvIdeal m →
    (∀ c : Dev Cert.DvIdeal.nD,
      m' ((c.tc : Thread Cert.DvReferenceIdeal.nD Cert.DvReferenceIdeal.τ).loc Cert.DvReferenceIdeal.main_arg0) = m ((c.tc : Thread Cert.DvIdeal.nD Cert.DvIdeal.τ).loc Cert.DvIdeal.main_arg0)
      ∧ m' ((c.tc : Thread Cert.DvReferenceIdeal.nD Cert.DvReferenceIdeal.τ).loc Cert.DvReferenceIdeal.main_arg1) = m ((c.tc : Thread Cert.DvIdeal.nD Cert.DvIdeal.τ).loc Cert.DvIdeal.main_arg1)) →
    ∃ (v0 : (c : Dev Cert.DvIdeal.nD) → Buf (Elt Ideal) ((c.tc : Thread Cert.DvIdeal.nD Cert.DvIdeal.τ).loc Cert.DvIdeal.main_v1_1)),
      θ_run (Cert.DvIdeal.defs (F := Ideal)) (onTc (τ := Cert.DvIdeal.τ) (Cert.DvIdeal.main (F := Ideal))) ⟨m, fun _ => 0, g⟩ (fun r => ∀ c : Dev Cert.DvIdeal.nD,
          r.2.mem ((c.tc : Thread Cert.DvIdeal.nD Cert.DvIdeal.τ).loc Cert.DvIdeal.main_v1_1) = v0 c
          ∧ r.2.mem ((c.tc : Thread Cert.DvIdeal.nD Cert.DvIdeal.τ).loc Cert.DvIdeal.main_arg0) = m ((c.tc : Thread Cert.DvIdeal.nD Cert.DvIdeal.τ).loc Cert.DvIdeal.main_arg0)
          ∧ r.2.mem ((c.tc : Thread Cert.DvIdeal.nD Cert.DvIdeal.τ).loc Cert.DvIdeal.main_arg1) = m ((c.tc : Thread Cert.DvIdeal.nD Cert.DvIdeal.τ).loc Cert.DvIdeal.main_arg1))
      ∧ θ_run (Cert.DvReferenceIdeal.defs (F := Ideal)) (onTc (τ := Cert.DvReferenceIdeal.τ) (Cert.DvReferenceIdeal.main (F := Ideal))) ⟨m', fun _ => 0, g'⟩ (fun r => ∀ c : Dev Cert.DvReferenceIdeal.nD,
          r.2.mem ((c.tc : Thread Cert.DvReferenceIdeal.nD Cert.DvReferenceIdeal.τ).loc Cert.DvReferenceIdeal.main_v11) = v0 c
          ∧ r.2.mem ((c.tc : Thread Cert.DvReferenceIdeal.nD Cert.DvReferenceIdeal.τ).loc Cert.DvReferenceIdeal.main_arg0) = m' ((c.tc : Thread Cert.DvReferenceIdeal.nD Cert.DvReferenceIdeal.τ).loc Cert.DvReferenceIdeal.main_arg0)
          ∧ r.2.mem ((c.tc : Thread Cert.DvReferenceIdeal.nD Cert.DvReferenceIdeal.τ).loc Cert.DvReferenceIdeal.main_arg1) = m' ((c.tc : Thread Cert.DvReferenceIdeal.nD Cert.DvReferenceIdeal.τ).loc Cert.DvReferenceIdeal.main_arg1))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v11_0)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v11_0) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v21) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_Dx_DxIdeal : Prop :=
  True

def algebraic_DxIdeal_DxReferenceIdeal_pre_finite_ffn [hDxIdeal : Cert.DxIdeal.Facts] [hDxReferenceIdeal : Cert.DxReferenceIdeal.Facts] [hPre_finite_ffn : Cert.Pre_finite_ffn.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal_finite_ffn m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v37_0)) (v1 : (c : Dev Cert.DxIdeal.nD) → Buf (Elt Ideal) ((c.tc : Thread Cert.DxIdeal.nD Cert.DxIdeal.τ).loc Cert.DxIdeal.main_v37_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v37_0) = v0 c
          ∧ r.2.mem ((c.tc : Thread Cert.DxIdeal.nD Cert.DxIdeal.τ).loc Cert.DxIdeal.main_v37_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v55) = v0 c
          ∧ r.2.mem ((c.tc : Thread Cert.DxReferenceIdeal.nD Cert.DxReferenceIdeal.τ).loc Cert.DxReferenceIdeal.main_v56) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Ix_IxIdeal : Prop :=
  True

def algebraic_IxIdeal_IxReferenceIdeal [hIxIdeal : Cert.IxIdeal.Facts] [hIxReferenceIdeal : Cert.IxReferenceIdeal.Facts] : Prop :=
  ∀ (m : (ℓ : Loc Cert.IxIdeal.nD Cert.IxIdeal.τ Cert.IxIdeal.sig) → Buf (Elt Ideal) ℓ) (g : Dev Cert.IxIdeal.nD → PrngReg)
    (m' : (ℓ : Loc Cert.IxReferenceIdeal.nD Cert.IxReferenceIdeal.τ Cert.IxReferenceIdeal.sig) → Buf (Elt Ideal) ℓ) (g' : Dev Cert.IxReferenceIdeal.nD → PrngReg), Pre_IxIdeal m →
    (∀ c : Dev Cert.IxIdeal.nD,
      m' ((c.tc : Thread Cert.IxReferenceIdeal.nD Cert.IxReferenceIdeal.τ).loc Cert.IxReferenceIdeal.main_arg0) = m ((c.tc : Thread Cert.IxIdeal.nD Cert.IxIdeal.τ).loc Cert.IxIdeal.main_arg0)
      ∧ m' ((c.tc : Thread Cert.IxReferenceIdeal.nD Cert.IxReferenceIdeal.τ).loc Cert.IxReferenceIdeal.main_arg1) = m ((c.tc : Thread Cert.IxIdeal.nD Cert.IxIdeal.τ).loc Cert.IxIdeal.main_arg1)) →
    ∃ (v0 : (c : Dev Cert.IxIdeal.nD) → Buf (Elt Ideal) ((c.tc : Thread Cert.IxIdeal.nD Cert.IxIdeal.τ).loc Cert.IxIdeal.main_v2)),
      θ_run (Cert.IxIdeal.defs (F := Ideal)) (onTc (τ := Cert.IxIdeal.τ) (Cert.IxIdeal.main (F := Ideal))) ⟨m, fun _ => 0, g⟩ (fun r => ∀ c : Dev Cert.IxIdeal.nD,
          r.2.mem ((c.tc : Thread Cert.IxIdeal.nD Cert.IxIdeal.τ).loc Cert.IxIdeal.main_v2) = v0 c
          ∧ r.2.mem ((c.tc : Thread Cert.IxIdeal.nD Cert.IxIdeal.τ).loc Cert.IxIdeal.main_arg0) = m ((c.tc : Thread Cert.IxIdeal.nD Cert.IxIdeal.τ).loc Cert.IxIdeal.main_arg0)
          ∧ r.2.mem ((c.tc : Thread Cert.IxIdeal.nD Cert.IxIdeal.τ).loc Cert.IxIdeal.main_arg1) = m ((c.tc : Thread Cert.IxIdeal.nD Cert.IxIdeal.τ).loc Cert.IxIdeal.main_arg1))
      ∧ θ_run (Cert.IxReferenceIdeal.defs (F := Ideal)) (onTc (τ := Cert.IxReferenceIdeal.τ) (Cert.IxReferenceIdeal.main (F := Ideal))) ⟨m', fun _ => 0, g'⟩ (fun r => ∀ c : Dev Cert.IxReferenceIdeal.nD,
          r.2.mem ((c.tc : Thread Cert.IxReferenceIdeal.nD Cert.IxReferenceIdeal.τ).loc Cert.IxReferenceIdeal.main_v2) = v0 c
          ∧ r.2.mem ((c.tc : Thread Cert.IxReferenceIdeal.nD Cert.IxReferenceIdeal.τ).loc Cert.IxReferenceIdeal.main_arg0) = m' ((c.tc : Thread Cert.IxReferenceIdeal.nD Cert.IxReferenceIdeal.τ).loc Cert.IxReferenceIdeal.main_arg0)
          ∧ r.2.mem ((c.tc : Thread Cert.IxReferenceIdeal.nD Cert.IxReferenceIdeal.τ).loc Cert.IxReferenceIdeal.main_arg1) = m' ((c.tc : Thread Cert.IxReferenceIdeal.nD Cert.IxReferenceIdeal.τ).loc Cert.IxReferenceIdeal.main_arg1))

def preserves_Iw_IwIdeal : Prop :=
  True

def algebraic_IwIdeal_IwReferenceIdeal [hIwIdeal : Cert.IwIdeal.Facts] [hIwReferenceIdeal : Cert.IwReferenceIdeal.Facts] : Prop :=
  ∀ (m : (ℓ : Loc Cert.IwIdeal.nD Cert.IwIdeal.τ Cert.IwIdeal.sig) → Buf (Elt Ideal) ℓ) (g : Dev Cert.IwIdeal.nD → PrngReg)
    (m' : (ℓ : Loc Cert.IwReferenceIdeal.nD Cert.IwReferenceIdeal.τ Cert.IwReferenceIdeal.sig) → Buf (Elt Ideal) ℓ) (g' : Dev Cert.IwReferenceIdeal.nD → PrngReg), Pre_IwIdeal m →
    (∀ c : Dev Cert.IwIdeal.nD,
      m' ((c.tc : Thread Cert.IwReferenceIdeal.nD Cert.IwReferenceIdeal.τ).loc Cert.IwReferenceIdeal.main_arg0) = m ((c.tc : Thread Cert.IwIdeal.nD Cert.IwIdeal.τ).loc Cert.IwIdeal.main_arg0)
      ∧ m' ((c.tc : Thread Cert.IwReferenceIdeal.nD Cert.IwReferenceIdeal.τ).loc Cert.IwReferenceIdeal.main_arg1) = m ((c.tc : Thread Cert.IwIdeal.nD Cert.IwIdeal.τ).loc Cert.IwIdeal.main_arg1)) →
    ∃ (v0 : (c : Dev Cert.IwIdeal.nD) → Buf (Elt Ideal) ((c.tc : Thread Cert.IwIdeal.nD Cert.IwIdeal.τ).loc Cert.IwIdeal.main_v2_0)) (v1 : (c : Dev Cert.IwIdeal.nD) → Buf (Elt Ideal) ((c.tc : Thread Cert.IwIdeal.nD Cert.IwIdeal.τ).loc Cert.IwIdeal.main_v2_1)),
      θ_run (Cert.IwIdeal.defs (F := Ideal)) (onTc (τ := Cert.IwIdeal.τ) (Cert.IwIdeal.main (F := Ideal))) ⟨m, fun _ => 0, g⟩ (fun r => ∀ c : Dev Cert.IwIdeal.nD,
          r.2.mem ((c.tc : Thread Cert.IwIdeal.nD Cert.IwIdeal.τ).loc Cert.IwIdeal.main_v2_0) = v0 c
          ∧ r.2.mem ((c.tc : Thread Cert.IwIdeal.nD Cert.IwIdeal.τ).loc Cert.IwIdeal.main_v2_1) = v1 c
          ∧ r.2.mem ((c.tc : Thread Cert.IwIdeal.nD Cert.IwIdeal.τ).loc Cert.IwIdeal.main_arg0) = m ((c.tc : Thread Cert.IwIdeal.nD Cert.IwIdeal.τ).loc Cert.IwIdeal.main_arg0)
          ∧ r.2.mem ((c.tc : Thread Cert.IwIdeal.nD Cert.IwIdeal.τ).loc Cert.IwIdeal.main_arg1) = m ((c.tc : Thread Cert.IwIdeal.nD Cert.IwIdeal.τ).loc Cert.IwIdeal.main_arg1))
      ∧ θ_run (Cert.IwReferenceIdeal.defs (F := Ideal)) (onTc (τ := Cert.IwReferenceIdeal.τ) (Cert.IwReferenceIdeal.main (F := Ideal))) ⟨m', fun _ => 0, g'⟩ (fun r => ∀ c : Dev Cert.IwReferenceIdeal.nD,
          r.2.mem ((c.tc : Thread Cert.IwReferenceIdeal.nD Cert.IwReferenceIdeal.τ).loc Cert.IwReferenceIdeal.main_v3) = v0 c
          ∧ r.2.mem ((c.tc : Thread Cert.IwReferenceIdeal.nD Cert.IwReferenceIdeal.τ).loc Cert.IwReferenceIdeal.main_v4) = v1 c
          ∧ r.2.mem ((c.tc : Thread Cert.IwReferenceIdeal.nD Cert.IwReferenceIdeal.τ).loc Cert.IwReferenceIdeal.main_arg0) = m' ((c.tc : Thread Cert.IwReferenceIdeal.nD Cert.IwReferenceIdeal.τ).loc Cert.IwReferenceIdeal.main_arg0)
          ∧ r.2.mem ((c.tc : Thread Cert.IwReferenceIdeal.nD Cert.IwReferenceIdeal.τ).loc Cert.IwReferenceIdeal.main_arg1) = m' ((c.tc : Thread Cert.IwReferenceIdeal.nD Cert.IwReferenceIdeal.τ).loc Cert.IwReferenceIdeal.main_arg1))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwReferenceIdeal : Cert.DwReferenceIdeal.Facts) (hDv : Cert.Dv.Facts) (hDvIdeal : Cert.DvIdeal.Facts) (hDvReferenceIdeal : Cert.DvReferenceIdeal.Facts) (hFwd : Cert.Fwd.Facts) (hFwdIdeal : Cert.FwdIdeal.Facts) (hFwdReferenceIdeal : Cert.FwdReferenceIdeal.Facts) (hDx : Cert.Dx.Facts) (hDxIdeal : Cert.DxIdeal.Facts) (hDxReferenceIdeal : Cert.DxReferenceIdeal.Facts) (hIn : Cert.In.Facts) (hInIdeal : Cert.InIdeal.Facts) (hInReferenceIdeal : Cert.InReferenceIdeal.Facts) (hIx : Cert.Ix.Facts) (hIxIdeal : Cert.IxIdeal.Facts) (hIxReferenceIdeal : Cert.IxReferenceIdeal.Facts) (hIw : Cert.Iw.Facts) (hIwIdeal : Cert.IwIdeal.Facts) (hIwReferenceIdeal : Cert.IwReferenceIdeal.Facts) (hPre_finite_arrays : Cert.Pre_finite_arrays.Facts) (hPre_finite_ffn : Cert.Pre_finite_ffn.Facts),
    quiescent_Kernel (hKernel := hKernel)
    ∧ quiescent_KernelIdeal (hKernelIdeal := hKernelIdeal)
    ∧ quiescent_KernelIdeal_pre_finite_arrays (hKernelIdeal := hKernelIdeal) (hPre_finite_arrays := hPre_finite_arrays)
    ∧ quiescent_ReferenceIdeal (hReferenceIdeal := hReferenceIdeal)
    ∧ quiescent_ReferenceIdeal_pre_finite_arrays (hReferenceIdeal := hReferenceIdeal) (hPre_finite_arrays := hPre_finite_arrays)
    ∧ quiescent_Dw (hDw := hDw)
    ∧ quiescent_DwIdeal (hDwIdeal := hDwIdeal)
    ∧ quiescent_DwReferenceIdeal (hDwReferenceIdeal := hDwReferenceIdeal)
    ∧ quiescent_Dv (hDv := hDv)
    ∧ quiescent_DvIdeal (hDvIdeal := hDvIdeal)
    ∧ quiescent_DvReferenceIdeal (hDvReferenceIdeal := hDvReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ quiescent_Dx (hDx := hDx)
    ∧ quiescent_DxIdeal (hDxIdeal := hDxIdeal)
    ∧ quiescent_DxIdeal_pre_finite_ffn (hDxIdeal := hDxIdeal) (hPre_finite_ffn := hPre_finite_ffn)
    ∧ quiescent_DxReferenceIdeal (hDxReferenceIdeal := hDxReferenceIdeal)
    ∧ quiescent_DxReferenceIdeal_pre_finite_ffn (hDxReferenceIdeal := hDxReferenceIdeal) (hPre_finite_ffn := hPre_finite_ffn)
    ∧ quiescent_In (hIn := hIn)
    ∧ quiescent_InIdeal (hInIdeal := hInIdeal)
    ∧ quiescent_InReferenceIdeal (hInReferenceIdeal := hInReferenceIdeal)
    ∧ quiescent_Ix (hIx := hIx)
    ∧ quiescent_IxIdeal (hIxIdeal := hIxIdeal)
    ∧ quiescent_IxReferenceIdeal (hIxReferenceIdeal := hIxReferenceIdeal)
    ∧ quiescent_Iw (hIw := hIw)
    ∧ quiescent_IwIdeal (hIwIdeal := hIwIdeal)
    ∧ quiescent_IwReferenceIdeal (hIwReferenceIdeal := hIwReferenceIdeal)
    ∧ preserves_Kernel_KernelIdeal
    ∧ algebraic_KernelIdeal_ReferenceIdeal_pre_finite_arrays (hKernelIdeal := hKernelIdeal) (hReferenceIdeal := hReferenceIdeal) (hPre_finite_arrays := hPre_finite_arrays)
    ∧ preserves_Dw_DwIdeal
    ∧ algebraic_DwIdeal_DwReferenceIdeal (hDwIdeal := hDwIdeal) (hDwReferenceIdeal := hDwReferenceIdeal)
    ∧ preserves_Dv_DvIdeal
    ∧ algebraic_DvIdeal_DvReferenceIdeal (hDvIdeal := hDvIdeal) (hDvReferenceIdeal := hDvReferenceIdeal)
    ∧ preserves_Fwd_FwdIdeal
    ∧ algebraic_FwdIdeal_FwdReferenceIdeal (hFwdIdeal := hFwdIdeal) (hFwdReferenceIdeal := hFwdReferenceIdeal)
    ∧ preserves_Dx_DxIdeal
    ∧ algebraic_DxIdeal_DxReferenceIdeal_pre_finite_ffn (hDxIdeal := hDxIdeal) (hDxReferenceIdeal := hDxReferenceIdeal) (hPre_finite_ffn := hPre_finite_ffn)
    ∧ preserves_In_InIdeal
    ∧ algebraic_InIdeal_InReferenceIdeal (hInIdeal := hInIdeal) (hInReferenceIdeal := hInReferenceIdeal)
    ∧ preserves_Ix_IxIdeal
    ∧ algebraic_IxIdeal_IxReferenceIdeal (hIxIdeal := hIxIdeal) (hIxReferenceIdeal := hIxReferenceIdeal)
    ∧ preserves_Iw_IwIdeal
    ∧ algebraic_IwIdeal_IwReferenceIdeal (hIwIdeal := hIwIdeal) (hIwReferenceIdeal := hIwReferenceIdeal)
-- ==== Pre_finite_arrays.lean ====
abbrev S4096x1024 : Shape := ⟨2, ![4096, 1024]⟩
abbrev S4096x3072 : Shape := ⟨2, ![4096, 3072]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S4096x1024 .f32) (main_arg1 : FVec F S4096x3072 .f32) (main_arg2 : FVec F S1x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S4096x1024 : Shape := ⟨2, ![4096, 1024]⟩
abbrev S4096x3072 : Shape := ⟨2, ![4096, 3072]⟩
abbrev S1x512 : Shape := ⟨2, ![1, 512]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S4096x512 : Shape := ⟨2, ![4096, 512]⟩
abbrev S2x4x16x128x128 : Shape := ⟨5, ![2, 4, 16, 128, 128]⟩
abbrev S4096x128 : Shape := ⟨2, ![4096, 128]⟩
abbrev S1x128 : Shape := ⟨2, ![1, 128]⟩
abbrev S2x1x16x128x128 : Shape := ⟨5, ![2, 1, 16, 128, 128]⟩
abbrev S128x128 : Shape := ⟨2, ![128, 128]⟩
abbrev S128x1 : Shape := ⟨2, ![128, 1]⟩
abbrev S1x1x1x128x128 : Shape := ⟨5, ![1, 1, 1, 128, 128]⟩
abbrev S128 : Shape := ⟨1, ![128]⟩

abbrev nBuf : Space → Nat
  | .hbm => 30
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1x512, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S4096x512, .f32⟩
  | .hbm, ⟨23, _⟩ => ⟨S2x4x16x128x128, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S2x1x16x128x128, .f32⟩
  | .local _ .vmem, ⟨15, _⟩ => ⟨S2x1x16x128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S2x1x16x128x128, .f32⟩
  | .local _ .vmem, ⟨23, _⟩ => ⟨S2x1x16x128x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S2048x128, .f32⟩
  | .local _ .vmem, ⟨33, _⟩ => ⟨S2048x128, .f32⟩
  | .local _ .vmem, ⟨34, _⟩ => ⟨S1x128, .f32⟩
  | .local _ .vmem, ⟨35, _⟩ => ⟨S1x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S1x128, .f32⟩
  | .local _ .vmem, ⟨45, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_10 : BitVec 32 := 0#32
  let c16_i32 : BitVec 32 := 16#32
  let v34 : BitVec 32 := Scalar.addi c0_i32_10 c16_i32
  let c1_i32_11 : BitVec 32 := 1#32
  ⟨c0_i32_10, v34, c1_i32_11⟩
def k0_mult1 (k0_t1 : Fin k0_t1_loop.trips) : BitVec 32 :=
  let c0_i32_13 : BitVec 32 := 0#32
  let c0_i32_10 : BitVec 32 := 0#32
  let c1_i32_11 : BitVec 32 := 1#32
  let arg11 : BitVec 32 := Scf.iv c0_i32_10 c1_i32_11 k0_t1
  let c128_i32 : BitVec 32 := 128#32
  let v36 : BitVec 32 := Scalar.muli arg11 c128_i32
  let v37 : BitVec 32 := Scalar.addi c0_i32_13 v36
  v37
def k0_mult2 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c128_i32_14 : BitVec 32 := 128#32
  let v39 : BitVec 32 := Scalar.muli arg11 c128_i32_14
  v39
def k0_off1 (k0_t1 : Fin k0_t1_loop.trips) : Fin 2 → Nat :=
  let c0_i32_10 : BitVec 32 := 0#32
  let c1_i32_11 : BitVec 32 := 1#32
  let arg11 : BitVec 32 := Scf.iv c0_i32_10 c1_i32_11 k0_t1
  let c128_i32_14 : BitVec 32 := 128#32
  let v39 : BitVec 32 := Scalar.muli arg11 c128_i32_14
  let v40 : BitVec 32 := v39
  let v41 : Index := Scalar.indexCast v40
  let c0_15 : Index := 0#32
  ![v41.toNat, 0]
def k0_off2 (k0_t1 : Fin k0_t1_loop.trips) (c0_i32_13 : BitVec 32) : Fin 2 → Nat :=
  let c0_i32_10 : BitVec 32 := 0#32
  let c1_i32_11 : BitVec 32 := 1#32
  let arg11 : BitVec 32 := Scf.iv c0_i32_10 c1_i32_11 k0_t1
  let c128_i32 : BitVec 32 := 128#32
  let v36 : BitVec 32 := Scalar.muli arg11 c128_i32
  let v37 : BitVec 32 := Scalar.addi c0_i32_13 v36
  let v38 : BitVec 32 := v37
  let v47 : Index := Scalar.indexCast v38
  let c0_17 : Index := 0#32
  ![v47.toNat, 0]
def k0_off3 (k0_t1 : Fin k0_t1_loop.trips) : Fin 5 → Nat :=
  let c0_23 : Index := 0#32
  let c0_24 : Index := 0#32
  let c0_i32_10 : BitVec 32 := 0#32
  let c1_i32_11 : BitVec 32 := 1#32
  let arg11 : BitVec 32 := Scf.iv c0_i32_10 c1_i32_11 k0_t1
  let v68 : Index := Scalar.indexCast arg11
  let c0_25 : Index := 0#32
  let c0_26 : Index := 0#32
  ![0, 0, v68.toNat, 0, 0]
def k0_mult3 (k0_t1 : Fin k0_t1_loop.trips) : BitVec 32 :=
  let c2048_i32 : BitVec 32 := 2048#32
  let c0_i32_10 : BitVec 32 := 0#32
  let c1_i32_11 : BitVec 32 := 1#32
  let arg11 : BitVec 32 := Scf.iv c0_i32_10 c1_i32_11 k0_t1
  let c128_i32_38 : BitVec 32 := 128#32
  let v114 : BitVec 32 := Scalar.muli arg11 c128_i32_38
  let v115 : BitVec 32 := Scalar.addi c2048_i32 v114
  v115
def k0_mult4 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c128_i32_39 : BitVec 32 := 128#32
  let v117 : BitVec 32 := Scalar.muli arg11 c128_i32_39
  v117
def k0_off4 (k0_t1 : Fin k0_t1_loop.trips) : Fin 5 → Nat :=
  let c1 : Index := 1#32
  let c0_49 : Index := 0#32
  let c0_i32_10 : BitVec 32 := 0#32
  let c1_i32_11 : BitVec 32 := 1#32
  let arg11 : BitVec 32 := Scf.iv c0_i32_10 c1_i32_11 k0_t1
  let v146 : Index := Scalar.indexCast arg11
  let c0_50 : Index := 0#32
  let c0_51 : Index := 0#32
  ![1, 0, v146.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

@[reducible] def k1_t1_loop : Scf.Loop 32 :=
  let c0_i32_11 : BitVec 32 := 0#32
  let c16_i32 : BitVec 32 := 16#32
  let v35 : BitVec 32 := Scalar.addi c0_i32_11 c16_i32
  let c1_i32_12 : BitVec 32 := 1#32
  ⟨c0_i32_11, v35, c1_i32_12⟩
def k1_mult1 (k1_t1 : Fin k1_t1_loop.trips) : BitVec 32 :=
  let c0_i32_17 : BitVec 32 := 0#32
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32 : BitVec 32 := 128#32
  let v42 : BitVec 32 := Scalar.muli v41 c128_i32
  let v43 : BitVec 32 := Scalar.addi c0_i32_17 v42
  v43
def k1_mult2 (k1_t1 : Fin k1_t1_loop.trips) : BitVec 32 :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32_18 : BitVec 32 := 128#32
  let v45 : BitVec 32 := Scalar.muli v41 c128_i32_18
  v45
def k1_off1 (k1_t1 : Fin k1_t1_loop.trips) : Fin 2 → Nat :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32_18 : BitVec 32 := 128#32
  let v45 : BitVec 32 := Scalar.muli v41 c128_i32_18
  let v46 : BitVec 32 := v45
  let v47 : Index := Scalar.indexCast v46
  let c0_19 : Index := 0#32
  ![v47.toNat, 0]
def k1_off2 (k1_t1 : Fin k1_t1_loop.trips) (c0_i32_17 : BitVec 32) : Fin 2 → Nat :=
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let c128_i32 : BitVec 32 := 128#32
  let v42 : BitVec 32 := Scalar.muli v41 c128_i32
  let v43 : BitVec 32 := Scalar.addi c0_i32_17 v42
  let v44 : BitVec 32 := v43
  let v53 : Index := Scalar.indexCast v44
  let c0_21 : Index := 0#32
  ![v53.toNat, 0]
def k1_off3 (k1_t1 : Fin k1_t1_loop.trips) : Fin 5 → Nat :=
  let c0_43 : Index := 0#32
  let c0_44 : Index := 0#32
  let c15_i32 : BitVec 32 := 15#32
  let c0_i32_11 : BitVec 32 := 0#32
  let c1_i32_12 : BitVec 32 := 1#32
  let arg16 : BitVec 32 := Scf.iv c0_i32_11 c1_i32_12 k1_t1
  let v41 : BitVec 32 := Scalar.subi c15_i32 arg16
  let v136 : Index := Scalar.indexCast v41
  let c0_45 : Index := 0#32
  let c0_46 : Index := 0#32
  ![0, 0, v136.toNat, 0, 0]
def k1_mult3 (k1_t1 : Fin k1_t1_loop.trips) : BitVec 32 :=
  let c2048_i32 : BitVec 32 := 2048#32
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let c128_i32_62 : BitVec 32 := 128#32
  let v185 : BitVec 32 := Scalar.muli v184 c128_i32_62
  let v186 : BitVec 32 := Scalar.addi c2048_i32 v185
  v186
def k1_mult4 (k1_t1 : Fin k1_t1_loop.trips) : BitVec 32 :=
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let c128_i32_63 : BitVec 32 := 128#32
  let v188 : BitVec 32 := Scalar.muli v184 c128_i32_63
  v188
def k1_off4 (k1_t1 : Fin k1_t1_loop.trips) : Fin 5 → Nat :=
  let c1 : Index := 1#32
  let c0_89 : Index := 0#32
  let c15_i32_61 : BitVec 32 := 15#32
  let c0_i32_11 : BitVec 32 := 0#32
  let c1_i32_12 : BitVec 32 := 1#32
  let arg16 : BitVec 32 := Scf.iv c0_i32_11 c1_i32_12 k1_t1
  let v184 : BitVec 32 := Scalar.subi c15_i32_61 arg16
  let v279 : Index := Scalar.indexCast v184
  let c0_90 : Index := 0#32
  let c0_91 : Index := 0#32
  ![1, 0, v279.toNat, 0, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_13 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x16x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4096x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4096x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceIdeal.lean ====
abbrev S4096x1024 : Shape := ⟨2, ![4096, 1024]⟩
abbrev S4096x3072 : Shape := ⟨2, ![4096, 3072]⟩
abbrev S1x512 : Shape := ⟨2, ![1, 512]⟩
abbrev S4096x512 : Shape := ⟨2, ![4096, 512]⟩
abbrev S512 : Shape := ⟨1, ![512]⟩
abbrev S2x2048x4x128 : Shape := ⟨4, ![2, 2048, 4, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S2x2048x4x64 : Shape := ⟨4, ![2, 2048, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x16x128x4x128 : Shape := ⟨5, ![2, 16, 128, 4, 128]⟩
abbrev S2x4x16x128x128 : Shape := ⟨5, ![2, 4, 16, 128, 128]⟩
abbrev S1x4x1x128x128 : Shape := ⟨5, ![1, 4, 1, 128, 128]⟩
abbrev S2x16x4x128x128 : Shape := ⟨5, ![2, 16, 4, 128, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S16x2x4x128x128 : Shape := ⟨5, ![16, 2, 4, 128, 128]⟩
abbrev S1x4x1x1 : Shape := ⟨4, ![1, 4, 1, 1]⟩
abbrev S2x4x128x128 : Shape := ⟨4, ![2, 4, 128, 128]⟩
abbrev S0x2x4x128x128 : Shape := ⟨5, ![0, 2, 4, 128, 128]⟩
abbrev S1x2x4x128x128 : Shape := ⟨5, ![1, 2, 4, 128, 128]⟩
abbrev S2x2048x4 : Shape := ⟨3, ![2, 2048, 4]⟩
abbrev S2x2048x4x1 : Shape := ⟨4, ![2, 2048, 4, 1]⟩
abbrev S2x2048x512 : Shape := ⟨3, ![2, 2048, 512]⟩
abbrev S1x1x512 : Shape := ⟨3, ![1, 1, 512]⟩

abbrev nBuf : Space → Nat
  | .hbm => 538
  | .vmem => 0
  | .smem => 0
  | _ => 0

abbrev hbmTy0_0 (i : Nat) : BufTy := match i % 128 with
  | 0 => ⟨S4096x1024, .f32⟩
  | 1 => ⟨S4096x3072, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S512, .f32⟩
  | 10 => ⟨S2x2048x4x128, .f32⟩
  | 11 => ⟨S2x2048x4x128, .f32⟩
  | 12 => ⟨S2x2048x4x128, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S2048, .f32⟩
  | 22 => ⟨S2048x1, .f32⟩
  | 23 => ⟨S1x64, .f32⟩
  | 24 => ⟨S2048x64, .f32⟩
  | 25 => ⟨S2048x64, .f32⟩
  | 26 => ⟨S2048x64, .f32⟩
  | 27 => ⟨S2048x64, .f32⟩
  | 28 => ⟨S1x2048x1x64, .f32⟩
  | 29 => ⟨S2048x64, .f32⟩
  | 30 => ⟨S1x2048x1x64, .f32⟩
  | 31 => ⟨S2x2048x4x64, .f32⟩
  | 32 => ⟨S2x2048x4x64, .f32⟩
  | 33 => ⟨S2x2048x4x64, .f32⟩
  | 34 => ⟨S2x2048x4x64, .f32⟩
  | 35 => ⟨S2x2048x4x64, .f32⟩
  | 36 => ⟨S2x2048x4x64, .f32⟩
  | 37 => ⟨S2x2048x4x64, .f32⟩
  | 38 => ⟨S2x2048x4x64, .f32⟩
  | 39 => ⟨S2x2048x4x64, .f32⟩
  | 40 => ⟨S2x2048x4x64, .f32⟩
  | 41 => ⟨S2x2048x4x64, .f32⟩
  | 42 => ⟨S2x2048x4x64, .f32⟩
  | 43 => ⟨S2x2048x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S2048, .f32⟩
  | 53 => ⟨S2048x1, .f32⟩
  | 54 => ⟨S1x64, .f32⟩
  | 55 => ⟨S2048x64, .f32⟩
  | 56 => ⟨S2048x64, .f32⟩
  | 57 => ⟨S2048x64, .f32⟩
  | 58 => ⟨S2048x64, .f32⟩
  | 59 => ⟨S1x2048x1x64, .f32⟩
  | 60 => ⟨S2048x64, .f32⟩
  | 61 => ⟨S1x2048x1x64, .f32⟩
  | 62 => ⟨S2x2048x4x64, .f32⟩
  | 63 => ⟨S2x2048x4x64, .f32⟩
  | 64 => ⟨S2x2048x4x64, .f32⟩
  | 65 => ⟨S2x2048x4x64, .f32⟩
  | 66 => ⟨S2x2048x4x64, .f32⟩
  | 67 => ⟨S2x2048x4x64, .f32⟩
  | 68 => ⟨S2x2048x4x64, .f32⟩
  | 69 => ⟨S2x2048x4x64, .f32⟩
  | 70 => ⟨S2x2048x4x64, .f32⟩
  | 71 => ⟨S2x2048x4x64, .f32⟩
  | 72 => ⟨S2x2048x4x64, .f32⟩
  | 73 => ⟨S2x2048x4x64, .f32⟩
  | 74 => ⟨S2x2048x4x128, .f32⟩
  | 75 => ⟨S_, .f32⟩
  | 76 => ⟨S2x2048x4x128, .f32⟩
  | 77 => ⟨S2x2048x4x128, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S4, .f32⟩
  | 87 => ⟨S128, .f32⟩
  | 88 => ⟨S128x1, .f32⟩
  | 89 => ⟨S1x128, .f32⟩
  | 90 => ⟨S128x128, .f32⟩
  | 91 => ⟨S128x128, .f32⟩
  | 92 => ⟨S128x128, .f32⟩
  | 93 => ⟨S_, .f32⟩
  | 94 => ⟨S128x128, .f32⟩
  | 95 => ⟨S128x128, .i1⟩
  | 96 => ⟨S4x1x1, .f32⟩
  | 97 => ⟨S_, .f32⟩
  | 98 => ⟨S128x128, .f32⟩
  | 99 => ⟨S128x128, .f32⟩
  | 100 => ⟨S1x128x128, .f32⟩
  | 101 => ⟨S4x128x128, .f32⟩
  | 102 => ⟨S4x128x128, .f32⟩
  | 103 => ⟨S4x128x128, .f32⟩
  | 104 => ⟨S4x128x128, .f32⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S2x16x128x4x128, .f32⟩
  | 111 => ⟨S2x16x128x4x128, .f32⟩
  | 112 => ⟨S2x16x128x4x128, .f32⟩
  | 113 => ⟨S2x4x16x128x128, .f32⟩
  | 114 => ⟨S1x4x1x128x128, .f32⟩
  | 115 => ⟨S2x4x16x128x128, .f32⟩
  | 116 => ⟨S2x4x16x128x128, .f32⟩
  | 117 => ⟨S2x16x4x128x128, .f32⟩
  | 118 => ⟨S2x16x128x4x128, .f32⟩
  | 119 => ⟨S4x1, .f32⟩
  | 120 => ⟨S_, .f32⟩
  | 121 => ⟨S128, .f32⟩
  | 122 => ⟨S128, .f32⟩
  | 123 => ⟨S1x128, .f32⟩
  | 124 => ⟨S4x128, .f32⟩
  | 125 => ⟨S4x128, .f32⟩
  | 126 => ⟨S4x128, .f32⟩
  | 127 => ⟨S4x128, .f32⟩
  | _ => ⟨S4096x1024, .f32⟩

abbrev hbmTy0_1 (i : Nat) : BufTy := match i % 128 with
  | 0 => ⟨S128x4, .f32⟩
  | 1 => ⟨S1x1x128x4x1, .f32⟩
  | 2 => ⟨S2x16x128x4x128, .f32⟩
  | 3 => ⟨S2x16x128x4x128, .f32⟩
  | 4 => ⟨S16x2x4x128x128, .f32⟩
  | 5 => ⟨S_, .f32⟩
  | 6 => ⟨S4, .f32⟩
  | 7 => ⟨S4, .f32⟩
  | 8 => ⟨S4, .f32⟩
  | 9 => ⟨S1x4x1x1, .f32⟩
  | 10 => ⟨S_, .f32⟩
  | 11 => ⟨S2x4x128x128, .f32⟩
  | 12 => ⟨S0x2x4x128x128, .f32⟩
  | 13 => ⟨S16x2x4x128x128, .f32⟩
  | 14 => ⟨S_, .f32⟩
  | 15 => ⟨S0x2x4x128x128, .f32⟩
  | 16 => ⟨S1x2x4x128x128, .f32⟩
  | 17 => ⟨S2x4x128x128, .f32⟩
  | 18 => ⟨S2x4x128x128, .f32⟩
  | 19 => ⟨S2x4x128x128, .f32⟩
  | 20 => ⟨S2x4x128x128, .f32⟩
  | 21 => ⟨S1x2x4x128x128, .f32⟩
  | 22 => ⟨S2x4x128x128, .f32⟩
  | 23 => ⟨S2x4x128x128, .f32⟩
  | 24 => ⟨S2x4x128x128, .f32⟩
  | 25 => ⟨S2x4x128x128, .f32⟩
  | 26 => ⟨S1x2x4x128x128, .f32⟩
  | 27 => ⟨S2x4x128x128, .f32⟩
  | 28 => ⟨S2x4x128x128, .f32⟩
  | 29 => ⟨S2x4x128x128, .f32⟩
  | 30 => ⟨S2x4x128x128, .f32⟩
  | 31 => ⟨S1x2x4x128x128, .f32⟩
  | 32 => ⟨S2x4x128x128, .f32⟩
  | 33 => ⟨S2x4x128x128, .f32⟩
  | 34 => ⟨S2x4x128x128, .f32⟩
  | 35 => ⟨S2x4x128x128, .f32⟩
  | 36 => ⟨S1x2x4x128x128, .f32⟩
  | 37 => ⟨S2x4x128x128, .f32⟩
  | 38 => ⟨S2x4x128x128, .f32⟩
  | 39 => ⟨S2x4x128x128, .f32⟩
  | 40 => ⟨S2x4x128x128, .f32⟩
  | 41 => ⟨S1x2x4x128x128, .f32⟩
  | 42 => ⟨S2x4x128x128, .f32⟩
  | 43 => ⟨S2x4x128x128, .f32⟩
  | 44 => ⟨S2x4x128x128, .f32⟩
  | 45 => ⟨S2x4x128x128, .f32⟩
  | 46 => ⟨S1x2x4x128x128, .f32⟩
  | 47 => ⟨S2x4x128x128, .f32⟩
  | 48 => ⟨S2x4x128x128, .f32⟩
  | 49 => ⟨S2x4x128x128, .f32⟩
  | 50 => ⟨S2x4x128x128, .f32⟩
  | 51 => ⟨S1x2x4x128x128, .f32⟩
  | 52 => ⟨S2x4x128x128, .f32⟩
  | 53 => ⟨S2x4x128x128, .f32⟩
  | 54 => ⟨S2x4x128x128, .f32⟩
  | 55 => ⟨S2x4x128x128, .f32⟩
  | 56 => ⟨S1x2x4x128x128, .f32⟩
  | 57 => ⟨S2x4x128x128, .f32⟩
  | 58 => ⟨S2x4x128x128, .f32⟩
  | 59 => ⟨S2x4x128x128, .f32⟩
  | 60 => ⟨S2x4x128x128, .f32⟩
  | 61 => ⟨S1x2x4x128x128, .f32⟩
  | 62 => ⟨S2x4x128x128, .f32⟩
  | 63 => ⟨S2x4x128x128, .f32⟩
  | 64 => ⟨S2x4x128x128, .f32⟩
  | 65 => ⟨S2x4x128x128, .f32⟩
  | 66 => ⟨S1x2x4x128x128, .f32⟩
  | 67 => ⟨S2x4x128x128, .f32⟩
  | 68 => ⟨S2x4x128x128, .f32⟩
  | 69 => ⟨S2x4x128x128, .f32⟩
  | 70 => ⟨S2x4x128x128, .f32⟩
  | 71 => ⟨S1x2x4x128x128, .f32⟩
  | 72 => ⟨S2x4x128x128, .f32⟩
  | 73 => ⟨S2x4x128x128, .f32⟩
  | 74 => ⟨S2x4x128x128, .f32⟩
  | 75 => ⟨S2x4x128x128, .f32⟩
  | 76 => ⟨S1x2x4x128x128, .f32⟩
  | 77 => ⟨S2x4x128x128, .f32⟩
  | 78 => ⟨S2x4x128x128, .f32⟩
  | 79 => ⟨S2x4x128x128, .f32⟩
  | 80 => ⟨S2x4x128x128, .f32⟩
  | 81 => ⟨S1x2x4x128x128, .f32⟩
  | 82 => ⟨S2x4x128x128, .f32⟩
  | 83 => ⟨S2x4x128x128, .f32⟩
  | 84 => ⟨S2x4x128x128, .f32⟩
  | 85 => ⟨S2x4x128x128, .f32⟩
  | 86 => ⟨S1x2x4x128x128, .f32⟩
  | 87 => ⟨S2x4x128x128, .f32⟩
  | 88 => ⟨S2x4x128x128, .f32⟩
  | 89 => ⟨S2x4x128x128, .f32⟩
  | 90 => ⟨S2x4x128x128, .f32⟩
  | 91 => ⟨S1x2x4x128x128, .f32⟩
  | 92 => ⟨S2x4x128x128, .f32⟩
  | 93 => ⟨S2x4x128x128, .f32⟩
  | 94 => ⟨S2x4x128x128, .f32⟩
  | 95 => ⟨S2x4x128x128, .f32⟩
  | 96 => ⟨S1x2x4x128x128, .f32⟩
  | 97 => ⟨S1x2x4x128x128, .f32⟩
  | 98 => ⟨S1x2x4x128x128, .f32⟩
  | 99 => ⟨S1x2x4x128x128, .f32⟩
  | 100 => ⟨S1x2x4x128x128, .f32⟩
  | 101 => ⟨S1x2x4x128x128, .f32⟩
  | 102 => ⟨S1x2x4x128x128, .f32⟩
  | 103 => ⟨S1x2x4x128x128, .f32⟩
  | 104 => ⟨S1x2x4x128x128, .f32⟩
  | 105 => ⟨S1x2x4x128x128, .f32⟩
  | 106 => ⟨S1x2x4x128x128, .f32⟩
  | 107 => ⟨S1x2x4x128x128, .f32⟩
  | 108 => ⟨S1x2x4x128x128, .f32⟩
  | 109 => ⟨S1x2x4x128x128, .f32⟩
  | 110 => ⟨S1x2x4x128x128, .f32⟩
  | 111 => ⟨S1x2x4x128x128, .f32⟩
  | 112 => ⟨S16x2x4x128x128, .f32⟩
  | 113 => ⟨S16x2x4x128x128, .f32⟩
  | 114 => ⟨S4x1, .f32⟩
  | 115 => ⟨S_, .f32⟩
  | 116 => ⟨S128, .f32⟩
  | 117 => ⟨S128, .f32⟩
  | 118 => ⟨S1x128, .f32⟩
  | 119 => ⟨S4x128, .f32⟩
  | 120 => ⟨S4x128, .f32⟩
  | 121 => ⟨S4x128, .f32⟩
  | 122 => ⟨S4x128, .f32⟩
  | 123 => ⟨S128x4, .f32⟩
  | 124 => ⟨S1x1x128x4x1, .f32⟩
  | 125 => ⟨S2x16x128x4x128, .f32⟩
  | 126 => ⟨S2x16x128x4x128, .f32⟩
  | 127 => ⟨S2x16x4x128x128, .f32⟩
  | _ => ⟨S4096x1024, .f32⟩

abbrev hbmTy0_2 (i : Nat) : BufTy := match i % 128 with
  | 0 => ⟨S2x16x128x4x128, .f32⟩
  | 1 => ⟨S2x16x128x4x128, .f32⟩
  | 2 => ⟨S2x2048x4x128, .f32⟩
  | 3 => ⟨S_, .f32⟩
  | 4 => ⟨S2x2048x4, .f32⟩
  | 5 => ⟨S2x2048x4x1, .f32⟩
  | 6 => ⟨S_, .f32⟩
  | 7 => ⟨S2x2048x4x1, .f32⟩
  | 8 => ⟨S2x2048x4x1, .f32⟩
  | 9 => ⟨S2x2048x4x128, .f32⟩
  | 10 => ⟨S2x2048x4x128, .f32⟩
  | 11 => ⟨S2x2048x4x128, .f32⟩
  | 12 => ⟨S_, .f32⟩
  | 13 => ⟨S2x2048x4x128, .f32⟩
  | 14 => ⟨S2x2048x4x128, .f32⟩
  | 15 => ⟨S_, .f32⟩
  | 16 => ⟨S2x2048x4, .f32⟩
  | 17 => ⟨S2x2048x4x1, .f32⟩
  | 18 => ⟨S_, .f32⟩
  | 19 => ⟨S2x2048x4x1, .f32⟩
  | 20 => ⟨S2x2048x4x1, .f32⟩
  | 21 => ⟨S2x2048x4x128, .f32⟩
  | 22 => ⟨S2x2048x4x128, .f32⟩
  | 23 => ⟨S_, .f32⟩
  | 24 => ⟨S2x2048x4x1, .f32⟩
  | 25 => ⟨S2x2048x4x1, .f32⟩
  | 26 => ⟨S2x2048x4x1, .f32⟩
  | 27 => ⟨S2x2048x4x1, .f32⟩
  | 28 => ⟨S_, .f32⟩
  | 29 => ⟨S2x2048x4x1, .f32⟩
  | 30 => ⟨S2x2048x4x1, .f32⟩
  | 31 => ⟨S2x2048x4x128, .f32⟩
  | 32 => ⟨S2x2048x4x128, .f32⟩
  | 33 => ⟨S2x2048x512, .f32⟩
  | 34 => ⟨S1x1x512, .f32⟩
  | 35 => ⟨S2x2048x512, .f32⟩
  | 36 => ⟨S2x2048x512, .f32⟩
  | 37 => ⟨S2x2048x512, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S2x2048x512, .f32⟩
  | 50 => ⟨S2x2048x512, .f32⟩
  | 51 => ⟨S2x2048x512, .f32⟩
  | 52 => ⟨S4096x512, .f32⟩
  | 53 => ⟨S4096x512, .f32⟩
  | 54 => ⟨S_, .f32⟩
  | 55 => ⟨S2x4x128x128, .f32⟩
  | 56 => ⟨S2x2048x512, .f32⟩
  | 57 => ⟨S2x2048x512, .f32⟩
  | 58 => ⟨S2x2048x512, .f32⟩
  | 59 => ⟨S2x2048x512, .f32⟩
  | 60 => ⟨S2x2048x512, .f32⟩
  | 61 => ⟨S2x2048x512, .f32⟩
  | 62 => ⟨S2x2048x512, .f32⟩
  | 63 => ⟨S4096x512, .f32⟩
  | 64 => ⟨S2x2048x512, .f32⟩
  | 65 => ⟨S_, .f32⟩
  | 66 => ⟨S512, .f32⟩
  | 67 => ⟨S1x1x512, .f32⟩
  | 68 => ⟨S2x2048x512, .f32⟩
  | 69 => ⟨S2x2048x512, .f32⟩
  | 70 => ⟨S_, .f32⟩
  | 71 => ⟨S512, .f32⟩
  | 72 => ⟨S2x2048x4x128, .f32⟩
  | 73 => ⟨S2x2048x4x128, .f32⟩
  | 74 => ⟨S_, .f32⟩
  | 75 => ⟨S2x2048x4, .f32⟩
  | 76 => ⟨S2x2048x4x1, .f32⟩
  | 77 => ⟨S2x2048x4x128, .f32⟩
  | 78 => ⟨S2x2048x4x128, .f32⟩
  | 79 => ⟨S2x2048x4x1, .f32⟩
  | 80 => ⟨S2x2048x4x128, .f32⟩
  | 81 => ⟨S_, .f32⟩
  | 82 => ⟨S2x2048x4, .f32⟩
  | 83 => ⟨S2x2048x4x1, .f32⟩
  | 84 => ⟨S_, .f32⟩
  | 85 => ⟨S2x2048x4x1, .f32⟩
  | 86 => ⟨S2x2048x4x1, .f32⟩
  | 87 => ⟨S_, .f32⟩
  | 88 => ⟨S2x2048x4, .f32⟩
  | 89 => ⟨S2x2048x4x128, .f32⟩
  | 90 => ⟨S2x2048x4x128, .f32⟩
  | 91 => ⟨S2x2048x4x128, .f32⟩
  | 92 => ⟨S_, .f32⟩
  | 93 => ⟨S2x2048x4, .f32⟩
  | 94 => ⟨S2x2048x4x1, .f32⟩
  | 95 => ⟨S2x2048x4x128, .f32⟩
  | 96 => ⟨S2x2048x4x1, .f32⟩
  | 97 => ⟨S_, .f32⟩
  | 98 => ⟨S2x2048x4x1, .f32⟩
  | 99 => ⟨S2x2048x4x1, .f32⟩
  | 100 => ⟨S_, .f32⟩
  | 101 => ⟨S2x2048x4, .f32⟩
  | 102 => ⟨S2x2048x4x128, .f32⟩
  | 103 => ⟨S2x2048x4x128, .f32⟩
  | 104 => ⟨S2x16x128x4x128, .f32⟩
  | 105 => ⟨S2x16x4x128x128, .f32⟩
  | 106 => ⟨S2x16x4x128x128, .f32⟩
  | 107 => ⟨S2x16x128x4x128, .f32⟩
  | 108 => ⟨S2x16x4x128x128, .f32⟩
  | 109 => ⟨S16x2x4x128x128, .f32⟩
  | 110 => ⟨S2x16x128x4x128, .f32⟩
  | 111 => ⟨S2x16x128x4x128, .f32⟩
  | 112 => ⟨S_, .f32⟩
  | 113 => ⟨S2x4x128x128, .f32⟩
  | 114 => ⟨S16x2x4x128x128, .f32⟩
  | 115 => ⟨S0x2x4x128x128, .f32⟩
  | 116 => ⟨S_, .f32⟩
  | 117 => ⟨S0x2x4x128x128, .f32⟩
  | 118 => ⟨S1x2x4x128x128, .f32⟩
  | 119 => ⟨S2x4x128x128, .f32⟩
  | 120 => ⟨S2x4x128x128, .f32⟩
  | 121 => ⟨S2x4x128x128, .f32⟩
  | 122 => ⟨S2x4x128x128, .f32⟩
  | 123 => ⟨S1x2x4x128x128, .f32⟩
  | 124 => ⟨S2x4x128x128, .f32⟩
  | 125 => ⟨S2x4x128x128, .f32⟩
  | 126 => ⟨S2x4x128x128, .f32⟩
  | 127 => ⟨S2x4x128x128, .f32⟩
  | _ => ⟨S4096x1024, .f32⟩

abbrev hbmTy0_3 (i : Nat) : BufTy := match i % 128 with
  | 0 => ⟨S1x2x4x128x128, .f32⟩
  | 1 => ⟨S2x4x128x128, .f32⟩
  | 2 => ⟨S2x4x128x128, .f32⟩
  | 3 => ⟨S2x4x128x128, .f32⟩
  | 4 => ⟨S2x4x128x128, .f32⟩
  | 5 => ⟨S1x2x4x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S1x2x4x128x128, .f32⟩
  | 11 => ⟨S2x4x128x128, .f32⟩
  | 12 => ⟨S2x4x128x128, .f32⟩
  | 13 => ⟨S2x4x128x128, .f32⟩
  | 14 => ⟨S2x4x128x128, .f32⟩
  | 15 => ⟨S1x2x4x128x128, .f32⟩
  | 16 => ⟨S2x4x128x128, .f32⟩
  | 17 => ⟨S2x4x128x128, .f32⟩
  | 18 => ⟨S2x4x128x128, .f32⟩
  | 19 => ⟨S2x4x128x128, .f32⟩
  | 20 => ⟨S1x2x4x128x128, .f32⟩
  | 21 => ⟨S2x4x128x128, .f32⟩
  | 22 => ⟨S2x4x128x128, .f32⟩
  | 23 => ⟨S2x4x128x128, .f32⟩
  | 24 => ⟨S2x4x128x128, .f32⟩
  | 25 => ⟨S1x2x4x128x128, .f32⟩
  | 26 => ⟨S2x4x128x128, .f32⟩
  | 27 => ⟨S2x4x128x128, .f32⟩
  | 28 => ⟨S2x4x128x128, .f32⟩
  | 29 => ⟨S2x4x128x128, .f32⟩
  | 30 => ⟨S1x2x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S1x2x4x128x128, .f32⟩
  | 36 => ⟨S2x4x128x128, .f32⟩
  | 37 => ⟨S2x4x128x128, .f32⟩
  | 38 => ⟨S2x4x128x128, .f32⟩
  | 39 => ⟨S2x4x128x128, .f32⟩
  | 40 => ⟨S1x2x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S1x2x4x128x128, .f32⟩
  | 46 => ⟨S2x4x128x128, .f32⟩
  | 47 => ⟨S2x4x128x128, .f32⟩
  | 48 => ⟨S2x4x128x128, .f32⟩
  | 49 => ⟨S2x4x128x128, .f32⟩
  | 50 => ⟨S1x2x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S1x2x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S1x2x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S1x2x4x128x128, .f32⟩
  | 66 => ⟨S2x4x128x128, .f32⟩
  | 67 => ⟨S2x4x128x128, .f32⟩
  | 68 => ⟨S2x4x128x128, .f32⟩
  | 69 => ⟨S2x4x128x128, .f32⟩
  | 70 => ⟨S1x2x4x128x128, .f32⟩
  | 71 => ⟨S1x2x4x128x128, .f32⟩
  | 72 => ⟨S1x2x4x128x128, .f32⟩
  | 73 => ⟨S1x2x4x128x128, .f32⟩
  | 74 => ⟨S1x2x4x128x128, .f32⟩
  | 75 => ⟨S1x2x4x128x128, .f32⟩
  | 76 => ⟨S1x2x4x128x128, .f32⟩
  | 77 => ⟨S1x2x4x128x128, .f32⟩
  | 78 => ⟨S1x2x4x128x128, .f32⟩
  | 79 => ⟨S1x2x4x128x128, .f32⟩
  | 80 => ⟨S1x2x4x128x128, .f32⟩
  | 81 => ⟨S1x2x4x128x128, .f32⟩
  | 82 => ⟨S1x2x4x128x128, .f32⟩
  | 83 => ⟨S1x2x4x128x128, .f32⟩
  | 84 => ⟨S1x2x4x128x128, .f32⟩
  | 85 => ⟨S1x2x4x128x128, .f32⟩
  | 86 => ⟨S16x2x4x128x128, .f32⟩
  | 87 => ⟨S16x2x4x128x128, .f32⟩
  | 88 => ⟨S16x2x4x128x128, .f32⟩
  | 89 => ⟨S2x16x128x4x128, .f32⟩
  | 90 => ⟨S16x2x4x128x128, .f32⟩
  | 91 => ⟨S2x16x128x4x128, .f32⟩
  | 92 => ⟨S2x16x128x4x128, .f32⟩
  | 93 => ⟨S2x16x128x4x128, .f32⟩
  | 94 => ⟨S2x16x4x128x128, .f32⟩
  | 95 => ⟨S2x16x4x128x128, .f32⟩
  | 96 => ⟨S2x4x16x128x128, .f32⟩
  | 97 => ⟨S2x16x4x128x128, .f32⟩
  | 98 => ⟨S2x16x128x4x128, .f32⟩
  | 99 => ⟨S2x16x128x4x128, .f32⟩
  | 100 => ⟨S2x4x16x128x128, .f32⟩
  | 101 => ⟨S2x4x16x128x128, .f32⟩
  | 102 => ⟨S2x4x16x128x128, .f32⟩
  | 103 => ⟨S2x16x128x4x128, .f32⟩
  | 104 => ⟨S2x16x128x4x128, .f32⟩
  | 105 => ⟨S2x4x16x128x128, .f32⟩
  | 106 => ⟨S2x16x128x4x128, .f32⟩
  | 107 => ⟨S2x16x128x4x128, .f32⟩
  | 108 => ⟨S2x2048x4x128, .f32⟩
  | 109 => ⟨S2x2048x4x128, .f32⟩
  | 110 => ⟨S2x2048x4x128, .f32⟩
  | 111 => ⟨S_, .f32⟩
  | 112 => ⟨S2x2048x4x128, .f32⟩
  | 113 => ⟨S2x2048x4x128, .f32⟩
  | 114 => ⟨S2x2048x4x64, .f32⟩
  | 115 => ⟨S2x2048x4x64, .f32⟩
  | 116 => ⟨S2x2048x4x64, .f32⟩
  | 117 => ⟨S2x2048x4x64, .f32⟩
  | 118 => ⟨S2x2048x4x64, .f32⟩
  | 119 => ⟨S2x2048x4x64, .f32⟩
  | 120 => ⟨S2x2048x4x64, .f32⟩
  | 121 => ⟨S2x2048x4x64, .f32⟩
  | 122 => ⟨S2x2048x4x64, .f32⟩
  | 123 => ⟨S2x2048x4x64, .f32⟩
  | 124 => ⟨S2x2048x4x64, .f32⟩
  | 125 => ⟨S2x2048x4x64, .f32⟩
  | 126 => ⟨S2x2048x4x64, .f32⟩
  | 127 => ⟨S_, .f32⟩
  | _ => ⟨S4096x1024, .f32⟩

abbrev hbmTy0_4 (i : Nat) : BufTy := match i % 128 with
  | 0 => ⟨S2x2048x4x128, .f32⟩
  | 1 => ⟨S_, .f32⟩
  | 2 => ⟨S2x2048x4x128, .f32⟩
  | 3 => ⟨S2x2048x4x128, .f32⟩
  | 4 => ⟨S2x2048x4x64, .f32⟩
  | 5 => ⟨S2x2048x4x64, .f32⟩
  | 6 => ⟨S2x2048x4x64, .f32⟩
  | 7 => ⟨S2x2048x4x64, .f32⟩
  | 8 => ⟨S2x2048x4x64, .f32⟩
  | 9 => ⟨S2x2048x4x64, .f32⟩
  | 10 => ⟨S2x2048x4x64, .f32⟩
  | 11 => ⟨S2x2048x4x64, .f32⟩
  | 12 => ⟨S2x2048x4x64, .f32⟩
  | 13 => ⟨S2x2048x4x64, .f32⟩
  | 14 => ⟨S2x2048x4x64, .f32⟩
  | 15 => ⟨S2x2048x4x64, .f32⟩
  | 16 => ⟨S2x2048x4x64, .f32⟩
  | 17 => ⟨S_, .f32⟩
  | 18 => ⟨S2x2048x4x128, .f32⟩
  | 19 => ⟨S_, .f32⟩
  | 20 => ⟨S2x2048x4x128, .f32⟩
  | 21 => ⟨S2x2048x4x128, .f32⟩
  | 22 => ⟨S4096x512, .f32⟩
  | 23 => ⟨S4096x512, .f32⟩
  | 24 => ⟨S4096x512, .f32⟩
  | 25 => ⟨S1x512, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_3 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_7 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_9 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_10 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_11 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_12 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_cst_13 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_cst_14 : Ref sig .tc := ⟨.hbm, 259, rfl⟩
abbrev main_v238 : Ref sig .tc := ⟨.hbm, 260, rfl⟩
abbrev main_v239 : Ref sig .tc := ⟨.hbm, 261, rfl⟩
abbrev main_cst_15 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_cst_16 : Ref sig .tc := ⟨.hbm, 268, rfl⟩
abbrev main_v245 : Ref sig .tc := ⟨.hbm, 269, rfl⟩
abbrev main_v246 : Ref sig .tc := ⟨.hbm, 270, rfl⟩
abbrev main_cst_17 : Ref sig .tc := ⟨.hbm, 271, rfl⟩
abbrev main_v247 : Ref sig .tc := ⟨.hbm, 272, rfl⟩
abbrev main_v248 : Ref sig .tc := ⟨.hbm, 273, rfl⟩
abbrev main_cst_18 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_cst_19 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_cst_20 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_call1_v0 : Ref sig .tc := ⟨.hbm, 294, rfl⟩
abbrev main_call1_v1 : Ref sig .tc := ⟨.hbm, 295, rfl⟩
abbrev main_call1_cst : Ref sig .tc := ⟨.hbm, 296, rfl⟩
abbrev main_call1_v2 : Ref sig .tc := ⟨.hbm, 297, rfl⟩
abbrev main_call1_v3 : Ref sig .tc := ⟨.hbm, 298, rfl⟩
abbrev main_call1_cst_0 : Ref sig .tc := ⟨.hbm, 299, rfl⟩
abbrev main_call1_v4 : Ref sig .tc := ⟨.hbm, 300, rfl⟩
abbrev main_v266_2 : Ref sig .tc := ⟨.hbm, 301, rfl⟩
abbrev main_call1_cst_1 : Ref sig .tc := ⟨.hbm, 302, rfl⟩
abbrev main_call1_v6 : Ref sig .tc := ⟨.hbm, 303, rfl⟩
abbrev main_call1_v7 : Ref sig .tc := ⟨.hbm, 304, rfl⟩
abbrev main_v266_1 : Ref sig .tc := ⟨.hbm, 305, rfl⟩
abbrev main_v266_0 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_21 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_call2_v0 : Ref sig .tc := ⟨.hbm, 315, rfl⟩
abbrev main_call2_v1 : Ref sig .tc := ⟨.hbm, 316, rfl⟩
abbrev main_call2_v2 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_cst_22 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_cst_23 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_cst_24 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_cst_25 : Ref sig .tc := ⟨.hbm, 337, rfl⟩
abbrev main_v290 : Ref sig .tc := ⟨.hbm, 338, rfl⟩
abbrev main_v291 : Ref sig .tc := ⟨.hbm, 339, rfl⟩
abbrev main_cst_26 : Ref sig .tc := ⟨.hbm, 340, rfl⟩
abbrev main_v292 : Ref sig .tc := ⟨.hbm, 341, rfl⟩
abbrev main_v293 : Ref sig .tc := ⟨.hbm, 342, rfl⟩
abbrev main_cst_27 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_cst_28 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_cst_29 : Ref sig .tc := ⟨.hbm, 353, rfl⟩
abbrev main_v302 : Ref sig .tc := ⟨.hbm, 354, rfl⟩
abbrev main_v303 : Ref sig .tc := ⟨.hbm, 355, rfl⟩
abbrev main_cst_30 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_cst_31 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_cst_32 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_v356 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_v370 : Ref sig .tc := ⟨.hbm, 425, rfl⟩
abbrev main_v371 : Ref sig .tc := ⟨.hbm, 426, rfl⟩
abbrev main_v372 : Ref sig .tc := ⟨.hbm, 427, rfl⟩
abbrev main_v373 : Ref sig .tc := ⟨.hbm, 428, rfl⟩
abbrev main_v374 : Ref sig .tc := ⟨.hbm, 429, rfl⟩
abbrev main_v375 : Ref sig .tc := ⟨.hbm, 430, rfl⟩
abbrev main_v376 : Ref sig .tc := ⟨.hbm, 431, rfl⟩
abbrev main_v377 : Ref sig .tc := ⟨.hbm, 432, rfl⟩
abbrev main_v378 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_v385 : Ref sig .tc := ⟨.hbm, 440, rfl⟩
abbrev main_v386 : Ref sig .tc := ⟨.hbm, 441, rfl⟩
abbrev main_v387 : Ref sig .tc := ⟨.hbm, 442, rfl⟩
abbrev main_v388 : Ref sig .tc := ⟨.hbm, 443, rfl⟩
abbrev main_v389 : Ref sig .tc := ⟨.hbm, 444, rfl⟩
abbrev main_v390 : Ref sig .tc := ⟨.hbm, 445, rfl⟩
abbrev main_v391 : Ref sig .tc := ⟨.hbm, 446, rfl⟩
abbrev main_v392 : Ref sig .tc := ⟨.hbm, 447, rfl⟩
abbrev main_v393 : Ref sig .tc := ⟨.hbm, 448, rfl⟩
abbrev main_v394 : Ref sig .tc := ⟨.hbm, 449, rfl⟩
abbrev main_v395 : Ref sig .tc := ⟨.hbm, 450, rfl⟩
abbrev main_v396 : Ref sig .tc := ⟨.hbm, 451, rfl⟩
abbrev main_v397 : Ref sig .tc := ⟨.hbm, 452, rfl⟩
abbrev main_v398 : Ref sig .tc := ⟨.hbm, 453, rfl⟩
abbrev main_v399 : Ref sig .tc := ⟨.hbm, 454, rfl⟩
abbrev main_v400 : Ref sig .tc := ⟨.hbm, 455, rfl⟩
abbrev main_v401 : Ref sig .tc := ⟨.hbm, 456, rfl⟩
abbrev main_v402 : Ref sig .tc := ⟨.hbm, 457, rfl⟩
abbrev main_v403 : Ref sig .tc := ⟨.hbm, 458, rfl⟩
abbrev main_v404 : Ref sig .tc := ⟨.hbm, 459, rfl⟩
abbrev main_v405 : Ref sig .tc := ⟨.hbm, 460, rfl⟩
abbrev main_v406 : Ref sig .tc := ⟨.hbm, 461, rfl⟩
abbrev main_v407 : Ref sig .tc := ⟨.hbm, 462, rfl⟩
abbrev main_v408 : Ref sig .tc := ⟨.hbm, 463, rfl⟩
abbrev main_v409 : Ref sig .tc := ⟨.hbm, 464, rfl⟩
abbrev main_v410 : Ref sig .tc := ⟨.hbm, 465, rfl⟩
abbrev main_v411 : Ref sig .tc := ⟨.hbm, 466, rfl⟩
abbrev main_v412 : Ref sig .tc := ⟨.hbm, 467, rfl⟩
abbrev main_v413 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_cst_33 : Ref sig .tc := ⟨.hbm, 495, rfl⟩
abbrev main_v440 : Ref sig .tc := ⟨.hbm, 496, rfl⟩
abbrev main_v441 : Ref sig .tc := ⟨.hbm, 497, rfl⟩
abbrev main_v442 : Ref sig .tc := ⟨.hbm, 498, rfl⟩
abbrev main_v443 : Ref sig .tc := ⟨.hbm, 499, rfl⟩
abbrev main_v444 : Ref sig .tc := ⟨.hbm, 500, rfl⟩
abbrev main_v445 : Ref sig .tc := ⟨.hbm, 501, rfl⟩
abbrev main_v446 : Ref sig .tc := ⟨.hbm, 502, rfl⟩
abbrev main_v447 : Ref sig .tc := ⟨.hbm, 503, rfl⟩
abbrev main_v448 : Ref sig .tc := ⟨.hbm, 504, rfl⟩
abbrev main_v449 : Ref sig .tc := ⟨.hbm, 505, rfl⟩
abbrev main_v450 : Ref sig .tc := ⟨.hbm, 506, rfl⟩
abbrev main_v451 : Ref sig .tc := ⟨.hbm, 507, rfl⟩
abbrev main_v452 : Ref sig .tc := ⟨.hbm, 508, rfl⟩
abbrev main_v453 : Ref sig .tc := ⟨.hbm, 509, rfl⟩
abbrev main_v454 : Ref sig .tc := ⟨.hbm, 510, rfl⟩
abbrev main_cst_34 : Ref sig .tc := ⟨.hbm, 511, rfl⟩
abbrev main_v455 : Ref sig .tc := ⟨.hbm, 512, rfl⟩
abbrev main_cst_35 : Ref sig .tc := ⟨.hbm, 513, rfl⟩
abbrev main_v456 : Ref sig .tc := ⟨.hbm, 514, rfl⟩
abbrev main_v457 : Ref sig .tc := ⟨.hbm, 515, rfl⟩
abbrev main_v458 : Ref sig .tc := ⟨.hbm, 516, rfl⟩
abbrev main_v459 : Ref sig .tc := ⟨.hbm, 517, rfl⟩
abbrev main_v460 : Ref sig .tc := ⟨.hbm, 518, rfl⟩
abbrev main_v461 : Ref sig .tc := ⟨.hbm, 519, rfl⟩
abbrev main_v462 : Ref sig .tc := ⟨.hbm, 520, rfl⟩
abbrev main_v463 : Ref sig .tc := ⟨.hbm, 521, rfl⟩
abbrev main_v464 : Ref sig .tc := ⟨.hbm, 522, rfl⟩
abbrev main_v465 : Ref sig .tc := ⟨.hbm, 523, rfl⟩
abbrev main_v466 : Ref sig .tc := ⟨.hbm, 524, rfl⟩
abbrev main_v467 : Ref sig .tc := ⟨.hbm, 525, rfl⟩
abbrev main_v468 : Ref sig .tc := ⟨.hbm, 526, rfl⟩
abbrev main_v469 : Ref sig .tc := ⟨.hbm, 527, rfl⟩
abbrev main_v470 : Ref sig .tc := ⟨.hbm, 528, rfl⟩
abbrev main_cst_36 : Ref sig .tc := ⟨.hbm, 529, rfl⟩
abbrev main_v471 : Ref sig .tc := ⟨.hbm, 530, rfl⟩
abbrev main_cst_37 : Ref sig .tc := ⟨.hbm, 531, rfl⟩
abbrev main_v472 : Ref sig .tc := ⟨.hbm, 532, rfl⟩
abbrev main_v473 : Ref sig .tc := ⟨.hbm, 533, rfl⟩
abbrev main_v474 : Ref sig .tc := ⟨.hbm, 534, rfl⟩
abbrev main_v475 : Ref sig .tc := ⟨.hbm, 535, rfl⟩
abbrev main_v476 : Ref sig .tc := ⟨.hbm, 536, rfl⟩
abbrev main_v477 : Ref sig .tc := ⟨.hbm, 537, rfl⟩

abbrev nD : Nat := 1
abbrev τ : Topo := Topo.v7x

variable {F : FTy → Type} [FloatOps F]
-- ==== Dw.lean ====
abbrev S1024x4096 : Shape := ⟨2, ![1024, 4096]⟩
abbrev S4x4096x768 : Shape := ⟨3, ![4, 4096, 768]⟩
abbrev S_ : Shape := ⟨0, ![]⟩
abbrev S8x2x2x1024x352 : Shape := ⟨5, ![8, 2, 2, 1024, 352]⟩
abbrev S8x1024x352 : Shape := ⟨3, ![8, 1024, 352]⟩
abbrev S1024x2048 : Shape := ⟨2, ![1024, 2048]⟩
abbrev S1x2048x768 : Shape := ⟨3, ![1, 2048, 768]⟩
abbrev S2x1x1x1024x352 : Shape := ⟨5, ![2, 1, 1, 1024, 352]⟩
abbrev S2x1024x352 : Shape := ⟨3, ![2, 1024, 352]⟩
abbrev S1024x768 : Shape := ⟨2, ![1024, 768]⟩
abbrev S2048x768 : Shape := ⟨2, ![2048, 768]⟩
abbrev S1024x352 : Shape := ⟨2, ![1024, 352]⟩
abbrev S1x1x1x1024x352 : Shape := ⟨5, ![1, 1, 1, 1024, 352]⟩
abbrev S1x1024x352 : Shape := ⟨3, ![1, 1024, 352]⟩

abbrev nBuf : Space → Nat
  | .hbm => 6
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S4x4096x768, .bf16⟩
  | .hbm, ⟨2, _⟩ => ⟨S_, .f32⟩
  | .hbm, ⟨3, _⟩ => ⟨S8x2x2x1024x352, .f32⟩
  | .hbm, ⟨4, _⟩ => ⟨S8x2x2x1024x352, .f32⟩
  | .hbm, ⟨5, _⟩ => ⟨S8x1024x352, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S2x1x1x1024x352, .f32⟩
  | .local _ .vmem, ⟨5, _⟩ => ⟨S2x1x1x1024x352, .f32⟩
  | .local _ .vmem, ⟨6, _⟩ => ⟨S2x1024x352, .bf16⟩
  | .local _ .vmem, ⟨7, _⟩ => ⟨S2x1024x352, .bf16⟩
  | .local _ .vmem, ⟨8, _⟩ => ⟨S1024x768, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1x1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwReferenceIdeal.lean ====
abbrev S1024x4096 : Shape := ⟨2, ![1024, 4096]⟩
abbrev S4x4096x768 : Shape := ⟨3, ![4, 4096, 768]⟩
abbrev S4096x1024 : Shape := ⟨2, ![4096, 1024]⟩
abbrev S4x4096x2x384 : Shape := ⟨4, ![4, 4096, 2, 384]⟩
abbrev S4x4096x2x352 : Shape := ⟨4, ![4, 4096, 2, 352]⟩
abbrev S4096x4x2x352 : Shape := ⟨4, ![4096, 4, 2, 352]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4x4096x768, .bf16⟩
  | .hbm, ⟨2, _⟩ => ⟨S1024x4096, .f32⟩
  | .hbm, ⟨3, _⟩ => ⟨S4096x1024, .f32⟩
  | .hbm, ⟨4, _⟩ => ⟨S4x4096x768, .f32⟩
  | .hbm, ⟨5, _⟩ => ⟨S4x4096x2x384, .f32⟩
  | .hbm, ⟨6, _⟩ => ⟨S4x4096x2x352, .f32⟩
  | .hbm, ⟨7, _⟩ => ⟨S4096x4x2x352, .f32⟩
  | .hbm, ⟨8, _⟩ => ⟨S4096x2816, .f32⟩
  | .hbm, ⟨9, _⟩ => ⟨S_, .f32⟩
  | .hbm, ⟨10, _⟩ => ⟨S1024x2816, .f32⟩
  | .hbm, ⟨11, _⟩ => ⟨S4096x2816, .f32⟩
  | .hbm, ⟨12, _⟩ => ⟨S2816x1024, .f32⟩
  | .hbm, ⟨13, _⟩ => ⟨S1024x2816, .f32⟩
  | .hbm, ⟨14, _⟩ => ⟨S1024x8x352, .f32⟩
  | .hbm, ⟨15, _⟩ => ⟨S8x1024x352, .f32⟩
  | .hbm, ⟨16, _⟩ => ⟨S8x1024x352, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dv.lean ====
abbrev S4x768x4096 : Shape := ⟨3, ![4, 768, 4096]⟩
abbrev S4096x1024 : Shape := ⟨2, ![4096, 1024]⟩
abbrev S_ : Shape := ⟨0, ![]⟩
abbrev S8x2x2x352x1024 : Shape := ⟨5, ![8, 2, 2, 352, 1024]⟩
abbrev S8x352x1024 : Shape := ⟨3, ![8, 352, 1024]⟩
abbrev S1x768x2048 : Shape := ⟨3, ![1, 768, 2048]⟩
abbrev S2048x1024 : Shape := ⟨2, ![2048, 1024]⟩
abbrev S2x1x1x352x1024 : Shape := ⟨5, ![2, 1, 1, 352, 1024]⟩
abbrev S2x352x1024 : Shape := ⟨3, ![2, 352, 1024]⟩
abbrev S768x1024 : Shape := ⟨2, ![768, 1024]⟩
abbrev S768x2048 : Shape := ⟨2, ![768, 2048]⟩
abbrev S352x1024 : Shape := ⟨2, ![352, 1024]⟩
abbrev S1x1x1x352x1024 : Shape := ⟨5, ![1, 1, 1, 352, 1024]⟩
abbrev S1x352x1024 : Shape := ⟨3, ![1, 352, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x768x4096, .bf16⟩
  | .hbm, ⟨1, _⟩ => ⟨S4096x1024, .bf16⟩
  | .hbm, ⟨2, _⟩ => ⟨S_, .f32⟩
  | .hbm, ⟨3, _⟩ => ⟨S8x2x2x352x1024, .f32⟩
  | .hbm, ⟨4, _⟩ => ⟨S8x2x2x352x1024, .f32⟩
  | .hbm, ⟨5, _⟩ => ⟨S8x352x1024, .bf16⟩
  | .local _ .vmem, ⟨0, _⟩ => ⟨S1x768x2048, .bf16⟩
  | .local _ .vmem, ⟨1, _⟩ => ⟨S1x768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x1x352x1024, .f32⟩
  | .local _ .vmem, ⟨5, _⟩ => ⟨S2x1x1x352x1024, .f32⟩
  | .local _ .vmem, ⟨6, _⟩ => ⟨S2x352x1024, .bf16⟩
  | .local _ .vmem, ⟨7, _⟩ => ⟨S2x352x1024, .bf16⟩
  | .local _ .vmem, ⟨8, _⟩ => ⟨S768x1024, .f32⟩
  | _, _ => ⟨S4x768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DvReferenceIdeal.lean ====
abbrev S4x768x4096 : Shape := ⟨3, ![4, 768, 4096]⟩
abbrev S4096x1024 : Shape := ⟨2, ![4096, 1024]⟩
abbrev S4x2x384x4096 : Shape := ⟨4, ![4, 2, 384, 4096]⟩
abbrev S4x2x352x4096 : Shape := ⟨4, ![4, 2, 352, 4096]⟩
abbrev S2816x4096 : Shape := ⟨2, ![2816, 4096]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x768x4096, .bf16⟩
  | .hbm, ⟨1, _⟩ => ⟨S4096x1024, .bf16⟩
  | .hbm, ⟨2, _⟩ => ⟨S4x768x4096, .f32⟩
  | .hbm, ⟨3, _⟩ => ⟨S4x2x384x4096, .f32⟩
  | .hbm, ⟨4, _⟩ => ⟨S4x2x352x4096, .f32⟩
  | .hbm, ⟨5, _⟩ => ⟨S2816x4096, .f32⟩
  | .hbm, ⟨6, _⟩ => ⟨S4096x2816, .f32⟩
  | .hbm, ⟨7, _⟩ => ⟨S_, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S8x352x1024, .f32⟩
  | .hbm, ⟨14, _⟩ => ⟨S8x352x1024, .bf16⟩
  | _, _ => ⟨S4x768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Fwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S_ : Shape := ⟨0, ![]⟩
abbrev S8x384x1024 : Shape := ⟨3, ![8, 384, 1024]⟩
abbrev S4x4096x768 : Shape := ⟨3, ![4, 4096, 768]⟩
abbrev S512x1024 : Shape := ⟨2, ![512, 1024]⟩
abbrev S4x512x768 : Shape := ⟨3, ![4, 512, 768]⟩
abbrev S4x768x1024 : Shape := ⟨3, ![4, 768, 1024]⟩
abbrev S24 : Shape := ⟨1, ![24]⟩
abbrev S1 : Shape := ⟨1, ![1]⟩
abbrev S1x384x1024 : Shape := ⟨3, ![1, 384, 1024]⟩
abbrev S384x1024 : Shape := ⟨2, ![384, 1024]⟩
abbrev S512 : Shape := ⟨1, ![512]⟩
abbrev S512x1 : Shape := ⟨2, ![512, 1]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩

abbrev nBuf : Space → Nat
  | .hbm => 25
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8x352x1024, .bf16⟩
  | .hbm, ⟨11, _⟩ => ⟨S_, .i32⟩
  | .hbm, ⟨12, _⟩ => ⟨S_, .bf16⟩
  | .hbm, ⟨13, _⟩ => ⟨S8x384x1024, .bf16⟩
  | .hbm, ⟨14, _⟩ => ⟨S8x352x1024, .bf16⟩
  | .hbm, ⟨15, _⟩ => ⟨S_, .i32⟩
  | .hbm, ⟨16, _⟩ => ⟨S_, .bf16⟩
  | .hbm, ⟨17, _⟩ => ⟨S8x384x1024, .bf16⟩
  | .hbm, ⟨18, _⟩ => ⟨S8x352x1024, .bf16⟩
  | .hbm, ⟨19, _⟩ => ⟨S_, .i32⟩
  | .hbm, ⟨20, _⟩ => ⟨S_, .bf16⟩
  | .hbm, ⟨21, _⟩ => ⟨S8x384x1024, .bf16⟩
  | .hbm, ⟨22, _⟩ => ⟨S4096x1024, .f32⟩
  | .hbm, ⟨23, _⟩ => ⟨S4x4096x768, .bf16⟩
  | .hbm, ⟨24, _⟩ => ⟨S4x4096x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x768, .bf16⟩
  | .local _ .vmem, ⟨6, _⟩ => ⟨S4x512x768, .bf16⟩
  | .local _ .vmem, ⟨7, _⟩ => ⟨S4x512x768, .bf16⟩
  | .local _ .vmem, ⟨8, _⟩ => ⟨S4x512x768, .bf16⟩
  | .local _ .vmem, ⟨9, _⟩ => ⟨S4x768x1024, .bf16⟩
  | .local _ .vmem, ⟨10, _⟩ => ⟨S4x768x1024, .bf16⟩
  | .local _ .vmem, ⟨11, _⟩ => ⟨S4x768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Dx.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x352x1024 : Shape := ⟨3, ![8, 352, 1024]⟩
abbrev S8x384x1024 : Shape := ⟨3, ![8, 384, 1024]⟩
abbrev S4096x2816 : Shape := ⟨2, ![4096, 2816]⟩
abbrev S4096x8x352 : Shape := ⟨3, ![4096, 8, 352]⟩
abbrev S4096x8x384 : Shape := ⟨3, ![4096, 8, 384]⟩
abbrev S4096x4x768 : Shape := ⟨3, ![4096, 4, 768]⟩
abbrev S4x4096x768 : Shape := ⟨3, ![4, 4096, 768]⟩
abbrev S1024x4096 : Shape := ⟨2, ![1024, 4096]⟩
abbrev S4x768x4096 : Shape := ⟨3, ![4, 768, 4096]⟩
abbrev S256x1024 : Shape := ⟨2, ![256, 1024]⟩
abbrev S4x256x768 : Shape := ⟨3, ![4, 256, 768]⟩
abbrev S1024x256 : Shape := ⟨2, ![1024, 256]⟩
abbrev S4x768x256 : Shape := ⟨3, ![4, 768, 256]⟩
abbrev S4x768x1024 : Shape := ⟨3, ![4, 768, 1024]⟩
abbrev S24 : Shape := ⟨1, ![24]⟩
abbrev S1 : Shape := ⟨1, ![1]⟩
abbrev S1x384x1024 : Shape := ⟨3, ![1, 384, 1024]⟩
abbrev S384x1024 : Shape := ⟨2, ![384, 1024]⟩
abbrev S256 : Shape := ⟨1, ![256]⟩
abbrev S256x1 : Shape := ⟨2, ![256, 1]⟩
abbrev S1x768x1024 : Shape := ⟨3, ![1, 768, 1024]⟩
abbrev S768x1024 : Shape := ⟨2, ![768, 1024]⟩
abbrev S256x768 : Shape := ⟨2, ![256, 768]⟩
abbrev S1x256x768 : Shape := ⟨3, ![1, 256, 768]⟩
abbrev S768x256 : Shape := ⟨2, ![768, 256]⟩
abbrev S1x768x256 : Shape := ⟨3, ![1, 768, 256]⟩

abbrev nBuf : Space → Nat
  | .hbm => 63
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S2816x1024, .f32⟩
  | .hbm, ⟨24, _⟩ => ⟨S2816x1024, .bf16⟩
  | .hbm, ⟨25, _⟩ => ⟨S2816x1024, .f32⟩
  | .hbm, ⟨26, _⟩ => ⟨S2816x1024, .bf16⟩
  | .hbm, ⟨27, _⟩ => ⟨S2816x1024, .bf16⟩
  | .hbm, ⟨28, _⟩ => ⟨S8x352x1024, .bf16⟩
  | .hbm, ⟨29, _⟩ => ⟨S_, .i32⟩
  | .hbm, ⟨30, _⟩ => ⟨S_, .bf16⟩
  | .hbm, ⟨31, _⟩ => ⟨S8x384x1024, .bf16⟩
  | .hbm, ⟨32, _⟩ => ⟨S8x352x1024, .bf16⟩
  | .hbm, ⟨33, _⟩ => ⟨S_, .i32⟩
  | .hbm, ⟨34, _⟩ => ⟨S_, .bf16⟩
  | .hbm, ⟨35, _⟩ => ⟨S8x384x1024, .bf16⟩
  | .hbm, ⟨36, _⟩ => ⟨S8x352x1024, .bf16⟩
  | .hbm, ⟨37, _⟩ => ⟨S_, .i32⟩
  | .hbm, ⟨38, _⟩ => ⟨S_, .bf16⟩
  | .hbm, ⟨39, _⟩ => ⟨S8x384x1024, .bf16⟩
  | .hbm, ⟨40, _⟩ => ⟨S4096x2816, .f32⟩
  | .hbm, ⟨41, _⟩ => ⟨S4096x8x352, .f32⟩
  | .hbm, ⟨42, _⟩ => ⟨S_, .i32⟩
  | .hbm, ⟨43, _⟩ => ⟨S_, .f32⟩
  | .hbm, ⟨44, _⟩ => ⟨S4096x8x384, .f32⟩
  | .hbm, ⟨45, _⟩ => ⟨S4096x4x768, .f32⟩
  | .hbm, ⟨46, _⟩ => ⟨S4x4096x768, .f32⟩
  | .hbm, ⟨47, _⟩ => ⟨S4x4096x768, .bf16⟩
  | .hbm, ⟨48, _⟩ => ⟨S4096x2816, .f32⟩
  | .hbm, ⟨49, _⟩ => ⟨S4096x8x352, .f32⟩
  | .hbm, ⟨50, _⟩ => ⟨S_, .i32⟩
  | .hbm, ⟨51, _⟩ => ⟨S_, .f32⟩
  | .hbm, ⟨52, _⟩ => ⟨S4096x8x384, .f32⟩
  | .hbm, ⟨53, _⟩ => ⟨S4096x4x768, .f32⟩
  | .hbm, ⟨54, _⟩ => ⟨S4x4096x768, .f32⟩
  | .hbm, ⟨55, _⟩ => ⟨S4x4096x768, .bf16⟩
  | .hbm, ⟨56, _⟩ => ⟨S4096x1024, .f32⟩
  | .hbm, ⟨57, _⟩ => ⟨S1x1024, .f32⟩
  | .hbm, ⟨58, _⟩ => ⟨S1024x4096, .bf16⟩
  | .hbm, ⟨59, _⟩ => ⟨S4096x1024, .bf16⟩
  | .hbm, ⟨60, _⟩ => ⟨S4x768x4096, .bf16⟩
  | .hbm, ⟨61, _⟩ => ⟨S4x4096x768, .bf16⟩
  | .hbm, ⟨62, _⟩ => ⟨S4x4096x768, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x768, .bf16⟩
  | .local _ .vmem, ⟨6, _⟩ => ⟨S4x256x768, .bf16⟩
  | .local _ .vmem, ⟨7, _⟩ => ⟨S4x256x768, .bf16⟩
  | .local _ .vmem, ⟨8, _⟩ => ⟨S4x256x768, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .bf16⟩
  | .local _ .vmem, ⟨16, _⟩ => ⟨S4x768x256, .bf16⟩
  | .local _ .vmem, ⟨17, _⟩ => ⟨S4x768x256, .bf16⟩
  | .local _ .vmem, ⟨18, _⟩ => ⟨S4x256x768, .bf16⟩
  | .local _ .vmem, ⟨19, _⟩ => ⟨S4x256x768, .bf16⟩
  | .local _ .vmem, ⟨20, _⟩ => ⟨S4x256x768, .bf16⟩
  | .local _ .vmem, ⟨21, _⟩ => ⟨S4x256x768, .bf16⟩
  | .local _ .vmem, ⟨22, _⟩ => ⟨S4x768x1024, .bf16⟩
  | .local _ .vmem, ⟨23, _⟩ => ⟨S4x768x1024, .bf16⟩
  | .local _ .vmem, ⟨24, _⟩ => ⟨S4x768x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_call2_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call3_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_call4_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev main_v37_3 : Ref sig .tc := ⟨.hbm, 59, rfl⟩
abbrev main_v37_4 : Ref sig .tc := ⟨.hbm, 60, rfl⟩
abbrev main_v37_5 : Ref sig .tc := ⟨.hbm, 61, rfl⟩
abbrev main_v37_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DxReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== In.lean ====
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x1024, .bf16⟩
  | .hbm, ⟨3, _⟩ => ⟨S1024x3072, .bf16⟩
  | .hbm, ⟨4, _⟩ => ⟨S4096x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ix.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x3072, .bf16⟩
  | .hbm, ⟨3, _⟩ => ⟨S1024x3072, .bf16⟩
  | .hbm, ⟨4, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== IxReferenceIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S_, .f32⟩
  | .hbm, ⟨3, _⟩ => ⟨S4096x1024, .f32⟩
  | .hbm, ⟨4, _⟩ => ⟨S4096x3072, .f32⟩
  | .hbm, ⟨5, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Iw.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S4096x3072, .bf16⟩
  | .hbm, ⟨4, _⟩ => ⟨S1024x3072, .f32⟩
  | .hbm, ⟨5, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== IwReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Model.lean ====
/-
  The mathematics of the chunked retention layer over the real numbers, for one head and one batch row: 128 positions
  of a chunk by 128 channels of a head are a matrix, a sequence of chunks is a function of the chunk's number. Both
  programs are read into these functions; nothing here mentions a program.
-/
module

public import Idealize.ShloMosaic.PureOps.Ideal
public import Mathlib.Algebra.BigOperators.Fin
public import Mathlib.Tactic.FieldSimp
public import Mathlib.Tactic.Ring
public import Mathlib.Tactic.LinearCombination
public import Mathlib.Tactic.Positivity

@[expose] public section

noncomputable section

namespace Ret

open scoped BigOperators

/-- A chunk of one head: rows are the positions of the chunk, columns the channels of the head. -/
abbrev Mat := Fin 128 → Fin 128 → ℝ

/-- The product `A B`. -/
def mm (A B : Mat) : Mat := fun i j => ∑ k, A i k * B k j
/-- The product `A Bᵀ`. -/
def mmt (A B : Mat) : Mat := fun i j => ∑ k, A i k * B j k
/-- The product `Aᵀ B`. -/
def tmm (A B : Mat) : Mat := fun i j => ∑ k, A k i * B k j

/-- Rotary embedding with the doubled tables `c = cos|cos` and `s = -sin|sin`. -/
def rope (c s A : Mat) : Mat := fun i d => A i d * c i d + A i (d + 64) * s i d
/-- Its transpose, applied to a gradient. -/
def ropeT (c s G : Mat) : Mat := fun i d => G i d * c i d + G i (d + 64) * s i (d + 64)

/-- The float word of `128^(-1/2)`, as a rational. -/
def sc : ℝ := 11863283 / 2 ^ 27
/-- The float word of `10⁻⁶`, as a rational. -/
def eps : ℝ := 8796093 / 2 ^ 43

theorem eps_pos : 0 < eps := by unfold eps; positivity

/-- The decay between two positions of a chunk. -/
def decay (lg : ℝ) : Mat := fun i j => if j ≤ i then Real.exp (lg * ((i.val : ℝ) - (j.val : ℝ))) else 0
/-- The decay from a position to the end of its chunk. -/
def kdec (lg : ℝ) (j : Fin 128) : ℝ := Real.exp (lg * (127 - (j.val : ℝ)))
/-- The decay from the chunk's start to a position. -/
def qdec (lg : ℝ) (i : Fin 128) : ℝ := Real.exp (lg * ((i.val : ℝ) + 1))
/-- The decay over a whole chunk. -/
def cdec (lg : ℝ) : ℝ := Real.exp (lg * 128)

/-- The mean of each row. -/
def mean (A : Mat) (i : Fin 128) : ℝ := (∑ d, A i d) / 128
/-- Each row less its mean. -/
def cen (A : Mat) : Mat := fun i d => A i d - mean A i
/-- Each row's variance. -/
def var (A : Mat) (i : Fin 128) : ℝ := mean (fun i d => cen A i d * cen A i d) i
/-- Each row's reciprocal deviation. -/
def rstd (A : Mat) (i : Fin 128) : ℝ := (Real.sqrt (var A i + eps))⁻¹
/-- Each row normalised. -/
def nrm (A : Mat) : Mat := fun i d => cen A i d * rstd A i

/-- The logistic function. -/
def sgm (x : ℝ) : ℝ := 1 / (1 + Real.exp (-x))

/-- What a chunk of one head is computed from: the rotary tables, the projections, the output gate, the gradient of
    the layer's result, and the norm's gain. -/
structure Chk where
  (c s q k v gt dm : Mat)
  (g : Fin 128 → ℝ)

namespace Chk
variable (x : Chk) (lg : ℝ)

/-- The rotated queries. -/
def Q : Mat := rope x.c x.s x.q
/-- The rotated and scaled keys. -/
def K : Mat := fun i d => rope x.c x.s x.k i d * sc
/-- The decayed scores. -/
def S : Mat := fun i j => mmt x.Q x.K i j * decay lg i j
/-- The keys decayed to the chunk's end. -/
def Kd : Mat := fun j d => x.K j d * kdec lg j
/-- The queries decayed from the chunk's start. -/
def Qd : Mat := fun i d => x.Q i d * qdec lg i
/-- The chunk's output from the state `R` before it. -/
def out (R : Mat) : Mat := fun i e => mm (x.S lg) x.v i e + mm (x.Qd lg) R i e
/-- The state after the chunk from the state before it. -/
def next (R : Mat) : Mat := fun d e => R d e * cdec lg + tmm (x.Kd lg) x.v d e
/-- The gated, normalised result of the chunk, from its output `O`. -/
def merged (O : Mat) : Mat := fun i d => nrm O i d * x.g d * (x.gt i d * sgm (x.gt i d))

/-- The gradient of the gate. -/
def dgate (O : Mat) : Mat := fun i d =>
  x.dm i d * nrm O i d * x.g d * (sgm (x.gt i d) * (1 + x.gt i d * (1 - sgm (x.gt i d))))
/-- The gradient of the normalised rows. -/
def dyl : Mat := fun i d => x.dm i d * x.g d * (x.gt i d * sgm (x.gt i d))
/-- The chunk's part of the gradient of the gain. -/
def dgain (O : Mat) (d : Fin 128) : ℝ := ∑ i, x.dm i d * nrm O i d * (x.gt i d * sgm (x.gt i d))
/-- The gradient of the chunk's output. -/
def dO (O : Mat) : Mat := fun i d =>
  rstd O i * (x.dyl i d - mean x.dyl i - nrm O i d * mean (fun i d => x.dyl i d * nrm O i d) i)
/-- The gradient of the scores before their decay. -/
def dS (O : Mat) : Mat := fun i j => mmt (x.dO O) x.v i j * decay lg i j
/-- The gradient of the rotated queries. -/
def dQ (O R : Mat) : Mat := fun i d => mm (x.dS lg O) x.K i d + mmt (x.dO O) R i d * qdec lg i
/-- The gradient of the rotated and scaled keys, `G` the gradient of the state after the chunk. -/
def dK (O G : Mat) : Mat := fun j d => tmm (x.dS lg O) x.Q j d + mmt x.v G j d * kdec lg j
/-- The gradient of the values. -/
def dv (O G : Mat) : Mat := fun j e => tmm (x.S lg) (x.dO O) j e + mm (x.Kd lg) G j e
/-- The gradient of the queries. -/
def dq (O R : Mat) : Mat := ropeT x.c x.s (x.dQ lg O R)
/-- The gradient of the keys. -/
def dk (O G : Mat) : Mat := ropeT x.c x.s (fun j d => x.dK lg O G j d * sc)
/-- The gradient of the state before the chunk, from the gradient `G` of the state after it. -/
def prev (O G : Mat) : Mat := fun d e => G d e * cdec lg + tmm (x.Qd lg) (x.dO O) d e

end Chk

variable (x : ℕ → Chk) (lg : ℝ)

/-- The state before chunk `n`. -/
def R : ℕ → Mat
  | 0 => fun _ _ => 0
  | n + 1 => (x n).next lg (R n)
/-- The output of chunk `n`. -/
def O (n : ℕ) : Mat := (x n).out lg (R x lg n)
/-- The gradient of the state after chunk `15 - k`. -/
def G : ℕ → Mat
  | 0 => fun _ _ => 0
  | k + 1 => (x (15 - k)).prev lg (O x lg (15 - k)) (G k)
/-- The gradient of the gain after the last `k` chunks. -/
def gsum (d : Fin 128) : ℕ → ℝ
  | 0 => 0
  | k + 1 => gsum d k + (x (15 - k)).dgain (O x lg (15 - k)) d

end Ret

end
-- ==== Proof.Mat.lean ====
/-
  Blocks of extended reals that hold real matrices, and each vector operation of the kernel read on them: an operation
  on such blocks is the block of the real operation.
-/
module

public import proofs.«01_k».proof.Proof.Model
public import proofs.«01_k».proof.Proof.Gen.KernelIdeal
public import Idealize.ShloMosaic.Lib.Pipeline.Value
public import Idealize.ShloMosaic.Lib.ValueIdx
public import Idealize.ShloMosaic.Lib.KernelVsHost
public import Idealize.ShloMosaic.PureOps.Ideal.Laws
public import Idealize.ShloMosaic.PureOps.IdealRules

@[expose] public section

noncomputable section

namespace Ret

open Idealize.ShloMosaic Idealize.ShloMosaic.ValueIdx
open Cert.KernelIdeal Cert.KernelIdeal.Gen
open scoped BigOperators

/-! ## The ideal operations on real numbers -/

theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

theorem exp_coe (a : ℝ) : Ideal.exp (a : EReal) = ((Real.exp a : ℝ) : EReal) := rfl

theorem logistic_coe (a : ℝ) : Ideal.logistic (a : EReal) = ((sgm a : ℝ) : EReal) := by
  have h : (1 + Real.exp (-a) : ℝ) ≠ 0 := by positivity
  rw [Ideal.logistic, ← EReal.coe_neg, exp_coe, ← EReal.coe_one, ← EReal.coe_add, div_coe _ _ h]; rfl

theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.le.not_gt, if_neg ha.ne']

theorem max_coe (a b : ℝ) : max (a : EReal) (b : EReal) = ((max a b : ℝ) : EReal) :=
  (Monotone.map_max (f := fun r : ℝ => (r : EReal)) (fun _ _ h => EReal.coe_le_coe_iff.2 h)).symm

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_127 : Ideal.ofBits .f32 0x42FE0000#32 = ((127 : ℝ) : EReal) := by
  simp [Ideal.ofBits, Ideal.ieee, -EReal.coe_mul]; norm_num
theorem word_sc : Ideal.ofBits .f32 0x3DB504F3#32 = ((sc : ℝ) : EReal) := by
  simp [Ideal.ofBits, Ideal.ieee, -EReal.coe_mul, sc]; norm_num
theorem word_eps : Ideal.ofBits .f32 0x358637BD#32 = ((eps : ℝ) : EReal) := by
  simp [Ideal.ofBits, Ideal.ieee, -EReal.coe_mul, eps]; norm_num

/-! ## Blocks of reals -/

/-- The block of a matrix. -/
def M (A : Mat) : S128x128.Idx → EReal := fun i => ((A (i 0) (i 1) : ℝ) : EReal)
/-- The block of one number per row. -/
def C (a : Fin 128 → ℝ) : S128x1.Idx → EReal := fun i => ((a (i 0) : ℝ) : EReal)
/-- The block of one number per column. -/
def W (a : Fin 128 → ℝ) : S1x128.Idx → EReal := fun i => ((a (i 1) : ℝ) : EReal)
/-- A vector of reals. -/
def L (a : Fin 128 → ℝ) : S128.Idx → EReal := fun i => ((a (i 0) : ℝ) : EReal)
/-- The block of a matrix under three unit axes. -/
def M5 (A : Mat) : S1x1x1x128x128.Idx → EReal := fun i => ((A (i 3) (i 4) : ℝ) : EReal)

section
variable {φ ψ : FTy}

theorem mulf_M (A B : Mat) : mulf (F := Ideal) (φ := φ) (M A) (M B) = M (fun i d => A i d * B i d) :=
  funext fun _ => (EReal.coe_mul _ _).symm
theorem addf_M (A B : Mat) : addf (F := Ideal) (φ := φ) (M A) (M B) = M (fun i d => A i d + B i d) :=
  funext fun _ => (EReal.coe_add _ _).symm
theorem subf_M (A B : Mat) : subf (F := Ideal) (φ := φ) (M A) (M B) = M (fun i d => A i d - B i d) :=
  funext fun _ => (EReal.coe_sub _ _).symm
theorem maximumf_M (A B : Mat) : maximumf (F := Ideal) (φ := φ) (M A) (M B) = M (fun i d => max (A i d) (B i d)) :=
  funext fun _ => max_coe _ _
theorem exp_M (A : Mat) : exp (F := Ideal) (φ := φ) (M A) = M (fun i d => Real.exp (A i d)) := rfl
theorem logistic_M (A : Mat) : logistic (F := Ideal) (φ := φ) (M A) = M (fun i d => sgm (A i d)) :=
  funext fun _ => logistic_coe _
theorem truncf_M (A : Mat) (h : ψ.bits < φ.bits) : truncf (F := Ideal) (φ := φ) ψ (M A) h = M A := rfl
theorem cast_M (A : Mat) (h : S128x128.ShapeCasts S128x128) : shapeCast S128x128 (M A) h = M A := shapeCast_self _ _

theorem mulf_C (a b : Fin 128 → ℝ) : mulf (F := Ideal) (φ := φ) (C a) (C b) = C (fun i => a i * b i) :=
  funext fun _ => (EReal.coe_mul _ _).symm
theorem addf_C (a b : Fin 128 → ℝ) : addf (F := Ideal) (φ := φ) (C a) (C b) = C (fun i => a i + b i) :=
  funext fun _ => (EReal.coe_add _ _).symm
theorem subf_C (a b : Fin 128 → ℝ) : subf (F := Ideal) (φ := φ) (C a) (C b) = C (fun i => a i - b i) :=
  funext fun _ => (EReal.coe_sub _ _).symm
theorem exp_C (a : Fin 128 → ℝ) : exp (F := Ideal) (φ := φ) (C a) = C (fun i => Real.exp (a i)) := rfl
/-- A column divided by the splat of 128. -/
theorem div128_C (a : Fin 128 → ℝ) :
    divf (F := Ideal) (φ := .f32) (C a) (broadcast S128x1 (Scalar.ofBits .f32 0x43000000#32)) = C (fun i => a i / 128) :=
  funext fun i => by
    show Ideal.div _ (Ideal.ofBits .f32 0x43000000#32) = _
    rw [word_128]; exact div_coe _ _ (by norm_num)
theorem rsqrt_C (a : Fin 128 → ℝ) (h : ∀ i, 0 < a i) :
    rsqrt (F := Ideal) (φ := φ) (C a) = C (fun i => (Real.sqrt (a i))⁻¹) := funext fun _ => rsqrt_coe _ (h _)

theorem addf_W (a b : Fin 128 → ℝ) : addf (F := Ideal) (φ := φ) (W a) (W b) = W (fun i => a i + b i) :=
  funext fun _ => (EReal.coe_add _ _).symm

theorem splat_M (r : ℝ) : broadcast S128x128 ((r : ℝ) : EReal) = M (fun _ _ => r) := rfl
theorem splat_C (r : ℝ) : broadcast S128x1 ((r : ℝ) : EReal) = C (fun _ => r) := rfl
theorem splat_W (r : ℝ) : broadcast S1x128 ((r : ℝ) : EReal) = W (fun _ => r) := rfl

theorem scalar_zero : Scalar.ofBits (F := Ideal) .f32 0x00000000#32 = ((0 : ℝ) : EReal) := word_zero
theorem scalar_one : Scalar.ofBits (F := Ideal) .f32 0x3F800000#32 = ((1 : ℝ) : EReal) := word_one
theorem scalar_128 : Scalar.ofBits (F := Ideal) .f32 0x43000000#32 = ((128 : ℝ) : EReal) := word_128
theorem scalar_127 : Scalar.ofBits (F := Ideal) .f32 0x42FE0000#32 = ((127 : ℝ) : EReal) := word_127
theorem scalar_sc : Scalar.ofBits (F := Ideal) .f32 0x3DB504F3#32 = ((sc : ℝ) : EReal) := word_sc
theorem scalar_eps : Scalar.ofBits (F := Ideal) .f32 0x358637BD#32 = ((eps : ℝ) : EReal) := word_eps
theorem scalar_mul (a b : ℝ) : Scalar.mulf (F := Ideal) (φ := .f32) ((a : ℝ) : EReal) ((b : ℝ) : EReal) = ((a * b : ℝ) : EReal) :=
  (EReal.coe_mul _ _).symm
theorem scalar_exp (a : ℝ) : Scalar.exp (F := Ideal) (φ := .f32) ((a : ℝ) : EReal) = ((Real.exp a : ℝ) : EReal) := rfl

/-- A column spread over the rows' channels. -/
theorem spread_C (a : Fin 128 → ℝ) (h : S128x1.Broadcasts S128x128) : broadcastTo S128x128 (C a) h = M (fun i _ => a i) := by
  funext j
  exact broadcastTo_apply (C a) h j (ix2 (n0 := 128) (n1 := 1) (j 0) 0) fun d => by match d with | ⟨0, _⟩ => rfl | ⟨1, _⟩ => rfl
/-- A row spread over the positions. -/
theorem spread_W (a : Fin 128 → ℝ) (h : S1x128.Broadcasts S128x128) : broadcastTo S128x128 (W a) h = M (fun _ d => a d) := by
  funext j
  exact broadcastTo_apply (W a) h j (ix2 (n0 := 1) (n1 := 128) 0 (j 1)) fun d => by match d with | ⟨0, _⟩ => rfl | ⟨1, _⟩ => rfl

theorem cast_L_C (a : Fin 128 → ℝ) (h : S128.ShapeCasts S128x1) : shapeCast S128x1 (L a) h = C a := by
  funext j
  refine shapeCast_apply (L a) h j (ix1 (n := 128) (j 0)) ?_
  have h1 : (j 1).val < 1 := (j 1).isLt
  rw [Shape.rowMajor_val_one, Shape.rowMajor_val_two]
  show (j 0).val = (j 0).val * 1 + (j 1).val
  omega
theorem cast_L_W (a : Fin 128 → ℝ) (h : S128.ShapeCasts S1x128) : shapeCast S1x128 (L a) h = W a := by
  funext j
  refine shapeCast_apply (L a) h j (ix1 (n := 128) (j 1)) ?_
  have h1 : (j 0).val < 1 := (j 0).isLt
  rw [Shape.rowMajor_val_one, Shape.rowMajor_val_two]
  show (j 1).val = (j 0).val * 128 + (j 1).val
  omega

/-- The sum of each row. -/
theorem rowsum_M (A : Mat) (hn : NeZero S128x128.rank) (h : S128x128.Reduces [@OfNat.ofNat (Fin S128x128.rank) 1 (@Fin.instOfNat S128x128.rank hn 1)] S128) (hφ : FTy.f32 = FTy.f32 ∨ FTy.f32 = FTy.bf16)
    (hacc : 0x00000000#32 = 0x00000000#32) :
    multiReduction (F := Ideal) (φ := .f32) .add [@OfNat.ofNat (Fin S128x128.rank) 1 (@Fin.instOfNat S128x128.rank hn 1)] S128 (M A) 0x00000000#32 h hφ hacc = L (fun i => ∑ d, A i d) := by
  funext j
  refine (Ideal.multiReduction_add_single (φ := .f32) (s := S128x128) (t := S128) (a := (1 : Fin 2)) (M A) 0x00000000#32 h hφ hacc j).trans ?_
  refine Eq.trans ?_ (sum_coe Finset.univ (fun d => A (j 0) d))
  rfl
/-- The sum of each column. -/
theorem colsum_M (A : Mat) (hn : NeZero S128x128.rank) (h : S128x128.Reduces [@OfNat.ofNat (Fin S128x128.rank) 0 (@Fin.instOfNat S128x128.rank hn 0)] S128) (hφ : FTy.f32 = FTy.f32 ∨ FTy.f32 = FTy.bf16)
    (hacc : 0x00000000#32 = 0x00000000#32) :
    multiReduction (F := Ideal) (φ := .f32) .add [@OfNat.ofNat (Fin S128x128.rank) 0 (@Fin.instOfNat S128x128.rank hn 0)] S128 (M A) 0x00000000#32 h hφ hacc = L (fun d => ∑ i, A i d) := by
  funext j
  refine (Ideal.multiReduction_add_single (φ := .f32) (s := S128x128) (t := S128) (a := (0 : Fin 2)) (M A) 0x00000000#32 h hφ hacc j).trans ?_
  refine Eq.trans ?_ (sum_coe Finset.univ (fun i => A i (j 0)))
  rfl

/-- A rotation by 64 lanes reads the channel 64 away. -/
theorem rotate_M (A : Mat) (h : S128x128.Rotates 1 none) :
    dynamicRotate 1 64#32 none (M A) h = M (fun i d => A i (d + 64)) := by
  funext j
  refine dynamicRotate_apply (1 : Fin 2) 64#32 (M A) h j (ix2 (n0 := 128) (n1 := 128) (j 0) ((show Fin 128 from j 1) + 64)) ?_
  intro b
  match b with
  | ⟨0, _⟩ => rfl
  | ⟨1, _⟩ =>
    have hj : (j 1).val < 128 := (j 1).isLt
    show ((show Fin 128 from j 1) + (64 : Fin 128)).val = ((j 1).val + 128 - 64) % 128
    rw [Fin.val_add]
    show ((j 1).val + 64) % 128 = _
    omega

/-- A product of two blocks whose dimension numbers contract one axis, its operands' indices known. -/
theorem dot_M (d : DotDims S128x128 S128x128 S128x128) (A B : Mat) (f g : Fin 128 → Fin 128 → Fin 128 → ℝ)
    (hr : d.contr.rank = 1) (hs : d.contr.size ⟨0, by omega⟩ = 128)
    (hl : ∀ j q, M A (d.lhsIdx j q) = ((f (j 0) (j 1) ((q ⟨0, by omega⟩).cast hs) : ℝ) : EReal))
    (hg : ∀ j q, M B (d.rhsIdx j q) = ((g (j 0) (j 1) ((q ⟨0, by omega⟩).cast hs) : ℝ) : EReal)) :
    matmul (F := Ideal) (φ₁ := φ) (φ₂ := ψ) d none (M A) (M B) (constant S128x128 .f32 0x00000000#32)
      = M (fun i j => ∑ k, f i j k * g i j k) := by
  funext j
  refine (Ideal.matmul_constant_zero_apply (φ₁ := φ) (φ₂ := ψ) d none (M A) (M B) j).trans ?_
  rw [← Equiv.sum_comp (contrEquiv1 d 128 hr hs).symm]
  refine Eq.trans ?_ (sum_coe Finset.univ (fun k => f (j 0) (j 1) k * g (j 0) (j 1) k))
  refine Finset.sum_congr rfl fun k _ => ?_
  rw [hl, hg, EReal.coe_mul]
  have hk : ((contrEquiv1 d 128 hr hs).symm k ⟨0, by omega⟩).cast hs = k :=
    Fin.ext (contrEquiv1_symm_val d 128 hr hs k)
  rw [hk]

theorem nt_M (A B : Mat) :
    matmul (F := Ideal) (φ₁ := φ) (φ₂ := ψ) dot_S128x128_S128x128_S128x128_1_1_0_0_n_n none (M A) (M B)
      (constant S128x128 .f32 0x00000000#32) = M (mmt A B) :=
  dot_M _ A B (fun i _ k => A i k) (fun _ j k => B j k) rfl rfl (fun _ _ => rfl) (fun _ _ => rfl)
theorem nn_M (A B : Mat) :
    matmul (F := Ideal) (φ₁ := φ) (φ₂ := ψ) dot_S128x128_S128x128_S128x128_1_0_0_1_n_n none (M A) (M B)
      (constant S128x128 .f32 0x00000000#32) = M (mm A B) :=
  dot_M _ A B (fun i _ k => A i k) (fun _ j k => B k j) rfl rfl (fun _ _ => rfl) (fun _ _ => rfl)
theorem tn_M (A B : Mat) :
    matmul (F := Ideal) (φ₁ := φ) (φ₂ := ψ) dot_S128x128_S128x128_S128x128_0_0_1_1_n_n none (M A) (M B)
      (constant S128x128 .f32 0x00000000#32) = M (tmm A B) :=
  dot_M _ A B (fun i _ k => A k i) (fun _ j k => B k j) rfl rfl (fun _ _ => rfl) (fun _ _ => rfl)

theorem cast_M_M5 (A : Mat) (h : S128x128.ShapeCasts S1x1x1x128x128) : shapeCast S1x1x1x128x128 (M A) h = M5 A := by
  funext j
  refine shapeCast_apply (M A) h j (ix2 (n0 := 128) (n1 := 128) (j 3) (j 4)) ?_
  have h0 : (j 0).val < 1 := (j 0).isLt
  have h1 : (j 1).val < 1 := (j 1).isLt
  have h2 : (j 2).val < 1 := (j 2).isLt
  rw [Shape.rowMajor_val_two, Shape.rowMajor_val_five]
  show (j 3).val * 128 + (j 4).val = _
  have e0 : (j 0).val = 0 := by omega
  have e1 : (j 1).val = 0 := by omega
  have e2 : (j 2).val = 0 := by omega
  rw [e0, e1, e2]
  show (j 3).val * 128 + (j 4).val = (((0 * 1 + 0) * 1 + 0) * 128 + (j 3).val) * 128 + (j 4).val
  omega
theorem cast_M5_M (A : Mat) (h : S1x1x1x128x128.ShapeCasts S128x128) : shapeCast S128x128 (M5 A) h = M A := by
  funext j
  refine shapeCast_apply (M5 A) h j (ix5 (n0 := 1) (n1 := 1) (n2 := 1) (n3 := 128) (n4 := 128) 0 0 0 (j 0) (j 1)) ?_
  rw [Shape.rowMajor_val_two, Shape.rowMajor_val_five]
  show _ = (j 0).val * 128 + (j 1).val
  show (((0 * 1 + 0) * 1 + 0) * 128 + (j 0).val) * 128 + (j 1).val = _
  omega

end

end Ret

end
-- ==== Proof.KPay.lean ====
/-
  The forward launch's arithmetic on blocks of reals: each value a trip computes, from blocks that hold real matrices,
  is the block of the function of the chunk that `Model` names.
-/
module

public import proofs.«01_k».proof.Proof.Mat
public import proofs.«01_k».proof.Proof.Gen.KernelIdeal.Skeleton

@[expose] public section

set_option maxRecDepth 8192

noncomputable section

namespace Ret

open Idealize.ShloMosaic Idealize.ShloMosaic.ValueIdx
open Cert.KernelIdeal Cert.KernelIdeal.Gen
open scoped BigOperators

/-- The logarithm of a head's decay. -/
def lgOf (h : Fin 4) : ℝ :=
  if h = 0 then Real.log (31 / 32) else if h = 1 then Real.log (63 / 64)
  else if h = 2 then Real.log (127 / 128) else Real.log (255 / 256)

theorem named_0 : Named.named (F := Ideal) (φ := .f32) Cert.KernelIdeal.κ "log_gamma_0" 0xBD020AEC#32 = ((Real.log (31 / 32) : ℝ) : EReal) :=
  IdealRules.named_const.ideal_named_scalar _ _ _ _ rfl
theorem named_1 : Named.named (F := Ideal) (φ := .f32) Cert.KernelIdeal.κ "log_gamma_1" 0xBC8102B3#32 = ((Real.log (63 / 64) : ℝ) : EReal) :=
  IdealRules.named_const.ideal_named_scalar _ _ _ _ rfl
theorem named_2 : Named.named (F := Ideal) (φ := .f32) Cert.KernelIdeal.κ "log_gamma_2" 0xBC0080AC#32 = ((Real.log (127 / 128) : ℝ) : EReal) :=
  IdealRules.named_const.ideal_named_scalar _ _ _ _ rfl
theorem named_3 : Named.named (F := Ideal) (φ := .f32) Cert.KernelIdeal.κ "log_gamma_3" 0xBB80402B#32 = ((Real.log (255 / 256) : ℝ) : EReal) :=
  IdealRules.named_const.ideal_named_scalar _ _ _ _ rfl

/-- The constant a head picks is its logarithm. -/
theorem pick_lg (h : Fin 4) (a b c d : EReal) (ha : a = ((Real.log (31 / 32) : ℝ) : EReal))
    (hb : b = ((Real.log (63 / 64) : ℝ) : EReal)) (hc : c = ((Real.log (127 / 128) : ℝ) : EReal))
    (hd : d = ((Real.log (255 / 256) : ℝ) : EReal)) :
    Scalar.select (Scalar.cmpi .eq (BitVec.ofNat 32 h.val) 0#32) a
      (Scalar.select (Scalar.cmpi .eq (BitVec.ofNat 32 h.val) 1#32) b
        (Scalar.select (Scalar.cmpi .eq (BitVec.ofNat 32 h.val) 2#32) c d)) = ((lgOf h : ℝ) : EReal) := by
  subst ha hb hc hd
  match h with
  | ⟨0, _⟩ => rfl
  | ⟨1, _⟩ => rfl
  | ⟨2, _⟩ => rfl
  | ⟨3, _⟩ => rfl

theorem k0_pay1_eq (i : grid0.Coords) : k0_pay1 (F := Ideal) i = ((lgOf (i 0) : ℝ) : EReal) :=
  pick_lg (i 0) _ _ _ _ named_0 named_1 named_2 named_3

/-- The difference of two positions, read signed. -/
theorem sub_toInt (a b : Fin 128) : ((BitVec.ofNat 32 a.val - BitVec.ofNat 32 b.val).toInt : ℤ) = (a.val : ℤ) - (b.val : ℤ) := by
  have ha := a.isLt; have hb := b.isLt
  rw [BitVec.toInt_sub, BitVec.toInt_ofNat', BitVec.toInt_ofNat']
  rw [show ((a.val : ℤ)).bmod (2^32) = a.val from Int.bmod_eq_of_le (by omega) (by omega),
    show ((b.val : ℤ)).bmod (2^32) = b.val from Int.bmod_eq_of_le (by omega) (by omega)]
  exact Int.bmod_eq_of_le (by omega) (by omega)
theorem ofNat_toInt (a : Fin 128) : ((BitVec.ofNat 32 a.val).toInt : ℤ) = (a.val : ℤ) := by
  have ha := a.isLt
  rw [BitVec.toInt_ofNat']
  exact Int.bmod_eq_of_le (by omega) (by omega)
/-- The signed comparison of two positions. -/
theorem sge_iff (a b : Fin 128) : Scalar.cmpi .sge (BitVec.ofNat 32 a.val) (BitVec.ofNat 32 b.val) = if b ≤ a then 1#1 else 0#1 := by
  show BitVec.ofBool (BitVec.sle (BitVec.ofNat 32 b.val) (BitVec.ofNat 32 a.val)) = _
  rw [BitVec.sle, ofNat_toInt, ofNat_toInt]
  by_cases h : b ≤ a
  · rw [if_pos h, decide_eq_true (by exact_mod_cast h)]; rfl
  · rw [if_neg h, decide_eq_false (by exact_mod_cast h)]; rfl

/-- The decay of two positions, as a program computes it: the exponential of the difference of the positions, kept
    where the first is not before the second. -/
theorem decay_entry (lg : ℝ) (a b : Fin 128) :
    Scalar.select (if b ≤ a then 1#1 else 0#1) ((Real.exp (lg * max (((a.val : ℝ) - (b.val : ℝ))) 0) : ℝ) : EReal) ((0 : ℝ) : EReal)
      = ((decay lg a b : ℝ) : EReal) := by
  unfold decay
  by_cases h : b ≤ a
  · have h' : ((b.val : ℝ)) ≤ (a.val : ℝ) := by exact_mod_cast h
    rw [if_pos h, if_pos h, max_eq_left (by linarith)]; rfl
  · rw [if_neg h, if_neg h]; rfl

theorem iota_0 (j : S128x128.Idx) : iota .tc S128x128 32 [0] iota_S128x128_d0_w32 j = BitVec.ofNat 32 (j 0).val := iota_single_apply ..
theorem iota_1 (j : S128x128.Idx) : iota .tc S128x128 32 [1] iota_S128x128_d1_w32 j = BitVec.ofNat 32 (j 1).val := iota_single_apply ..
theorem iota_c (j : S128x1.Idx) : iota .tc S128x1 32 [0] iota_S128x1_d0_w32 j = BitVec.ofNat 32 (j 0).val := iota_single_apply ..

/-- The decay block from the two position iotas. -/
theorem decay_block (l : EReal) (lg : ℝ) (hl : l = ((lg : ℝ) : EReal)) :
    select (cmpi .sge (iota .tc S128x128 32 [0] iota_S128x128_d0_w32) (iota .tc S128x128 32 [1] iota_S128x128_d1_w32))
      (exp (F := Ideal) (φ := .f32) (mulf (broadcast S128x128 l)
        (maximumf (sitofp .f32 (subi (iota .tc S128x128 32 [0] iota_S128x128_d0_w32) (iota .tc S128x128 32 [1] iota_S128x128_d1_w32)))
          (broadcast S128x128 (Scalar.ofBits .f32 0x00000000#32)))))
      (broadcast S128x128 (Scalar.ofBits .f32 0x00000000#32)) = M (decay lg) := by
  subst hl
  funext j
  refine Eq.trans ?_ (decay_entry lg (j 0) (j 1))
  show Scalar.select (Scalar.cmpi .sge (iota .tc S128x128 32 [0] iota_S128x128_d0_w32 j) (iota .tc S128x128 32 [1] iota_S128x128_d1_w32 j))
    (Ideal.exp ((lg : EReal) * max (((iota .tc S128x128 32 [0] iota_S128x128_d0_w32 j - iota .tc S128x128 32 [1] iota_S128x128_d1_w32 j).toInt : ℝ) : EReal)
      (Ideal.ofBits .f32 0x00000000#32))) (Ideal.ofBits .f32 0x00000000#32) = _
  rw [iota_0, iota_1, word_zero]
  rw [show ((BitVec.ofNat 32 (j 0).val - BitVec.ofNat 32 (j 1).val).toInt) = _ from sub_toInt (j 0) (j 1),
    show Scalar.cmpi .sge (BitVec.ofNat 32 (j 0).val) (BitVec.ofNat 32 (j 1).val) = _ from sge_iff (j 0) (j 1),
    max_coe, ← EReal.coe_mul, exp_coe]
  congr 4
  push_cast
  rfl

theorem k0_pay2_eq (i : grid0.Coords) : k0_pay2 (F := Ideal) i = M (decay (lgOf (i 0))) :=
  decay_block _ _ (k0_pay1_eq i)

/-- The column of positions as floats. -/
theorem col_pos : sitofp (F := Ideal) .f32 (iota .tc S128x1 32 [0] iota_S128x1_d0_w32) = C (fun i => (i.val : ℝ)) := by
  funext j
  show (((iota .tc S128x1 32 [0] iota_S128x1_d0_w32 j).toInt : ℝ) : EReal) = _
  rw [iota_c, show ((BitVec.ofNat 32 (j 0).val).toInt) = _ from ofNat_toInt (j 0)]
  show (((((j 0).val : ℤ) : ℝ)) : EReal) = (((j 0).val : ℝ) : EReal)
  push_cast
  rfl

theorem k0_pay3_eq : k0_pay3 (F := Ideal) = C (fun i => (i.val : ℝ)) := col_pos
theorem k0_pay4_eq (i : grid0.Coords) : k0_pay4 (F := Ideal) i = C (kdec (lgOf (i 0))) := by
  simp only [k0_pay4, k0_pay1_eq, k0_pay3_eq, scalar_127, splat_C, subf_C, mulf_C, exp_C]; rfl
theorem k0_pay5_eq (i : grid0.Coords) : k0_pay5 (F := Ideal) i = C (qdec (lgOf (i 0))) := by
  simp only [k0_pay5, k0_pay1_eq, k0_pay3_eq, scalar_one, splat_C, addf_C, mulf_C, exp_C]; rfl
theorem k0_pay6_eq (i : grid0.Coords) : k0_pay6 (F := Ideal) i = ((cdec (lgOf (i 0)) : ℝ) : EReal) := by
  simp only [k0_pay6, k0_pay1_eq, scalar_128, scalar_mul, scalar_exp]; rfl
theorem k0_pay7_eq : k0_pay7 (F := Ideal) = M (fun _ _ => 0) := by
  simp only [k0_pay7, scalar_zero, splat_M]

theorem var_nonneg (A : Mat) (i : Fin 128) : 0 ≤ var A i := by
  unfold var mean
  exact div_nonneg (Finset.sum_nonneg fun d _ => mul_self_nonneg _) (by norm_num)
theorem var_eps_pos (A : Mat) (i : Fin 128) : 0 < var A i + eps := add_pos_of_nonneg_of_pos (var_nonneg A i) eps_pos

/-- The reciprocal deviation of a block's rows, from the rows' variance as a program sums it. -/
theorem rsqrt_var (A : Mat) : rsqrt (F := Ideal) (φ := .f32) (C fun i => (∑ d, (A i d - (∑ d, A i d) / 128) * (A i d - (∑ d, A i d) / 128)) / 128 + eps)
    = C (rstd A) := rsqrt_C _ fun i => var_eps_pos A i

variable (x : Chk) (lg : ℝ) (R O : Mat)

theorem k0_pay13_eq : k0_pay13 (F := Ideal) (M x.c) (M x.s) (M x.k) = M x.K := by
  simp only [k0_pay13, k0_pay10, k0_pay11, cast_M, rotate_M, mulf_M, addf_M, scalar_sc, splat_M]; rfl
theorem k0_pay12_eq : k0_pay12 (F := Ideal) (M x.c) (M x.s) (M x.q) = M x.Q := by
  simp only [k0_pay12, k0_pay10, k0_pay11, cast_M, rotate_M, mulf_M, addf_M]; rfl
theorem k0_pay14_eq (A : Mat) : k0_pay14 (F := Ideal) (M A) = M A := rfl
theorem k0_pay15_eq : k0_pay15 (F := Ideal) (M R) = M5 R := cast_M_M5 _ _
theorem k0_pay16_eq : k0_pay16 (F := Ideal) (M (decay lg)) (M x.c) (M x.s) (M x.q) (M x.k) (M x.v) = M (mm (x.S lg) x.v) := by
  simp only [k0_pay16, k0_pay12_eq, k0_pay13_eq, k0_pay14_eq, truncf_M, nt_M, mulf_M, nn_M]; rfl
theorem k0_pay17_eq : k0_pay17 (F := Ideal) (C (qdec lg)) (M x.c) (M x.s) (M x.q) = M (x.Qd lg) := by
  simp only [k0_pay17, k0_pay12_eq, spread_C, truncf_M, mulf_M]; rfl
theorem k0_pay18_eq : k0_pay18 (F := Ideal) (M R) (M (mm (x.S lg) x.v)) (M (x.Qd lg)) = M (x.out lg R) := by
  simp only [k0_pay18, truncf_M, nn_M, addf_M]; rfl
theorem k0_pay19_eq : k0_pay19 (F := Ideal) (W x.g) (M R) (M (mm (x.S lg) x.v)) (M (x.Qd lg)) (M x.gt) = M (x.merged (x.out lg R)) := by
  simp only [k0_pay19, k0_pay18_eq]
  rw [rowsum_M]
  simp only [cast_L_C, div128_C, spread_C, subf_M, mulf_M]
  rw [rowsum_M]
  simp only [cast_L_C, div128_C, scalar_eps, splat_C, addf_C, rsqrt_var, spread_C, mulf_M, spread_W, logistic_M]; rfl
theorem k0_pay20_eq : k0_pay20 (F := Ideal) (C (kdec lg)) ((cdec lg : ℝ) : EReal) (M R) (M x.K) (M x.v) = M (x.next lg R) := by
  simp only [k0_pay20, splat_M, mulf_M, spread_C, truncf_M, tn_M, addf_M]; rfl

/-- The rotated queries, from the block rotated by half the channels. -/
theorem rot_Q (h : S128x128.Rotates 1 none) : addf (F := Ideal) (φ := .f32) (mulf (M x.q) (M x.c))
    (mulf (dynamicRotate 1 64#32 none (M x.q) h) (M x.s)) = M x.Q := by
  simp only [rotate_M, mulf_M, addf_M]; rfl

theorem k0_pay23_eq : k0_pay23 (F := Ideal) (M x.c) (M x.s) (M x.k) = M x.K := by
  simp only [k0_pay23, k0_pay21, k0_pay22, cast_M, rotate_M, mulf_M, addf_M, scalar_sc, splat_M]; rfl
theorem k0_pay24_eq (A : Mat) : k0_pay24 (F := Ideal) (M A) = M A := rfl
theorem k0_pay25_eq : k0_pay25 (F := Ideal) (M R) = M5 R := cast_M_M5 _ _
theorem k0_pay26_eq : k0_pay26 (F := Ideal) (M (decay lg)) (C (qdec lg)) (M R) (M x.c) (M x.s) (M x.q) (M x.k) (M x.v)
    = M (x.out lg R) := by
  simp only [k0_pay26, k0_pay23_eq, k0_pay24_eq, k0_pay21, k0_pay22, cast_M]
  rw [rot_Q]
  simp only [truncf_M, nt_M, spread_C, mulf_M, nn_M, addf_M]; rfl
theorem k0_pay27_eq : k0_pay27 (F := Ideal) (M (decay lg)) (C (qdec lg)) (M R) (M x.c) (M x.s) (M x.q) (M x.k) (M x.v)
    = C (fun i => ∑ d, x.out lg R i d) := by
  simp only [k0_pay27, k0_pay26_eq]
  rw [rowsum_M, cast_L_C]
theorem k0_pay8_eq : k0_pay8 (F := Ideal) (W x.g) (M O) (C fun i => ∑ d, O i d) (Scalar.ofBits .f32 0x43000000#32) (M x.gt)
    = M (x.merged O) := by
  simp only [k0_pay8, div128_C, spread_C, subf_M, mulf_M]
  rw [rowsum_M]
  simp only [cast_L_C, div128_C, scalar_eps, splat_C, addf_C, rsqrt_var, spread_C, mulf_M, spread_W, logistic_M]; rfl
theorem k0_pay9_eq (i : grid0.Coords) : k0_pay9 (F := Ideal) i (M R) (M x.K) (M x.v) = M (x.next (lgOf (i 0)) R) := by
  simp only [k0_pay9, k0_pay4_eq, k0_pay6_eq, splat_M, mulf_M, spread_C, truncf_M, tn_M, addf_M]; rfl

end Ret

end
-- ==== Proof.Heads.lean ====
/-
  One head's arrays and their chunks: arrays of 4096 rows (two batch rows of 2048 positions) by 128 channels, the
  rotary tables of 2048 positions, and the states of the two batch rows' 16 chunks. The loads of a trip read the
  chunk's rows; an array written chunk by chunk is the function of its rows that reads each row's chunk.
-/
module

public import proofs.«01_k».proof.Proof.Mat

@[expose] public section

noncomputable section

namespace Ret

open Idealize.ShloMosaic Idealize.ShloMosaic.ValueIdx
open Cert.KernelIdeal Cert.KernelIdeal.Gen
open scoped BigOperators

/-- One head's arrays: a row per position of the two batch rows (the tables: of one), a column per channel. -/
structure Hd where
  (q k v gt dm : ℕ → Fin 128 → ℝ)
  (c s : ℕ → Fin 128 → ℝ)
  (g : Fin 128 → ℝ)

/-- Chunk `n` of batch row `b` of a head. -/
def Hd.chk (y : Hd) (b n : ℕ) : Chk where
  c i d := y.c (128 * n + i.val) d
  s i d := y.s (128 * n + i.val) d
  q i d := y.q (2048 * b + 128 * n + i.val) d
  k i d := y.k (2048 * b + 128 * n + i.val) d
  v i d := y.v (2048 * b + 128 * n + i.val) d
  gt i d := y.gt (2048 * b + 128 * n + i.val) d
  dm i d := y.dm (2048 * b + 128 * n + i.val) d
  g := y.g

/-- The rows of the array whose chunk `n` of batch row `b` is `f b n`. -/
def rows (f : ℕ → ℕ → Mat) (r : ℕ) (d : Fin 128) : ℝ :=
  f (r / 2048) (r % 2048 / 128) ⟨r % 128, Nat.mod_lt _ (by decide)⟩ d

theorem rows_chunk (f : ℕ → ℕ → Mat) (b n : ℕ) (hn : n < 16) (i d : Fin 128) :
    rows f (2048 * b + 128 * n + i.val) d = f b n i d := by
  have hi := i.isLt
  unfold rows
  have e1 : (2048 * b + 128 * n + i.val) / 2048 = b := by omega
  have e2 : (2048 * b + 128 * n + i.val) % 2048 / 128 = n := by omega
  have e3 : (2048 * b + 128 * n + i.val) % 128 = i.val := by omega
  rw [e1, e2]
  congr 2

/-- An array of 4096 rows. -/
def B (f : ℕ → Fin 128 → ℝ) : S4096x128.Idx → EReal := fun j => ((f (j 0).val (j 1) : ℝ) : EReal)
/-- A table of 2048 rows. -/
def T (f : ℕ → Fin 128 → ℝ) : S2048x128.Idx → EReal := fun j => ((f (j 0).val (j 1) : ℝ) : EReal)
/-- The states of the two batch rows' chunks. -/
def St (f : ℕ → ℕ → Mat) : S2x1x16x128x128.Idx → EReal := fun j => ((f (j 0).val (j 2).val (j 3) (j 4) : ℝ) : EReal)

/-- What a load of 128 rows from row `r` reads. -/
theorem ld_B (f : ℕ → Fin 128 → ℝ) (off : Fin 2 → ℕ) (h : ∀ a, off a + S128x128.size a ≤ S4096x128.size a) (r : ℕ) (ho : off = ![r, 0]) :
    View.ld (Val := Elt Ideal) (e' := .f32) (B f) (Rect.unit (s := S4096x128) off S128x128.size h) = M (fun i d => f (r + i.val) d) := by
  subst ho
  funext x
  show ((f (r + 1 * (x 0).val) ⟨0 + 1 * (x 1).val, _⟩ : ℝ) : EReal) = ((f (r + (x 0).val) (x 1) : ℝ) : EReal)
  simp only [Nat.one_mul, Nat.zero_add]
  rfl
theorem ld_T (f : ℕ → Fin 128 → ℝ) (off : Fin 2 → ℕ) (h : ∀ a, off a + S128x128.size a ≤ S2048x128.size a) (r : ℕ) (ho : off = ![r, 0]) :
    View.ld (Val := Elt Ideal) (e' := .f32) (T f) (Rect.unit (s := S2048x128) off S128x128.size h) = M (fun i d => f (r + i.val) d) := by
  subst ho
  funext x
  show ((f (r + 1 * (x 0).val) ⟨0 + 1 * (x 1).val, _⟩ : ℝ) : EReal) = ((f (r + (x 0).val) (x 1) : ℝ) : EReal)
  simp only [Nat.one_mul, Nat.zero_add]
  rfl
/-- What a load of one state reads. -/
theorem ld_St (f : ℕ → ℕ → Mat) (off : Fin 5 → ℕ) (h : ∀ a, off a + S1x1x1x128x128.size a ≤ S2x1x16x128x128.size a) (b n : ℕ)
    (ho : off = ![b, 0, n, 0, 0]) :
    View.ld (Val := Elt Ideal) (e' := .f32) (St f) (Rect.unit (s := S2x1x16x128x128) off S1x1x1x128x128.size h) = M5 (f b n) := by
  subst ho
  funext x
  have h0 : (x 0).val < 1 := (x 0).isLt
  have h2 : (x 2).val < 1 := (x 2).isLt
  show ((f (b + 1 * (x 0).val) (n + 1 * (x 2).val) ⟨0 + 1 * (x 3).val, _⟩ ⟨0 + 1 * (x 4).val, _⟩ : ℝ) : EReal) = ((f b n (x 3) (x 4) : ℝ) : EReal)
  have e0 : b + (x 0).val = b := by omega
  have e2 : n + (x 2).val = n := by omega
  simp only [Nat.one_mul, Nat.zero_add, e0, e2]
  rfl

/-- A chunk stored at its rows agrees with the array of the chunks. -/
theorem piece_B (f : ℕ → ℕ → Mat) (off : Fin 2 → ℕ) (h : ∀ a, off a + S128x128.size a ≤ S4096x128.size a) (b n : ℕ) (hn : n < 16)
    (ho : off = ![2048 * b + 128 * n, 0]) (w : S128x128.Idx → EReal) (hw : w = M (f b n)) (x : S128x128.Idx) :
    w x = B (rows f) ((Rect.unit (s := S4096x128) off S128x128.size h).emb x) := by
  subst hw
  have e := congrFun (ld_B (rows f) off h _ ho) x
  refine Eq.trans ?_ e.symm
  show ((f b n (x 0) (x 1) : ℝ) : EReal) = ((rows f (2048 * b + 128 * n + (x 0).val) (x 1) : ℝ) : EReal)
  rw [rows_chunk f b n hn (x 0) (x 1)]
/-- A state stored at its place agrees with the array of the states. -/
theorem piece_St (f : ℕ → ℕ → Mat) (off : Fin 5 → ℕ) (h : ∀ a, off a + S1x1x1x128x128.size a ≤ S2x1x16x128x128.size a) (b n : ℕ)
    (ho : off = ![b, 0, n, 0, 0]) (w : S1x1x1x128x128.Idx → EReal) (hw : w = M5 (f b n)) (x : S1x1x1x128x128.Idx) :
    w x = St f ((Rect.unit (s := S2x1x16x128x128) off S1x1x1x128x128.size h).emb x) := by
  subst hw
  exact (congrFun (ld_St f off h b n ho) x).symm

end Ret

end
-- ==== Proof.KTrip.lean ====
/-
  One trip of the forward launch's loop, and all of them: what a trip carries on and what it stores, from input blocks
  that hold real arrays.
-/
module

public import proofs.«01_k».proof.Proof.KPay
public import proofs.«01_k».proof.Proof.Heads
public import proofs.«01_k».proof.Proof.Gen.KernelIdeal.Loops

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- A chunk's rows of batch row `r`, as trip `k` loads them. -/
def rd0 (a : Memref sig .tc .vmem S4096x128 .f32) (X : BufTy.Contents (Elt Ideal) a.view.ty) (k : Fin k0_t1_loop.trips) (r : Fin 2) :
    S128x128.Idx → EReal :=
  View.readAt (Elt Ideal) a.view (Rect.unit (s := S4096x128) (k0_off2 k (BitVec.ofNat 32 (2048 * r.val))) S128x128.size (k0_off2_inb k r)).toLoadRect X
/-- A chunk's rows of a rotary table, as trip `k` loads them. -/
def rt0 (a : Memref sig .tc .vmem S2048x128 .f32) (X : BufTy.Contents (Elt Ideal) a.view.ty) (k : Fin k0_t1_loop.trips) :
    S128x128.Idx → EReal :=
  View.readAt (Elt Ideal) a.view (Rect.unit (s := S2048x128) (k0_off1 k) S128x128.size (k0_off1_inb k)).toLoadRect X

theorem rd0_eq (a : Memref sig .tc .vmem S4096x128 .f32) (X : BufTy.Contents (Elt Ideal) a.view.ty) (k : Fin k0_t1_loop.trips) (r : Fin 2)
    (f : ℕ → Fin 128 → ℝ) (h : a.view.read (Elt Ideal) X = B f) : rd0 a X k r = M (fun i d => f (2048 * r.val + 128 * k.val + i.val) d) := by
  refine Eq.trans ?_ (ld_B f _ (k0_off2_inb k r) _ (k0_off2_eq k r))
  rw [← h]; rfl
theorem rt0_eq (a : Memref sig .tc .vmem S2048x128 .f32) (X : BufTy.Contents (Elt Ideal) a.view.ty) (k : Fin k0_t1_loop.trips)
    (f : ℕ → Fin 128 → ℝ) (h : a.view.read (Elt Ideal) X = T f) : rt0 a X k = M (fun i d => f (128 * k.val + i.val) d) := by
  refine Eq.trans ?_ (ld_T f _ (k0_off1_inb k) _ (k0_off1_eq k))
  rw [← h]; rfl

section
variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S2x1x16x128x128 .f32) (harg9 : arg9.IsWhole) (arg10 : Memref sig .tc .vmem S4096x128 .f32) (harg10 : arg10.IsWhole) (v32 : Vec Ideal S1x128 .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)

/-- What a trip carries on. -/
theorem trip0_R (k : Fin k0_t1_loop.trips) (acc : FVec Ideal S128x128 .f32 × FVec Ideal S128x128 .f32) :
    tripR_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 k acc
      = (k0_pay20 (k0_pay4 i) (k0_pay6 i) acc.1 (k0_pay13 (rt0 arg5 X_arg5 k) (rt0 arg6 X_arg6 k) (rd0 arg2 X_arg2 k 0)) (k0_pay14 (rd0 arg3 X_arg3 k 0)),
         k0_pay9 i acc.2 (k0_pay23 (rt0 arg5 X_arg5 k) (rt0 arg6 X_arg6 k) (rd0 arg2 X_arg2 k 1)) (k0_pay24 (rd0 arg3 X_arg3 k 1))) := by
  delta tripR_k0_t1 trip_k0_t1
  rfl

/-- The chunk's outputs, as a trip computes them. -/
def o0 (k : Fin k0_t1_loop.trips) (acc : FVec Ideal S128x128 .f32 × FVec Ideal S128x128 .f32) : S128x128.Idx → EReal :=
  k0_pay18 (F := Ideal) acc.1 (k0_pay16 (k0_pay2 i) (rt0 arg5 X_arg5 k) (rt0 arg6 X_arg6 k) (rd0 arg1 X_arg1 k 0) (rd0 arg2 X_arg2 k 0) (rd0 arg3 X_arg3 k 0))
    (k0_pay17 (k0_pay5 i) (rt0 arg5 X_arg5 k) (rt0 arg6 X_arg6 k) (rd0 arg1 X_arg1 k 0))
def o1 (k : Fin k0_t1_loop.trips) (acc : FVec Ideal S128x128 .f32 × FVec Ideal S128x128 .f32) : S128x128.Idx → EReal :=
  k0_pay26 (F := Ideal) (k0_pay2 i) (k0_pay5 i) acc.2 (rt0 arg5 X_arg5 k) (rt0 arg6 X_arg6 k) (rd0 arg1 X_arg1 k 1) (rd0 arg2 X_arg2 k 1) (rd0 arg3 X_arg3 k 1)
/-- The chunk's gated results, as a trip computes them. -/
def m0 (k : Fin k0_t1_loop.trips) (acc : FVec Ideal S128x128 .f32 × FVec Ideal S128x128 .f32) : S128x128.Idx → EReal :=
  k0_pay19 (F := Ideal) v32 acc.1 (k0_pay16 (k0_pay2 i) (rt0 arg5 X_arg5 k) (rt0 arg6 X_arg6 k) (rd0 arg1 X_arg1 k 0) (rd0 arg2 X_arg2 k 0) (rd0 arg3 X_arg3 k 0))
    (k0_pay17 (k0_pay5 i) (rt0 arg5 X_arg5 k) (rt0 arg6 X_arg6 k) (rd0 arg1 X_arg1 k 0)) (rd0 arg4 X_arg4 k 0)
def m1 (k : Fin k0_t1_loop.trips) (acc : FVec Ideal S128x128 .f32 × FVec Ideal S128x128 .f32) : S128x128.Idx → EReal :=
  k0_pay8 (F := Ideal) v32 (k0_pay26 (k0_pay2 i) (k0_pay5 i) acc.2 (rt0 arg5 X_arg5 k) (rt0 arg6 X_arg6 k) (rd0 arg1 X_arg1 k 1) (rd0 arg2 X_arg2 k 1) (rd0 arg3 X_arg3 k 1))
    (k0_pay27 (k0_pay2 i) (k0_pay5 i) acc.2 (rt0 arg5 X_arg5 k) (rt0 arg6 X_arg6 k) (rd0 arg1 X_arg1 k 1) (rd0 arg2 X_arg2 k 1) (rd0 arg3 X_arg3 k 1))
    (Scalar.ofBits .f32 0x43000000#32) (rd0 arg4 X_arg4 k 1)

/-- What a trip stores. -/
theorem trip0_L (k : Fin k0_t1_loop.trips) (acc : FVec Ideal S128x128 .f32 × FVec Ideal S128x128 .f32) :
    tripL_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 k acc
      = ([⟨Rect.unit (s := S4096x128) (k0_off2 k (BitVec.ofNat 32 (2048 * (1 : Fin 2).val))) S128x128.size (k0_off2_inb k 1), o1 i arg1 arg2 arg3 arg5 arg6 X_arg1 X_arg2 X_arg3 X_arg5 X_arg6 k acc⟩,
          ⟨Rect.unit (s := S4096x128) (k0_off2 k (BitVec.ofNat 32 (2048 * (0 : Fin 2).val))) S128x128.size (k0_off2_inb k 0), o0 i arg1 arg2 arg3 arg5 arg6 X_arg1 X_arg2 X_arg3 X_arg5 X_arg6 k acc⟩],
         [⟨Rect.unit (s := S2x1x16x128x128) (k0_off4 k) S1x1x1x128x128.size (k0_off4_inb k), k0_pay25 acc.2⟩,
          ⟨Rect.unit (s := S2x1x16x128x128) (k0_off3 k) S1x1x1x128x128.size (k0_off3_inb k), k0_pay15 acc.1⟩],
         [⟨Rect.unit (s := S4096x128) (k0_off2 k (BitVec.ofNat 32 (2048 * (1 : Fin 2).val))) S128x128.size (k0_off2_inb k 1), m1 i arg1 arg2 arg3 arg4 arg5 arg6 v32 X_arg1 X_arg2 X_arg3 X_arg4 X_arg5 X_arg6 k acc⟩,
          ⟨Rect.unit (s := S4096x128) (k0_off2 k (BitVec.ofNat 32 (2048 * (0 : Fin 2).val))) S128x128.size (k0_off2_inb k 0), m0 i arg1 arg2 arg3 arg4 arg5 arg6 v32 X_arg1 X_arg2 X_arg3 X_arg4 X_arg5 X_arg6 k acc⟩]) := by
  delta tripL_k0_t1 trip_k0_t1
  rfl

/-! ## All trips, on real arrays -/

variable (y : Hd)
  (hq : arg1.view.read (Elt Ideal) X_arg1 = B y.q) (hk : arg2.view.read (Elt Ideal) X_arg2 = B y.k)
  (hv : arg3.view.read (Elt Ideal) X_arg3 = B y.v) (hg : arg4.view.read (Elt Ideal) X_arg4 = B y.gt)
  (hc : arg5.view.read (Elt Ideal) X_arg5 = T y.c) (hs : arg6.view.read (Elt Ideal) X_arg6 = T y.s) (hw : v32 = W y.g)

include hq hk hv hg hc hs hw in
/-- A trip on real arrays: from the states before the chunk it carries on the states after it and stores, of the two
    batch rows, the chunk's outputs, the states before it and the chunk's gated results. -/
theorem trip0_real (k : Fin k0_t1_loop.trips) (R0 R1 : Mat) :
    tripR_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 k (M R0, M R1)
      = (M ((y.chk 0 k.val).next (lgOf (i 0)) R0), M ((y.chk 1 k.val).next (lgOf (i 0)) R1))
    ∧ o0 i arg1 arg2 arg3 arg5 arg6 X_arg1 X_arg2 X_arg3 X_arg5 X_arg6 k (M R0, M R1) = M ((y.chk 0 k.val).out (lgOf (i 0)) R0)
    ∧ o1 i arg1 arg2 arg3 arg5 arg6 X_arg1 X_arg2 X_arg3 X_arg5 X_arg6 k (M R0, M R1) = M ((y.chk 1 k.val).out (lgOf (i 0)) R1)
    ∧ m0 i arg1 arg2 arg3 arg4 arg5 arg6 v32 X_arg1 X_arg2 X_arg3 X_arg4 X_arg5 X_arg6 k (M R0, M R1)
        = M ((y.chk 0 k.val).merged ((y.chk 0 k.val).out (lgOf (i 0)) R0))
    ∧ m1 i arg1 arg2 arg3 arg4 arg5 arg6 v32 X_arg1 X_arg2 X_arg3 X_arg4 X_arg5 X_arg6 k (M R0, M R1)
        = M ((y.chk 1 k.val).merged ((y.chk 1 k.val).out (lgOf (i 0)) R1)) := by
  have ec (r : ℕ) : rt0 arg5 X_arg5 k = M (y.chk r k.val).c := rt0_eq _ _ _ _ hc
  have es (r : ℕ) : rt0 arg6 X_arg6 k = M (y.chk r k.val).s := rt0_eq _ _ _ _ hs
  have eq0 : rd0 arg1 X_arg1 k 0 = M (y.chk 0 k.val).q := rd0_eq _ _ _ 0 _ hq
  have ek0 : rd0 arg2 X_arg2 k 0 = M (y.chk 0 k.val).k := rd0_eq _ _ _ 0 _ hk
  have ev0 : rd0 arg3 X_arg3 k 0 = M (y.chk 0 k.val).v := rd0_eq _ _ _ 0 _ hv
  have eg0 : rd0 arg4 X_arg4 k 0 = M (y.chk 0 k.val).gt := rd0_eq _ _ _ 0 _ hg
  have eq1 : rd0 arg1 X_arg1 k 1 = M (y.chk 1 k.val).q := rd0_eq _ _ _ 1 _ hq
  have ek1 : rd0 arg2 X_arg2 k 1 = M (y.chk 1 k.val).k := rd0_eq _ _ _ 1 _ hk
  have ev1 : rd0 arg3 X_arg3 k 1 = M (y.chk 1 k.val).v := rd0_eq _ _ _ 1 _ hv
  have eg1 : rd0 arg4 X_arg4 k 1 = M (y.chk 1 k.val).gt := rd0_eq _ _ _ 1 _ hg
  have ew (r : ℕ) : v32 = W (y.chk r k.val).g := hw
  refine ⟨?_, ?_, ?_, ?_, ?_⟩
  · rw [trip0_R, ek0, ev0, ek1, ev1, k0_pay14_eq, k0_pay24_eq, k0_pay4_eq, k0_pay6_eq]
    dsimp only
    refine Prod.ext ?_ ?_
    · dsimp only
      rw [ec 0, es 0, k0_pay13_eq, k0_pay20_eq]
    · dsimp only
      rw [ec 1, es 1, k0_pay23_eq, k0_pay9_eq]
  · unfold o0; dsimp only
    rw [eq0, ek0, ev0, ec 0, es 0, k0_pay2_eq, k0_pay5_eq, k0_pay16_eq, k0_pay17_eq, k0_pay18_eq]
  · unfold o1; dsimp only
    rw [eq1, ek1, ev1, ec 1, es 1, k0_pay2_eq, k0_pay5_eq, k0_pay26_eq]
  · unfold m0; dsimp only
    rw [eq0, ek0, ev0, eg0, ec 0, es 0, ew 0, k0_pay2_eq, k0_pay5_eq, k0_pay16_eq, k0_pay17_eq, k0_pay19_eq]
  · unfold m1; dsimp only
    rw [eq1, ek1, ev1, eg1, ec 1, es 1, ew 1, k0_pay2_eq, k0_pay5_eq, k0_pay26_eq, k0_pay27_eq, k0_pay8_eq]

/-- What the launch's arrays hold of one head, chunk by chunk. -/
def outF (y : Hd) (lg : ℝ) (b n : ℕ) : Mat := O (y.chk b) lg n
def stateF (y : Hd) (lg : ℝ) (b n : ℕ) : Mat := R (y.chk b) lg n
def mergedF (y : Hd) (lg : ℝ) (b n : ℕ) : Mat := (y.chk b n).merged (O (y.chk b) lg n)

include hq hk hv hg hc hs hw in
/-- Before trip `n` the carried blocks are the states before chunk `n`, and every block stored so far is its part of
    the arrays of outputs, states and gated results. -/
theorem st0_real (n : ℕ) (hn : n ≤ 16) :
    (st_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 (k0_pay7, k0_pay7) n).1 = (M (R (y.chk 0) (lgOf (i 0)) n), M (R (y.chk 1) (lgOf (i 0)) n))
    ∧ (∀ p ∈ (st_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 (k0_pay7, k0_pay7) n).2.1, ∀ x, p.2 x = B (rows (outF y (lgOf (i 0)))) (p.1.emb x))
    ∧ (∀ p ∈ (st_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 (k0_pay7, k0_pay7) n).2.2.1, ∀ x, p.2 x = St (stateF y (lgOf (i 0))) (p.1.emb x))
    ∧ (∀ p ∈ (st_k0_t1 (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 (k0_pay7, k0_pay7) n).2.2.2, ∀ x, p.2 x = B (rows (mergedF y (lgOf (i 0)))) (p.1.emb x)) := by
  induction n with
  | zero =>
    refine ⟨?_, ?_, ?_, ?_⟩
    · show (k0_pay7 (F := Ideal), k0_pay7 (F := Ideal)) = _
      rw [k0_pay7_eq]; rfl
    all_goals
      intro p hp
      exact absurd hp List.not_mem_nil
  | succ n ih =>
    obtain ⟨h1, h2, h3, h4⟩ := ih (by omega)
    have hn' : n < k0_t1_loop.trips := hn
    have hsucc := st_k0_t1_succ (F := Ideal) 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 (k0_pay7, k0_pay7) ⟨n, hn'⟩
    dsimp only at hsucc
    obtain ⟨t1, t2, t3, t4, t5⟩ := trip0_real 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 y hq hk hv hg hc hs hw ⟨n, hn'⟩ (R (y.chk 0) (lgOf (i 0)) n) (R (y.chk 1) (lgOf (i 0)) n)
    have hL := trip0_L 𝒱 c bd i arg1 harg1 arg2 harg2 arg3 harg3 arg4 harg4 arg5 harg5 arg6 harg6 arg7 harg7 arg8 harg8 arg9 harg9 arg10 harg10 v32 X_arg1 X_arg2 X_arg3 X_arg4 X_arg5 X_arg6 ⟨n, hn'⟩ (M (R (y.chk 0) (lgOf (i 0)) n), M (R (y.chk 1) (lgOf (i 0)) n))
    rw [hsucc, h1, t1]
    refine ⟨rfl, ?_, ?_, ?_⟩
    · intro p hp
      dsimp only at hp
      rcases List.mem_append.1 hp with hp | hp
      · rcases List.mem_cons.1 (Eq.mp (congrArg (p ∈ ·) (congrArg (·.1) hL)) hp) with rfl | hp
        · exact piece_B (outF y (lgOf (i 0))) _ (k0_off2_inb ⟨n, hn'⟩ 1) 1 n hn' (k0_off2_eq ⟨n, hn'⟩ 1) _ t3
        · obtain rfl := List.mem_singleton.1 hp
          exact piece_B (outF y (lgOf (i 0))) _ (k0_off2_inb ⟨n, hn'⟩ 0) 0 n hn' (k0_off2_eq ⟨n, hn'⟩ 0) _ t2
      · exact h2 p hp
    · intro p hp
      dsimp only at hp
      rcases List.mem_append.1 hp with hp | hp
      · rcases List.mem_cons.1 (Eq.mp (congrArg (p ∈ ·) (congrArg (·.2.1) hL)) hp) with rfl | hp
        · exact piece_St (stateF y (lgOf (i 0))) _ (k0_off4_inb ⟨n, hn'⟩) 1 n (k0_off4_eq ⟨n, hn'⟩) _ (k0_pay25_eq _)
        · obtain rfl := List.mem_singleton.1 hp
          exact piece_St (stateF y (lgOf (i 0))) _ (k0_off3_inb ⟨n, hn'⟩) 0 n (k0_off3_eq ⟨n, hn'⟩) _ (k0_pay15_eq _)
      · exact h3 p hp
    · intro p hp
      dsimp only at hp
      rcases List.mem_append.1 hp with hp | hp
      · rcases List.mem_cons.1 (Eq.mp (congrArg (p ∈ ·) (congrArg (·.2.2) hL)) hp) with rfl | hp
        · exact piece_B (mergedF y (lgOf (i 0))) _ (k0_off2_inb ⟨n, hn'⟩ 1) 1 n hn' (k0_off2_eq ⟨n, hn'⟩ 1) _ t5
        · obtain rfl := List.mem_singleton.1 hp
          exact piece_B (mergedF y (lgOf (i 0))) _ (k0_off2_inb ⟨n, hn'⟩ 0) 0 n hn' (k0_off2_eq ⟨n, hn'⟩ 0) _ t4
      · exact h4 p hp

end

end Ret

end
-- ==== Proof.KBlk.lean ====
/-
  What one grid step of the forward launch leaves in its three output blocks: the head's outputs, its states and its
  gated results, from input blocks that hold real arrays.
-/
module

public import proofs.«01_k».proof.Proof.KTrip
public import proofs.«01_k».proof.Proof.Gen.KernelIdeal.Frame

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- The whole load of the row of layer-norm weights reads the row. -/
theorem ld_W (a : Memref sig .tc .vmem S1x128 .f32) (ha : a.IsWhole) (x : Vec Ideal S1x128 .f32) (g : Fin 128 → ℝ) (hx : x = W g) :
    View.readAt (Elt Ideal) a.view (Rect.unit (s := S1x128) ![0, 0] ![1, 128] inb_S1x128_S1x128_0_0).toLoadRect (ha.unread x) = W g := by
  rw [View.readAt_eq_ld, ha.read_unread, hx]
  funext j
  show ((g _ : ℝ) : EReal) = ((g (j 1) : ℝ) : EReal)
  refine congrArg (fun d => ((g d : ℝ) : EReal)) (Fin.ext ?_)
  show 0 + 1 * (j 1).val = (j 1).val
  omega

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S2x1x16x128x128 .f32) (harg9 : arg9.IsWhole) (arg10 : Memref sig .tc .vmem S4096x128 .f32) (harg10 : arg10.IsWhole)    (x0 : Vec Ideal S4096x128 .f32) (x1 : Vec Ideal S4096x128 .f32) (x2 : Vec Ideal S4096x128 .f32) (x3 : Vec Ideal S4096x128 .f32) (x4 : Vec Ideal S2048x128 .f32) (x5 : Vec Ideal S2048x128 .f32) (x6 : Vec Ideal S1x128 .f32)
  (y : Hd) (hq : x0 = B y.q) (hk : x1 = B y.k) (hv : x2 = B y.v) (hg : x3 = B y.gt) (hc : x4 = T y.c) (hs : x5 = T y.s)
  (hw : x6 = W y.g)

/-- The stores of the step are those of the sixteen trips. -/
theorem run0_7 : (kernelRun0_A (F := Ideal) c i arg1 harg1 arg2 harg2 arg3 harg3 arg4 harg4 arg5 harg5 arg6 harg6 arg7 harg7 arg8 harg8 arg9 harg9 arg10 harg10 x0 x1 x2 x3 x4 x5 x6).1
    = (st_k0_t1 (F := Ideal) Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) (k0_pay7, k0_pay7) 16).2.1 := by
  delta kernelRun0_A
  rfl

theorem run0_8 : (kernelRun0_A (F := Ideal) c i arg1 harg1 arg2 harg2 arg3 harg3 arg4 harg4 arg5 harg5 arg6 harg6 arg7 harg7 arg8 harg8 arg9 harg9 arg10 harg10 x0 x1 x2 x3 x4 x5 x6).2.1
    = (st_k0_t1 (F := Ideal) Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) (k0_pay7, k0_pay7) 16).2.2.1 := by
  delta kernelRun0_A
  rfl

theorem run0_9 : (kernelRun0_A (F := Ideal) c i arg1 harg1 arg2 harg2 arg3 harg3 arg4 harg4 arg5 harg5 arg6 harg6 arg7 harg7 arg8 harg8 arg9 harg9 arg10 harg10 x0 x1 x2 x3 x4 x5 x6).2.2.1
    = (st_k0_t1 (F := Ideal) Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) (k0_pay7, k0_pay7) 16).2.2.2 := by
  delta kernelRun0_A
  rfl

include hq hk hv hg hc hs hw

/-- The block of outputs. -/
theorem blk0_7 : out0_A_7 (F := Ideal) c i arg1 harg1 arg2 harg2 arg3 harg3 arg4 harg4 arg5 harg5 arg6 harg6 arg7 harg7 arg8 harg8 arg9 harg9 arg10 harg10 x0 x1 x2 x3 x4 x5 x6 = B (rows (outF y (lgOf (i 0)))) := by
  obtain ⟨-, h7, h8, h9⟩ := st0_real Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) y (harg1.read_unread _ |>.trans hq) (harg2.read_unread _ |>.trans hk) (harg3.read_unread _ |>.trans hv) (harg4.read_unread _ |>.trans hg) (harg5.read_unread _ |>.trans hc) (harg6.read_unread _ |>.trans hs) (ld_W arg7 harg7 x6 y.g hw) 16 le_rfl
  funext z
  unfold out0_A_7
  refine View.read_writes_apply_of_pieces _ _ _ _ ?_ z (cover0_A_7 c i arg1 harg1 arg2 harg2 arg3 harg3 arg4 harg4 arg5 harg5 arg6 harg6 arg7 harg7 arg8 harg8 arg9 harg9 arg10 harg10 x0 x1 x2 x3 x4 x5 x6 z)
  rw [run0_7]
  exact h7

/-- The block of states. -/
theorem blk0_8 : out0_A_8 (F := Ideal) c i arg1 harg1 arg2 harg2 arg3 harg3 arg4 harg4 arg5 harg5 arg6 harg6 arg7 harg7 arg8 harg8 arg9 harg9 arg10 harg10 x0 x1 x2 x3 x4 x5 x6 = St (stateF y (lgOf (i 0))) := by
  obtain ⟨-, h7, h8, h9⟩ := st0_real Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) y (harg1.read_unread _ |>.trans hq) (harg2.read_unread _ |>.trans hk) (harg3.read_unread _ |>.trans hv) (harg4.read_unread _ |>.trans hg) (harg5.read_unread _ |>.trans hc) (harg6.read_unread _ |>.trans hs) (ld_W arg7 harg7 x6 y.g hw) 16 le_rfl
  funext z
  unfold out0_A_8
  refine View.read_writes_apply_of_pieces _ _ _ _ ?_ z (cover0_A_8 c i arg1 harg1 arg2 harg2 arg3 harg3 arg4 harg4 arg5 harg5 arg6 harg6 arg7 harg7 arg8 harg8 arg9 harg9 arg10 harg10 x0 x1 x2 x3 x4 x5 x6 z)
  rw [run0_8]
  exact h8

/-- The block of gated results. -/
theorem blk0_9 : out0_A_9 (F := Ideal) c i arg1 harg1 arg2 harg2 arg3 harg3 arg4 harg4 arg5 harg5 arg6 harg6 arg7 harg7 arg8 harg8 arg9 harg9 arg10 harg10 x0 x1 x2 x3 x4 x5 x6 = B (rows (mergedF y (lgOf (i 0)))) := by
  obtain ⟨-, h7, h8, h9⟩ := st0_real Variants.none c none i arg1 harg1 arg2 harg2 arg3 harg3 arg4 harg4 arg5 harg5 arg6 harg6 arg7 harg7 arg8 harg8 arg9 harg9 arg10 harg10 (View.readAt (Elt Ideal) arg7.view (Rect.unit (s := S1x128) ![0, 0] ![1, 128] inb_S1x128_S1x128_0_0).toLoadRect (harg7.unread x6)) (harg1.unread x0) (harg2.unread x1) (harg3.unread x2) (harg4.unread x3) (harg5.unread x4) (harg6.unread x5) y (harg1.read_unread _ |>.trans hq) (harg2.read_unread _ |>.trans hk) (harg3.read_unread _ |>.trans hv) (harg4.read_unread _ |>.trans hg) (harg5.read_unread _ |>.trans hc) (harg6.read_unread _ |>.trans hs) (ld_W arg7 harg7 x6 y.g hw) 16 le_rfl
  funext z
  unfold out0_A_9
  refine View.read_writes_apply_of_pieces _ _ _ _ ?_ z (cover0_A_9 c i arg1 harg1 arg2 harg2 arg3 harg3 arg4 harg4 arg5 harg5 arg6 harg6 arg7 harg7 arg8 harg8 arg9 harg9 arg10 harg10 x0 x1 x2 x3 x4 x5 x6 z)
  rw [run0_9]
  exact h9

end

end Ret

end
-- ==== Proof.KArr.lean ====
/-
  The arrays around the forward launch: its input blocks cut from real arrays are the heads', and its result arrays hold
  every head's outputs, states and gated results side by side.
-/
module

public import proofs.«01_k».proof.Proof.KBlk
public import Idealize.ShloMosaic.Lib.Pipeline.ValueKit

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- Head `h` of the four: its columns of the projections, of the incoming gradient and of the gain. -/
def hd (p dm : ℕ → ℕ → ℝ) (ct st : ℕ → Fin 128 → ℝ) (g : ℕ → ℝ) (h : ℕ) : Hd where
  q r d := p r (128 * h + d.val)
  k r d := p r (128 * (4 + h) + d.val)
  v r d := p r (128 * (8 + h) + d.val)
  gt r d := p r (128 * (12 + h) + d.val)
  dm r d := dm r (128 * h + d.val)
  c := ct
  s := st
  g d := g (128 * h + d.val)

/-- Four heads side by side. -/
def cols (f : Fin 4 → ℕ → Fin 128 → ℝ) : S4096x512.Idx → EReal := fun j =>
  ((f ⟨(j 1).val / 128, by have := (j 1).isLt; change _ < 512 at this; omega⟩ (j 0).val ⟨(j 1).val % 128, Nat.mod_lt _ (by decide)⟩ : ℝ) : EReal)
/-- The four heads' states. -/
def sts (f : Fin 4 → ℕ → ℕ → Mat) : S2x4x16x128x128.Idx → EReal := fun j => ((f (j 1) (j 0).val (j 2).val (j 3) (j 4) : ℝ) : EReal)

theorem cols_apply (f : Fin 4 → ℕ → Fin 128 → ℝ) (j : S4096x512.Idx) (h : Fin 4) (r : ℕ) (d : Fin 128)
    (h0 : (j 0).val = r) (h1 : (j 1).val = h.val * 128 + d.val) : cols f j = ((f h r d : ℝ) : EReal) := by
  unfold cols
  have hd := d.isLt
  have e1 : (⟨(j 1).val / 128, by have := (j 1).isLt; change _ < 512 at this; omega⟩ : Fin 4) = h := Fin.ext (by show (j 1).val / 128 = h.val; omega)
  have e2 : (⟨(j 1).val % 128, Nat.mod_lt _ (by decide)⟩ : Fin 128) = d := Fin.ext (by show (j 1).val % 128 = d.val; omega)
  rw [e1, e2, h0]

section
variable (V : (c : Dev nD) → (b : Ref sig .tc) → Buf (Elt Ideal) ((c : Thread nD τ).loc b)) (c : Dev nD)
  (p dm : ℕ → ℕ → ℝ) (ct st : ℕ → Fin 128 → ℝ) (g : ℕ → ℝ)
  (hp : V c main_arg1 = fun j : S4096x3072.Idx => ((p (j 0).val (j 1).val : ℝ) : EReal))
  (hct : V c main_v14 = T ct) (hst : V c main_v16 = T st)
  (hg : V c main_arg2 = fun j : S1x512.Idx => ((g (j 1).val : ℝ) : EReal))

theorem idx0_0 : ∀ t : Fin cfg0.N, win0_0.index t = ![0, (grid0.coords t 0).val] := by decide +kernel
theorem idx0_1 : ∀ t : Fin cfg0.N, win0_1.index t = ![0, 4 + (grid0.coords t 0).val] := by decide +kernel
theorem idx0_2 : ∀ t : Fin cfg0.N, win0_2.index t = ![0, 8 + (grid0.coords t 0).val] := by decide +kernel
theorem idx0_3 : ∀ t : Fin cfg0.N, win0_3.index t = ![0, 12 + (grid0.coords t 0).val] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, (grid0.coords t 0).val] := by decide +kernel
theorem idx0_7 : ∀ t : Fin cfg0.N, win0_7.index t = ![0, (grid0.coords t 0).val] := by decide +kernel
theorem idx0_8 : ∀ t : Fin cfg0.N, win0_8.index t = ![0, (grid0.coords t 0).val, 0, 0, 0] := by decide +kernel
theorem idx0_9 : ∀ t : Fin cfg0.N, win0_9.index t = ![0, (grid0.coords t 0).val] := by decide +kernel

/-- The head a grid step works on. -/
abbrev head (t : Fin cfg0.N) : Hd := hd p dm ct st g (grid0.coords t 0).val

include hp in
theorem in0_0 (t : Fin cfg0.N) : iblk0 V c 0 t = B (head p dm ct st g t).q := by
  funext y
  blk_simp [iblk0, idx0_0]
  have e0 : (((win0_0.blk t).view.emb y) 0).val = (y 0).val := by blk_simp [idx0_0]; try simp
  have e1 : (((win0_0.blk t).view.emb y) 1).val = ((grid0.coords t 0).val) * 128 + (y 1).val := by blk_simp [idx0_0]; try simp
  rw [hp]
  show ((p _ _ : ℝ) : EReal) = ((p (y 0).val (128 * ((grid0.coords t 0).val) + (y 1).val) : ℝ) : EReal)
  rw [e0, e1, Nat.mul_comm]

include hp in
theorem in0_1 (t : Fin cfg0.N) : iblk0 V c 1 t = B (head p dm ct st g t).k := by
  funext y
  blk_simp [iblk0, idx0_1]
  have e0 : (((win0_1.blk t).view.emb y) 0).val = (y 0).val := by blk_simp [idx0_1]; try simp
  have e1 : (((win0_1.blk t).view.emb y) 1).val = (4 + (grid0.coords t 0).val) * 128 + (y 1).val := by blk_simp [idx0_1]; try simp
  rw [hp]
  show ((p _ _ : ℝ) : EReal) = ((p (y 0).val (128 * (4 + (grid0.coords t 0).val) + (y 1).val) : ℝ) : EReal)
  rw [e0, e1, Nat.mul_comm]

include hp in
theorem in0_2 (t : Fin cfg0.N) : iblk0 V c 2 t = B (head p dm ct st g t).v := by
  funext y
  blk_simp [iblk0, idx0_2]
  have e0 : (((win0_2.blk t).view.emb y) 0).val = (y 0).val := by blk_simp [idx0_2]; try simp
  have e1 : (((win0_2.blk t).view.emb y) 1).val = (8 + (grid0.coords t 0).val) * 128 + (y 1).val := by blk_simp [idx0_2]; try simp
  rw [hp]
  show ((p _ _ : ℝ) : EReal) = ((p (y 0).val (128 * (8 + (grid0.coords t 0).val) + (y 1).val) : ℝ) : EReal)
  rw [e0, e1, Nat.mul_comm]

include hp in
theorem in0_3 (t : Fin cfg0.N) : iblk0 V c 3 t = B (head p dm ct st g t).gt := by
  funext y
  blk_simp [iblk0, idx0_3]
  have e0 : (((win0_3.blk t).view.emb y) 0).val = (y 0).val := by blk_simp [idx0_3]; try simp
  have e1 : (((win0_3.blk t).view.emb y) 1).val = (12 + (grid0.coords t 0).val) * 128 + (y 1).val := by blk_simp [idx0_3]; try simp
  rw [hp]
  show ((p _ _ : ℝ) : EReal) = ((p (y 0).val (128 * (12 + (grid0.coords t 0).val) + (y 1).val) : ℝ) : EReal)
  rw [e0, e1, Nat.mul_comm]

include hct in
theorem in0_4 (t : Fin cfg0.N) : iblk0 V c 4 t = T ct := by
  funext y
  blk_simp [iblk0, idx0_4]
  have e0 : (((win0_4.blk t).view.emb y) 0).val = (y 0).val := by blk_simp [idx0_4]; try simp
  have e1 : (((win0_4.blk t).view.emb y) 1).val = (y 1).val := by blk_simp [idx0_4]; try simp
  rw [hct]
  show ((ct _ _ : ℝ) : EReal) = ((ct (y 0).val (y 1) : ℝ) : EReal)
  rw [e0, show ((win0_4.blk t).view.emb y) 1 = y 1 from Fin.ext e1]

include hst in
theorem in0_5 (t : Fin cfg0.N) : iblk0 V c 5 t = T st := by
  funext y
  blk_simp [iblk0, idx0_5]
  have e0 : (((win0_5.blk t).view.emb y) 0).val = (y 0).val := by blk_simp [idx0_5]; try simp
  have e1 : (((win0_5.blk t).view.emb y) 1).val = (y 1).val := by blk_simp [idx0_5]; try simp
  rw [hst]
  show ((st _ _ : ℝ) : EReal) = ((st (y 0).val (y 1) : ℝ) : EReal)
  rw [e0, show ((win0_5.blk t).view.emb y) 1 = y 1 from Fin.ext e1]

include hg in
theorem in0_6 (t : Fin cfg0.N) : iblk0 V c 6 t = W (head p dm ct st g t).g := by
  funext y
  blk_simp [iblk0, idx0_6]
  have e0 : (((win0_6.blk t).view.emb y) 0).val = (y 0).val := by blk_simp [idx0_6]; try simp
  have e1 : (((win0_6.blk t).view.emb y) 1).val = ((grid0.coords t 0).val) * 128 + (y 1).val := by blk_simp [idx0_6]; try simp
  rw [hg]
  show ((g _ : ℝ) : EReal) = ((g (128 * (grid0.coords t 0).val + (y 1).val) : ℝ) : EReal)
  rw [e1, Nat.mul_comm]

include hp hct hst hg in
/-- The array of outputs after the launch. -/
theorem arr0_7 : (dat0 V c).arrAt 7 cfg0.N = cols fun h => rows (outF (hd p dm ct st g h.val) (lgOf h)) := by
  refine (dat0 V c).arrAt_eq_of_covers 7 _ (by decide +kernel) fun t _ y => ?_
  blk_simp
  rw [after0_7]
  unfold outsAt0
  dsimp only
  rw [blk0_7 (y := head p dm ct st g t) (hq := in0_0 V c p dm ct st g hp t) (hk := in0_1 V c p dm ct st g hp t) (hv := in0_2 V c p dm ct st g hp t)
    (hg := in0_3 V c p dm ct st g hp t) (hc := in0_4 V c ct hct t) (hs := in0_5 V c st hst t) (hw := in0_6 V c p dm ct st g hg t)]
  refine Eq.symm (cols_apply _ _ (grid0.coords t 0) (y 0).val (y 1) ?_ ?_)
  · blk_simp [idx0_7]; try simp
  · blk_simp [idx0_7]; try simp

include hp hct hst hg in
/-- The array of gated results after the launch. -/
theorem arr0_9 : (dat0 V c).arrAt 9 cfg0.N = cols fun h => rows (mergedF (hd p dm ct st g h.val) (lgOf h)) := by
  refine (dat0 V c).arrAt_eq_of_covers 9 _ (by decide +kernel) fun t _ y => ?_
  blk_simp
  rw [after0_9]
  unfold outsAt0
  dsimp only
  rw [blk0_9 (y := head p dm ct st g t) (hq := in0_0 V c p dm ct st g hp t) (hk := in0_1 V c p dm ct st g hp t) (hv := in0_2 V c p dm ct st g hp t)
    (hg := in0_3 V c p dm ct st g hp t) (hc := in0_4 V c ct hct t) (hs := in0_5 V c st hst t) (hw := in0_6 V c p dm ct st g hg t)]
  refine Eq.symm (cols_apply _ _ (grid0.coords t 0) (y 0).val (y 1) ?_ ?_)
  · blk_simp [idx0_9]; try simp
  · blk_simp [idx0_9]; try simp

include hp hct hst hg in
/-- The array of states after the launch. -/
theorem arr0_8 : (dat0 V c).arrAt 8 cfg0.N = sts fun h => stateF (hd p dm ct st g h.val) (lgOf h) := by
  refine (dat0 V c).arrAt_eq_of_covers 8 _ (by decide +kernel) fun t _ y => ?_
  blk_simp
  rw [after0_8]
  unfold outsAt0
  dsimp only
  rw [blk0_8 (y := head p dm ct st g t) (hq := in0_0 V c p dm ct st g hp t) (hk := in0_1 V c p dm ct st g hp t) (hv := in0_2 V c p dm ct st g hp t)
    (hg := in0_3 V c p dm ct st g hp t) (hc := in0_4 V c ct hct t) (hs := in0_5 V c st hst t) (hw := in0_6 V c p dm ct st g hg t)]
  have e0 : (((win0_8.blk t).view.emb y) 0).val = (y 0).val := by blk_simp [idx0_8]; try simp
  have e1 : (((win0_8.blk t).view.emb y) 1).val = (grid0.coords t 0).val := by
    have h1 : (y 1).val < 1 := (y 1).isLt
    blk_simp [idx0_8]
  have e2 : (((win0_8.blk t).view.emb y) 2).val = (y 2).val := by blk_simp [idx0_8]; try simp
  have e3 : (((win0_8.blk t).view.emb y) 3).val = (y 3).val := by blk_simp [idx0_8]; try simp
  have e4 : (((win0_8.blk t).view.emb y) 4).val = (y 4).val := by blk_simp [idx0_8]; try simp
  have f1 : ((win0_8.blk t).view.emb y) 1 = grid0.coords t 0 := Fin.ext e1
  have f3 : ((win0_8.blk t).view.emb y) 3 = y 3 := Fin.ext e3
  have f4 : ((win0_8.blk t).view.emb y) 4 = y 4 := Fin.ext e4
  show _ = ((stateF (hd p dm ct st g (((win0_8.blk t).view.emb y) 1).val) (lgOf (((win0_8.blk t).view.emb y) 1)) _ _ _ _ : ℝ) : EReal)
  rw [e0, e2, f1, f3, f4]
  rfl

end

end Ret

end
-- ==== Proof.KPay1.lean ====
/-
  The backward launch's arithmetic on blocks of reals: each value a trip computes, from blocks that hold real matrices,
  is the block of the function of the chunk that `Model` names.
-/
module

public import proofs.«01_k».proof.Proof.KPay

@[expose] public section

set_option maxRecDepth 8192

noncomputable section

namespace Ret

open Idealize.ShloMosaic Idealize.ShloMosaic.ValueIdx
open Cert.KernelIdeal Cert.KernelIdeal.Gen
open scoped BigOperators

theorem k1_pay55_eq (i : grid1.Coords) : k1_pay55 (F := Ideal) i = ((lgOf (i 0) : ℝ) : EReal) :=
  pick_lg (i 0) _ _ _ _ named_0 named_1 named_2 named_3
theorem k1_pay56_eq (i : grid1.Coords) : k1_pay56 (F := Ideal) i = M (decay (lgOf (i 0))) :=
  decay_block _ _ (k1_pay55_eq i)
theorem k1_pay57_eq : k1_pay57 (F := Ideal) = C (fun i => (i.val : ℝ)) := col_pos
theorem k1_pay58_eq (i : grid1.Coords) : k1_pay58 (F := Ideal) i = C (kdec (lgOf (i 0))) := by
  simp only [k1_pay58, k1_pay55_eq, k1_pay57_eq, scalar_127, splat_C, subf_C, mulf_C, exp_C]; rfl
theorem k1_pay59_eq (i : grid1.Coords) : k1_pay59 (F := Ideal) i = C (qdec (lgOf (i 0))) := by
  simp only [k1_pay59, k1_pay55_eq, k1_pay57_eq, scalar_one, splat_C, addf_C, mulf_C, exp_C]; rfl
theorem k1_pay60_eq (i : grid1.Coords) : k1_pay60 (F := Ideal) i = ((cdec (lgOf (i 0)) : ℝ) : EReal) := by
  simp only [k1_pay60, k1_pay55_eq, scalar_128, scalar_mul, scalar_exp]; rfl
theorem k1_pay61_eq : k1_pay61 (F := Ideal) = M (fun _ _ => 0) := by
  simp only [k1_pay61, scalar_zero, splat_M]
theorem k1_pay62_eq : k1_pay62 (F := Ideal) = W (fun _ => 0) := by
  simp only [k1_pay62, scalar_zero, splat_W]
theorem k1_pay66_eq : k1_pay66 (F := Ideal) = W (fun _ => 0) := by
  simp only [k1_pay66, scalar_zero, splat_W]
theorem k1_pay1_eq (a b : Fin 128 → ℝ) : k1_pay1 (F := Ideal) (W a) (W b) (k1_pay66 (F := Ideal)) = W (fun d => a d + b d) := by
  simp only [k1_pay1, k1_pay66_eq, addf_W, zero_add]

variable (x : Chk) (lg : ℝ) (R O G : Mat) (a : Fin 128 → ℝ)

/-- A gradient rotated back, as a program computes it. -/
theorem rot_back (h : S128x128.Rotates 1 none) : addf (F := Ideal) (φ := .f32) (mulf (M G) (M x.c))
    (dynamicRotate 1 64#32 none (mulf (F := Ideal) (φ := .f32) (M G) (M x.s)) h) = M (ropeT x.c x.s G) := by
  simp only [mulf_M, rotate_M, addf_M]; rfl

/-! ## The first batch row -/

theorem k1_pay4_eq : k1_pay4 (F := Ideal) (M x.c) (M x.s) (M x.q) = M x.Q := by
  simp only [k1_pay4, k1_pay2, k1_pay3, cast_M]; exact rot_Q x _
theorem k1_pay5_eq : k1_pay5 (F := Ideal) (M x.c) (M x.s) (M x.k) = M x.K := by
  simp only [k1_pay5, k1_pay2, k1_pay3, cast_M, rotate_M, mulf_M, addf_M, scalar_sc, splat_M]; rfl
theorem k1_pay6_eq : k1_pay6 (F := Ideal) (M x.c) (M x.s) (M x.q) = M x.Q := by
  simp only [k1_pay6, k1_pay4_eq, truncf_M]
theorem k1_pay7_eq : k1_pay7 (F := Ideal) (M x.c) (M x.s) (M x.k) = M x.K := by
  simp only [k1_pay7, k1_pay5_eq, truncf_M]
theorem k1_pay8_eq (A : Mat) : k1_pay8 (F := Ideal) (M A) = M A := rfl
theorem k1_pay9_eq : k1_pay9 (F := Ideal) (M (decay lg)) (M x.c) (M x.s) (M x.q) (M x.k) = M (x.S lg) := by
  simp only [k1_pay9, k1_pay6_eq, k1_pay7_eq, nt_M, mulf_M]; rfl
theorem k1_pay10_eq : k1_pay10 (F := Ideal) (M O) = M (cen O) := by
  simp only [k1_pay10, cast_M]
  rw [rowsum_M]
  simp only [cast_L_C, div128_C, spread_C, subf_M]; rfl
theorem k1_pay11_eq : k1_pay11 (F := Ideal) (M O) = M (fun i d => cen O i d * cen O i d) := by
  simp only [k1_pay11, k1_pay10_eq, mulf_M]
theorem k1_pay12_eq : k1_pay12 (F := Ideal) (M fun i d => cen O i d * cen O i d) = C (rstd O) := by
  simp only [k1_pay12]
  rw [rowsum_M]
  simp only [cast_L_C, div128_C, scalar_eps, splat_C, addf_C]
  exact rsqrt_C _ fun i => var_eps_pos O i
theorem k1_pay13_eq : k1_pay13 (F := Ideal) (M (cen O)) (M fun i d => cen O i d * cen O i d) = M (nrm O) := by
  simp only [k1_pay13, k1_pay12_eq, spread_C, mulf_M]; rfl
theorem k1_pay15_eq : k1_pay15 (F := Ideal) (M x.gt) = M (fun i d => x.gt i d * sgm (x.gt i d)) := by
  simp only [k1_pay15, k1_pay14, logistic_M, mulf_M]
theorem k1_pay16_eq : k1_pay16 (F := Ideal) (W x.g) (M (cen O)) (M fun i d => cen O i d * cen O i d) (M x.gt) (M x.dm) = M (x.dgate O) := by
  simp only [k1_pay16, k1_pay13_eq, k1_pay14, logistic_M, mulf_M, spread_W, scalar_one, splat_M, subf_M, addf_M]; rfl
theorem k1_pay17_eq : k1_pay17 (F := Ideal) (W x.g) (M x.gt) (M x.dm) = M x.dyl := by
  simp only [k1_pay17, k1_pay15_eq, mulf_M, spread_W]; rfl
theorem k1_pay18_eq : k1_pay18 (F := Ideal) (W a) (M (cen O)) (M fun i d => cen O i d * cen O i d) (M x.gt) (M x.dm)
    = W (fun d => a d + x.dgain O d) := by
  simp only [k1_pay18, k1_pay13_eq, k1_pay15_eq, mulf_M]
  rw [colsum_M]
  simp only [cast_L_W, addf_W]; rfl
theorem k1_pay19_eq : k1_pay19 (F := Ideal) (W x.g) (M x.gt) (M x.dm) = M (fun i d => x.dyl i d - mean x.dyl i) := by
  simp only [k1_pay19, k1_pay17_eq]
  rw [rowsum_M]
  simp only [cast_L_C, div128_C, spread_C, subf_M]; rfl
theorem k1_pay20_eq : k1_pay20 (F := Ideal) (W x.g) (M (cen O)) (M fun i d => cen O i d * cen O i d) (M x.gt) (M x.dm)
    = C (mean fun i d => x.dyl i d * nrm O i d) := by
  simp only [k1_pay20, k1_pay17_eq, k1_pay13_eq, mulf_M]
  rw [rowsum_M]
  simp only [cast_L_C, div128_C]; rfl
theorem k1_pay21_eq : k1_pay21 (F := Ideal) (C (rstd O)) (M (nrm O)) (M fun i d => x.dyl i d - mean x.dyl i)
    (C (mean fun i d => x.dyl i d * nrm O i d)) = M (x.dO O) := by
  simp only [k1_pay21, spread_C, mulf_M, subf_M, truncf_M]; rfl
theorem k1_pay22_eq (A : Mat) : k1_pay22 (F := Ideal) (M A) = M A := rfl
theorem k1_pay23_eq : k1_pay23 (F := Ideal) (M (decay lg)) (M x.v) (C (rstd O)) (M (nrm O)) (M fun i d => x.dyl i d - mean x.dyl i)
    (C (mean fun i d => x.dyl i d * nrm O i d)) = M (x.dS lg O) := by
  simp only [k1_pay23, k1_pay21_eq, nt_M, mulf_M, truncf_M]; rfl
theorem k1_pay24_eq : k1_pay24 (F := Ideal) (C (qdec lg)) (M x.Q) = M (x.Qd lg) := by
  simp only [k1_pay24, spread_C, mulf_M, truncf_M]; rfl
theorem k1_pay25_eq : k1_pay25 (F := Ideal) (M (decay lg)) (C (kdec lg)) (M G) (M x.Q) (M x.v) (C (rstd O)) (M (nrm O))
    (M fun i d => x.dyl i d - mean x.dyl i) (C (mean fun i d => x.dyl i d * nrm O i d)) = M (x.dK lg O G) := by
  simp only [k1_pay25, k1_pay23_eq, k1_pay22_eq, tn_M, nt_M, spread_C, mulf_M, addf_M]; rfl
theorem k1_pay26_eq : k1_pay26 (F := Ideal) (C (kdec lg)) (M G) (M x.K) (M (x.S lg)) (C (rstd O)) (M (nrm O))
    (M fun i d => x.dyl i d - mean x.dyl i) (C (mean fun i d => x.dyl i d * nrm O i d)) = M (x.dv lg O G) := by
  simp only [k1_pay26, k1_pay21_eq, k1_pay22_eq, tn_M, nn_M, spread_C, mulf_M, truncf_M, addf_M]; rfl
theorem k1_pay27_eq : k1_pay27 (F := Ideal) (M (decay lg)) (C (qdec lg)) (M x.c) (M x.s) (M x.K) (M x.v) (C (rstd O)) (M (nrm O))
    (M fun i d => x.dyl i d - mean x.dyl i) (C (mean fun i d => x.dyl i d * nrm O i d)) (M5 R) = M (x.dq lg O R) := by
  simp only [k1_pay27, k1_pay23_eq, k1_pay21_eq, cast_M5_M, nn_M, nt_M, truncf_M, spread_C, mulf_M, addf_M, rotate_M]; rfl
theorem k1_pay29_eq : k1_pay29 (F := Ideal) (M x.c) (M x.s) (M (x.dK lg O G)) (k1_pay28 (F := Ideal)) = M (x.dk lg O G) := by
  simp only [k1_pay29, k1_pay28, scalar_sc, splat_M, mulf_M, rotate_M, addf_M]; rfl
theorem k1_pay30_eq : k1_pay30 (F := Ideal) ((cdec lg : ℝ) : EReal) (M G) (M (x.dO O)) (M (x.Qd lg)) = M (x.prev lg O G) := by
  simp only [k1_pay30, splat_M, mulf_M, tn_M, addf_M]; rfl
theorem k1_pay2_eq (A : Mat) : k1_pay2 (F := Ideal) (M A) = M A := cast_M _ _
theorem k1_pay3_eq (A : Mat) : k1_pay3 (F := Ideal) (M A) = M A := cast_M _ _

/-! ## The second batch row -/

theorem k1_pay31_eq (A : Mat) : k1_pay31 (F := Ideal) (M A) = M A := cast_M _ _
theorem k1_pay32_eq (A : Mat) : k1_pay32 (F := Ideal) (M A) = M A := cast_M _ _
theorem k1_pay33_eq : k1_pay33 (F := Ideal) (M x.c) (M x.s) (M x.q) = M x.Q := by
  simp only [k1_pay33, k1_pay31_eq, k1_pay32_eq]; exact rot_Q x _
theorem k1_pay34_eq : k1_pay34 (F := Ideal) (M x.c) (M x.s) (M x.k) = M x.K := by
  simp only [k1_pay34, k1_pay31_eq, k1_pay32_eq, rotate_M, mulf_M, addf_M, scalar_sc, splat_M]; rfl
theorem k1_pay35_eq : k1_pay35 (F := Ideal) (M x.c) (M x.s) (M x.q) = M x.Q := by
  simp only [k1_pay35, k1_pay33_eq, truncf_M]
theorem k1_pay36_eq : k1_pay36 (F := Ideal) (M x.c) (M x.s) (M x.k) = M x.K := by
  simp only [k1_pay36, k1_pay34_eq, truncf_M]
theorem k1_pay37_eq (A : Mat) : k1_pay37 (F := Ideal) (M A) = M A := rfl
theorem k1_pay39_eq : k1_pay39 (F := Ideal) (M (decay lg)) (k1_pay38 (F := Ideal) (M x.c) (M x.s) (M x.q) (M x.k)) = M (x.S lg) := by
  simp only [k1_pay39, k1_pay38, k1_pay35_eq, k1_pay36_eq, nt_M, mulf_M]; rfl
theorem k1_pay40_eq : k1_pay40 (F := Ideal) (M O) = M (cen O) := by
  simp only [k1_pay40, cast_M]
  rw [rowsum_M]
  simp only [cast_L_C, div128_C, spread_C, subf_M]; rfl
theorem k1_pay41_eq : k1_pay41 (F := Ideal) (M O) = C (rstd O) := by
  simp only [k1_pay41, k1_pay40_eq, mulf_M]
  rw [rowsum_M]
  simp only [cast_L_C, div128_C, scalar_eps, splat_C, addf_C]
  exact rsqrt_C _ fun i => var_eps_pos O i
theorem k1_pay42_eq : k1_pay42 (F := Ideal) (M O) = M (nrm O) := by
  simp only [k1_pay42, k1_pay40_eq, k1_pay41_eq, spread_C, mulf_M]; rfl
theorem k1_pay44_eq : k1_pay44 (F := Ideal) (M x.gt) = M (fun i d => x.gt i d * sgm (x.gt i d)) := by
  simp only [k1_pay44, k1_pay43, logistic_M, mulf_M]
theorem k1_pay45_eq : k1_pay45 (F := Ideal) (W x.g) (M O) (M x.gt) (M x.dm) = M (x.dgate O) := by
  simp only [k1_pay45, k1_pay42_eq, k1_pay43, logistic_M, mulf_M, spread_W, scalar_one, splat_M, subf_M, addf_M]; rfl
theorem k1_pay46_eq : k1_pay46 (F := Ideal) (W x.g) (M x.gt) (M x.dm) = M x.dyl := by
  simp only [k1_pay46, k1_pay44_eq, mulf_M, spread_W]; rfl
theorem k1_pay47_eq : k1_pay47 (F := Ideal) (W a) (M O) (M x.gt) (M x.dm) = W (fun d => a d + x.dgain O d) := by
  simp only [k1_pay47, k1_pay42_eq, k1_pay44_eq, mulf_M]
  rw [colsum_M]
  simp only [cast_L_W, addf_W]; rfl
theorem k1_pay48_eq : k1_pay48 (F := Ideal) (C (rstd O)) (M (nrm O)) (M x.dyl) = M (x.dO O) := by
  simp only [k1_pay48, mulf_M]
  rw [rowsum_M, rowsum_M]
  simp only [cast_L_C, div128_C, spread_C, mulf_M, subf_M, truncf_M]; rfl
theorem k1_pay49_eq (A : Mat) : k1_pay49 (F := Ideal) (M A) = M A := rfl
theorem k1_pay50_eq : k1_pay50 (F := Ideal) (M (decay lg)) (M x.v) (C (rstd O)) (M (nrm O)) (M x.dyl) = M (x.dS lg O) := by
  simp only [k1_pay50, k1_pay48_eq, nt_M, mulf_M, truncf_M]; rfl
theorem k1_pay51_eq : k1_pay51 (F := Ideal) (C (qdec lg)) (M x.Q) = M (x.Qd lg) := by
  simp only [k1_pay51, spread_C, mulf_M, truncf_M]; rfl
theorem k1_pay52_eq : k1_pay52 (F := Ideal) (M (decay lg)) (C (qdec lg)) (M x.K) (M x.v) (C (rstd O)) (M (nrm O)) (M x.dyl) (M5 R)
    = M (x.dQ lg O R) := by
  simp only [k1_pay52, k1_pay50_eq, k1_pay48_eq, cast_M5_M, nn_M, nt_M, truncf_M, spread_C, mulf_M, addf_M]; rfl
theorem k1_pay53_eq : k1_pay53 (F := Ideal) (M (decay lg)) (C (kdec lg)) (M G) (M x.Q) (M x.v) (C (rstd O)) (M (nrm O)) (M x.dyl)
    = M (x.dK lg O G) := by
  simp only [k1_pay53, k1_pay50_eq, k1_pay49_eq, tn_M, nt_M, spread_C, mulf_M, addf_M]; rfl
theorem k1_pay54_eq : k1_pay54 (F := Ideal) (C (kdec lg)) (M G) (M x.K) (M (x.S lg)) (C (rstd O)) (M (nrm O)) (M x.dyl)
    = M (x.dv lg O G) := by
  simp only [k1_pay54, k1_pay48_eq, k1_pay49_eq, tn_M, nn_M, spread_C, mulf_M, truncf_M, addf_M]; rfl
theorem k1_pay63_eq : k1_pay63 (F := Ideal) (M x.c) (M x.s) (M (x.dQ lg O R)) = M (x.dq lg O R) := by
  simp only [k1_pay63]; exact rot_back x _ _
theorem k1_pay64_eq : k1_pay64 (F := Ideal) (M x.c) (M x.s) (M (x.dK lg O G)) = M (x.dk lg O G) := by
  simp only [k1_pay64, scalar_sc, splat_M, mulf_M, rotate_M, addf_M]; rfl
theorem k1_pay65_eq (i : grid1.Coords) : k1_pay65 (F := Ideal) i (M G) (M (x.dO O)) (M (x.Qd (lgOf (i 0)))) = M (x.prev (lgOf (i 0)) O G) := by
  simp only [k1_pay65, k1_pay60_eq, splat_M, mulf_M, tn_M, addf_M]; rfl

end Ret

end
-- ==== Proof.KStep.lean ====
/-
  One trip of the backward launch's loop: what it computes of a chunk, for either batch row, from blocks that hold real
  arrays.
-/
module

public import proofs.«01_k».proof.Proof.KPay1
public import proofs.«01_k».proof.Proof.KTrip

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-! ## What a trip computes of a chunk (the suffix is the batch row) -/

section
variable (i : grid1.Coords) (w a : S1x128.Idx → EReal) (c s q k v gt dm o A : S128x128.Idx → EReal) (Rv : S1x1x1x128x128.Idx → EReal)

/-- The gradient of the queries. -/
def dq0 : S128x128.Idx → EReal :=
  k1_pay27 (F := Ideal) (k1_pay56 i) (k1_pay59 i) (k1_pay2 c) (k1_pay3 s) (k1_pay7 c s k) (k1_pay8 v) (k1_pay12 (k1_pay11 o)) (k1_pay13 (k1_pay10 o) (k1_pay11 o)) (k1_pay19 w gt dm) (k1_pay20 w (k1_pay10 o) (k1_pay11 o) gt dm) Rv
/-- The gradient of the keys. -/
def dk0 : S128x128.Idx → EReal :=
  k1_pay29 (F := Ideal) (k1_pay2 c) (k1_pay3 s) (k1_pay25 (k1_pay56 i) (k1_pay58 i) A (k1_pay6 c s q) (k1_pay8 v) (k1_pay12 (k1_pay11 o)) (k1_pay13 (k1_pay10 o) (k1_pay11 o)) (k1_pay19 w gt dm) (k1_pay20 w (k1_pay10 o) (k1_pay11 o) gt dm)) (k1_pay28 (F := Ideal))
/-- The gradient of the values. -/
def dv0 : S128x128.Idx → EReal :=
  k1_pay26 (F := Ideal) (k1_pay58 i) A (k1_pay5 c s k) (k1_pay9 (k1_pay56 i) c s q k) (k1_pay12 (k1_pay11 o)) (k1_pay13 (k1_pay10 o) (k1_pay11 o)) (k1_pay19 w gt dm) (k1_pay20 w (k1_pay10 o) (k1_pay11 o) gt dm)
/-- The gradient of the gate. -/
def ga0 : S128x128.Idx → EReal :=
  k1_pay16 (F := Ideal) w (k1_pay10 o) (k1_pay11 o) gt dm
/-- The running gradient of the gain. -/
def gn0 : S1x128.Idx → EReal :=
  k1_pay18 (F := Ideal) a (k1_pay10 o) (k1_pay11 o) gt dm
/-- The gradient of the state before the chunk. -/
def pr0 : S128x128.Idx → EReal :=
  k1_pay30 (F := Ideal) (k1_pay60 i) A (k1_pay21 (k1_pay12 (k1_pay11 o)) (k1_pay13 (k1_pay10 o) (k1_pay11 o)) (k1_pay19 w gt dm) (k1_pay20 w (k1_pay10 o) (k1_pay11 o) gt dm)) (k1_pay24 (k1_pay59 i) (k1_pay4 c s q))
/-- The gradient of the queries. -/
def dq1 : S128x128.Idx → EReal :=
  k1_pay63 (F := Ideal) (k1_pay31 c) (k1_pay32 s) (k1_pay52 (k1_pay56 i) (k1_pay59 i) (k1_pay36 c s k) (k1_pay37 v) (k1_pay41 o) (k1_pay42 o) (k1_pay46 w gt dm) Rv)
/-- The gradient of the keys. -/
def dk1 : S128x128.Idx → EReal :=
  k1_pay64 (F := Ideal) (k1_pay31 c) (k1_pay32 s) (k1_pay53 (k1_pay56 i) (k1_pay58 i) A (k1_pay35 c s q) (k1_pay37 v) (k1_pay41 o) (k1_pay42 o) (k1_pay46 w gt dm))
/-- The gradient of the values. -/
def dv1 : S128x128.Idx → EReal :=
  k1_pay54 (F := Ideal) (k1_pay58 i) A (k1_pay34 c s k) (k1_pay39 (k1_pay56 i) (k1_pay38 c s q k)) (k1_pay41 o) (k1_pay42 o) (k1_pay46 w gt dm)
/-- The gradient of the gate. -/
def ga1 : S128x128.Idx → EReal :=
  k1_pay45 (F := Ideal) w o gt dm
/-- The running gradient of the gain. -/
def gn1 : S1x128.Idx → EReal :=
  k1_pay47 (F := Ideal) a o gt dm
/-- The gradient of the state before the chunk. -/
def pr1 : S128x128.Idx → EReal :=
  k1_pay65 (F := Ideal) i A (k1_pay48 (k1_pay41 o) (k1_pay42 o) (k1_pay46 w gt dm)) (k1_pay51 (k1_pay59 i) (k1_pay33 c s q))
end

section
variable (i : grid1.Coords) (x : Chk) (O R G : Mat) (b : Fin 128 → ℝ)

/-! ## The same on real arrays -/

theorem dq0_eq : dq0 i (W x.g) (M x.c) (M x.s) (M x.k) (M x.v) (M x.gt) (M x.dm) (M O) (M5 R) = M (x.dq (lgOf (i 0)) O R) := by
  simp only [dq0, k1_pay2_eq, k1_pay3_eq, k1_pay7_eq, k1_pay8_eq, k1_pay10_eq, k1_pay11_eq, k1_pay12_eq, k1_pay13_eq, k1_pay19_eq, k1_pay20_eq, k1_pay27_eq, k1_pay56_eq, k1_pay59_eq]
theorem dk0_eq : dk0 i (W x.g) (M x.c) (M x.s) (M x.q) (M x.v) (M x.gt) (M x.dm) (M O) (M G) = M (x.dk (lgOf (i 0)) O G) := by
  simp only [dk0, k1_pay2_eq, k1_pay3_eq, k1_pay6_eq, k1_pay8_eq, k1_pay10_eq, k1_pay11_eq, k1_pay12_eq, k1_pay13_eq, k1_pay19_eq, k1_pay20_eq, k1_pay25_eq, k1_pay29_eq, k1_pay56_eq, k1_pay58_eq]
theorem dv0_eq : dv0 i (W x.g) (M x.c) (M x.s) (M x.q) (M x.k) (M x.gt) (M x.dm) (M O) (M G) = M (x.dv (lgOf (i 0)) O G) := by
  simp only [dv0, k1_pay5_eq, k1_pay9_eq, k1_pay10_eq, k1_pay11_eq, k1_pay12_eq, k1_pay13_eq, k1_pay19_eq, k1_pay20_eq, k1_pay26_eq, k1_pay56_eq, k1_pay58_eq]
theorem ga0_eq : ga0 (W x.g) (M x.gt) (M x.dm) (M O) = M (x.dgate O) := by
  simp only [ga0, k1_pay10_eq, k1_pay11_eq, k1_pay16_eq]
theorem gn0_eq : gn0 (W b) (M x.gt) (M x.dm) (M O) = W (fun d => b d + x.dgain O d) := by
  simp only [gn0, k1_pay10_eq, k1_pay11_eq, k1_pay18_eq]
theorem pr0_eq : pr0 i (W x.g) (M x.c) (M x.s) (M x.q) (M x.gt) (M x.dm) (M O) (M G) = M (x.prev (lgOf (i 0)) O G) := by
  simp only [pr0, k1_pay4_eq, k1_pay10_eq, k1_pay11_eq, k1_pay12_eq, k1_pay13_eq, k1_pay19_eq, k1_pay20_eq, k1_pay21_eq, k1_pay24_eq, k1_pay30_eq, k1_pay59_eq, k1_pay60_eq]
theorem dq1_eq : dq1 i (W x.g) (M x.c) (M x.s) (M x.k) (M x.v) (M x.gt) (M x.dm) (M O) (M5 R) = M (x.dq (lgOf (i 0)) O R) := by
  simp only [dq1, k1_pay31_eq, k1_pay32_eq, k1_pay36_eq, k1_pay37_eq, k1_pay41_eq, k1_pay42_eq, k1_pay46_eq, k1_pay52_eq, k1_pay56_eq, k1_pay59_eq, k1_pay63_eq]
theorem dk1_eq : dk1 i (W x.g) (M x.c) (M x.s) (M x.q) (M x.v) (M x.gt) (M x.dm) (M O) (M G) = M (x.dk (lgOf (i 0)) O G) := by
  simp only [dk1, k1_pay31_eq, k1_pay32_eq, k1_pay35_eq, k1_pay37_eq, k1_pay41_eq, k1_pay42_eq, k1_pay46_eq, k1_pay53_eq, k1_pay56_eq, k1_pay58_eq, k1_pay64_eq]
theorem dv1_eq : dv1 i (W x.g) (M x.c) (M x.s) (M x.q) (M x.k) (M x.gt) (M x.dm) (M O) (M G) = M (x.dv (lgOf (i 0)) O G) := by
  simp only [dv1, k1_pay34_eq, k1_pay39_eq, k1_pay41_eq, k1_pay42_eq, k1_pay46_eq, k1_pay54_eq, k1_pay56_eq, k1_pay58_eq]
theorem ga1_eq : ga1 (W x.g) (M x.gt) (M x.dm) (M O) = M (x.dgate O) := by
  simp only [ga1, k1_pay45_eq]
theorem gn1_eq : gn1 (W b) (M x.gt) (M x.dm) (M O) = W (fun d => b d + x.dgain O d) := by
  simp only [gn1, k1_pay47_eq]
theorem pr1_eq : pr1 i (W x.g) (M x.c) (M x.s) (M x.q) (M x.gt) (M x.dm) (M O) (M G) = M (x.prev (lgOf (i 0)) O G) := by
  simp only [pr1, k1_pay33_eq, k1_pay41_eq, k1_pay42_eq, k1_pay46_eq, k1_pay48_eq, k1_pay51_eq, k1_pay59_eq, k1_pay65_eq]
end

/-! ## The blocks a trip reads -/

/-- A chunk's rows of batch row `r`, as trip `k` loads them. -/
def rd1 (a : Memref sig .tc .vmem S4096x128 .f32) (X : BufTy.Contents (Elt Ideal) a.view.ty) (k : Fin k1_t1_loop.trips) (r : Fin 2) :
    S128x128.Idx → EReal :=
  View.readAt (Elt Ideal) a.view (Rect.unit (s := S4096x128) (k1_off2 k (BitVec.ofNat 32 (2048 * r.val))) S128x128.size (k1_off2_inb k r)).toLoadRect X
/-- A chunk's rows of a rotary table. -/
def rt1 (a : Memref sig .tc .vmem S2048x128 .f32) (X : BufTy.Contents (Elt Ideal) a.view.ty) (k : Fin k1_t1_loop.trips) :
    S128x128.Idx → EReal :=
  View.readAt (Elt Ideal) a.view (Rect.unit (s := S2048x128) (k1_off1 k) S128x128.size (k1_off1_inb k)).toLoadRect X
/-- The states before a chunk. -/
def rs0 (a : Memref sig .tc .vmem S2x1x16x128x128 .f32) (X : BufTy.Contents (Elt Ideal) a.view.ty) (k : Fin k1_t1_loop.trips) :
    S1x1x1x128x128.Idx → EReal :=
  View.readAt (Elt Ideal) a.view (Rect.unit (s := S2x1x16x128x128) (k1_off3 k) S1x1x1x128x128.size (k1_off3_inb k)).toLoadRect X
def rs1 (a : Memref sig .tc .vmem S2x1x16x128x128 .f32) (X : BufTy.Contents (Elt Ideal) a.view.ty) (k : Fin k1_t1_loop.trips) :
    S1x1x1x128x128.Idx → EReal :=
  View.readAt (Elt Ideal) a.view (Rect.unit (s := S2x1x16x128x128) (k1_off4 k) S1x1x1x128x128.size (k1_off4_inb k)).toLoadRect X

theorem trip_lt (k : Fin k1_t1_loop.trips) : k.val < 16 := Nat.lt_of_lt_of_le k.isLt k1_t1_abs.2.1

theorem off2_at (k : Fin k1_t1_loop.trips) (r : Fin 2) :
    k1_off2 k (BitVec.ofNat 32 (2048 * r.val)) = ![2048 * r.val + 128 * (15 - k.val), 0] := by
  have hk := trip_lt k
  rw [k1_off2_eq k r]
  have e : 2048 * r.val + 1920 - 128 * k.val = 2048 * r.val + 128 * (15 - k.val) := by omega
  rw [e]
theorem off1_at (k : Fin k1_t1_loop.trips) : k1_off1 k = ![128 * (15 - k.val), 0] := by
  have hk := trip_lt k
  rw [k1_off1_eq k]
  have e : 1920 - 128 * k.val = 128 * (15 - k.val) := by omega
  rw [e]

theorem rd1_eq (a : Memref sig .tc .vmem S4096x128 .f32) (X : BufTy.Contents (Elt Ideal) a.view.ty) (k : Fin k1_t1_loop.trips) (r : Fin 2)
    (f : ℕ → Fin 128 → ℝ) (h : a.view.read (Elt Ideal) X = B f) :
    rd1 a X k r = M (fun i d => f (2048 * r.val + 128 * (15 - k.val) + i.val) d) := by
  refine Eq.trans ?_ (ld_B f _ (k1_off2_inb k r) _ (off2_at k r))
  rw [← h]; rfl
theorem rt1_eq (a : Memref sig .tc .vmem S2048x128 .f32) (X : BufTy.Contents (Elt Ideal) a.view.ty) (k : Fin k1_t1_loop.trips)
    (f : ℕ → Fin 128 → ℝ) (h : a.view.read (Elt Ideal) X = T f) : rt1 a X k = M (fun i d => f (128 * (15 - k.val) + i.val) d) := by
  refine Eq.trans ?_ (ld_T f _ (k1_off1_inb k) _ (off1_at k))
  rw [← h]; rfl
/-- Loads from an array of chunks read chunks. -/
theorem rd1_rows (a : Memref sig .tc .vmem S4096x128 .f32) (X : BufTy.Contents (Elt Ideal) a.view.ty) (k : Fin k1_t1_loop.trips) (r : Fin 2)
    (f : ℕ → ℕ → Mat) (h : a.view.read (Elt Ideal) X = B (rows f)) : rd1 a X k r = M (f r.val (15 - k.val)) := by
  have hk := trip_lt k
  rw [rd1_eq a X k r _ h]
  exact congrArg M (funext fun i => funext fun d => rows_chunk f r.val (15 - k.val) (by omega) i d)
theorem rs0_eq (a : Memref sig .tc .vmem S2x1x16x128x128 .f32) (X : BufTy.Contents (Elt Ideal) a.view.ty) (k : Fin k1_t1_loop.trips)
    (f : ℕ → ℕ → Mat) (h : a.view.read (Elt Ideal) X = St f) : rs0 a X k = M5 (f 0 (15 - k.val)) := by
  refine Eq.trans ?_ (ld_St f _ (k1_off3_inb k) _ _ (k1_off3_eq k))
  rw [← h]; rfl
theorem rs1_eq (a : Memref sig .tc .vmem S2x1x16x128x128 .f32) (X : BufTy.Contents (Elt Ideal) a.view.ty) (k : Fin k1_t1_loop.trips)
    (f : ℕ → ℕ → Mat) (h : a.view.read (Elt Ideal) X = St f) : rs1 a X k = M5 (f 1 (15 - k.val)) := by
  refine Eq.trans ?_ (ld_St f _ (k1_off4_inb k) _ _ (k1_off4_eq k))
  rw [← h]; rfl

end Ret

end
-- ==== Proof.KTrip1.lean ====
/-
  All trips of the backward launch's loop: what they carry on and what they store, from input blocks that hold real
  arrays.
-/
module

public import proofs.«01_k».proof.Proof.KStep

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- What the launch's results hold of one head, chunk by chunk. -/
def dqF (y : Hd) (lg : ℝ) (b n : ℕ) : Mat := (y.chk b n).dq lg (outF y lg b n) (stateF y lg b n)
def dkF (y : Hd) (lg : ℝ) (b n : ℕ) : Mat := (y.chk b n).dk lg (outF y lg b n) (G (y.chk b) lg (15 - n))
def dvF (y : Hd) (lg : ℝ) (b n : ℕ) : Mat := (y.chk b n).dv lg (outF y lg b n) (G (y.chk b) lg (15 - n))
def dgF (y : Hd) (lg : ℝ) (b n : ℕ) : Mat := (y.chk b n).dgate (outF y lg b n)

section
variable (𝒱 : Variants) (c : Dev nD) (bd : Option 𝒱.V) (i : grid1.Coords) (arg1 : Memref sig .tc .vmem S4096x128 .f32) (harg1 : arg1.IsWhole) (arg2 : Memref sig .tc .vmem S4096x128 .f32) (harg2 : arg2.IsWhole) (arg3 : Memref sig .tc .vmem S2x1x16x128x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S1x128 .f32) (harg15 : arg15.IsWhole) (v32 : Vec Ideal S1x128 .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- What a trip carries on. -/
theorem trip1_R (k : Fin k1_t1_loop.trips) (acc : FVec Ideal S128x128 .f32 × FVec Ideal S1x128 .f32 × FVec Ideal S128x128 .f32 × FVec Ideal S1x128 .f32) :
    tripR_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 k acc
      = (pr0 i v32 (rt1 arg8 X_arg8 k) (rt1 arg9 X_arg9 k) (rd1 arg4 X_arg4 k 0) (rd1 arg7 X_arg7 k 0) (rd1 arg1 X_arg1 k 0) (rd1 arg2 X_arg2 k 0) acc.1,
         gn0 acc.2.1 (rd1 arg7 X_arg7 k 0) (rd1 arg1 X_arg1 k 0) (rd1 arg2 X_arg2 k 0),
         pr1 i v32 (rt1 arg8 X_arg8 k) (rt1 arg9 X_arg9 k) (rd1 arg4 X_arg4 k 1) (rd1 arg7 X_arg7 k 1) (rd1 arg1 X_arg1 k 1) (rd1 arg2 X_arg2 k 1) acc.2.2.1,
         gn1 acc.2.2.2 (rd1 arg7 X_arg7 k 1) (rd1 arg1 X_arg1 k 1) (rd1 arg2 X_arg2 k 1)) := by
  delta tripR_k1_t1 trip_k1_t1
  rfl

/-- What a trip stores. -/
theorem trip1_L (k : Fin k1_t1_loop.trips) (acc : FVec Ideal S128x128 .f32 × FVec Ideal S1x128 .f32 × FVec Ideal S128x128 .f32 × FVec Ideal S1x128 .f32) :
    tripL_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 k acc
      = ([⟨Rect.unit (s := S4096x128) (k1_off2 k (BitVec.ofNat 32 (2048 * (1 : Fin 2).val))) S128x128.size (k1_off2_inb k 1), dq1 i v32 (rt1 arg8 X_arg8 k) (rt1 arg9 X_arg9 k) (rd1 arg5 X_arg5 k 1) (rd1 arg6 X_arg6 k 1) (rd1 arg7 X_arg7 k 1) (rd1 arg1 X_arg1 k 1) (rd1 arg2 X_arg2 k 1) (rs1 arg3 X_arg3 k)⟩,
          ⟨Rect.unit (s := S4096x128) (k1_off2 k (BitVec.ofNat 32 (2048 * (0 : Fin 2).val))) S128x128.size (k1_off2_inb k 0), dq0 i v32 (rt1 arg8 X_arg8 k) (rt1 arg9 X_arg9 k) (rd1 arg5 X_arg5 k 0) (rd1 arg6 X_arg6 k 0) (rd1 arg7 X_arg7 k 0) (rd1 arg1 X_arg1 k 0) (rd1 arg2 X_arg2 k 0) (rs0 arg3 X_arg3 k)⟩],
         [⟨Rect.unit (s := S4096x128) (k1_off2 k (BitVec.ofNat 32 (2048 * (1 : Fin 2).val))) S128x128.size (k1_off2_inb k 1), dk1 i v32 (rt1 arg8 X_arg8 k) (rt1 arg9 X_arg9 k) (rd1 arg4 X_arg4 k 1) (rd1 arg6 X_arg6 k 1) (rd1 arg7 X_arg7 k 1) (rd1 arg1 X_arg1 k 1) (rd1 arg2 X_arg2 k 1) acc.2.2.1⟩,
          ⟨Rect.unit (s := S4096x128) (k1_off2 k (BitVec.ofNat 32 (2048 * (0 : Fin 2).val))) S128x128.size (k1_off2_inb k 0), dk0 i v32 (rt1 arg8 X_arg8 k) (rt1 arg9 X_arg9 k) (rd1 arg4 X_arg4 k 0) (rd1 arg6 X_arg6 k 0) (rd1 arg7 X_arg7 k 0) (rd1 arg1 X_arg1 k 0) (rd1 arg2 X_arg2 k 0) acc.1⟩],
         [⟨Rect.unit (s := S4096x128) (k1_off2 k (BitVec.ofNat 32 (2048 * (1 : Fin 2).val))) S128x128.size (k1_off2_inb k 1), dv1 i v32 (rt1 arg8 X_arg8 k) (rt1 arg9 X_arg9 k) (rd1 arg4 X_arg4 k 1) (rd1 arg5 X_arg5 k 1) (rd1 arg7 X_arg7 k 1) (rd1 arg1 X_arg1 k 1) (rd1 arg2 X_arg2 k 1) acc.2.2.1⟩,
          ⟨Rect.unit (s := S4096x128) (k1_off2 k (BitVec.ofNat 32 (2048 * (0 : Fin 2).val))) S128x128.size (k1_off2_inb k 0), dv0 i v32 (rt1 arg8 X_arg8 k) (rt1 arg9 X_arg9 k) (rd1 arg4 X_arg4 k 0) (rd1 arg5 X_arg5 k 0) (rd1 arg7 X_arg7 k 0) (rd1 arg1 X_arg1 k 0) (rd1 arg2 X_arg2 k 0) acc.1⟩],
         [⟨Rect.unit (s := S4096x128) (k1_off2 k (BitVec.ofNat 32 (2048 * (1 : Fin 2).val))) S128x128.size (k1_off2_inb k 1), ga1 v32 (rd1 arg7 X_arg7 k 1) (rd1 arg1 X_arg1 k 1) (rd1 arg2 X_arg2 k 1)⟩,
          ⟨Rect.unit (s := S4096x128) (k1_off2 k (BitVec.ofNat 32 (2048 * (0 : Fin 2).val))) S128x128.size (k1_off2_inb k 0), ga0 v32 (rd1 arg7 X_arg7 k 0) (rd1 arg1 X_arg1 k 0) (rd1 arg2 X_arg2 k 0)⟩]) := by
  delta tripL_k1_t1 trip_k1_t1
  rfl

variable (y : Hd)
  (hm : arg1.view.read (Elt Ideal) X_arg1 = B y.dm) (ho : arg2.view.read (Elt Ideal) X_arg2 = B (rows (outF y (lgOf (i 0)))))
  (hR : arg3.view.read (Elt Ideal) X_arg3 = St (stateF y (lgOf (i 0))))
  (hq : arg4.view.read (Elt Ideal) X_arg4 = B y.q) (hk : arg5.view.read (Elt Ideal) X_arg5 = B y.k)
  (hv : arg6.view.read (Elt Ideal) X_arg6 = B y.v) (hg : arg7.view.read (Elt Ideal) X_arg7 = B y.gt)
  (hc : arg8.view.read (Elt Ideal) X_arg8 = T y.c) (hs : arg9.view.read (Elt Ideal) X_arg9 = T y.s) (hw : v32 = W y.g)

/-- What the loop carries before trip `n`. -/
def carry (y : Hd) (lg : ℝ) (n : ℕ) : FVec Ideal S128x128 .f32 × FVec Ideal S1x128 .f32 × FVec Ideal S128x128 .f32 × FVec Ideal S1x128 .f32 :=
  (M (G (y.chk 0) lg n), W (fun d => gsum (y.chk 0) lg d n), M (G (y.chk 1) lg n), W (fun d => gsum (y.chk 1) lg d n))

include hm ho hR hq hk hv hg hc hs hw in
/-- A trip on real arrays carries on the gradients of the states and the sums of the gain's gradients. -/
theorem trip1_carry (k : Fin k1_t1_loop.trips) :
    tripR_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 k (carry y (lgOf (i 0)) k.val) = carry y (lgOf (i 0)) (k.val + 1) := by
  rw [trip1_R]
  unfold carry
  dsimp only
  have edm0 : rd1 arg1 X_arg1 k 0 = M (y.chk 0 (15 - k.val)).dm := rd1_eq _ _ _ 0 _ hm
  have eq0 : rd1 arg4 X_arg4 k 0 = M (y.chk 0 (15 - k.val)).q := rd1_eq _ _ _ 0 _ hq
  have ek0 : rd1 arg5 X_arg5 k 0 = M (y.chk 0 (15 - k.val)).k := rd1_eq _ _ _ 0 _ hk
  have ev0 : rd1 arg6 X_arg6 k 0 = M (y.chk 0 (15 - k.val)).v := rd1_eq _ _ _ 0 _ hv
  have egt0 : rd1 arg7 X_arg7 k 0 = M (y.chk 0 (15 - k.val)).gt := rd1_eq _ _ _ 0 _ hg
  have eo0 : rd1 arg2 X_arg2 k 0 = M (outF y (lgOf (i 0)) 0 (15 - k.val)) := rd1_rows _ _ _ 0 _ ho
  have eR0 : rs0 arg3 X_arg3 k = M5 (stateF y (lgOf (i 0)) 0 (15 - k.val)) := rs0_eq _ _ _ _ hR
  have edm1 : rd1 arg1 X_arg1 k 1 = M (y.chk 1 (15 - k.val)).dm := rd1_eq _ _ _ 1 _ hm
  have eq1 : rd1 arg4 X_arg4 k 1 = M (y.chk 1 (15 - k.val)).q := rd1_eq _ _ _ 1 _ hq
  have ek1 : rd1 arg5 X_arg5 k 1 = M (y.chk 1 (15 - k.val)).k := rd1_eq _ _ _ 1 _ hk
  have ev1 : rd1 arg6 X_arg6 k 1 = M (y.chk 1 (15 - k.val)).v := rd1_eq _ _ _ 1 _ hv
  have egt1 : rd1 arg7 X_arg7 k 1 = M (y.chk 1 (15 - k.val)).gt := rd1_eq _ _ _ 1 _ hg
  have eo1 : rd1 arg2 X_arg2 k 1 = M (outF y (lgOf (i 0)) 1 (15 - k.val)) := rd1_rows _ _ _ 1 _ ho
  have eR1 : rs1 arg3 X_arg3 k = M5 (stateF y (lgOf (i 0)) 1 (15 - k.val)) := rs1_eq _ _ _ _ hR
  have ec0 : rt1 arg8 X_arg8 k = M (y.chk 0 (15 - k.val)).c := rt1_eq _ _ _ _ hc
  have es0 : rt1 arg9 X_arg9 k = M (y.chk 0 (15 - k.val)).s := rt1_eq _ _ _ _ hs
  have ec1 : rt1 arg8 X_arg8 k = M (y.chk 1 (15 - k.val)).c := rt1_eq _ _ _ _ hc
  have es1 : rt1 arg9 X_arg9 k = M (y.chk 1 (15 - k.val)).s := rt1_eq _ _ _ _ hs
  have ew0 : v32 = W (y.chk 0 (15 - k.val)).g := hw
  have ew1 : v32 = W (y.chk 1 (15 - k.val)).g := hw
  refine Prod.ext ?_ (Prod.ext ?_ (Prod.ext ?_ ?_)) <;> dsimp only
  · rw [ew0, ec0, es0, eq0, egt0, edm0, eo0]; exact pr0_eq i (y.chk 0 (15 - k.val)) _ _
  · rw [egt0, edm0, eo0]; exact gn0_eq (y.chk 0 (15 - k.val)) _ _
  · rw [ew1, ec1, es1, eq1, egt1, edm1, eo1]; exact pr1_eq i (y.chk 1 (15 - k.val)) _ _
  · rw [egt1, edm1, eo1]; exact gn1_eq (y.chk 1 (15 - k.val)) _ _

include hm ho hR hq hk hv hg hc hs hw in
/-- A trip on real arrays stores the chunk's gradients. -/
theorem trip1_store (k : Fin k1_t1_loop.trips) :
    dq0 i v32 (rt1 arg8 X_arg8 k) (rt1 arg9 X_arg9 k) (rd1 arg5 X_arg5 k 0) (rd1 arg6 X_arg6 k 0) (rd1 arg7 X_arg7 k 0) (rd1 arg1 X_arg1 k 0) (rd1 arg2 X_arg2 k 0) (rs0 arg3 X_arg3 k) = M (dqF y (lgOf (i 0)) 0 (15 - k.val))
    ∧ dk0 i v32 (rt1 arg8 X_arg8 k) (rt1 arg9 X_arg9 k) (rd1 arg4 X_arg4 k 0) (rd1 arg6 X_arg6 k 0) (rd1 arg7 X_arg7 k 0) (rd1 arg1 X_arg1 k 0) (rd1 arg2 X_arg2 k 0) (carry y (lgOf (i 0)) k.val).1 = M (dkF y (lgOf (i 0)) 0 (15 - k.val))
    ∧ dv0 i v32 (rt1 arg8 X_arg8 k) (rt1 arg9 X_arg9 k) (rd1 arg4 X_arg4 k 0) (rd1 arg5 X_arg5 k 0) (rd1 arg7 X_arg7 k 0) (rd1 arg1 X_arg1 k 0) (rd1 arg2 X_arg2 k 0) (carry y (lgOf (i 0)) k.val).1 = M (dvF y (lgOf (i 0)) 0 (15 - k.val))
    ∧ ga0 v32 (rd1 arg7 X_arg7 k 0) (rd1 arg1 X_arg1 k 0) (rd1 arg2 X_arg2 k 0) = M (dgF y (lgOf (i 0)) 0 (15 - k.val))
    ∧ dq1 i v32 (rt1 arg8 X_arg8 k) (rt1 arg9 X_arg9 k) (rd1 arg5 X_arg5 k 1) (rd1 arg6 X_arg6 k 1) (rd1 arg7 X_arg7 k 1) (rd1 arg1 X_arg1 k 1) (rd1 arg2 X_arg2 k 1) (rs1 arg3 X_arg3 k) = M (dqF y (lgOf (i 0)) 1 (15 - k.val))
    ∧ dk1 i v32 (rt1 arg8 X_arg8 k) (rt1 arg9 X_arg9 k) (rd1 arg4 X_arg4 k 1) (rd1 arg6 X_arg6 k 1) (rd1 arg7 X_arg7 k 1) (rd1 arg1 X_arg1 k 1) (rd1 arg2 X_arg2 k 1) (carry y (lgOf (i 0)) k.val).2.2.1 = M (dkF y (lgOf (i 0)) 1 (15 - k.val))
    ∧ dv1 i v32 (rt1 arg8 X_arg8 k) (rt1 arg9 X_arg9 k) (rd1 arg4 X_arg4 k 1) (rd1 arg5 X_arg5 k 1) (rd1 arg7 X_arg7 k 1) (rd1 arg1 X_arg1 k 1) (rd1 arg2 X_arg2 k 1) (carry y (lgOf (i 0)) k.val).2.2.1 = M (dvF y (lgOf (i 0)) 1 (15 - k.val))
    ∧ ga1 v32 (rd1 arg7 X_arg7 k 1) (rd1 arg1 X_arg1 k 1) (rd1 arg2 X_arg2 k 1) = M (dgF y (lgOf (i 0)) 1 (15 - k.val)) := by
  have hk' := trip_lt k
  have e15 : 15 - (15 - k.val) = k.val := by omega
  unfold dqF dkF dvF dgF
  rw [e15]
  unfold carry
  dsimp only
  have edm0 : rd1 arg1 X_arg1 k 0 = M (y.chk 0 (15 - k.val)).dm := rd1_eq _ _ _ 0 _ hm
  have eq0 : rd1 arg4 X_arg4 k 0 = M (y.chk 0 (15 - k.val)).q := rd1_eq _ _ _ 0 _ hq
  have ek0 : rd1 arg5 X_arg5 k 0 = M (y.chk 0 (15 - k.val)).k := rd1_eq _ _ _ 0 _ hk
  have ev0 : rd1 arg6 X_arg6 k 0 = M (y.chk 0 (15 - k.val)).v := rd1_eq _ _ _ 0 _ hv
  have egt0 : rd1 arg7 X_arg7 k 0 = M (y.chk 0 (15 - k.val)).gt := rd1_eq _ _ _ 0 _ hg
  have eo0 : rd1 arg2 X_arg2 k 0 = M (outF y (lgOf (i 0)) 0 (15 - k.val)) := rd1_rows _ _ _ 0 _ ho
  have eR0 : rs0 arg3 X_arg3 k = M5 (stateF y (lgOf (i 0)) 0 (15 - k.val)) := rs0_eq _ _ _ _ hR
  have edm1 : rd1 arg1 X_arg1 k 1 = M (y.chk 1 (15 - k.val)).dm := rd1_eq _ _ _ 1 _ hm
  have eq1 : rd1 arg4 X_arg4 k 1 = M (y.chk 1 (15 - k.val)).q := rd1_eq _ _ _ 1 _ hq
  have ek1 : rd1 arg5 X_arg5 k 1 = M (y.chk 1 (15 - k.val)).k := rd1_eq _ _ _ 1 _ hk
  have ev1 : rd1 arg6 X_arg6 k 1 = M (y.chk 1 (15 - k.val)).v := rd1_eq _ _ _ 1 _ hv
  have egt1 : rd1 arg7 X_arg7 k 1 = M (y.chk 1 (15 - k.val)).gt := rd1_eq _ _ _ 1 _ hg
  have eo1 : rd1 arg2 X_arg2 k 1 = M (outF y (lgOf (i 0)) 1 (15 - k.val)) := rd1_rows _ _ _ 1 _ ho
  have eR1 : rs1 arg3 X_arg3 k = M5 (stateF y (lgOf (i 0)) 1 (15 - k.val)) := rs1_eq _ _ _ _ hR
  have ec0 : rt1 arg8 X_arg8 k = M (y.chk 0 (15 - k.val)).c := rt1_eq _ _ _ _ hc
  have es0 : rt1 arg9 X_arg9 k = M (y.chk 0 (15 - k.val)).s := rt1_eq _ _ _ _ hs
  have ec1 : rt1 arg8 X_arg8 k = M (y.chk 1 (15 - k.val)).c := rt1_eq _ _ _ _ hc
  have es1 : rt1 arg9 X_arg9 k = M (y.chk 1 (15 - k.val)).s := rt1_eq _ _ _ _ hs
  have ew0 : v32 = W (y.chk 0 (15 - k.val)).g := hw
  have ew1 : v32 = W (y.chk 1 (15 - k.val)).g := hw
  refine ⟨?_, ?_, ?_, ?_, ?_, ?_, ?_, ?_⟩
  · rw [ew0, ec0, es0, ek0, ev0, egt0, edm0, eo0, eR0]; exact dq0_eq i (y.chk 0 (15 - k.val)) _ _
  · rw [ew0, ec0, es0, eq0, ev0, egt0, edm0, eo0]; exact dk0_eq i (y.chk 0 (15 - k.val)) _ _
  · rw [ew0, ec0, es0, eq0, ek0, egt0, edm0, eo0]; exact dv0_eq i (y.chk 0 (15 - k.val)) _ _
  · rw [ew0, egt0, edm0, eo0]; exact ga0_eq (y.chk 0 (15 - k.val)) _
  · rw [ew1, ec1, es1, ek1, ev1, egt1, edm1, eo1, eR1]; exact dq1_eq i (y.chk 1 (15 - k.val)) _ _
  · rw [ew1, ec1, es1, eq1, ev1, egt1, edm1, eo1]; exact dk1_eq i (y.chk 1 (15 - k.val)) _ _
  · rw [ew1, ec1, es1, eq1, ek1, egt1, edm1, eo1]; exact dv1_eq i (y.chk 1 (15 - k.val)) _ _
  · rw [ew1, egt1, edm1, eo1]; exact ga1_eq (y.chk 1 (15 - k.val)) _

include hm ho hR hq hk hv hg hc hs hw in
/-- Before trip `n` the carried values are the gradients after the last `n` chunks, and every block stored so far is its
    part of the arrays of gradients. -/
theorem st1_real (n : ℕ) (hn : n ≤ 16) :
    (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) n).1 = carry y (lgOf (i 0)) n
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) n).2.1, ∀ x, p.2 x = B (rows (dqF y (lgOf (i 0)))) (p.1.emb x))
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) n).2.2.1, ∀ x, p.2 x = B (rows (dkF y (lgOf (i 0)))) (p.1.emb x))
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) n).2.2.2.1, ∀ x, p.2 x = B (rows (dvF y (lgOf (i 0)))) (p.1.emb x))
    ∧ (∀ p ∈ (st_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) n).2.2.2.2, ∀ x, p.2 x = B (rows (dgF y (lgOf (i 0)))) (p.1.emb x)) := by
  induction n with
  | zero =>
    refine ⟨?_, ?_, ?_, ?_, ?_⟩
    · show (k1_pay61 (F := Ideal), k1_pay62 (F := Ideal), k1_pay61 (F := Ideal), k1_pay62 (F := Ideal)) = _
      rw [k1_pay61_eq, k1_pay62_eq]; rfl
    all_goals
      intro p hp
      exact absurd hp List.not_mem_nil
  | succ n ih =>
    obtain ⟨h1, h2, h3, h4, h5⟩ := ih (by omega)
    have hn' : n < k1_t1_loop.trips := hn
    have hsucc := st_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 (k1_pay61, k1_pay62, k1_pay61, k1_pay62) ⟨n, hn'⟩
    dsimp only at hsucc
    have hR' := trip1_carry 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 y hm ho hR hq hk hv hg hc hs hw ⟨n, hn'⟩
    obtain ⟨a0, b0, c0, d0, a1, b1, c1, d1⟩ := trip1_store i arg1 arg2 arg3 arg4 arg5 arg6 arg7 arg8 arg9 v32 X_arg1 X_arg2 X_arg3 X_arg4 X_arg5 X_arg6 X_arg7 X_arg8 X_arg9 y hm ho hR hq hk hv hg hc hs hw ⟨n, hn'⟩
    have hL := trip1_L 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v32 X_arg1 X_arg2 X_arg3 X_arg4 X_arg5 X_arg6 X_arg7 X_arg8 X_arg9 ⟨n, hn'⟩ (carry y (lgOf (i 0)) n)
    rw [hsucc, h1]
    refine ⟨hR', ?_, ?_, ?_, ?_⟩
    · intro p hp
      dsimp only at hp
      rcases List.mem_append.1 hp with hp | hp
      · rcases List.mem_cons.1 (Eq.mp (congrArg (p ∈ ·) (congrArg (·.1) hL)) hp) with rfl | hp
        · exact piece_B (dqF y (lgOf (i 0))) _ (k1_off2_inb ⟨n, hn'⟩ 1) 1 (15 - n) (by omega) (off2_at ⟨n, hn'⟩ 1) _ a1
        · obtain rfl := List.mem_singleton.1 hp
          exact piece_B (dqF y (lgOf (i 0))) _ (k1_off2_inb ⟨n, hn'⟩ 0) 0 (15 - n) (by omega) (off2_at ⟨n, hn'⟩ 0) _ a0
      · exact h2 p hp
    · intro p hp
      dsimp only at hp
      rcases List.mem_append.1 hp with hp | hp
      · rcases List.mem_cons.1 (Eq.mp (congrArg (p ∈ ·) (congrArg (·.2.1) hL)) hp) with rfl | hp
        · exact piece_B (dkF y (lgOf (i 0))) _ (k1_off2_inb ⟨n, hn'⟩ 1) 1 (15 - n) (by omega) (off2_at ⟨n, hn'⟩ 1) _ b1
        · obtain rfl := List.mem_singleton.1 hp
          exact piece_B (dkF y (lgOf (i 0))) _ (k1_off2_inb ⟨n, hn'⟩ 0) 0 (15 - n) (by omega) (off2_at ⟨n, hn'⟩ 0) _ b0
      · exact h3 p hp
    · intro p hp
      dsimp only at hp
      rcases List.mem_append.1 hp with hp | hp
      · rcases List.mem_cons.1 (Eq.mp (congrArg (p ∈ ·) (congrArg (·.2.2.1) hL)) hp) with rfl | hp
        · exact piece_B (dvF y (lgOf (i 0))) _ (k1_off2_inb ⟨n, hn'⟩ 1) 1 (15 - n) (by omega) (off2_at ⟨n, hn'⟩ 1) _ c1
        · obtain rfl := List.mem_singleton.1 hp
          exact piece_B (dvF y (lgOf (i 0))) _ (k1_off2_inb ⟨n, hn'⟩ 0) 0 (15 - n) (by omega) (off2_at ⟨n, hn'⟩ 0) _ c0
      · exact h4 p hp
    · intro p hp
      dsimp only at hp
      rcases List.mem_append.1 hp with hp | hp
      · rcases List.mem_cons.1 (Eq.mp (congrArg (p ∈ ·) (congrArg (·.2.2.2) hL)) hp) with rfl | hp
        · exact piece_B (dgF y (lgOf (i 0))) _ (k1_off2_inb ⟨n, hn'⟩ 1) 1 (15 - n) (by omega) (off2_at ⟨n, hn'⟩ 1) _ d1
        · obtain rfl := List.mem_singleton.1 hp
          exact piece_B (dgF y (lgOf (i 0))) _ (k1_off2_inb ⟨n, hn'⟩ 0) 0 (15 - n) (by omega) (off2_at ⟨n, hn'⟩ 0) _ d0
      · exact h5 p hp

end

end Ret

end
-- ==== Proof.KBlk1.lean ====
/-
  What one grid step of the backward launch leaves in its five output blocks: the head's gradients, from input blocks
  that hold real arrays.
-/
module

public import proofs.«01_k».proof.Proof.KTrip1
public import proofs.«01_k».proof.Proof.KBlk

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- The gradient of the head's gain. -/
def dgnF (y : Hd) (lg : ℝ) (d : Fin 128) : ℝ := gsum (y.chk 0) lg d 16 + gsum (y.chk 1) lg d 16

section
variable (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S2x1x16x128x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S1x128 .f32) (harg15 : arg15.IsWhole)    (x0 : Vec Ideal S4096x128 .f32) (x1 : Vec Ideal S4096x128 .f32) (x2 : Vec Ideal S2x1x16x128x128 .f32) (x3 : Vec Ideal S4096x128 .f32) (x4 : Vec Ideal S4096x128 .f32) (x5 : Vec Ideal S4096x128 .f32) (x6 : Vec Ideal S4096x128 .f32) (x7 : Vec Ideal S2048x128 .f32) (x8 : Vec Ideal S2048x128 .f32) (x9 : Vec Ideal S1x128 .f32)
  (y : Hd) (hm : x0 = B y.dm) (ho : x1 = B (rows (outF y (lgOf (i 0))))) (hR : x2 = St (stateF y (lgOf (i 0))))
  (hq : x3 = B y.q) (hk : x4 = B y.k) (hv : x5 = B y.v) (hg : x6 = B y.gt) (hc : x7 = T y.c) (hs : x8 = T y.s)
  (hw : x9 = W y.g)

/-- The stores of the step are those of the sixteen trips. -/
theorem run1_10 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1
    = (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).2.1 := by
  delta kernelRun1_A
  rfl

theorem run1_11 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.1
    = (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).2.2.1 := by
  delta kernelRun1_A
  rfl

theorem run1_12 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.1
    = (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).2.2.2.1 := by
  delta kernelRun1_A
  rfl

theorem run1_13 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.2.1
    = (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).2.2.2.2 := by
  delta kernelRun1_A
  rfl

/-- The gain's gradients of the two batch rows are added and stored once. -/
theorem run1_14 : (kernelRun1_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).2.2.2.2.1
    = [⟨Rect.unit (s := S1x128) ![0, 0] S1x128.size inb_S1x128_S1x128_0_0,
        k1_pay1 (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).1.2.1 (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) (k1_pay61, k1_pay62, k1_pay61, k1_pay62) 16).1.2.2.2 (k1_pay66 (F := Ideal))⟩] := by
  delta kernelRun1_A
  rfl

include hm ho hR hq hk hv hg hc hs hw

/-- The block of the gradients of the queries. -/
theorem blk1_10 : out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = B (rows (dqF y (lgOf (i 0)))) := by
  obtain ⟨-, h10, h11, h12, h13⟩ := st1_real Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) y (harg1.read_unread _ |>.trans hm) (harg2.read_unread _ |>.trans ho) (harg3.read_unread _ |>.trans hR) (harg4.read_unread _ |>.trans hq) (harg5.read_unread _ |>.trans hk) (harg6.read_unread _ |>.trans hv) (harg7.read_unread _ |>.trans hg) (harg8.read_unread _ |>.trans hc) (harg9.read_unread _ |>.trans hs) (ld_W arg10 harg10 x9 y.g hw) 16 le_rfl
  funext z
  unfold out1_A_10
  refine View.read_writes_apply_of_pieces _ _ _ _ ?_ z (cover1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 z)
  rw [run1_10]
  exact h10

/-- The block of the gradients of the keys. -/
theorem blk1_11 : out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = B (rows (dkF y (lgOf (i 0)))) := by
  obtain ⟨-, h10, h11, h12, h13⟩ := st1_real Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) y (harg1.read_unread _ |>.trans hm) (harg2.read_unread _ |>.trans ho) (harg3.read_unread _ |>.trans hR) (harg4.read_unread _ |>.trans hq) (harg5.read_unread _ |>.trans hk) (harg6.read_unread _ |>.trans hv) (harg7.read_unread _ |>.trans hg) (harg8.read_unread _ |>.trans hc) (harg9.read_unread _ |>.trans hs) (ld_W arg10 harg10 x9 y.g hw) 16 le_rfl
  funext z
  unfold out1_A_11
  refine View.read_writes_apply_of_pieces _ _ _ _ ?_ z (cover1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 z)
  rw [run1_11]
  exact h11

/-- The block of the gradients of the values. -/
theorem blk1_12 : out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = B (rows (dvF y (lgOf (i 0)))) := by
  obtain ⟨-, h10, h11, h12, h13⟩ := st1_real Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) y (harg1.read_unread _ |>.trans hm) (harg2.read_unread _ |>.trans ho) (harg3.read_unread _ |>.trans hR) (harg4.read_unread _ |>.trans hq) (harg5.read_unread _ |>.trans hk) (harg6.read_unread _ |>.trans hv) (harg7.read_unread _ |>.trans hg) (harg8.read_unread _ |>.trans hc) (harg9.read_unread _ |>.trans hs) (ld_W arg10 harg10 x9 y.g hw) 16 le_rfl
  funext z
  unfold out1_A_12
  refine View.read_writes_apply_of_pieces _ _ _ _ ?_ z (cover1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 z)
  rw [run1_12]
  exact h12

/-- The block of the gradients of the gate. -/
theorem blk1_13 : out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = B (rows (dgF y (lgOf (i 0)))) := by
  obtain ⟨-, h10, h11, h12, h13⟩ := st1_real Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) y (harg1.read_unread _ |>.trans hm) (harg2.read_unread _ |>.trans ho) (harg3.read_unread _ |>.trans hR) (harg4.read_unread _ |>.trans hq) (harg5.read_unread _ |>.trans hk) (harg6.read_unread _ |>.trans hv) (harg7.read_unread _ |>.trans hg) (harg8.read_unread _ |>.trans hc) (harg9.read_unread _ |>.trans hs) (ld_W arg10 harg10 x9 y.g hw) 16 le_rfl
  funext z
  unfold out1_A_13
  refine View.read_writes_apply_of_pieces _ _ _ _ ?_ z (cover1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 z)
  rw [run1_13]
  exact h13

/-- The row of the gradient of the gain. -/
theorem blk1_14 : out1_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = W (dgnF y (lgOf (i 0))) := by
  obtain ⟨hc', -, -, -, -⟩ := st1_real Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (View.readAt (Elt Ideal) arg10.view (Rect.unit (s := S1x128) ![0, 0] ![1, 128] inb_S1x128_S1x128_0_0).toLoadRect (harg10.unread x9)) (harg1.unread x0) (harg2.unread x1) (harg3.unread x2) (harg4.unread x3) (harg5.unread x4) (harg6.unread x5) (harg7.unread x6) (harg8.unread x7) (harg9.unread x8) y (harg1.read_unread _ |>.trans hm) (harg2.read_unread _ |>.trans ho) (harg3.read_unread _ |>.trans hR) (harg4.read_unread _ |>.trans hq) (harg5.read_unread _ |>.trans hk) (harg6.read_unread _ |>.trans hv) (harg7.read_unread _ |>.trans hg) (harg8.read_unread _ |>.trans hc) (harg9.read_unread _ |>.trans hs) (ld_W arg10 harg10 x9 y.g hw) 16 le_rfl
  funext z
  unfold out1_A_14
  refine View.read_writes_apply_of_pieces _ _ _ _ ?_ z (cover1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 z)
  rw [run1_14, hc']
  intro p hp z
  obtain rfl := List.mem_singleton.1 hp
  refine (congrFun (k1_pay1_eq (fun d => gsum (y.chk 0) (lgOf (i 0)) d 16) (fun d => gsum (y.chk 1) (lgOf (i 0)) d 16)) z).trans ?_
  show ((dgnF y (lgOf (i 0)) (z 1) : ℝ) : EReal) = ((dgnF y (lgOf (i 0)) _ : ℝ) : EReal)
  refine congrArg (fun d => ((dgnF y (lgOf (i 0)) d : ℝ) : EReal)) (Fin.ext ?_)
  show (z 1).val = 0 + 1 * (z 1).val
  omega

end

end Ret

end
-- ==== Proof.KArr1.lean ====
/-
  The arrays around the backward launch: its input blocks cut from real arrays are the heads', and its result arrays
  hold every head's gradients side by side.
-/
module

public import proofs.«01_k».proof.Proof.KArr
public import proofs.«01_k».proof.Proof.KBlk1

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- Four heads' rows side by side. -/
def row (f : Fin 4 → Fin 128 → ℝ) : S1x512.Idx → EReal := fun j =>
  ((f ⟨(j 1).val / 128, by have := (j 1).isLt; change _ < 512 at this; omega⟩ ⟨(j 1).val % 128, Nat.mod_lt _ (by decide)⟩ : ℝ) : EReal)

theorem row_apply (f : Fin 4 → Fin 128 → ℝ) (j : S1x512.Idx) (h : Fin 4) (d : Fin 128)
    (h1 : (j 1).val = h.val * 128 + d.val) : row f j = ((f h d : ℝ) : EReal) := by
  unfold row
  have hd := d.isLt
  have e1 : (⟨(j 1).val / 128, by have := (j 1).isLt; change _ < 512 at this; omega⟩ : Fin 4) = h := Fin.ext (by show (j 1).val / 128 = h.val; omega)
  have e2 : (⟨(j 1).val % 128, Nat.mod_lt _ (by decide)⟩ : Fin 128) = d := Fin.ext (by show (j 1).val % 128 = d.val; omega)
  rw [e1, e2]

section
variable (V : (c : Dev nD) → (b : Ref sig .tc) → Buf (Elt Ideal) ((c : Thread nD τ).loc b)) (c : Dev nD)
  (p dm : ℕ → ℕ → ℝ) (ct st : ℕ → Fin 128 → ℝ) (g : ℕ → ℝ)
  (hm : V c main_arg0 = fun j : S4096x1024.Idx => ((dm (j 0).val (j 1).val : ℝ) : EReal))
  (hp : V c main_arg1 = fun j : S4096x3072.Idx => ((p (j 0).val (j 1).val : ℝ) : EReal))
  (hct : V c main_v14 = T ct) (hst : V c main_v16 = T st)
  (hg : V c main_arg2 = fun j : S1x512.Idx => ((g (j 1).val : ℝ) : EReal))
  (ho : V c main_v17_0 = cols fun h => rows (outF (hd p dm ct st g h.val) (lgOf h)))
  (hR : V c main_v17_1 = sts fun h => stateF (hd p dm ct st g h.val) (lgOf h))

theorem idx1_0 : ∀ t : Fin cfg1.N, win1_0.index t = ![0, (grid1.coords t 0).val] := by decide +kernel
theorem idx1_1 : ∀ t : Fin cfg1.N, win1_1.index t = ![0, (grid1.coords t 0).val] := by decide +kernel
theorem idx1_2 : ∀ t : Fin cfg1.N, win1_2.index t = ![0, (grid1.coords t 0).val, 0, 0, 0] := by decide +kernel
theorem idx1_3 : ∀ t : Fin cfg1.N, win1_3.index t = ![0, (grid1.coords t 0).val] := by decide +kernel
theorem idx1_4 : ∀ t : Fin cfg1.N, win1_4.index t = ![0, 4 + (grid1.coords t 0).val] := by decide +kernel
theorem idx1_5 : ∀ t : Fin cfg1.N, win1_5.index t = ![0, 8 + (grid1.coords t 0).val] := by decide +kernel
theorem idx1_6 : ∀ t : Fin cfg1.N, win1_6.index t = ![0, 12 + (grid1.coords t 0).val] := by decide +kernel
theorem idx1_7 : ∀ t : Fin cfg1.N, win1_7.index t = ![0, 0] := by decide +kernel
theorem idx1_8 : ∀ t : Fin cfg1.N, win1_8.index t = ![0, 0] := by decide +kernel
theorem idx1_9 : ∀ t : Fin cfg1.N, win1_9.index t = ![0, (grid1.coords t 0).val] := by decide +kernel
theorem idx1_10 : ∀ t : Fin cfg1.N, win1_10.index t = ![0, (grid1.coords t 0).val] := by decide +kernel
theorem idx1_11 : ∀ t : Fin cfg1.N, win1_11.index t = ![0, (grid1.coords t 0).val] := by decide +kernel
theorem idx1_12 : ∀ t : Fin cfg1.N, win1_12.index t = ![0, (grid1.coords t 0).val] := by decide +kernel
theorem idx1_13 : ∀ t : Fin cfg1.N, win1_13.index t = ![0, (grid1.coords t 0).val] := by decide +kernel
theorem idx1_14 : ∀ t : Fin cfg1.N, win1_14.index t = ![0, (grid1.coords t 0).val] := by decide +kernel

/-- The head a grid step works on. -/
abbrev head1 (t : Fin cfg1.N) : Hd := hd p dm ct st g (grid1.coords t 0).val

include hm in
theorem in1_0 (t : Fin cfg1.N) : iblk1 V c 0 t = B (head1 p dm ct st g t).dm := by
  funext y
  blk_simp [iblk1, idx1_0]
  have e0 : (((win1_0.blk t).view.emb y) 0).val = (y 0).val := by blk_simp [idx1_0]; try simp
  have e1 : (((win1_0.blk t).view.emb y) 1).val = ((grid1.coords t 0).val) * 128 + (y 1).val := by blk_simp [idx1_0]; try simp
  rw [hm]
  show ((dm _ _ : ℝ) : EReal) = ((dm (y 0).val (128 * ((grid1.coords t 0).val) + (y 1).val) : ℝ) : EReal)
  rw [e0, e1, Nat.mul_comm]

include hp in
theorem in1_3 (t : Fin cfg1.N) : iblk1 V c 3 t = B (head1 p dm ct st g t).q := by
  funext y
  blk_simp [iblk1, idx1_3]
  have e0 : (((win1_3.blk t).view.emb y) 0).val = (y 0).val := by blk_simp [idx1_3]; try simp
  have e1 : (((win1_3.blk t).view.emb y) 1).val = ((grid1.coords t 0).val) * 128 + (y 1).val := by blk_simp [idx1_3]; try simp
  rw [hp]
  show ((p _ _ : ℝ) : EReal) = ((p (y 0).val (128 * ((grid1.coords t 0).val) + (y 1).val) : ℝ) : EReal)
  rw [e0, e1, Nat.mul_comm]

include hp in
theorem in1_4 (t : Fin cfg1.N) : iblk1 V c 4 t = B (head1 p dm ct st g t).k := by
  funext y
  blk_simp [iblk1, idx1_4]
  have e0 : (((win1_4.blk t).view.emb y) 0).val = (y 0).val := by blk_simp [idx1_4]; try simp
  have e1 : (((win1_4.blk t).view.emb y) 1).val = (4 + (grid1.coords t 0).val) * 128 + (y 1).val := by blk_simp [idx1_4]; try simp
  rw [hp]
  show ((p _ _ : ℝ) : EReal) = ((p (y 0).val (128 * (4 + (grid1.coords t 0).val) + (y 1).val) : ℝ) : EReal)
  rw [e0, e1, Nat.mul_comm]

include hp in
theorem in1_5 (t : Fin cfg1.N) : iblk1 V c 5 t = B (head1 p dm ct st g t).v := by
  funext y
  blk_simp [iblk1, idx1_5]
  have e0 : (((win1_5.blk t).view.emb y) 0).val = (y 0).val := by blk_simp [idx1_5]; try simp
  have e1 : (((win1_5.blk t).view.emb y) 1).val = (8 + (grid1.coords t 0).val) * 128 + (y 1).val := by blk_simp [idx1_5]; try simp
  rw [hp]
  show ((p _ _ : ℝ) : EReal) = ((p (y 0).val (128 * (8 + (grid1.coords t 0).val) + (y 1).val) : ℝ) : EReal)
  rw [e0, e1, Nat.mul_comm]

include hp in
theorem in1_6 (t : Fin cfg1.N) : iblk1 V c 6 t = B (head1 p dm ct st g t).gt := by
  funext y
  blk_simp [iblk1, idx1_6]
  have e0 : (((win1_6.blk t).view.emb y) 0).val = (y 0).val := by blk_simp [idx1_6]; try simp
  have e1 : (((win1_6.blk t).view.emb y) 1).val = (12 + (grid1.coords t 0).val) * 128 + (y 1).val := by blk_simp [idx1_6]; try simp
  rw [hp]
  show ((p _ _ : ℝ) : EReal) = ((p (y 0).val (128 * (12 + (grid1.coords t 0).val) + (y 1).val) : ℝ) : EReal)
  rw [e0, e1, Nat.mul_comm]

include ho in
theorem in1_1 (t : Fin cfg1.N) : iblk1 V c 1 t = B (rows (outF (head1 p dm ct st g t) (lgOf (grid1.coords t 0)))) := by
  funext y
  blk_simp [iblk1, idx1_1]
  have e0 : (((win1_1.blk t).view.emb y) 0).val = (y 0).val := by blk_simp [idx1_1]; try simp
  have e1 : (((win1_1.blk t).view.emb y) 1).val = ((grid1.coords t 0).val) * 128 + (y 1).val := by blk_simp [idx1_1]; try simp
  rw [ho]
  exact cols_apply _ _ (grid1.coords t 0) (y 0).val (y 1) e0 e1

include hct in
theorem in1_7 (t : Fin cfg1.N) : iblk1 V c 7 t = T ct := by
  funext y
  blk_simp [iblk1, idx1_7]
  have e0 : (((win1_7.blk t).view.emb y) 0).val = (y 0).val := by blk_simp [idx1_7]; try simp
  have e1 : (((win1_7.blk t).view.emb y) 1).val = (y 1).val := by blk_simp [idx1_7]; try simp
  rw [hct]
  show ((ct _ _ : ℝ) : EReal) = ((ct (y 0).val (y 1) : ℝ) : EReal)
  rw [e0, show ((win1_7.blk t).view.emb y) 1 = y 1 from Fin.ext e1]

include hst in
theorem in1_8 (t : Fin cfg1.N) : iblk1 V c 8 t = T st := by
  funext y
  blk_simp [iblk1, idx1_8]
  have e0 : (((win1_8.blk t).view.emb y) 0).val = (y 0).val := by blk_simp [idx1_8]; try simp
  have e1 : (((win1_8.blk t).view.emb y) 1).val = (y 1).val := by blk_simp [idx1_8]; try simp
  rw [hst]
  show ((st _ _ : ℝ) : EReal) = ((st (y 0).val (y 1) : ℝ) : EReal)
  rw [e0, show ((win1_8.blk t).view.emb y) 1 = y 1 from Fin.ext e1]

include hg in
theorem in1_9 (t : Fin cfg1.N) : iblk1 V c 9 t = W (head1 p dm ct st g t).g := by
  funext y
  blk_simp [iblk1, idx1_9]
  have e0 : (((win1_9.blk t).view.emb y) 0).val = (y 0).val := by blk_simp [idx1_9]; try simp
  have e1 : (((win1_9.blk t).view.emb y) 1).val = ((grid1.coords t 0).val) * 128 + (y 1).val := by blk_simp [idx1_9]; try simp
  rw [hg]
  show ((g _ : ℝ) : EReal) = ((g (128 * (grid1.coords t 0).val + (y 1).val) : ℝ) : EReal)
  rw [e1, Nat.mul_comm]

include hR in
theorem in1_2 (t : Fin cfg1.N) : iblk1 V c 2 t = St (stateF (head1 p dm ct st g t) (lgOf (grid1.coords t 0))) := by
  funext y
  blk_simp [iblk1, idx1_2]
  have e0 : (((win1_2.blk t).view.emb y) 0).val = (y 0).val := by blk_simp [idx1_2]; try simp
  have e1 : (((win1_2.blk t).view.emb y) 1).val = (grid1.coords t 0).val := by
    have h1 : (y 1).val < 1 := (y 1).isLt
    blk_simp [idx1_2]
  have e2 : (((win1_2.blk t).view.emb y) 2).val = (y 2).val := by blk_simp [idx1_2]; try simp
  have e3 : (((win1_2.blk t).view.emb y) 3).val = (y 3).val := by blk_simp [idx1_2]; try simp
  have e4 : (((win1_2.blk t).view.emb y) 4).val = (y 4).val := by blk_simp [idx1_2]; try simp
  have f1 : ((win1_2.blk t).view.emb y) 1 = grid1.coords t 0 := Fin.ext e1
  have f3 : ((win1_2.blk t).view.emb y) 3 = y 3 := Fin.ext e3
  have f4 : ((win1_2.blk t).view.emb y) 4 = y 4 := Fin.ext e4
  rw [hR]
  show ((stateF (hd p dm ct st g (((win1_2.blk t).view.emb y) 1).val) (lgOf (((win1_2.blk t).view.emb y) 1)) _ _ _ _ : ℝ) : EReal) = _
  rw [e0, e2, f1, f3, f4]
  rfl

include hm hp hct hst hg ho hR in
/-- The array of the gradients of the queries after the launch. -/
theorem arr1_10 : (dat1 V c).arrAt 10 cfg1.N = cols fun h => rows (dqF (hd p dm ct st g h.val) (lgOf h)) := by
  refine (dat1 V c).arrAt_eq_of_covers 10 _ (by decide +kernel) fun t _ y => ?_
  blk_simp
  rw [after1_10]
  unfold outsAt1
  dsimp only
  rw [blk1_10 (y := head1 p dm ct st g t) (hm := in1_0 V c p dm ct st g hm t) (ho := in1_1 V c p dm ct st g ho t) (hR := in1_2 V c p dm ct st g hR t)
    (hq := in1_3 V c p dm ct st g hp t) (hk := in1_4 V c p dm ct st g hp t) (hv := in1_5 V c p dm ct st g hp t) (hg := in1_6 V c p dm ct st g hp t)
    (hc := in1_7 V c ct hct t) (hs := in1_8 V c st hst t) (hw := in1_9 V c p dm ct st g hg t)]
  refine Eq.symm (cols_apply _ _ (grid1.coords t 0) (y 0).val (y 1) ?_ ?_)
  · blk_simp [idx1_10]; try simp
  · blk_simp [idx1_10]; try simp

include hm hp hct hst hg ho hR in
/-- The array of the gradients of the keys after the launch. -/
theorem arr1_11 : (dat1 V c).arrAt 11 cfg1.N = cols fun h => rows (dkF (hd p dm ct st g h.val) (lgOf h)) := by
  refine (dat1 V c).arrAt_eq_of_covers 11 _ (by decide +kernel) fun t _ y => ?_
  blk_simp
  rw [after1_11]
  unfold outsAt1
  dsimp only
  rw [blk1_11 (y := head1 p dm ct st g t) (hm := in1_0 V c p dm ct st g hm t) (ho := in1_1 V c p dm ct st g ho t) (hR := in1_2 V c p dm ct st g hR t)
    (hq := in1_3 V c p dm ct st g hp t) (hk := in1_4 V c p dm ct st g hp t) (hv := in1_5 V c p dm ct st g hp t) (hg := in1_6 V c p dm ct st g hp t)
    (hc := in1_7 V c ct hct t) (hs := in1_8 V c st hst t) (hw := in1_9 V c p dm ct st g hg t)]
  refine Eq.symm (cols_apply _ _ (grid1.coords t 0) (y 0).val (y 1) ?_ ?_)
  · blk_simp [idx1_11]; try simp
  · blk_simp [idx1_11]; try simp

include hm hp hct hst hg ho hR in
/-- The array of the gradients of the values after the launch. -/
theorem arr1_12 : (dat1 V c).arrAt 12 cfg1.N = cols fun h => rows (dvF (hd p dm ct st g h.val) (lgOf h)) := by
  refine (dat1 V c).arrAt_eq_of_covers 12 _ (by decide +kernel) fun t _ y => ?_
  blk_simp
  rw [after1_12]
  unfold outsAt1
  dsimp only
  rw [blk1_12 (y := head1 p dm ct st g t) (hm := in1_0 V c p dm ct st g hm t) (ho := in1_1 V c p dm ct st g ho t) (hR := in1_2 V c p dm ct st g hR t)
    (hq := in1_3 V c p dm ct st g hp t) (hk := in1_4 V c p dm ct st g hp t) (hv := in1_5 V c p dm ct st g hp t) (hg := in1_6 V c p dm ct st g hp t)
    (hc := in1_7 V c ct hct t) (hs := in1_8 V c st hst t) (hw := in1_9 V c p dm ct st g hg t)]
  refine Eq.symm (cols_apply _ _ (grid1.coords t 0) (y 0).val (y 1) ?_ ?_)
  · blk_simp [idx1_12]; try simp
  · blk_simp [idx1_12]; try simp

include hm hp hct hst hg ho hR in
/-- The array of the gradients of the gate after the launch. -/
theorem arr1_13 : (dat1 V c).arrAt 13 cfg1.N = cols fun h => rows (dgF (hd p dm ct st g h.val) (lgOf h)) := by
  refine (dat1 V c).arrAt_eq_of_covers 13 _ (by decide +kernel) fun t _ y => ?_
  blk_simp
  rw [after1_13]
  unfold outsAt1
  dsimp only
  rw [blk1_13 (y := head1 p dm ct st g t) (hm := in1_0 V c p dm ct st g hm t) (ho := in1_1 V c p dm ct st g ho t) (hR := in1_2 V c p dm ct st g hR t)
    (hq := in1_3 V c p dm ct st g hp t) (hk := in1_4 V c p dm ct st g hp t) (hv := in1_5 V c p dm ct st g hp t) (hg := in1_6 V c p dm ct st g hp t)
    (hc := in1_7 V c ct hct t) (hs := in1_8 V c st hst t) (hw := in1_9 V c p dm ct st g hg t)]
  refine Eq.symm (cols_apply _ _ (grid1.coords t 0) (y 0).val (y 1) ?_ ?_)
  · blk_simp [idx1_13]; try simp
  · blk_simp [idx1_13]; try simp

include hm hp hct hst hg ho hR in
/-- The array of the gradient of the gain after the launch. -/
theorem arr1_14 : (dat1 V c).arrAt 14 cfg1.N = row fun h => dgnF (hd p dm ct st g h.val) (lgOf h) := by
  refine (dat1 V c).arrAt_eq_of_covers 14 _ (by decide +kernel) fun t _ y => ?_
  blk_simp
  rw [after1_14]
  unfold outsAt1
  dsimp only
  rw [blk1_14 (y := head1 p dm ct st g t) (hm := in1_0 V c p dm ct st g hm t) (ho := in1_1 V c p dm ct st g ho t) (hR := in1_2 V c p dm ct st g hR t)
    (hq := in1_3 V c p dm ct st g hp t) (hk := in1_4 V c p dm ct st g hp t) (hv := in1_5 V c p dm ct st g hp t) (hg := in1_6 V c p dm ct st g hp t)
    (hc := in1_7 V c ct hct t) (hs := in1_8 V c st hst t) (hw := in1_9 V c p dm ct st g hg t)]
  refine Eq.symm (row_apply _ _ (grid1.coords t 0) (y 1) ?_)
  blk_simp [idx1_14]; try simp

end

end Ret

end
-- ==== Proof.RBase.lean ====
/-
  The reference's arrays: the real arrays the inputs hold, the rotary angles, the layouts the reference keeps its
  intermediate arrays in (rows by head and channel, chunks, states), and how a reshape moves from one to another.
-/
module

public import proofs.«01_k».proof.Proof.KArr
public import proofs.«01_k».proof.Proof.Gen.ReferenceIdeal.Read

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

/-! ## The inputs -/

/-- The real arrays the inputs hold: the projections, the incoming gradient, the gain. -/
structure Inp where
  (p dm : ℕ → ℕ → ℝ)
  (g : ℕ → ℝ)

/-- The rotary angle of a position at a channel pair. -/
def ang (pos d : ℕ) : ℝ := (pos : ℝ) * Real.rpow 10000 (-(d : ℝ) / 64)
/-- The doubled table of cosines. -/
def cosT (pos : ℕ) (d : Fin 128) : ℝ := Real.cos (ang pos (d.val % 64))
/-- The doubled table of sines, its first half negated. -/
def sinT (pos : ℕ) (d : Fin 128) : ℝ := if d.val < 64 then -Real.sin (ang pos d.val) else Real.sin (ang pos (d.val - 64))

namespace Inp
variable (z : Inp)
/-- Head `h` of the inputs. -/
def hd (h : ℕ) : Hd := Ret.hd z.p z.dm cosT sinT z.g h
/-- Chunk `n` of batch row `b` of head `h`. -/
def x (h : Fin 4) (b n : ℕ) : Chk := (z.hd h.val).chk b n
/-- The array of the incoming gradient. -/
def A0 : (⟨S4096x1024, .f32⟩ : BufTy).Contents (Elt Ideal) := fun j : S4096x1024.Idx => ((z.dm (j 0).val (j 1).val : ℝ) : EReal)
/-- The array of the projections. -/
def A1 : (⟨S4096x3072, .f32⟩ : BufTy).Contents (Elt Ideal) := fun j : S4096x3072.Idx => ((z.p (j 0).val (j 1).val : ℝ) : EReal)
/-- The array of the gain. -/
def A2 : (⟨S1x512, .f32⟩ : BufTy).Contents (Elt Ideal) := fun j : S1x512.Idx => ((z.g (j 1).val : ℝ) : EReal)
end Inp

/-! ## Operations on real entries -/

section
variable {φ : FTy}
theorem fmul (a b : ℝ) : FloatOps.mulf (F := Ideal) (φ := φ) ((a : ℝ) : EReal) ((b : ℝ) : EReal) = ((a * b : ℝ) : EReal) := (EReal.coe_mul a b).symm
theorem fadd (a b : ℝ) : FloatOps.addf (F := Ideal) (φ := φ) ((a : ℝ) : EReal) ((b : ℝ) : EReal) = ((a + b : ℝ) : EReal) := (EReal.coe_add a b).symm
theorem fsub (a b : ℝ) : FloatOps.subf (F := Ideal) (φ := φ) ((a : ℝ) : EReal) ((b : ℝ) : EReal) = ((a - b : ℝ) : EReal) := (EReal.coe_sub a b).symm
theorem fneg (a : ℝ) : FloatOps.hostNegf (F := Ideal) (φ := φ) ((a : ℝ) : EReal) = ((-a : ℝ) : EReal) := (EReal.coe_neg a).symm
theorem fdiv (a b : ℝ) (hb : b ≠ 0) : FloatOps.hostDivf (F := Ideal) (φ := φ) ((a : ℝ) : EReal) ((b : ℝ) : EReal) = ((a / b : ℝ) : EReal) := div_coe a b hb
theorem fpow (a b : ℝ) : FloatOps.hostPowf (F := Ideal) (φ := φ) ((a : ℝ) : EReal) ((b : ℝ) : EReal) = ((Real.rpow a b : ℝ) : EReal) := rfl
theorem fmax (a b : ℝ) : FloatOps.maximumf (F := Ideal) (φ := φ) ((a : ℝ) : EReal) ((b : ℝ) : EReal) = ((max a b : ℝ) : EReal) := max_coe a b
theorem fexp (a : ℝ) : FloatOps.hostUnary (F := Ideal) (φ := φ) .exp ((a : ℝ) : EReal) = ((Real.exp a : ℝ) : EReal) := rfl
theorem fcos (a : ℝ) : FloatOps.hostUnary (F := Ideal) (φ := φ) .cos ((a : ℝ) : EReal) = ((Real.cos a : ℝ) : EReal) := rfl
theorem fsin (a : ℝ) : FloatOps.hostUnary (F := Ideal) (φ := φ) .sin ((a : ℝ) : EReal) = ((Real.sin a : ℝ) : EReal) := rfl
theorem frsqrt (a : ℝ) (ha : 0 < a) : FloatOps.hostUnary (F := Ideal) (φ := φ) .rsqrt ((a : ℝ) : EReal) = (((Real.sqrt a)⁻¹ : ℝ) : EReal) := rsqrt_coe a ha
theorem flog1p (a : ℝ) (ha : 0 < 1 + a) : FloatOps.hostUnary (F := Ideal) (φ := φ) .log1p ((a : ℝ) : EReal) = ((Real.log (1 + a) : ℝ) : EReal) := by
  show Ideal.log ((1 : EReal) + (a : EReal)) = _
  rw [show (1 : EReal) + (a : EReal) = ((1 + a : ℝ) : EReal) from (EReal.coe_add 1 a).symm]
  show (if (1 + a) ≤ 0 then (⊥ : EReal) else _) = _
  rw [if_neg (not_le.2 ha)]
end

theorem sum_mul_coe {ι : Type*} [Fintype ι] (f g : ι → ℝ) : (∑ k, ((f k : ℝ) : EReal) * ((g k : ℝ) : EReal)) = ((∑ k, f k * g k : ℝ) : EReal) := by
  rw [← sum_coe]; exact Finset.sum_congr rfl fun k _ => (EReal.coe_mul _ _).symm

theorem ofNat32_toInt (n : ℕ) (h : n < 2 ^ 31) : ((BitVec.ofNat 32 n).toInt : ℤ) = (n : ℤ) := by
  rw [BitVec.toInt_ofNat']
  exact Int.bmod_eq_of_le (by omega) (by omega)

theorem pos_coe (n : ℕ) (h : n < 2 ^ 31) : FloatOps.sitofp (F := Ideal) .f32 (BitVec.ofNat 32 n) = ((n : ℝ) : EReal) := by
  show ((((BitVec.ofNat 32 n).toInt : ℤ) : ℝ) : EReal) = _
  rw [ofNat32_toInt n h]; rfl

theorem word_64 : Ideal.ofBits .f32 0x42800000#32 = ((64 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num
theorem word_m5 : Ideal.ofBits .f32 0xC0A00000#32 = ((-5 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_mhalf : Ideal.ofBits .f32 0xBF000000#32 = ((-1/2 : ℝ) : EReal) := by
  simp [Ideal.ofBits, Ideal.ieee, -EReal.coe_mul]; norm_num

/-! ## Layouts -/

/-- A chunk-by-chunk family, per head. -/
abbrev Fam := Fin 4 → ℕ → ℕ → Mat

/-- Chunks: batch row, chunk, position, head, channel. -/
def V5 (f : Fam) : S2x16x128x4x128.Idx → EReal := fun i => ((f (i 3) (i 0).val (i 1).val (i 2) (i 4) : ℝ) : EReal)
/-- Rows: batch row, position, head, channel. -/
def V4 (f : Fam) : S2x2048x4x128.Idx → EReal := fun i => ((rows (f (i 2)) (2048 * (i 0).val + (i 1).val) (i 3) : ℝ) : EReal)
/-- One entry per row: batch row, position, head. -/
def V4s (f : Fin 4 → ℕ → ℕ → Fin 128 → ℝ) : S2x2048x4.Idx → EReal := fun i =>
  ((rows (fun b n j _ => f (i 2) b n j) (2048 * (i 0).val + (i 1).val) 0 : ℝ) : EReal)
/-- The same with a last axis of size one. -/
def V4c (f : Fin 4 → ℕ → ℕ → Fin 128 → ℝ) : S2x2048x4x1.Idx → EReal := fun i =>
  ((rows (fun b n j _ => f (i 2) b n j) (2048 * (i 0).val + (i 1).val) 0 : ℝ) : EReal)
/-- Rows with the heads side by side: batch row, position, column. -/
def V3 (f : Fam) : S2x2048x512.Idx → EReal := fun i =>
  ((rows (f ⟨(i 2).val / 128, by have := (i 2).isLt; change _ < 512 at this; omega⟩) (2048 * (i 0).val + (i 1).val)
    ⟨(i 2).val % 128, Nat.mod_lt _ (by decide)⟩ : ℝ) : EReal)
/-- All rows with the heads side by side: row, column. -/
def V2 (f : Fam) : S4096x512.Idx → EReal := cols fun h => rows (f h)
/-- Per chunk first: chunk, batch row, head. -/
def VN (f : Fam) : S16x2x4x128x128.Idx → EReal := fun i => ((f (i 2) (i 1).val (i 0).val (i 3) (i 4) : ℝ) : EReal)
/-- Batch row, head, chunk. -/
def VH (f : Fam) : S2x4x16x128x128.Idx → EReal := fun i => ((f (i 1) (i 0).val (i 2).val (i 3) (i 4) : ℝ) : EReal)
/-- Batch row, chunk, head. -/
def VB (f : Fam) : S2x16x4x128x128.Idx → EReal := fun i => ((f (i 2) (i 0).val (i 1).val (i 3) (i 4) : ℝ) : EReal)
/-- One matrix per batch row and head. -/
def VS (f : Fin 4 → ℕ → Mat) : S2x4x128x128.Idx → EReal := fun i => ((f (i 1) (i 0).val (i 2) (i 3) : ℝ) : EReal)

theorem rows_row (F : ℕ → Fin 128 → ℝ) (r : ℕ) (d : Fin 128) : rows (fun b n i d => F (2048 * b + 128 * n + i.val) d) r d = F r d := by
  show F _ d = F r d
  congr 1
  show 2048 * (r / 2048) + 128 * (r % 2048 / 128) + r % 128 = r
  omega

theorem rows_pos (F : ℕ → Fin 128 → ℝ) (r : ℕ) (d : Fin 128) : rows (fun _ n i d => F (128 * n + i.val) d) r d = F (r % 2048) d := by
  show F _ d = F _ d
  congr 1
  show 128 * (r % 2048 / 128) + r % 128 = r % 2048
  omega

theorem V4_of (f : Fam) (i : S2x2048x4x128.Idx) (h : Fin 4) (r : ℕ) (d : Fin 128) (h1 : 2048 * (i 0).val + (i 1).val = r)
    (h2 : (i 2).val = h.val) (h3 : (i 3).val = d.val) : V4 f i = ((rows (f h) r d : ℝ) : EReal) := by
  unfold V4
  rw [h1, show i 2 = h from Fin.ext h2, show i 3 = d from Fin.ext h3]

theorem V3_of (f : Fam) (i : S2x2048x512.Idx) (h : Fin 4) (r : ℕ) (d : Fin 128) (h1 : 2048 * (i 0).val + (i 1).val = r)
    (h2 : (i 2).val = 128 * h.val + d.val) : V3 f i = ((rows (f h) r d : ℝ) : EReal) := by
  unfold V3
  have hd := d.isLt
  have e1 : (⟨(i 2).val / 128, by have := (i 2).isLt; change _ < 512 at this; omega⟩ : Fin 4) = h := Fin.ext (by show (i 2).val / 128 = h.val; omega)
  have e2 : (⟨(i 2).val % 128, Nat.mod_lt _ (by decide)⟩ : Fin 128) = d := Fin.ext (by show (i 2).val % 128 = d.val; omega)
  rw [h1, e1, e2]

theorem V2_of (f : Fam) (i : S4096x512.Idx) (h : Fin 4) (r : ℕ) (d : Fin 128) (h1 : (i 0).val = r)
    (h2 : (i 1).val = 128 * h.val + d.val) : V2 f i = ((rows (f h) r d : ℝ) : EReal) :=
  cols_apply _ i h r d h1 (by omega)

theorem V5_of (f : Fam) (i : S2x16x128x4x128.Idx) (h : Fin 4) (b n : ℕ) (j d : Fin 128) (h0 : (i 0).val = b) (h1 : (i 1).val = n)
    (h2 : (i 2).val = j.val) (h3 : (i 3).val = h.val) (h4 : (i 4).val = d.val) : V5 f i = ((f h b n j d : ℝ) : EReal) := by
  unfold V5
  rw [h0, h1, show i 2 = j from Fin.ext h2, show i 3 = h from Fin.ext h3, show i 4 = d from Fin.ext h4]

/-- Rows cut into chunks. -/
theorem V4_chunk (f : Fam) (i : S2x16x128x4x128.Idx) : V4 f (idx_main_v94 i) = V5 f i := by
  have h0 : (i 0).val < 2 := (i 0).isLt; have h1 : (i 1).val < 16 := (i 1).isLt; have h2 : (i 2).val < 128 := (i 2).isLt
  have h3 : (i 3).val < 4 := (i 3).isLt; have h4 : (i 4).val < 128 := (i 4).isLt
  rw [V4_of f _ (i 3) (2048 * (i 0).val + 128 * (i 1).val + (i 2).val) (i 4) (by dsimp only [idx_main_v94]; omega) (by dsimp only [idx_main_v94]; omega) (by dsimp only [idx_main_v94]; omega),
    rows_chunk (f (i 3)) _ _ h1 (i 2) (i 4)]
  rfl

/-- Chunks joined to rows. -/
theorem V5_rows (f : Fam) (i : S2x2048x4x128.Idx) : V5 f (idx_main_v237 i) = V4 f i := by
  have h0 : (i 0).val < 2 := (i 0).isLt; have h1 : (i 1).val < 2048 := (i 1).isLt; have h2 : (i 2).val < 4 := (i 2).isLt
  have h3 : (i 3).val < 128 := (i 3).isLt
  rw [V5_of f _ (i 2) (i 0).val ((i 1).val / 128) ⟨(i 1).val % 128, Nat.mod_lt _ (by decide)⟩ (i 3) (by dsimp only [idx_main_v237]; omega) (by dsimp only [idx_main_v237]; omega)
    (by dsimp only [idx_main_v237]; omega) (by dsimp only [idx_main_v237]; omega) (by dsimp only [idx_main_v237]; omega)]
  unfold V4 rows
  have e1 : (2048 * (i 0).val + (i 1).val) / 2048 = (i 0).val := by omega
  have e2 : (2048 * (i 0).val + (i 1).val) % 2048 / 128 = (i 1).val / 128 := by omega
  have e3 : (⟨(2048 * (i 0).val + (i 1).val) % 128, Nat.mod_lt _ (by decide)⟩ : Fin 128) = ⟨(i 1).val % 128, Nat.mod_lt _ (by decide)⟩ :=
    Fin.ext (by show (2048 * (i 0).val + (i 1).val) % 128 = (i 1).val % 128; omega)
  rw [e1, e2, e3]

/-- Heads side by side, split. -/
theorem V2_heads (f : Fam) (i : S2x2048x4x128.Idx) : V2 f (idx_main_v7 i) = V4 f i := by
  have h0 : (i 0).val < 2 := (i 0).isLt; have h1 : (i 1).val < 2048 := (i 1).isLt; have h2 : (i 2).val < 4 := (i 2).isLt
  have h3 : (i 3).val < 128 := (i 3).isLt
  exact V2_of f _ (i 2) (2048 * (i 0).val + (i 1).val) (i 3) (by dsimp only [idx_main_v7]; omega) (by dsimp only [idx_main_v7]; omega)

/-- Heads put side by side. -/
theorem V4_cols (f : Fam) (i : S2x2048x512.Idx) : V4 f (idx_main_v261 i) = V3 f i := by
  have h0 : (i 0).val < 2 := (i 0).isLt; have h1 : (i 1).val < 2048 := (i 1).isLt; have h2 : (i 2).val < 512 := (i 2).isLt
  exact V4_of f _ ⟨(i 2).val / 128, by omega⟩ (2048 * (i 0).val + (i 1).val) ⟨(i 2).val % 128, by omega⟩
    (by dsimp only [idx_main_v261]; omega) (by dsimp only [idx_main_v261]; omega) (by dsimp only [idx_main_v261]; omega)

/-- Heads side by side, split. -/
theorem V3_heads (f : Fam) (i : S2x2048x4x128.Idx) : V3 f (idx_main_v282 i) = V4 f i := by
  have h0 : (i 0).val < 2 := (i 0).isLt; have h1 : (i 1).val < 2048 := (i 1).isLt; have h2 : (i 2).val < 4 := (i 2).isLt
  have h3 : (i 3).val < 128 := (i 3).isLt
  exact V3_of f _ (i 2) (2048 * (i 0).val + (i 1).val) (i 3) (by dsimp only [idx_main_v282]; omega) (by dsimp only [idx_main_v282]; omega)

/-- The two batch rows joined. -/
theorem V3_join (f : Fam) (i : S4096x512.Idx) : V3 f (idx_main_v268 i) = V2 f i := by
  have h0 : (i 0).val < 4096 := (i 0).isLt; have h1 : (i 1).val < 512 := (i 1).isLt
  rw [V3_of f _ ⟨(i 1).val / 128, by omega⟩ (i 0).val ⟨(i 1).val % 128, by omega⟩ (by dsimp only [idx_main_v268]; omega) (by dsimp only [idx_main_v268]; omega)]
  exact (V2_of f i _ _ _ rfl (by dsimp only; omega)).symm

/-- The two batch rows split. -/
theorem V2_split (f : Fam) (i : S2x2048x512.Idx) : V2 f (idx_main_v265 i) = V3 f i := by
  have h0 : (i 0).val < 2 := (i 0).isLt; have h1 : (i 1).val < 2048 := (i 1).isLt; have h2 : (i 2).val < 512 := (i 2).isLt
  exact V2_of f _ ⟨(i 2).val / 128, by omega⟩ (2048 * (i 0).val + (i 1).val) ⟨(i 2).val % 128, by omega⟩
    (by dsimp only [idx_main_v265]; omega) (by dsimp only [idx_main_v265]; omega)

/-- Heads put side by side, the batch rows joined. -/
theorem V4_join (f : Fam) (i : S4096x512.Idx) : V4 f (idx_main_v475 i) = V2 f i := by
  have h0 : (i 0).val < 4096 := (i 0).isLt; have h1 : (i 1).val < 512 := (i 1).isLt
  rw [V4_of f _ ⟨(i 1).val / 128, by omega⟩ (i 0).val ⟨(i 1).val % 128, by omega⟩ (by dsimp only [idx_main_v475]; omega) (by dsimp only [idx_main_v475]; omega) (by dsimp only [idx_main_v475]; omega)]
  exact (V2_of f i _ _ _ rfl (by dsimp only; omega)).symm

end Ret

end
-- ==== Proof.RRope.lean ====
/-
  What the reference computes, first part: the slices of the projections, the rotary tables, the rotated queries and the
  rotated and scaled keys, cut into chunks.
-/
module

public import proofs.«01_k».proof.Proof.RBase

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- The slice of the queries. -/
theorem w0 : val_main_v0 (F := Ideal) z.A1 = V2 fun h b n => (z.x h b n).q := by
  funext i
  have h1 : (i 1).val < 512 := (i 1).isLt
  rw [val_main_v0_apply, V2_of _ i ⟨(i 1).val / 128, by omega⟩ (i 0).val ⟨(i 1).val % 128, by omega⟩ rfl (by dsimp only; omega)]
  refine congrArg Real.toEReal (Eq.trans ?_ (rows_row (z.hd ((i 1).val / 128)).q _ _).symm)
  show z.p _ _ = z.p _ _
  congr 1
  dsimp only [idx_main_v0]; omega

/-- The slice of the keys. -/
theorem w1 : val_main_v1 (F := Ideal) z.A1 = V2 fun h b n => (z.x h b n).k := by
  funext i
  have h1 : (i 1).val < 512 := (i 1).isLt
  rw [val_main_v1_apply, V2_of _ i ⟨(i 1).val / 128, by omega⟩ (i 0).val ⟨(i 1).val % 128, by omega⟩ rfl (by dsimp only; omega)]
  refine congrArg Real.toEReal (Eq.trans ?_ (rows_row (z.hd ((i 1).val / 128)).k _ _).symm)
  show z.p _ _ = z.p _ _
  congr 1
  dsimp only [idx_main_v1]; omega

/-- The slice of the values. -/
theorem w2 : val_main_v2 (F := Ideal) z.A1 = V2 fun h b n => (z.x h b n).v := by
  funext i
  have h1 : (i 1).val < 512 := (i 1).isLt
  rw [val_main_v2_apply, V2_of _ i ⟨(i 1).val / 128, by omega⟩ (i 0).val ⟨(i 1).val % 128, by omega⟩ rfl (by dsimp only; omega)]
  refine congrArg Real.toEReal (Eq.trans ?_ (rows_row (z.hd ((i 1).val / 128)).v _ _).symm)
  show z.p _ _ = z.p _ _
  congr 1
  dsimp only [idx_main_v2]; omega

/-- The slice of the gate. -/
theorem w3 : val_main_v3 (F := Ideal) z.A1 = V2 fun h b n => (z.x h b n).gt := by
  funext i
  have h1 : (i 1).val < 512 := (i 1).isLt
  rw [val_main_v3_apply, V2_of _ i ⟨(i 1).val / 128, by omega⟩ (i 0).val ⟨(i 1).val % 128, by omega⟩ rfl (by dsimp only; omega)]
  refine congrArg Real.toEReal (Eq.trans ?_ (rows_row (z.hd ((i 1).val / 128)).gt _ _).symm)
  show z.p _ _ = z.p _ _
  congr 1
  dsimp only [idx_main_v3]; omega

theorem w7 : val_main_v7 (F := Ideal) z.A1 = V4 fun h b n => (z.x h b n).q := by
  funext i
  rw [val_main_v7_apply, w0]
  exact V2_heads _ i

theorem w8 : val_main_v8 (F := Ideal) z.A1 = V4 fun h b n => (z.x h b n).k := by
  funext i
  rw [val_main_v8_apply, w1]
  exact V2_heads _ i

theorem w9 : val_main_v9 (F := Ideal) z.A1 = V4 fun h b n => (z.x h b n).v := by
  funext i
  rw [val_main_v9_apply, w2]
  exact V2_heads _ i

theorem ne64 : (64 : ℝ) ≠ 0 := by norm_num
theorem f64 : FloatOps.ofBits (F := Ideal) .f32 0x42800000#32 = ((64 : ℝ) : EReal) := word_64
theorem f10000 : FloatOps.ofBits (F := Ideal) .f32 0x461C4000#32 = ((10000 : ℝ) : EReal) := word_10000

/-- The channels' numbers. -/
theorem w10 (i : S64.Idx) : val_main_v10 (F := Ideal) i = (((i 0).val : ℝ) : EReal) :=
  pos_coe _ (by have : (i 0).val < 64 := (i 0).isLt; omega)
/-- The positions. -/
theorem w16 (i : S2048.Idx) : val_main_v16 (F := Ideal) i = (((i 0).val : ℝ) : EReal) :=
  pos_coe _ (by have : (i 0).val < 2048 := (i 0).isLt; omega)
/-- The angles. -/
theorem w21 (i : S2048x64.Idx) : val_main_v21 (F := Ideal) i = ((ang (i 0).val (i 1).val : ℝ) : EReal) := by
  rw [val_main_v21_apply, val_main_v19_apply, val_main_v17_apply, val_main_v20_apply, val_main_v18_apply, val_main_v15_apply, val_main_v14_apply, val_main_v13_apply, val_main_v11_apply, val_main_v12_apply, val_main_cst_apply, val_main_cst_0_apply]
  rw [w10, w16, f64, f10000, fneg, fdiv _ _ ne64, fpow, fmul]
  rfl
theorem w23 (i : S1x2048x1x64.Idx) : val_main_v23 (F := Ideal) i = ((Real.cos (ang (i 1).val (i 3).val) : ℝ) : EReal) := by
  rw [val_main_v23_apply, val_main_v22_apply, w21, fcos]
theorem w25 (i : S1x2048x1x64.Idx) : val_main_v25 (F := Ideal) i = ((Real.sin (ang (i 1).val (i 3).val) : ℝ) : EReal) := by
  rw [val_main_v25_apply, val_main_v24_apply, w21, fsin]
theorem w32 (i : S2x2048x4x64.Idx) : val_main_v32 (F := Ideal) z.A1 i =
    ((rows (fun b n => (z.x (i 2) b n).q) (2048 * (i 0).val + (i 1).val) ⟨(i 3).val, by have : (i 3).val < 64 := (i 3).isLt; omega⟩ * Real.cos (ang (i 1).val (i 3).val)
      - rows (fun b n => (z.x (i 2) b n).q) (2048 * (i 0).val + (i 1).val) ⟨64 + (i 3).val, by have : (i 3).val < 64 := (i 3).isLt; omega⟩ * Real.sin (ang (i 1).val (i 3).val) : ℝ) : EReal) := by
  rw [val_main_v32_apply, val_main_v29_apply, val_main_v31_apply, val_main_v26_apply, val_main_v27_apply, val_main_v28_apply, val_main_v30_apply, w7, w23, w25]
  unfold V4
  rw [fmul, fmul, fsub]
  rfl
theorem w37 (i : S2x2048x4x64.Idx) : val_main_v37 (F := Ideal) z.A1 i =
    ((rows (fun b n => (z.x (i 2) b n).q) (2048 * (i 0).val + (i 1).val) ⟨(i 3).val, by have : (i 3).val < 64 := (i 3).isLt; omega⟩ * Real.sin (ang (i 1).val (i 3).val)
      + rows (fun b n => (z.x (i 2) b n).q) (2048 * (i 0).val + (i 1).val) ⟨64 + (i 3).val, by have : (i 3).val < 64 := (i 3).isLt; omega⟩ * Real.cos (ang (i 1).val (i 3).val) : ℝ) : EReal) := by
  rw [val_main_v37_apply, val_main_v34_apply, val_main_v36_apply, val_main_v26_apply, val_main_v27_apply, val_main_v33_apply, val_main_v35_apply, w7, w23, w25]
  unfold V4
  rw [fmul, fmul, fadd]
  rfl

/-- The channels' numbers. -/
theorem w39 (i : S64.Idx) : val_main_v39 (F := Ideal) i = (((i 0).val : ℝ) : EReal) :=
  pos_coe _ (by have : (i 0).val < 64 := (i 0).isLt; omega)
/-- The positions. -/
theorem w45 (i : S2048.Idx) : val_main_v45 (F := Ideal) i = (((i 0).val : ℝ) : EReal) :=
  pos_coe _ (by have : (i 0).val < 2048 := (i 0).isLt; omega)
/-- The angles. -/
theorem w50 (i : S2048x64.Idx) : val_main_v50 (F := Ideal) i = ((ang (i 0).val (i 1).val : ℝ) : EReal) := by
  rw [val_main_v50_apply, val_main_v48_apply, val_main_v46_apply, val_main_v49_apply, val_main_v47_apply, val_main_v44_apply, val_main_v43_apply, val_main_v42_apply, val_main_v40_apply, val_main_v41_apply, val_main_cst_1_apply, val_main_cst_2_apply]
  rw [w39, w45, f64, f10000, fneg, fdiv _ _ ne64, fpow, fmul]
  rfl
theorem w52 (i : S1x2048x1x64.Idx) : val_main_v52 (F := Ideal) i = ((Real.cos (ang (i 1).val (i 3).val) : ℝ) : EReal) := by
  rw [val_main_v52_apply, val_main_v51_apply, w50, fcos]
theorem w54 (i : S1x2048x1x64.Idx) : val_main_v54 (F := Ideal) i = ((Real.sin (ang (i 1).val (i 3).val) : ℝ) : EReal) := by
  rw [val_main_v54_apply, val_main_v53_apply, w50, fsin]
theorem w61 (i : S2x2048x4x64.Idx) : val_main_v61 (F := Ideal) z.A1 i =
    ((rows (fun b n => (z.x (i 2) b n).k) (2048 * (i 0).val + (i 1).val) ⟨(i 3).val, by have : (i 3).val < 64 := (i 3).isLt; omega⟩ * Real.cos (ang (i 1).val (i 3).val)
      - rows (fun b n => (z.x (i 2) b n).k) (2048 * (i 0).val + (i 1).val) ⟨64 + (i 3).val, by have : (i 3).val < 64 := (i 3).isLt; omega⟩ * Real.sin (ang (i 1).val (i 3).val) : ℝ) : EReal) := by
  rw [val_main_v61_apply, val_main_v58_apply, val_main_v60_apply, val_main_v55_apply, val_main_v56_apply, val_main_v57_apply, val_main_v59_apply, w8, w52, w54]
  unfold V4
  rw [fmul, fmul, fsub]
  rfl
theorem w66 (i : S2x2048x4x64.Idx) : val_main_v66 (F := Ideal) z.A1 i =
    ((rows (fun b n => (z.x (i 2) b n).k) (2048 * (i 0).val + (i 1).val) ⟨(i 3).val, by have : (i 3).val < 64 := (i 3).isLt; omega⟩ * Real.sin (ang (i 1).val (i 3).val)
      + rows (fun b n => (z.x (i 2) b n).k) (2048 * (i 0).val + (i 1).val) ⟨64 + (i 3).val, by have : (i 3).val < 64 := (i 3).isLt; omega⟩ * Real.cos (ang (i 1).val (i 3).val) : ℝ) : EReal) := by
  rw [val_main_v66_apply, val_main_v63_apply, val_main_v65_apply, val_main_v55_apply, val_main_v56_apply, val_main_v62_apply, val_main_v64_apply, w8, w52, w54]
  unfold V4
  rw [fmul, fmul, fadd]
  rfl

/-- A rotated array's row. -/
theorem rows_rope (h : Fin 4) (f : Hd → ℕ → Fin 128 → ℝ) (r : ℕ) (d : Fin 128) :
    rows (fun b n => rope (z.x h b n).c (z.x h b n).s (fun i d => f (z.hd h.val) (2048 * b + 128 * n + i.val) d)) r d
      = f (z.hd h.val) r d * cosT (r % 2048) d + f (z.hd h.val) r (d + 64) * sinT (r % 2048) d := by
  have a := rows_row (f (z.hd h.val)) r d
  have b := rows_row (f (z.hd h.val)) r (d + 64)
  have c := rows_pos cosT r d
  have s := rows_pos sinT r d
  rw [← a, ← b, ← c, ← s]
  rfl

theorem add64_lt (d : Fin 128) (h : d.val < 64) : d + 64 = ⟨64 + d.val, by omega⟩ :=
  Fin.ext (by show (d.val + 64) % 128 = 64 + d.val; omega)
theorem add64_ge (d : Fin 128) (h : ¬ d.val < 64) : d + 64 = ⟨d.val - 64, by omega⟩ :=
  Fin.ext (by show (d.val + 64) % 128 = d.val - 64; omega)

/-- The rotated array of the queries. -/
theorem w38 : val_main_v38 (F := Ideal) z.A1 = V4 fun h b n => rope (z.x h b n).c (z.x h b n).s (z.x h b n).q := by
  funext i
  have h0 : (i 0).val < 2 := (i 0).isLt
  have h1 : (i 1).val < 2048 := (i 1).isLt
  have h3 : (i 3).val < 128 := (i 3).isLt
  have hr : (2048 * (i 0).val + (i 1).val) % 2048 = (i 1).val := by omega
  have hrope := rows_rope z (i 2) Hd.q (2048 * (i 0).val + (i 1).val) (i 3)
  rw [hr] at hrope
  refine Eq.trans ?_ (congrArg Real.toEReal hrope.symm)
  unfold val_main_v38
  by_cases h : (i 3).val < 64
  · refine (concatenate_pair_apply_left (s₁ := S2x2048x4x64) (s₂ := S2x2048x4x64) (3 : Fin 4) _ _ _ i rfl (fun a => match a with
      | ⟨0, _⟩ => i 0
      | ⟨1, _⟩ => i 1
      | ⟨2, _⟩ => i 2
      | ⟨3, _⟩ => ⟨(i 3).val, h⟩) (fun a => match a with | ⟨0, _⟩ => rfl | ⟨1, _⟩ => rfl | ⟨2, _⟩ => rfl | ⟨3, _⟩ => rfl)).trans ?_
    rw [w32]
    refine congrArg Real.toEReal ?_
    have e1 := rows_row (z.hd (i 2).val).q (2048 * (i 0).val + (i 1).val) (i 3)
    have e2 := rows_row (z.hd (i 2).val).q (2048 * (i 0).val + (i 1).val) ⟨64 + (i 3).val, by omega⟩
    rw [add64_lt _ h]
    unfold cosT sinT
    rw [if_pos h, Nat.mod_eq_of_lt h, ← e1, ← e2, mul_neg, ← sub_eq_add_neg]
    rfl
  · refine (concatenate_pair_apply_right (s₁ := S2x2048x4x64) (s₂ := S2x2048x4x64) (3 : Fin 4) _ _ _ i rfl rfl (fun a => match a with
      | ⟨0, _⟩ => i 0
      | ⟨1, _⟩ => i 1
      | ⟨2, _⟩ => i 2
      | ⟨3, _⟩ => ⟨(i 3).val - 64, by show (i 3).val - 64 < 64; omega⟩) (fun a => match a with | ⟨0, _⟩ => fun _ => rfl | ⟨1, _⟩ => fun _ => rfl | ⟨2, _⟩ => fun _ => rfl | ⟨3, _⟩ => fun h => absurd rfl h)
        (by show (i 3).val - 64 + 64 = (i 3).val; omega)).trans ?_
    rw [w37]
    refine congrArg Real.toEReal ?_
    have e3 : (⟨64 + ((i 3).val - 64), by omega⟩ : Fin 128) = i 3 := Fin.ext (by show 64 + ((i 3).val - 64) = (i 3).val; omega)
    have e1 := (rows_row (z.hd (i 2).val).q (2048 * (i 0).val + (i 1).val) ⟨64 + ((i 3).val - 64), by omega⟩).trans (congrArg _ e3)
    have e2 := rows_row (z.hd (i 2).val).q (2048 * (i 0).val + (i 1).val) ⟨(i 3).val - 64, by omega⟩
    have e4 : (i 3).val % 64 = (i 3).val - 64 := by omega
    rw [add64_ge _ h]
    unfold cosT sinT
    rw [if_neg h, e4, ← e1, ← e2, add_comm]
    rfl

/-- The rotated array of the keys. -/
theorem w67 : val_main_v67 (F := Ideal) z.A1 = V4 fun h b n => rope (z.x h b n).c (z.x h b n).s (z.x h b n).k := by
  funext i
  have h0 : (i 0).val < 2 := (i 0).isLt
  have h1 : (i 1).val < 2048 := (i 1).isLt
  have h3 : (i 3).val < 128 := (i 3).isLt
  have hr : (2048 * (i 0).val + (i 1).val) % 2048 = (i 1).val := by omega
  have hrope := rows_rope z (i 2) Hd.k (2048 * (i 0).val + (i 1).val) (i 3)
  rw [hr] at hrope
  refine Eq.trans ?_ (congrArg Real.toEReal hrope.symm)
  unfold val_main_v67
  by_cases h : (i 3).val < 64
  · refine (concatenate_pair_apply_left (s₁ := S2x2048x4x64) (s₂ := S2x2048x4x64) (3 : Fin 4) _ _ _ i rfl (fun a => match a with
      | ⟨0, _⟩ => i 0
      | ⟨1, _⟩ => i 1
      | ⟨2, _⟩ => i 2
      | ⟨3, _⟩ => ⟨(i 3).val, h⟩) (fun a => match a with | ⟨0, _⟩ => rfl | ⟨1, _⟩ => rfl | ⟨2, _⟩ => rfl | ⟨3, _⟩ => rfl)).trans ?_
    rw [w61]
    refine congrArg Real.toEReal ?_
    have e1 := rows_row (z.hd (i 2).val).k (2048 * (i 0).val + (i 1).val) (i 3)
    have e2 := rows_row (z.hd (i 2).val).k (2048 * (i 0).val + (i 1).val) ⟨64 + (i 3).val, by omega⟩
    rw [add64_lt _ h]
    unfold cosT sinT
    rw [if_pos h, Nat.mod_eq_of_lt h, ← e1, ← e2, mul_neg, ← sub_eq_add_neg]
    rfl
  · refine (concatenate_pair_apply_right (s₁ := S2x2048x4x64) (s₂ := S2x2048x4x64) (3 : Fin 4) _ _ _ i rfl rfl (fun a => match a with
      | ⟨0, _⟩ => i 0
      | ⟨1, _⟩ => i 1
      | ⟨2, _⟩ => i 2
      | ⟨3, _⟩ => ⟨(i 3).val - 64, by show (i 3).val - 64 < 64; omega⟩) (fun a => match a with | ⟨0, _⟩ => fun _ => rfl | ⟨1, _⟩ => fun _ => rfl | ⟨2, _⟩ => fun _ => rfl | ⟨3, _⟩ => fun h => absurd rfl h)
        (by show (i 3).val - 64 + 64 = (i 3).val; omega)).trans ?_
    rw [w66]
    refine congrArg Real.toEReal ?_
    have e3 : (⟨64 + ((i 3).val - 64), by omega⟩ : Fin 128) = i 3 := Fin.ext (by show 64 + ((i 3).val - 64) = (i 3).val; omega)
    have e1 := (rows_row (z.hd (i 2).val).k (2048 * (i 0).val + (i 1).val) ⟨64 + ((i 3).val - 64), by omega⟩).trans (congrArg _ e3)
    have e2 := rows_row (z.hd (i 2).val).k (2048 * (i 0).val + (i 1).val) ⟨(i 3).val - 64, by omega⟩
    have e4 : (i 3).val % 64 = (i 3).val - 64 := by omega
    rw [add64_ge _ h]
    unfold cosT sinT
    rw [if_neg h, e4, ← e1, ← e2, add_comm]
    rfl

theorem fsc : FloatOps.ofBits (F := Ideal) .f32 0x3DB504F3#32 = ((sc : ℝ) : EReal) := word_sc

theorem w69 : val_main_v69 (F := Ideal) z.A1 = V4 fun h b n => (z.x h b n).K := by
  funext i
  rw [val_main_v69_apply, val_main_v68_apply, val_main_cst_3_apply, w67, fsc]
  unfold V4
  rw [fmul]
  rfl

/-- The rotated queries in chunks. -/
theorem w94 : val_main_v94 (F := Ideal) z.A1 = V5 fun h b n => (z.x h b n).Q := by
  funext i
  rw [val_main_v94_apply, w38]
  exact V4_chunk _ i
/-- The rotated and scaled keys in chunks. -/
theorem w95 : val_main_v95 (F := Ideal) z.A1 = V5 fun h b n => (z.x h b n).K := by
  funext i
  rw [val_main_v95_apply, w69]
  exact V4_chunk _ i
/-- The values in chunks. -/
theorem w96 : val_main_v96 (F := Ideal) z.A1 = V5 fun h b n => (z.x h b n).v := by
  funext i
  rw [val_main_v96_apply, w9]
  exact V4_chunk _ i

end Ret

end
-- ==== Proof.KHost.lean ====
/-
  The kernel's host code: the two rotary tables it prepares for the launches, as real arrays.
-/
module

public import proofs.«01_k».proof.Proof.KArr1
public import proofs.«01_k».proof.Proof.RRope
public import proofs.«01_k».proof.Proof.Gen.KernelIdeal.Frame

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

/-- The angles, as the host code computes them: the same operations as the reference's. -/
def angA : FVec Ideal S2048x64 .f32 := Cert.ReferenceIdeal.Read.val_main_v21 (F := Ideal)

theorem angA_apply (i : S2048x64.Idx) : angA i = ((ang (i 0).val (i 1).val : ℝ) : EReal) := w21 i

/-- Two halves joined along the channels make one table. -/
theorem join_table (a b : FVec Ideal S2048x64 .f32) (f : ℕ → Fin 128 → ℝ)
    (ha : ∀ (i : S2048x64.Idx) (d : Fin 128), d.val = (i 1).val → a i = ((f (i 0).val d : ℝ) : EReal))
    (hb : ∀ (i : S2048x64.Idx) (d : Fin 128), d.val = 64 + (i 1).val → b i = ((f (i 0).val d : ℝ) : EReal)) :
    concatenate S2048x128 1 [⟨S2048x64, a⟩, ⟨S2048x64, b⟩] concatenates_S2048x64_S2048x64_S2048x128_d1 = T f := by
  funext j
  have h0 : (j 0).val < 2048 := (j 0).isLt
  have h1 : (j 1).val < 128 := (j 1).isLt
  by_cases hr : (j 1).val < 64
  · rw [concatenate_pair_apply_left (s₁ := S2048x64) (s₂ := S2048x64) (t := S2048x128) 1 a b _ j (by rfl) (ValueIdx.ix2 ⟨(j 0).val, h0⟩ ⟨(j 1).val, hr⟩)
      (by intro k; fin_cases k <;> rfl)]
    exact ha _ (j 1) rfl
  · rw [concatenate_pair_apply_right (s₁ := S2048x64) (s₂ := S2048x64) (t := S2048x128) 1 a b _ j (by rfl) (by rfl) (ValueIdx.ix2 ⟨(j 0).val, h0⟩ ⟨(j 1).val - 64, by omega⟩)
      (by intro k hk; match k with | ⟨0, _⟩ => rfl | ⟨1, _⟩ => exact absurd rfl hk) (by show (j 1).val - 64 + 64 = (j 1).val; omega)]
    exact hb _ (j 1) (by show (j 1).val = 64 + ((j 1).val - 64); omega)

variable (m : (ℓ : Loc nD τ sig) → Buf (Elt Ideal) ℓ) (ρ : Dev nD → PrngReg) (c : Dev nD)

/-- The table of cosines before the first launch. -/
theorem host14 : V1 m ρ c main_v14 = T cosT := by
  refine Eq.trans (b := concatenate S2048x128 1 [⟨S2048x64, Host.cos angA⟩, ⟨S2048x64, Host.cos angA⟩] concatenates_S2048x64_S2048x64_S2048x128_d1) ?_ ?_
  · show StableHlo.after hostOps0 (W0 m ρ c) (Proc.devRef .tc main_v14) = _
    after_results
    rfl
  · refine join_table _ _ _ (fun i d e => ?_) (fun i d e => ?_)
    · show FloatOps.hostUnary (F := Ideal) (φ := .f32) .cos (angA i) = _
      have h1 : (i 1).val < 64 := (i 1).isLt
      rw [angA_apply, fcos]; unfold cosT
      rw [show d.val % 64 = (i 1).val by omega]
    · show FloatOps.hostUnary (F := Ideal) (φ := .f32) .cos (angA i) = _
      have h1 : (i 1).val < 64 := (i 1).isLt
      rw [angA_apply, fcos]; unfold cosT
      rw [show d.val % 64 = (i 1).val by omega]

/-- The table of sines before the first launch. -/
theorem host16 : V1 m ρ c main_v16 = T sinT := by
  refine Eq.trans (b := concatenate S2048x128 1 [⟨S2048x64, Host.negf (Host.sin angA)⟩, ⟨S2048x64, Host.sin angA⟩] concatenates_S2048x64_S2048x64_S2048x128_d1) ?_ ?_
  · show StableHlo.after hostOps0 (W0 m ρ c) (Proc.devRef .tc main_v16) = _
    after_results
    rfl
  · refine join_table _ _ _ (fun i d e => ?_) (fun i d e => ?_)
    · show FloatOps.hostNegf (F := Ideal) (φ := .f32) (FloatOps.hostUnary (F := Ideal) (φ := .f32) .sin (angA i)) = _
      have h1 : (i 1).val < 64 := (i 1).isLt
      rw [angA_apply, fsin, fneg]; unfold sinT
      rw [if_pos (by omega), e]
    · show FloatOps.hostUnary (F := Ideal) (φ := .f32) .sin (angA i) = _
      have h1 : (i 1).val < 64 := (i 1).isLt
      rw [angA_apply, fsin]; unfold sinT
      rw [if_neg (by omega), show d.val - 64 = (i 1).val by omega]

end Ret

end
-- ==== Proof.KEnd.lean ====
/-
  The kernel's run as a whole: the contents of the buffers passed from the host code to the forward launch and on to the
  backward launch, and what every result array holds at the end.
-/
module

public import proofs.«01_k».proof.Proof.KHost

@[expose] public section

set_option maxRecDepth 8192
set_option maxHeartbeats 400000

noncomputable section

namespace Ret

open Idealize.ShloMosaic Idealize.ShloMosaic.TcCoe Idealize.ShloMosaic.Tactic Idealize.ShloMosaic.ValueIdx
open Cert.KernelIdeal Cert.KernelIdeal.Gen

section
variable (m : (ℓ : Loc nD τ sig) → Buf (Elt Ideal) ℓ) (ρ : Dev nD → PrngReg) (c : Dev nD) (z : Inp)

/-- The launch memory holds the arrays of real numbers `z` on device `c`. -/
def Holds : Prop :=
  m ((c.tc : Thread nD τ).loc main_arg0) = z.A0 ∧ m ((c.tc : Thread nD τ).loc main_arg1) = z.A1
    ∧ m ((c.tc : Thread nD τ).loc main_arg2) = z.A2

variable (hz : Holds m c z)
include hz

/-! ## Before the forward launch -/

theorem v1_arg1 : V1 m ρ c main_arg1 = z.A1 := (W1_args m ρ c main_arg1 (by decide)).trans hz.2.1
theorem v1_arg2 : V1 m ρ c main_arg2 = z.A2 := (W1_args m ρ c main_arg2 (by decide)).trans hz.2.2

/-! ## Between the launches -/

theorem v2_arg0 : Gen.V2 m ρ c main_arg0 = z.A0 := (W2_args m ρ c main_arg0 (by decide)).trans hz.1
theorem v2_arg1 : Gen.V2 m ρ c main_arg1 = z.A1 := (W2_args m ρ c main_arg1 (by decide)).trans hz.2.1
theorem v2_arg2 : Gen.V2 m ρ c main_arg2 = z.A2 := (W2_args m ρ c main_arg2 (by decide)).trans hz.2.2
omit hz in
theorem v2_v14 : Gen.V2 m ρ c main_v14 = T cosT := (W2_of m ρ c main_v14 (by decide)).trans (host14 m ρ c)
omit hz in
theorem v2_v16 : Gen.V2 m ρ c main_v16 = T sinT := (W2_of m ρ c main_v16 (by decide)).trans (host16 m ρ c)
/-- The forward launch's outputs, which the backward launch reads. -/
theorem v2_out : Gen.V2 m ρ c main_v17_0 = cols fun h => rows (outF (z.hd h.val) (lgOf h)) :=
  (W2_arr m ρ c 7).trans (arr0_7 (V1 m ρ) c z.p z.dm cosT sinT z.g (v1_arg1 m ρ c z hz) (host14 m ρ c) (host16 m ρ c) (v1_arg2 m ρ c z hz))
/-- The forward launch's states, which the backward launch reads. -/
theorem v2_states : Gen.V2 m ρ c main_v17_1 = sts fun h => stateF (z.hd h.val) (lgOf h) :=
  (W2_arr m ρ c 8).trans (arr0_8 (V1 m ρ) c z.p z.dm cosT sinT z.g (v1_arg1 m ρ c z hz) (host14 m ρ c) (host16 m ρ c) (v1_arg2 m ρ c z hz))

/-! ## At the end -/

/-- The merged outputs. -/
theorem end_merged : W3 m ρ c (Proc.devRef .tc main_v17_2) = cols fun h => rows (mergedF (z.hd h.val) (lgOf h)) :=
  (W3_of m ρ c main_v17_2 (by decide)).trans <|
    (W2_arr m ρ c 9).trans (arr0_9 (V1 m ρ) c z.p z.dm cosT sinT z.g (v1_arg1 m ρ c z hz) (host14 m ρ c) (host16 m ρ c) (v1_arg2 m ρ c z hz))
/-- The queries' gradient. -/
theorem end_dq : W3 m ρ c (Proc.devRef .tc main_v18_0) = cols fun h => rows (dqF (z.hd h.val) (lgOf h)) :=
  (W3_arr m ρ c 10).trans (arr1_10 (Gen.V2 m ρ) c z.p z.dm cosT sinT z.g (v2_arg0 m ρ c z hz) (v2_arg1 m ρ c z hz) (v2_v14 m ρ c) (v2_v16 m ρ c)
    (v2_arg2 m ρ c z hz) (v2_out m ρ c z hz) (v2_states m ρ c z hz))
/-- The keys' gradient. -/
theorem end_dk : W3 m ρ c (Proc.devRef .tc main_v18_1) = cols fun h => rows (dkF (z.hd h.val) (lgOf h)) :=
  (W3_arr m ρ c 11).trans (arr1_11 (Gen.V2 m ρ) c z.p z.dm cosT sinT z.g (v2_arg0 m ρ c z hz) (v2_arg1 m ρ c z hz) (v2_v14 m ρ c) (v2_v16 m ρ c)
    (v2_arg2 m ρ c z hz) (v2_out m ρ c z hz) (v2_states m ρ c z hz))
/-- The values' gradient. -/
theorem end_dv : W3 m ρ c (Proc.devRef .tc main_v18_2) = cols fun h => rows (dvF (z.hd h.val) (lgOf h)) :=
  (W3_arr m ρ c 12).trans (arr1_12 (Gen.V2 m ρ) c z.p z.dm cosT sinT z.g (v2_arg0 m ρ c z hz) (v2_arg1 m ρ c z hz) (v2_v14 m ρ c) (v2_v16 m ρ c)
    (v2_arg2 m ρ c z hz) (v2_out m ρ c z hz) (v2_states m ρ c z hz))
/-- The gate's gradient. -/
theorem end_dgate : W3 m ρ c (Proc.devRef .tc main_v18_3) = cols fun h => rows (dgF (z.hd h.val) (lgOf h)) :=
  (W3_arr m ρ c 13).trans (arr1_13 (Gen.V2 m ρ) c z.p z.dm cosT sinT z.g (v2_arg0 m ρ c z hz) (v2_arg1 m ρ c z hz) (v2_v14 m ρ c) (v2_v16 m ρ c)
    (v2_arg2 m ρ c z hz) (v2_out m ρ c z hz) (v2_states m ρ c z hz))
/-- The gain's gradient. -/
theorem end_dgain : W3 m ρ c (Proc.devRef .tc main_v18_4) = row fun h => dgnF (z.hd h.val) (lgOf h) :=
  (W3_arr m ρ c 14).trans (arr1_14 (Gen.V2 m ρ) c z.p z.dm cosT sinT z.g (v2_arg0 m ρ c z hz) (v2_arg1 m ρ c z hz) (v2_v14 m ρ c) (v2_v16 m ρ c)
    (v2_arg2 m ρ c z hz) (v2_out m ρ c z hz) (v2_states m ρ c z hz))

end

end Ret

end
-- ==== Proof.KRun.lean ====
/-
  The kernel's run: from arrays of real numbers every execution ends with the result arrays holding what the launches
  compute, the arguments unchanged.
-/
module

public import proofs.«01_k».proof.Proof.KEnd

@[expose] public section

set_option maxRecDepth 16384
set_option maxHeartbeats 400000

noncomputable section

namespace Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

section
variable (m : (ℓ : Loc nD τ sig) → Buf (Elt Ideal) ℓ) (ρ : Dev nD → PrngReg)

open Cert.KernelIdeal.Gen

local notation "𝕄" => MT nD τ sig Unit (Elt Ideal) ℕ (UR sig nD τ) ℕ

set_option backward.isDefEq.respectTransparency.types false in
/-- Every buffer that outlives the launches ends at the contents the generated fold names. -/
theorem run_ends : θ_run defs (onTc (τ := τ) (main (F := Ideal))) ⟨m, fun _ => 0, ρ⟩ (fun r => ∀ c : Dev nD,
      ∀ b ∈ Pipeline.ucRefs τ sig, r.2.mem (((c : Thread nD τ)).1, b) = Gen.W3 m ρ c b) :=
  Pipeline.θ_run_regions_kit_sems (pcfgs (F := Ideal)) adm (pdats m ρ) () cellOf_inj emb₁ defs₀ 𝒱₀ Gen.L Gen.lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Gen.R c)) (Tₙ := Tₙ m ρ)
    (hch := ⟨fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)
end

variable (m : (ℓ : Loc nD τ sig) → Buf (Elt Ideal) ℓ) (ρ : Dev nD → PrngReg)

/-- The kernel's results, of the real arrays each device holds. -/
theorem kernel_run (z : Dev nD → Inp) (hz : ∀ c, Holds m c (z c)) :
    θ_run defs (onTc (τ := τ) (main (F := Ideal))) ⟨m, fun _ => 0, ρ⟩ (fun r => ∀ c : Dev nD,
      (r.2.mem ((c.tc : Thread nD τ).loc main_v17_2) = (cols fun h => rows (mergedF ((z c).hd h.val) (lgOf h)))
      ∧ r.2.mem ((c.tc : Thread nD τ).loc main_v18_0) = (cols fun h => rows (dqF ((z c).hd h.val) (lgOf h)))
      ∧ r.2.mem ((c.tc : Thread nD τ).loc main_v18_1) = (cols fun h => rows (dkF ((z c).hd h.val) (lgOf h)))
      ∧ r.2.mem ((c.tc : Thread nD τ).loc main_v18_2) = (cols fun h => rows (dvF ((z c).hd h.val) (lgOf h)))
      ∧ r.2.mem ((c.tc : Thread nD τ).loc main_v18_3) = (cols fun h => rows (dgF ((z c).hd h.val) (lgOf h)))
      ∧ r.2.mem ((c.tc : Thread nD τ).loc main_v18_4) = (row fun h => dgnF ((z c).hd h.val) (lgOf h)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨⟨(h c _ (Gen.mem_uc main_v17_2 (by decide))).trans (end_merged m ρ c (z c) (hz c)),
      (h c _ (Gen.mem_uc main_v18_0 (by decide))).trans (end_dq m ρ c (z c) (hz c)),
      (h c _ (Gen.mem_uc main_v18_1 (by decide))).trans (end_dk m ρ c (z c) (hz c)),
      (h c _ (Gen.mem_uc main_v18_2 (by decide))).trans (end_dv m ρ c (z c) (hz c)),
      (h c _ (Gen.mem_uc main_v18_3 (by decide))).trans (end_dgate m ρ c (z c) (hz c)),
      (h c _ (Gen.mem_uc main_v18_4 (by decide))).trans (end_dgain m ρ c (z c) (hz c))⟩,
      (h c _ (Gen.mem_uc main_arg0 (by decide))).trans (Gen.W3_main_arg0 m ρ c),
      (h c _ (Gen.mem_uc main_arg1 (by decide))).trans (Gen.W3_main_arg1 m ρ c),
      (h c _ (Gen.mem_uc main_arg2 (by decide))).trans (Gen.W3_main_arg2 m ρ c)⟩)
    (run_ends m ρ)

end Ret

end
-- ==== Proof.RScore.lean ====
/-
  What the reference computes, second part: the decays, the decayed scores and the chunks' own parts of the output.
-/
module

public import proofs.«01_k».proof.Proof.RRope

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

theorem fz : FloatOps.ofBits (F := Ideal) .f32 0x00000000#32 = ((0 : ℝ) : EReal) := word_zero
theorem f1 : FloatOps.ofBits (F := Ideal) .f32 0x3F800000#32 = ((1 : ℝ) : EReal) := word_one
theorem f2 : FloatOps.ofBits (F := Ideal) .f32 0x40000000#32 = ((2 : ℝ) : EReal) := word_2
theorem fm5 : FloatOps.ofBits (F := Ideal) .f32 0xC0A00000#32 = ((-5 : ℝ) : EReal) := word_m5
theorem f127 : FloatOps.ofBits (F := Ideal) .f32 0x42FE0000#32 = ((127 : ℝ) : EReal) := word_127
theorem f128 : FloatOps.ofBits (F := Ideal) .f32 0x43000000#32 = ((128 : ℝ) : EReal) := word_128

theorem two_rpow (h : Fin 4) : Real.rpow 2 (-5 - (h.val : ℝ)) = ((2 : ℝ) ^ (5 + h.val))⁻¹ := by
  show (2 : ℝ) ^ (-5 - (h.val : ℝ)) = _
  rw [show (-5 - (h.val : ℝ)) = -((5 + h.val : ℕ) : ℝ) from by push_cast; ring, Real.rpow_neg (by norm_num), Real.rpow_natCast]

/-- The logarithm of each head's decay, as the reference computes it. -/
theorem lg_eq (h : Fin 4) : Real.log (1 + -Real.rpow 2 (-5 - (h.val : ℝ))) = lgOf h := by
  rw [two_rpow]
  match h with
  | ⟨0, _⟩ => show Real.log _ = Real.log (31 / 32); norm_num
  | ⟨1, _⟩ => show Real.log _ = Real.log (63 / 64); norm_num
  | ⟨2, _⟩ => show Real.log _ = Real.log (127 / 128); norm_num
  | ⟨3, _⟩ => show Real.log _ = Real.log (255 / 256); norm_num

theorem lg_pos (h : Fin 4) : 0 < 1 + -Real.rpow 2 (-5 - (h.val : ℝ)) := by
  rw [two_rpow]
  match h with
  | ⟨0, _⟩ => norm_num
  | ⟨1, _⟩ => norm_num
  | ⟨2, _⟩ => norm_num
  | ⟨3, _⟩ => norm_num

theorem w70 (i : S4.Idx) : val_main_v70 (F := Ideal) i = (((i 0).val : ℝ) : EReal) :=
  pos_coe _ (by have : (i 0).val < 4 := (i 0).isLt; omega)
theorem w77 (i : S128.Idx) : val_main_v77 (F := Ideal) i = (((i 0).val : ℝ) : EReal) :=
  pos_coe _ (by have : (i 0).val < 128 := (i 0).isLt; omega)

/-- The logarithms of the decays. -/
theorem w76 (i : S4.Idx) : val_main_v76 (F := Ideal) i = ((lgOf (i 0) : ℝ) : EReal) := by
  rw [val_main_v76_apply, val_main_v75_apply, val_main_v74_apply, val_main_v73_apply, val_main_cst_5_apply, val_main_v72_apply, val_main_v71_apply, val_main_cst_4_apply, w70, fm5, f2, fsub, fpow, fneg, flog1p _ (lg_pos (i 0)), lg_eq (i 0)]

theorem w82 (i : S128x128.Idx) : val_main_v82 (F := Ideal) i = ((((i 0).val : ℝ) - ((i 1).val : ℝ) : ℝ) : EReal) := by
  rw [val_main_v82_apply, val_main_v80_apply, val_main_v78_apply, val_main_v81_apply, val_main_v79_apply, w77, w77, fsub]

theorem pick (lg : ℝ) (a b : Fin 128) :
    Scalar.select (FloatOps.cmpf (F := Ideal) (φ := .f32) .oge (((a.val : ℝ) - (b.val : ℝ) : ℝ) : EReal) ((0 : ℝ) : EReal))
      ((Real.exp (lg * max ((a.val : ℝ) - (b.val : ℝ)) 0) : ℝ) : EReal) ((0 : ℝ) : EReal) = ((decay lg a b : ℝ) : EReal) := by
  unfold Scalar.select decay
  show (if BitVec.ofBool (decide ((((0 : ℝ) : EReal)) ≤ (((a.val : ℝ) - (b.val : ℝ) : ℝ) : EReal))) = 1 then _ else _) = _
  have key : ((((0 : ℝ) : EReal)) ≤ (((a.val : ℝ) - (b.val : ℝ) : ℝ) : EReal)) ↔ b ≤ a := by
    rw [EReal.coe_le_coe_iff, sub_nonneg, Nat.cast_le]; rfl
  by_cases h : b ≤ a
  · have h' : (0 : ℝ) ≤ (a.val : ℝ) - (b.val : ℝ) := sub_nonneg.2 (Nat.cast_le.2 h)
    rw [decide_eq_true (key.2 h), if_pos h, max_eq_left h', if_pos (by decide)]
  · rw [decide_eq_false (fun c => h (key.1 c)), if_neg h, if_neg (by decide)]

/-- The decays between positions. -/
theorem w93 (i : S4x128x128.Idx) : val_main_v93 (F := Ideal) i = ((decay (lgOf (i 0)) (i 1) (i 2) : ℝ) : EReal) := by
  rw [val_main_v93_apply, val_main_call0_v1_apply, val_main_v84_apply, val_main_v83_apply, val_main_cst_6_apply, val_main_call0_v2_apply, val_main_call0_v0_apply, val_main_cst_8_apply, val_main_v92_apply, val_main_v91_apply, val_main_v89_apply, val_main_v85_apply, val_main_v90_apply, val_main_v88_apply, val_main_v87_apply, val_main_v86_apply, val_main_cst_7_apply, w82, w76, fz, fmax, fmul, fexp]
  exact pick (lgOf (i 0)) (i 1) (i 2)

theorem w98 (i : S1x4x1x128x128.Idx) : val_main_v98 (F := Ideal) i = ((decay (lgOf (i 1)) (i 3) (i 4) : ℝ) : EReal) := by
  rw [val_main_v98_apply, w93]
  rfl

/-- The decayed scores. -/
theorem w100 : val_main_v100 (F := Ideal) z.A1 = VH fun h b n => (z.x h b n).S (lgOf h) := by
  funext i
  rw [val_main_v100_apply, val_main_v97_apply, val_main_v99_apply, w94, w95, w98]
  unfold V5
  rw [sum_mul_coe, fmul]
  rfl

/-- The part of the output from within a chunk. -/
theorem w102 : val_main_v102 (F := Ideal) z.A1 = V5 fun h b n => mm ((z.x h b n).S (lgOf h)) (z.x h b n).v := by
  funext i
  rw [val_main_v102_apply, val_main_v101_apply, w96, w100]
  unfold V5 VH
  rw [sum_mul_coe]
  exact congrArg Real.toEReal (Finset.sum_congr rfl fun k _ => mul_comm _ _)

/-- The decays to the end of a chunk. -/
theorem w112 (i : S1x1x128x4x1.Idx) : val_main_v112 (F := Ideal) i = ((kdec (lgOf (i 3)) (i 2) : ℝ) : EReal) := by
  rw [val_main_v112_apply, val_main_v111_apply, val_main_v110_apply, val_main_v109_apply, val_main_v107_apply, val_main_v103_apply, val_main_v108_apply, val_main_v106_apply, val_main_v105_apply, val_main_v104_apply, val_main_cst_9_apply, w77, w76, f127, fsub, fmul, fexp]
  rfl

theorem w114 : val_main_v114 (F := Ideal) z.A1 = V5 fun h b n => (z.x h b n).Kd (lgOf h) := by
  funext i
  rw [val_main_v114_apply, val_main_v113_apply, w95, w112]
  unfold V5
  rw [fmul]
  rfl

/-- What each chunk adds to the state. -/
theorem w115 : val_main_v115 (F := Ideal) z.A1 = VN fun h b n => tmm ((z.x h b n).Kd (lgOf h)) (z.x h b n).v := by
  funext i
  rw [val_main_v115_apply, w114, w96]
  unfold V5
  rw [sum_mul_coe]
  rfl

/-- The decay over a chunk. -/
theorem w119 (i : S1x4x1x1.Idx) : val_main_v119 (F := Ideal) i = ((cdec (lgOf (i 1)) : ℝ) : EReal) := by
  rw [val_main_v119_apply, val_main_v118_apply, val_main_v117_apply, val_main_v116_apply, val_main_cst_10_apply, w76, f128, fmul, fexp]
  rfl

/-- The decays from the start of a chunk. -/
theorem w231 (i : S1x1x128x4x1.Idx) : val_main_v231 (F := Ideal) i = ((qdec (lgOf (i 3)) (i 2) : ℝ) : EReal) := by
  rw [val_main_v231_apply, val_main_v230_apply, val_main_v229_apply, val_main_v228_apply, val_main_v226_apply, val_main_v222_apply, val_main_v227_apply, val_main_v225_apply, val_main_v224_apply, val_main_v223_apply, val_main_cst_13_apply, w77, w76, f1, fadd, fmul, fexp]
  rfl

theorem w233 : val_main_v233 (F := Ideal) z.A1 = V5 fun h b n => (z.x h b n).Qd (lgOf h) := by
  funext i
  rw [val_main_v233_apply, val_main_v232_apply, w94, w231]
  unfold V5
  rw [fmul]
  rfl

end Ret

end
-- ==== Proof.RState.lean ====
/-
  What the reference computes, third part: the states before the chunks, one scan step after another, and the output.
-/
module

public import proofs.«01_k».proof.Proof.RScore

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

theorem VN_of (f : Fam) (i : S16x2x4x128x128.Idx) (h : Fin 4) (b n : ℕ) (j d : Fin 128) (h0 : (i 0).val = n) (h1 : (i 1).val = b)
    (h2 : (i 2).val = h.val) (h3 : (i 3).val = j.val) (h4 : (i 4).val = d.val) : VN f i = ((f h b n j d : ℝ) : EReal) := by
  unfold VN
  rw [h0, h1, show i 2 = h from Fin.ext h2, show i 3 = j from Fin.ext h3, show i 4 = d from Fin.ext h4]

/-- One chunk of an array of chunks, as the reference slices it. -/
theorem VN_cut (f : Fam) (i : S2x4x128x128.Idx) (j : S16x2x4x128x128.Idx) (n : ℕ) (h0 : (j 0).val = n)
    (h1 : (j 1).val = ((((i 0).val * 4 + (i 1).val) * 128 + (i 2).val) * 128 + (i 3).val) / 65536 % 2)
    (h2 : (j 2).val = ((((i 0).val * 4 + (i 1).val) * 128 + (i 2).val) * 128 + (i 3).val) / 16384 % 4)
    (h3 : (j 3).val = ((((i 0).val * 4 + (i 1).val) * 128 + (i 2).val) * 128 + (i 3).val) / 128 % 128)
    (h4 : (j 4).val = ((((i 0).val * 4 + (i 1).val) * 128 + (i 2).val) * 128 + (i 3).val) % 128) :
    VN f j = ((f (i 1) (i 0).val n (i 2) (i 3) : ℝ) : EReal) := by
  have i0 : (i 0).val < 2 := (i 0).isLt; have i1 : (i 1).val < 4 := (i 1).isLt; have i2 : (i 2).val < 128 := (i 2).isLt
  have i3 : (i 3).val < 128 := (i 3).isLt
  exact VN_of f j (i 1) (i 0).val n (i 2) (i 3) h0 (by omega) (by omega) (by omega) (by omega)

/-- The states before chunk 0. -/
theorem w120 : val_main_v120 (F := Ideal) = VS fun h b => R (z.x h b) (lgOf h) 0 := by
  funext i
  rw [val_main_v120_apply, val_main_cst_11_apply, fz]
  rfl

/-- The states before chunk 1. -/
theorem w128 : val_main_v128 (F := Ideal) z.A1 = VS fun h b => R (z.x h b) (lgOf h) 1 := by
  funext i
  rw [val_main_v128_apply, val_main_v127_apply, w120 z, val_main_v126_apply, val_main_v125_apply, val_main_v124_apply, val_main_v122_apply, w119, w115, VN_cut _ i _ 0 rfl rfl rfl rfl rfl]
  unfold VS
  rw [fmul, fadd]
  rfl

/-- The states before chunk 2. -/
theorem w133 : val_main_v133 (F := Ideal) z.A1 = VS fun h b => R (z.x h b) (lgOf h) 2 := by
  funext i
  rw [val_main_v133_apply, val_main_v132_apply, w128 z, val_main_v131_apply, val_main_v130_apply, val_main_v129_apply, val_main_v122_apply, w119, w115, VN_cut _ i _ 1 rfl rfl rfl rfl rfl]
  unfold VS
  rw [fmul, fadd]
  rfl

/-- The states before chunk 3. -/
theorem w138 : val_main_v138 (F := Ideal) z.A1 = VS fun h b => R (z.x h b) (lgOf h) 3 := by
  funext i
  rw [val_main_v138_apply, val_main_v137_apply, w133 z, val_main_v136_apply, val_main_v135_apply, val_main_v134_apply, val_main_v122_apply, w119, w115, VN_cut _ i _ 2 rfl rfl rfl rfl rfl]
  unfold VS
  rw [fmul, fadd]
  rfl

/-- The states before chunk 4. -/
theorem w143 : val_main_v143 (F := Ideal) z.A1 = VS fun h b => R (z.x h b) (lgOf h) 4 := by
  funext i
  rw [val_main_v143_apply, val_main_v142_apply, w138 z, val_main_v141_apply, val_main_v140_apply, val_main_v139_apply, val_main_v122_apply, w119, w115, VN_cut _ i _ 3 rfl rfl rfl rfl rfl]
  unfold VS
  rw [fmul, fadd]
  rfl

/-- The states before chunk 5. -/
theorem w148 : val_main_v148 (F := Ideal) z.A1 = VS fun h b => R (z.x h b) (lgOf h) 5 := by
  funext i
  rw [val_main_v148_apply, val_main_v147_apply, w143 z, val_main_v146_apply, val_main_v145_apply, val_main_v144_apply, val_main_v122_apply, w119, w115, VN_cut _ i _ 4 rfl rfl rfl rfl rfl]
  unfold VS
  rw [fmul, fadd]
  rfl

/-- The states before chunk 6. -/
theorem w153 : val_main_v153 (F := Ideal) z.A1 = VS fun h b => R (z.x h b) (lgOf h) 6 := by
  funext i
  rw [val_main_v153_apply, val_main_v152_apply, w148 z, val_main_v151_apply, val_main_v150_apply, val_main_v149_apply, val_main_v122_apply, w119, w115, VN_cut _ i _ 5 rfl rfl rfl rfl rfl]
  unfold VS
  rw [fmul, fadd]
  rfl

/-- The states before chunk 7. -/
theorem w158 : val_main_v158 (F := Ideal) z.A1 = VS fun h b => R (z.x h b) (lgOf h) 7 := by
  funext i
  rw [val_main_v158_apply, val_main_v157_apply, w153 z, val_main_v156_apply, val_main_v155_apply, val_main_v154_apply, val_main_v122_apply, w119, w115, VN_cut _ i _ 6 rfl rfl rfl rfl rfl]
  unfold VS
  rw [fmul, fadd]
  rfl

/-- The states before chunk 8. -/
theorem w163 : val_main_v163 (F := Ideal) z.A1 = VS fun h b => R (z.x h b) (lgOf h) 8 := by
  funext i
  rw [val_main_v163_apply, val_main_v162_apply, w158 z, val_main_v161_apply, val_main_v160_apply, val_main_v159_apply, val_main_v122_apply, w119, w115, VN_cut _ i _ 7 rfl rfl rfl rfl rfl]
  unfold VS
  rw [fmul, fadd]
  rfl

/-- The states before chunk 9. -/
theorem w168 : val_main_v168 (F := Ideal) z.A1 = VS fun h b => R (z.x h b) (lgOf h) 9 := by
  funext i
  rw [val_main_v168_apply, val_main_v167_apply, w163 z, val_main_v166_apply, val_main_v165_apply, val_main_v164_apply, val_main_v122_apply, w119, w115, VN_cut _ i _ 8 rfl rfl rfl rfl rfl]
  unfold VS
  rw [fmul, fadd]
  rfl

/-- The states before chunk 10. -/
theorem w173 : val_main_v173 (F := Ideal) z.A1 = VS fun h b => R (z.x h b) (lgOf h) 10 := by
  funext i
  rw [val_main_v173_apply, val_main_v172_apply, w168 z, val_main_v171_apply, val_main_v170_apply, val_main_v169_apply, val_main_v122_apply, w119, w115, VN_cut _ i _ 9 rfl rfl rfl rfl rfl]
  unfold VS
  rw [fmul, fadd]
  rfl

/-- The states before chunk 11. -/
theorem w178 : val_main_v178 (F := Ideal) z.A1 = VS fun h b => R (z.x h b) (lgOf h) 11 := by
  funext i
  rw [val_main_v178_apply, val_main_v177_apply, w173 z, val_main_v176_apply, val_main_v175_apply, val_main_v174_apply, val_main_v122_apply, w119, w115, VN_cut _ i _ 10 rfl rfl rfl rfl rfl]
  unfold VS
  rw [fmul, fadd]
  rfl

/-- The states before chunk 12. -/
theorem w183 : val_main_v183 (F := Ideal) z.A1 = VS fun h b => R (z.x h b) (lgOf h) 12 := by
  funext i
  rw [val_main_v183_apply, val_main_v182_apply, w178 z, val_main_v181_apply, val_main_v180_apply, val_main_v179_apply, val_main_v122_apply, w119, w115, VN_cut _ i _ 11 rfl rfl rfl rfl rfl]
  unfold VS
  rw [fmul, fadd]
  rfl

/-- The states before chunk 13. -/
theorem w188 : val_main_v188 (F := Ideal) z.A1 = VS fun h b => R (z.x h b) (lgOf h) 13 := by
  funext i
  rw [val_main_v188_apply, val_main_v187_apply, w183 z, val_main_v186_apply, val_main_v185_apply, val_main_v184_apply, val_main_v122_apply, w119, w115, VN_cut _ i _ 12 rfl rfl rfl rfl rfl]
  unfold VS
  rw [fmul, fadd]
  rfl

/-- The states before chunk 14. -/
theorem w193 : val_main_v193 (F := Ideal) z.A1 = VS fun h b => R (z.x h b) (lgOf h) 14 := by
  funext i
  rw [val_main_v193_apply, val_main_v192_apply, w188 z, val_main_v191_apply, val_main_v190_apply, val_main_v189_apply, val_main_v122_apply, w119, w115, VN_cut _ i _ 13 rfl rfl rfl rfl rfl]
  unfold VS
  rw [fmul, fadd]
  rfl

/-- The states before chunk 15. -/
theorem w198 : val_main_v198 (F := Ideal) z.A1 = VS fun h b => R (z.x h b) (lgOf h) 15 := by
  funext i
  rw [val_main_v198_apply, val_main_v197_apply, w193 z, val_main_v196_apply, val_main_v195_apply, val_main_v194_apply, val_main_v122_apply, w119, w115, VN_cut _ i _ 14 rfl rfl rfl rfl rfl]
  unfold VS
  rw [fmul, fadd]
  rfl

/-- The index of a chunk's states inside the one-chunk array. -/
abbrev oneIdx (i : S16x2x4x128x128.Idx) : S1x2x4x128x128.Idx := fun a => match a with
  | ⟨0, _⟩ => ⟨0, Nat.one_pos⟩
  | ⟨1, _⟩ => i 1
  | ⟨2, _⟩ => i 2
  | ⟨3, _⟩ => i 3
  | ⟨4, _⟩ => i 4

/-- Sixteen one-chunk arrays, joined: a chunk is its array's. -/
theorem join_at (xs : List ((s : Shape) × (s.Idx → EReal))) (h : Shape.Concatenates (xs.map (·.1)) S16x2x4x128x128 0)
    (i : S16x2x4x128x128.Idx) (k : ℕ) (hk : k < xs.length) (x : S1x2x4x128x128.Idx → EReal) (hx : xs[k] = ⟨S1x2x4x128x128, x⟩)
    (hs : xs.map (·.1) = List.replicate 16 S1x2x4x128x128)
    (hi : (i 0).val = k) : concatenate S16x2x4x128x128 0 xs h i = x (oneIdx i) := by
  have hl : xs.length = 16 := by rw [← List.length_map, hs, List.length_replicate]
  have hp : (((xs.take k).map (·.1)).map fun s => if h : s.rank = S16x2x4x128x128.rank then s.size ((0 : Fin S16x2x4x128x128.rank).cast h.symm) else 0).sum = k := by
    rw [List.map_take, hs, List.take_replicate, List.map_replicate, List.sum_replicate_nat, Nat.min_eq_left (by omega)]
    exact Nat.mul_one k
  refine concatenate_apply_piece (0 : Fin S16x2x4x128x128.rank) xs h i k hk S1x2x4x128x128 x hx rfl k hp (oneIdx i) ?_ hi.symm
  intro b
  match b with
  | ⟨0, _⟩ => exact fun h => absurd rfl h
  | ⟨1, _⟩ => exact fun _ => rfl
  | ⟨2, _⟩ => exact fun _ => rfl
  | ⟨3, _⟩ => exact fun _ => rfl
  | ⟨4, _⟩ => exact fun _ => rfl

/-- Sixteen one-chunk arrays, joined, read at any chunk. -/
theorem join16 (x0 x1 x2 x3 x4 x5 x6 x7 x8 x9 x10 x11 x12 x13 x14 x15 : S1x2x4x128x128.Idx → EReal) (f : ℕ → EReal) (i : S16x2x4x128x128.Idx)
    (h : Shape.Concatenates _ S16x2x4x128x128 0)
    (h0 : x0 (oneIdx i) = f 0) (h1 : x1 (oneIdx i) = f 1) (h2 : x2 (oneIdx i) = f 2) (h3 : x3 (oneIdx i) = f 3) (h4 : x4 (oneIdx i) = f 4) (h5 : x5 (oneIdx i) = f 5) (h6 : x6 (oneIdx i) = f 6) (h7 : x7 (oneIdx i) = f 7) (h8 : x8 (oneIdx i) = f 8) (h9 : x9 (oneIdx i) = f 9) (h10 : x10 (oneIdx i) = f 10) (h11 : x11 (oneIdx i) = f 11) (h12 : x12 (oneIdx i) = f 12) (h13 : x13 (oneIdx i) = f 13) (h14 : x14 (oneIdx i) = f 14) (h15 : x15 (oneIdx i) = f 15) :
    concatenate S16x2x4x128x128 0 [⟨S1x2x4x128x128, x0⟩, ⟨S1x2x4x128x128, x1⟩, ⟨S1x2x4x128x128, x2⟩, ⟨S1x2x4x128x128, x3⟩, ⟨S1x2x4x128x128, x4⟩, ⟨S1x2x4x128x128, x5⟩, ⟨S1x2x4x128x128, x6⟩, ⟨S1x2x4x128x128, x7⟩, ⟨S1x2x4x128x128, x8⟩, ⟨S1x2x4x128x128, x9⟩, ⟨S1x2x4x128x128, x10⟩, ⟨S1x2x4x128x128, x11⟩, ⟨S1x2x4x128x128, x12⟩, ⟨S1x2x4x128x128, x13⟩, ⟨S1x2x4x128x128, x14⟩, ⟨S1x2x4x128x128, x15⟩] h i = f (i 0).val := by
  have hi : (i 0).val < 16 := (i 0).isLt
  generalize hk : (i 0).val = k at hi
  match k, hi with
  | 0, _ => exact (join_at _ _ i 0 (by show 0 < 16; decide) x0 rfl rfl hk).trans h0
  | 1, _ => exact (join_at _ _ i 1 (by show 1 < 16; decide) x1 rfl rfl hk).trans h1
  | 2, _ => exact (join_at _ _ i 2 (by show 2 < 16; decide) x2 rfl rfl hk).trans h2
  | 3, _ => exact (join_at _ _ i 3 (by show 3 < 16; decide) x3 rfl rfl hk).trans h3
  | 4, _ => exact (join_at _ _ i 4 (by show 4 < 16; decide) x4 rfl rfl hk).trans h4
  | 5, _ => exact (join_at _ _ i 5 (by show 5 < 16; decide) x5 rfl rfl hk).trans h5
  | 6, _ => exact (join_at _ _ i 6 (by show 6 < 16; decide) x6 rfl rfl hk).trans h6
  | 7, _ => exact (join_at _ _ i 7 (by show 7 < 16; decide) x7 rfl rfl hk).trans h7
  | 8, _ => exact (join_at _ _ i 8 (by show 8 < 16; decide) x8 rfl rfl hk).trans h8
  | 9, _ => exact (join_at _ _ i 9 (by show 9 < 16; decide) x9 rfl rfl hk).trans h9
  | 10, _ => exact (join_at _ _ i 10 (by show 10 < 16; decide) x10 rfl rfl hk).trans h10
  | 11, _ => exact (join_at _ _ i 11 (by show 11 < 16; decide) x11 rfl rfl hk).trans h11
  | 12, _ => exact (join_at _ _ i 12 (by show 12 < 16; decide) x12 rfl rfl hk).trans h12
  | 13, _ => exact (join_at _ _ i 13 (by show 13 < 16; decide) x13 rfl rfl hk).trans h13
  | 14, _ => exact (join_at _ _ i 14 (by show 14 < 16; decide) x14 rfl rfl hk).trans h14
  | 15, _ => exact (join_at _ _ i 15 (by show 15 < 16; decide) x15 rfl rfl hk).trans h15
  | k + 16, h => omega

theorem w204 (i : S16x2x4x128x128.Idx) : val_main_v204 (F := Ideal) (oneIdx i) = ((R (z.x (i 2) (i 1).val) (lgOf (i 2)) 0 (i 3) (i 4) : ℝ) : EReal) := by
  rw [val_main_v204_apply, w120 z]
  rfl
theorem w205 (i : S16x2x4x128x128.Idx) : val_main_v205 (F := Ideal) z.A1 (oneIdx i) = ((R (z.x (i 2) (i 1).val) (lgOf (i 2)) 1 (i 3) (i 4) : ℝ) : EReal) := by
  rw [val_main_v205_apply, w128 z]
  rfl
theorem w206 (i : S16x2x4x128x128.Idx) : val_main_v206 (F := Ideal) z.A1 (oneIdx i) = ((R (z.x (i 2) (i 1).val) (lgOf (i 2)) 2 (i 3) (i 4) : ℝ) : EReal) := by
  rw [val_main_v206_apply, w133 z]
  rfl
theorem w207 (i : S16x2x4x128x128.Idx) : val_main_v207 (F := Ideal) z.A1 (oneIdx i) = ((R (z.x (i 2) (i 1).val) (lgOf (i 2)) 3 (i 3) (i 4) : ℝ) : EReal) := by
  rw [val_main_v207_apply, w138 z]
  rfl
theorem w208 (i : S16x2x4x128x128.Idx) : val_main_v208 (F := Ideal) z.A1 (oneIdx i) = ((R (z.x (i 2) (i 1).val) (lgOf (i 2)) 4 (i 3) (i 4) : ℝ) : EReal) := by
  rw [val_main_v208_apply, w143 z]
  rfl
theorem w209 (i : S16x2x4x128x128.Idx) : val_main_v209 (F := Ideal) z.A1 (oneIdx i) = ((R (z.x (i 2) (i 1).val) (lgOf (i 2)) 5 (i 3) (i 4) : ℝ) : EReal) := by
  rw [val_main_v209_apply, w148 z]
  rfl
theorem w210 (i : S16x2x4x128x128.Idx) : val_main_v210 (F := Ideal) z.A1 (oneIdx i) = ((R (z.x (i 2) (i 1).val) (lgOf (i 2)) 6 (i 3) (i 4) : ℝ) : EReal) := by
  rw [val_main_v210_apply, w153 z]
  rfl
theorem w211 (i : S16x2x4x128x128.Idx) : val_main_v211 (F := Ideal) z.A1 (oneIdx i) = ((R (z.x (i 2) (i 1).val) (lgOf (i 2)) 7 (i 3) (i 4) : ℝ) : EReal) := by
  rw [val_main_v211_apply, w158 z]
  rfl
theorem w212 (i : S16x2x4x128x128.Idx) : val_main_v212 (F := Ideal) z.A1 (oneIdx i) = ((R (z.x (i 2) (i 1).val) (lgOf (i 2)) 8 (i 3) (i 4) : ℝ) : EReal) := by
  rw [val_main_v212_apply, w163 z]
  rfl
theorem w213 (i : S16x2x4x128x128.Idx) : val_main_v213 (F := Ideal) z.A1 (oneIdx i) = ((R (z.x (i 2) (i 1).val) (lgOf (i 2)) 9 (i 3) (i 4) : ℝ) : EReal) := by
  rw [val_main_v213_apply, w168 z]
  rfl
theorem w214 (i : S16x2x4x128x128.Idx) : val_main_v214 (F := Ideal) z.A1 (oneIdx i) = ((R (z.x (i 2) (i 1).val) (lgOf (i 2)) 10 (i 3) (i 4) : ℝ) : EReal) := by
  rw [val_main_v214_apply, w173 z]
  rfl
theorem w215 (i : S16x2x4x128x128.Idx) : val_main_v215 (F := Ideal) z.A1 (oneIdx i) = ((R (z.x (i 2) (i 1).val) (lgOf (i 2)) 11 (i 3) (i 4) : ℝ) : EReal) := by
  rw [val_main_v215_apply, w178 z]
  rfl
theorem w216 (i : S16x2x4x128x128.Idx) : val_main_v216 (F := Ideal) z.A1 (oneIdx i) = ((R (z.x (i 2) (i 1).val) (lgOf (i 2)) 12 (i 3) (i 4) : ℝ) : EReal) := by
  rw [val_main_v216_apply, w183 z]
  rfl
theorem w217 (i : S16x2x4x128x128.Idx) : val_main_v217 (F := Ideal) z.A1 (oneIdx i) = ((R (z.x (i 2) (i 1).val) (lgOf (i 2)) 13 (i 3) (i 4) : ℝ) : EReal) := by
  rw [val_main_v217_apply, w188 z]
  rfl
theorem w218 (i : S16x2x4x128x128.Idx) : val_main_v218 (F := Ideal) z.A1 (oneIdx i) = ((R (z.x (i 2) (i 1).val) (lgOf (i 2)) 14 (i 3) (i 4) : ℝ) : EReal) := by
  rw [val_main_v218_apply, w193 z]
  rfl
theorem w219 (i : S16x2x4x128x128.Idx) : val_main_v219 (F := Ideal) z.A1 (oneIdx i) = ((R (z.x (i 2) (i 1).val) (lgOf (i 2)) 15 (i 3) (i 4) : ℝ) : EReal) := by
  rw [val_main_v219_apply, w198 z]
  rfl

/-- The states before each chunk, joined. -/
theorem w220 : val_main_v220 (F := Ideal) z.A1 = VN fun h b n => R (z.x h b) (lgOf h) n := by
  funext i
  exact join16 _ _ _ _ _ _ _ _ _ _ _ _ _ _ _ _ (fun n => ((R (z.x (i 2) (i 1).val) (lgOf (i 2)) n (i 3) (i 4) : ℝ) : EReal)) i _
    (w204 z i) (w205 z i) (w206 z i) (w207 z i) (w208 z i) (w209 z i) (w210 z i) (w211 z i) (w212 z i) (w213 z i) (w214 z i) (w215 z i) (w216 z i) (w217 z i) (w218 z i) (w219 z i)

theorem w221 : val_main_v221 (F := Ideal) z.A1 = VN fun h b n => R (z.x h b) (lgOf h) n := by
  funext i
  unfold val_main_v221
  refine (concatenate_pair_apply_right (s₁ := S0x2x4x128x128) (s₂ := S16x2x4x128x128) (0 : Fin 5) _ _ _ i rfl rfl i (fun _ _ => rfl) rfl).trans ?_
  rw [w220]

/-- The part of the output from the state before a chunk. -/
theorem w235 : val_main_v235 (F := Ideal) z.A1 = V5 fun h b n => mm ((z.x h b n).Qd (lgOf h)) (R (z.x h b) (lgOf h) n) := by
  funext i
  rw [val_main_v235_apply, val_main_v234_apply, w221, w233]
  unfold V5 VN
  rw [sum_mul_coe]
  exact congrArg Real.toEReal (Finset.sum_congr rfl fun k _ => mul_comm _ _)

/-- The output in chunks. -/
theorem w236 : val_main_v236 (F := Ideal) z.A1 = V5 fun h b n => O (z.x h b) (lgOf h) n := by
  funext i
  rw [val_main_v236_apply, w102, w235]
  unfold V5
  rw [fadd]
  rfl

/-- The output's rows. -/
theorem w237 : val_main_v237 (F := Ideal) z.A1 = V4 fun h b n => O (z.x h b) (lgOf h) n := by
  funext i
  rw [val_main_v237_apply, w236]
  exact V5_rows _ i

end Ret

end
-- ==== Proof.RNorm.lean ====
/-
  What the reference computes, fourth part: the norm of the output's rows, the gate, the result and the gradients of gate
  and gain.
-/
module

public import proofs.«01_k».proof.Proof.RState

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

theorem feps : FloatOps.ofBits (F := Ideal) .f32 0x358637BD#32 = ((eps : ℝ) : EReal) := word_eps
theorem fmhalf : FloatOps.ofBits (F := Ideal) .f32 0xBF000000#32 = ((-1/2 : ℝ) : EReal) := word_mhalf
theorem fz0 : FloatOps.ofBits (F := Ideal) .f32 0x00000000#32 = (0 : EReal) := fz.trans EReal.coe_zero
theorem ne128 : (128 : ℝ) ≠ 0 := by norm_num

/-- The sum of each row. -/
theorem V4_sum (f : Fam) (i : S2x2048x4.Idx) : (∑ k : Fin 128, V4 f (idx_main_v238 i k)) = V4s (fun h b n j => ∑ k, f h b n j k) i := by
  unfold V4 V4s
  rw [sum_coe]
  rfl

/-- A last axis of size one put on. -/
theorem V4s_col (f : Fin 4 → ℕ → ℕ → Fin 128 → ℝ) (i : S2x2048x4x1.Idx) : V4s f (idx_main_v285 i) = V4c f i := by
  have h0 : (i 0).val < 2 := (i 0).isLt; have h1 : (i 1).val < 2048 := (i 1).isLt; have h2 : (i 2).val < 4 := (i 2).isLt
  have h3 : (i 3).val < 1 := (i 3).isLt
  have e2 : idx_main_v285 i 2 = i 2 := Fin.ext (by dsimp only [idx_main_v285]; omega)
  have e0 : (idx_main_v285 i 0).val = (i 0).val := by dsimp only [idx_main_v285]; omega
  have e1 : (idx_main_v285 i 1).val = (i 1).val := by dsimp only [idx_main_v285]; omega
  unfold V4s V4c
  rw [e0, e1, e2]

/-- The gain beside the heads' columns. -/
theorem V3_gain (i : S2x2048x512.Idx) : ((z.g (i 2).val : ℝ) : EReal) = V3 (fun h b n _ d => (z.x h b n).g d) i := by
  have h2 : (i 2).val < 512 := (i 2).isLt
  unfold V3
  refine congrArg (fun n => ((z.g n : ℝ) : EReal)) ?_
  show (i 2).val = 128 * ((i 2).val / 128) + (i 2).val % 128
  omega

/-- The rows' sums. -/
theorem w238 : val_main_v238 (F := Ideal) z.A1 = V4s fun h b n i => ∑ k, (O (z.x h b) (lgOf h) n) i k := by
  funext i
  rw [val_main_v238_apply, val_main_cst_14_apply, w237, fz0, zero_add]
  exact V4_sum _ i

/-- The rows' means. -/
theorem w241 : val_main_v241 (F := Ideal) z.A1 = V4c fun h b n => mean (O (z.x h b) (lgOf h) n) := by
  funext i
  rw [val_main_v241_apply, val_main_v239_apply, val_main_v240_apply, val_main_cst_15_apply, w238, f128]
  unfold V4s V4c
  exact fdiv _ _ ne128

/-- The centred rows. -/
theorem w243 : val_main_v243 (F := Ideal) z.A1 = V4 fun h b n => cen (O (z.x h b) (lgOf h) n) := by
  funext i
  rw [val_main_v243_apply, val_main_v242_apply, w241, w237]
  unfold V4 V4c
  rw [fsub]
  rfl
theorem w252 : val_main_v252 (F := Ideal) z.A1 = V4 fun h b n => cen (O (z.x h b) (lgOf h) n) := by
  funext i
  rw [val_main_v252_apply, val_main_v251_apply, w241, w237]
  unfold V4 V4c
  rw [fsub]
  rfl
theorem w246 : val_main_v246 (F := Ideal) z.A1 = V4 fun h b n i d => 2 * cen (O (z.x h b) (lgOf h) n) i d := by
  funext i
  rw [val_main_v246_apply, val_main_v245_apply, val_main_cst_16_apply, w243, f2]
  unfold V4
  rw [fmul]
  rfl
theorem w244 : val_main_v244 (F := Ideal) z.A1 = V4 fun h b n i d => cen (O (z.x h b) (lgOf h) n) i d * cen (O (z.x h b) (lgOf h) n) i d := by
  funext i
  rw [val_main_v244_apply, w243]
  unfold V4
  rw [fmul]
  rfl
theorem w247 : val_main_v247 (F := Ideal) z.A1 = V4s fun h b n i => ∑ k, cen (O (z.x h b) (lgOf h) n) i k * cen (O (z.x h b) (lgOf h) n) i k := by
  funext i
  rw [val_main_v247_apply, val_main_cst_17_apply, w244, fz0, zero_add]
  exact V4_sum _ i

/-- The rows' variances. -/
theorem w250 : val_main_v250 (F := Ideal) z.A1 = V4c fun h b n => var (O (z.x h b) (lgOf h) n) := by
  funext i
  rw [val_main_v250_apply, val_main_v248_apply, val_main_v249_apply, val_main_cst_18_apply, w247, f128]
  unfold V4s V4c
  exact fdiv _ _ ne128
theorem w254 : val_main_v254 (F := Ideal) z.A1 = V4c fun h b n i => var (O (z.x h b) (lgOf h) n) i + eps := by
  funext i
  rw [val_main_v254_apply, val_main_v253_apply, val_main_cst_19_apply, w250, feps]
  unfold V4c
  rw [fadd]
  rfl
/-- The rows' reciprocal deviations. -/
theorem w255 : val_main_v255 (F := Ideal) z.A1 = V4c fun h b n => rstd (O (z.x h b) (lgOf h) n) := by
  funext i
  rw [val_main_v255_apply, w254]
  unfold V4c
  exact frsqrt _ (var_eps_pos _ _)
theorem w258 : val_main_v258 (F := Ideal) z.A1 = V4c fun h b n i => -1/2 * (rstd (O (z.x h b) (lgOf h) n) i / (var (O (z.x h b) (lgOf h) n) i + eps)) := by
  funext i
  rw [val_main_v258_apply, val_main_v257_apply, val_main_cst_20_apply, val_main_v256_apply, w255, w254, fmhalf]
  unfold V4c
  exact (congrArg (FloatOps.mulf (F := Ideal) (φ := .f32) ((-1/2 : ℝ) : EReal)) (fdiv _ _ (ne_of_gt (var_eps_pos _ _)))).trans (fmul _ _)
/-- The normalised rows. -/
theorem w260 : val_main_v260 (F := Ideal) z.A1 = V4 fun h b n => nrm (O (z.x h b) (lgOf h) n) := by
  funext i
  rw [val_main_v260_apply, val_main_v259_apply, w255, w252]
  unfold V4 V4c
  rw [fmul]
  rfl
theorem w261 : val_main_v261 (F := Ideal) z.A1 = V3 fun h b n => nrm (O (z.x h b) (lgOf h) n) := by
  funext i
  rw [val_main_v261_apply, w260]
  exact V4_cols _ i

/-- The gain. -/
theorem w262 (i : S1x1x512.Idx) : val_main_v262 (F := Ideal) z.A2 i = ((z.g (i 2).val : ℝ) : EReal) := by
  rw [val_main_v262_apply, val_main_v6_apply]
  show ((z.g ((i 2).val % 512) : ℝ) : EReal) = _
  rw [Nat.mod_eq_of_lt (show (i 2).val < 512 from (i 2).isLt)]
theorem w263 : val_main_v263 (F := Ideal) z.A2 = V3 fun h b n _ d => (z.x h b n).g d := by
  funext i
  rw [val_main_v263_apply, w262]
  exact V3_gain z i
theorem w279 : val_main_v279 (F := Ideal) z.A2 = V3 fun h b n _ d => (z.x h b n).g d := by
  funext i
  rw [val_main_v279_apply, w262]
  exact V3_gain z i
theorem w264 : val_main_v264 (F := Ideal) z.A1 z.A2 = V3 fun h b n i d => nrm (O (z.x h b) (lgOf h) n) i d * (z.x h b n).g d := by
  funext i
  rw [val_main_v264_apply, w261, w263]
  unfold V3
  rw [fmul]
  rfl

/-- The gate. -/
theorem w265 : val_main_v265 (F := Ideal) z.A1 = V3 fun h b n => (z.x h b n).gt := by
  funext i
  rw [val_main_v265_apply, w3]
  exact V2_split _ i
theorem w266_2 : val_main_v266_2 (F := Ideal) z.A1 = V3 fun h b n i d => sgm ((z.x h b n).gt i d) := by
  funext i
  rw [val_main_v266_2_apply, val_main_call1_v4_apply, val_main_call1_cst_0_apply, val_main_call1_v3_apply, val_main_call1_v2_apply, val_main_call1_cst_apply, val_main_call1_v1_apply, val_main_call1_v0_apply, w265, f1]
  unfold V3
  rw [fneg, fexp, fadd]
  exact fdiv _ _ (ne_of_gt (add_pos one_pos (Real.exp_pos _)))
theorem w266_0 : val_main_v266_0 (F := Ideal) z.A1 = V3 fun h b n i d => (z.x h b n).gt i d * sgm ((z.x h b n).gt i d) := by
  funext i
  rw [val_main_v266_0_apply, w265, w266_2]
  unfold V3
  rw [fmul]
  rfl
theorem w266_1 : val_main_v266_1 (F := Ideal) z.A1 = V3 fun h b n i d => sgm ((z.x h b n).gt i d) * (1 - sgm ((z.x h b n).gt i d)) := by
  funext i
  rw [val_main_v266_1_apply, val_main_call1_v7_apply, val_main_call1_v6_apply, val_main_call1_cst_1_apply, w266_2, f1]
  unfold V3
  rw [fsub, fmul]
  rfl

/-- The result. -/
theorem w268 : val_main_v268 (F := Ideal) z.A1 z.A2 = V2 fun h b n => (z.x h b n).merged (O (z.x h b) (lgOf h) n) := by
  funext i
  refine Eq.trans ?_ (V3_join _ i)
  rw [val_main_v268_apply, val_main_v267_apply, w264, w266_0]
  unfold V3
  rw [fmul]
  rfl

/-- The gradient of the result. -/
theorem w269 : val_main_v269 (F := Ideal) z.A0 = V2 fun h b n => (z.x h b n).dm := by
  funext i
  have h1 : (i 1).val < 512 := (i 1).isLt
  rw [val_main_v269_apply, V2_of _ i ⟨(i 1).val / 128, by omega⟩ (i 0).val ⟨(i 1).val % 128, by omega⟩ rfl (by dsimp only; omega)]
  refine congrArg Real.toEReal (Eq.trans ?_ (rows_row (z.hd ((i 1).val / 128)).dm _ _).symm)
  show z.dm _ _ = z.dm _ _
  congr 1
  dsimp only [idx_main_v269]; omega
theorem w271 : val_main_v271 (F := Ideal) z.A0 = V3 fun h b n => (z.x h b n).dm := by
  funext i
  rw [val_main_v271_apply, w269]
  exact V2_split _ i
theorem w272 : val_main_v272 (F := Ideal) z.A0 z.A1 z.A2 = V3 fun h b n i d => nrm (O (z.x h b) (lgOf h) n) i d * (z.x h b n).g d * (z.x h b n).dm i d := by
  funext i
  rw [val_main_v272_apply, w264, w271]
  unfold V3
  rw [fmul]
  rfl
theorem w273 : val_main_v273 (F := Ideal) z.A0 z.A1 = V3 fun h b n i d => (z.x h b n).dm i d * ((z.x h b n).gt i d * sgm ((z.x h b n).gt i d)) := by
  funext i
  rw [val_main_v273_apply, w271, w266_0]
  unfold V3
  rw [fmul]
  rfl

theorem gate_eq (m n g t s : ℝ) : n * g * m * s + t * (n * g * m) * (s * (1 - s)) = m * n * g * (s * (1 + t * (1 - s))) := by ring

/-- The gradient of the gate. -/
theorem w275 : val_main_v275 (F := Ideal) z.A0 z.A1 z.A2 = V2 fun h b n => (z.x h b n).dgate (O (z.x h b) (lgOf h) n) := by
  funext i
  refine Eq.trans ?_ (V3_join _ i)
  rw [val_main_v275_apply, val_main_v274_apply, val_main_call2_v1_apply, val_main_call2_v2_apply, val_main_call2_v0_apply, w272, w266_2, w266_1, w265]
  unfold V3
  rw [fmul, fmul, fmul, fadd]
  exact congrArg Real.toEReal (gate_eq _ _ _ _ _)

/-- The gradient of the normalised rows. -/
theorem w282 : val_main_v282 (F := Ideal) z.A0 z.A1 z.A2 = V4 fun h b n => (z.x h b n).dyl := by
  funext i
  refine Eq.trans ?_ (V3_heads _ i)
  rw [val_main_v282_apply, val_main_v280_apply, w273, w279]
  unfold V3
  rw [fmul]
  exact congrArg Real.toEReal (mul_right_comm _ _ _)

end Ret

end
-- ==== Proof.RLn.lean ====
/-
  What the reference computes, fifth part: the gradient of the output's rows through the norm.
-/
module

public import proofs.«01_k».proof.Proof.RNorm

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- A centred row sums to zero. -/
theorem cen_sum (A : Mat) (i : Fin 128) : (∑ k, cen A i k) = 0 := by
  show (∑ k, (A i k - mean A i)) = 0
  rw [Finset.sum_sub_distrib, Finset.sum_const, Finset.card_univ, Fintype.card_fin, nsmul_eq_mul]
  unfold mean
  push_cast
  ring

/-- The reciprocal deviation over the variance. -/
theorem rstd_div (A : Mat) (i : Fin 128) : rstd A i / (var A i + eps) = rstd A i ^ 3 := by
  have hw := var_eps_pos A i
  have key : ∀ s w : ℝ, 0 < s → s * s = w → s⁻¹ / w = s⁻¹ ^ 3 := fun s w hs h => by
    subst h
    field_simp
  exact key _ _ (Real.sqrt_pos.2 hw) (Real.mul_self_sqrt hw.le)

/-- The norm's gradient, from the terms the reference adds up. -/
theorem ln_back (A Y : Mat) (i d : Fin 128) (c : ℝ)
    (hc : c = (∑ k, cen A i k * Y i k) * (-1/2 * (rstd A i / (var A i + eps))) / 128) :
    Y i d * rstd A i + c * (2 * cen A i d) + ((∑ k, -(Y i k * rstd A i)) + ∑ k, -(c * (2 * cen A i k))) / 128 =
      rstd A i * (Y i d - mean Y i - nrm A i d * mean (fun i d => Y i d * nrm A i d) i) := by
  have e1 : (∑ k, -(Y i k * rstd A i)) = -((∑ k, Y i k) * rstd A i) := by
    rw [Finset.sum_neg_distrib, Finset.sum_mul]
  have e2 : (∑ k, -(c * (2 * cen A i k))) = 0 := by
    rw [Finset.sum_neg_distrib, ← Finset.mul_sum, ← Finset.mul_sum, cen_sum]; ring
  have e3 : (∑ k, Y i k * nrm A i k) = (∑ k, cen A i k * Y i k) * rstd A i := by
    rw [Finset.sum_mul]; exact Finset.sum_congr rfl fun k _ => by unfold nrm; ring
  rw [e1, e2, hc, rstd_div]
  unfold mean
  rw [e3]
  unfold nrm
  ring

theorem w284 : val_main_v284 (F := Ideal) z.A0 z.A1 z.A2 = V4s fun h b n i => (∑ k, cen (O (z.x h b) (lgOf h) n) i k * (z.x h b n).dyl i k) := by
  funext i
  rw [val_main_v284_apply, val_main_cst_24_apply, fz0, zero_add]
  refine Eq.trans (Finset.sum_congr rfl fun k _ => ?_) (V4_sum (fun h b n i d => cen (O (z.x h b) (lgOf h) n) i d * (z.x h b n).dyl i d) i)
  rw [val_main_v283_apply, w252, w282]
  unfold V4
  rw [fmul]
  rfl
theorem w287 : val_main_v287 (F := Ideal) z.A0 z.A1 z.A2 = V4 fun h b n i d => (z.x h b n).dyl i d * rstd (O (z.x h b) (lgOf h) n) i := by
  funext i
  rw [val_main_v287_apply, val_main_v286_apply, w282, w255]
  unfold V4 V4c
  rw [fmul]
  rfl
theorem w293 : val_main_v293 (F := Ideal) z.A0 z.A1 z.A2 = V4c fun h b n i => ((∑ k, cen (O (z.x h b) (lgOf h) n) i k * (z.x h b n).dyl i k) * (-1/2 * (rstd (O (z.x h b) (lgOf h) n) i / (var (O (z.x h b) (lgOf h) n) i + eps))) / 128) := by
  funext i
  rw [val_main_v293_apply, val_main_v288_apply, val_main_v285_apply, val_main_v292_apply, val_main_cst_26_apply, w284, w258, f128, V4s_col]
  unfold V4c
  rw [fmul]
  exact fdiv _ _ ne128
theorem w291 : val_main_v291 (F := Ideal) z.A0 z.A1 z.A2 = V4c fun h b n i => ∑ k, -((z.x h b n).dyl i k * rstd (O (z.x h b) (lgOf h) n) i) := by
  funext i
  refine Eq.trans ?_ (V4s_col _ i)
  rw [val_main_v291_apply, val_main_v290_apply, val_main_cst_25_apply, fz0, zero_add]
  refine Eq.trans (Finset.sum_congr rfl fun k _ => ?_) (V4_sum (fun h b n i d => -((z.x h b n).dyl i d * rstd (O (z.x h b) (lgOf h) n) i)) _)
  rw [val_main_v289_apply, w287]
  unfold V4
  rw [fneg]
  rfl
theorem w296 : val_main_v296 (F := Ideal) z.A0 z.A1 z.A2 = V4 fun h b n i d => ((∑ k, cen (O (z.x h b) (lgOf h) n) i k * (z.x h b n).dyl i k) * (-1/2 * (rstd (O (z.x h b) (lgOf h) n) i / (var (O (z.x h b) (lgOf h) n) i + eps))) / 128) * (2 * cen (O (z.x h b) (lgOf h) n) i d) := by
  funext i
  rw [val_main_v296_apply, val_main_v295_apply, val_main_v294_apply, val_main_cst_27_apply, fz0, zero_add, Fin.sum_univ_one, w293, w246]
  unfold V4 V4c
  rw [fmul]
  rfl
theorem w299 : val_main_v299 (F := Ideal) z.A0 z.A1 z.A2 = V4c fun h b n i => ∑ k, -(((∑ k, cen (O (z.x h b) (lgOf h) n) i k * (z.x h b n).dyl i k) * (-1/2 * (rstd (O (z.x h b) (lgOf h) n) i / (var (O (z.x h b) (lgOf h) n) i + eps))) / 128) * (2 * cen (O (z.x h b) (lgOf h) n) i k)) := by
  funext i
  refine Eq.trans ?_ (V4s_col _ i)
  rw [val_main_v299_apply, val_main_v298_apply, val_main_cst_28_apply, fz0, zero_add]
  refine Eq.trans (Finset.sum_congr rfl fun k _ => ?_) (V4_sum (fun h b n i d => -(((∑ k, cen (O (z.x h b) (lgOf h) n) i k * (z.x h b n).dyl i k) * (-1/2 * (rstd (O (z.x h b) (lgOf h) n) i / (var (O (z.x h b) (lgOf h) n) i + eps))) / 128) * (2 * cen (O (z.x h b) (lgOf h) n) i d))) _)
  rw [val_main_v297_apply, w296]
  unfold V4
  rw [fneg]
  rfl
theorem w303 : val_main_v303 (F := Ideal) z.A0 z.A1 z.A2 = V4c fun h b n i =>
    ((∑ k, -((z.x h b n).dyl i k * rstd (O (z.x h b) (lgOf h) n) i)) + ∑ k, -(((∑ k, cen (O (z.x h b) (lgOf h) n) i k * (z.x h b n).dyl i k) * (-1/2 * (rstd (O (z.x h b) (lgOf h) n) i / (var (O (z.x h b) (lgOf h) n) i + eps))) / 128) * (2 * cen (O (z.x h b) (lgOf h) n) i k))) / 128 := by
  funext i
  rw [val_main_v303_apply, val_main_v301_apply, val_main_v302_apply, val_main_cst_29_apply, w291, w299, f128]
  unfold V4c
  rw [fadd]
  exact fdiv _ _ ne128

/-- The gradient of the output's rows. -/
theorem w306 : val_main_v306 (F := Ideal) z.A0 z.A1 z.A2 = V4 fun h b n => (z.x h b n).dO (O (z.x h b) (lgOf h) n) := by
  funext i
  rw [val_main_v306_apply, val_main_v305_apply, val_main_v304_apply, val_main_cst_30_apply, fz0, zero_add, Fin.sum_univ_one, val_main_v300_apply, w287, w296, w303]
  unfold V4 V4c
  rw [fadd, fadd]
  exact congrArg Real.toEReal (ln_back _ _ _ _ _ rfl)

/-- The gradient of the output in chunks. -/
theorem w307 : val_main_v307 (F := Ideal) z.A0 z.A1 z.A2 = V5 fun h b n => (z.x h b n).dO (O (z.x h b) (lgOf h) n) := by
  funext i
  rw [val_main_v307_apply, w306]
  exact V4_chunk _ i

end Ret

end
-- ==== Proof.RGrad.lean ====
/-
  What the reference computes, sixth part: the gradients of the states, one scan step after another from the last chunk.
-/
module

public import proofs.«01_k».proof.Proof.RLn

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- The gradient of the output, transposed in each chunk. -/
theorem w308 : val_main_v308 (F := Ideal) z.A0 z.A1 z.A2 = VB fun h b n e i => (z.x h b n).dO (O (z.x h b) (lgOf h) n) i e := by
  funext i
  rw [val_main_v308_apply, w307]
  rfl
theorem w423 : val_main_v423 (F := Ideal) z.A0 z.A1 z.A2 = VB fun h b n e i => (z.x h b n).dO (O (z.x h b) (lgOf h) n) i e := by
  funext i
  rw [val_main_v423_apply, w307]
  rfl

/-- What each chunk adds to the gradient of the state before it. -/
theorem w312 : val_main_v312 (F := Ideal) z.A0 z.A1 z.A2 = VN fun h b n => tmm ((z.x h b n).Qd (lgOf h)) ((z.x h b n).dO (O (z.x h b) (lgOf h) n)) := by
  funext i
  rw [val_main_v312_apply, val_main_v311_apply, w308, w233]
  unfold VB V5
  rw [sum_mul_coe]
  exact congrArg Real.toEReal (Finset.sum_congr rfl fun k _ => mul_comm _ _)
theorem w316 : val_main_v316 (F := Ideal) z.A0 z.A1 z.A2 = VN fun h b n => tmm ((z.x h b n).Qd (lgOf h)) ((z.x h b n).dO (O (z.x h b) (lgOf h) n)) := by
  funext i
  rw [val_main_v316_apply, w312]
  rfl

/-- After the last chunk. -/
theorem w315 : val_main_v315 (F := Ideal) = VS fun h b => G (z.x h b) (lgOf h) 0 := by
  funext i
  rw [val_main_v315_apply, val_main_cst_31_apply, fz]
  rfl

/-- After chunk 14. -/
theorem w323 : val_main_v323 (F := Ideal) z.A0 z.A1 z.A2 = VS fun h b => G (z.x h b) (lgOf h) 1 := by
  funext i
  rw [val_main_v323_apply, val_main_v322_apply, w315 z, val_main_v321_apply, val_main_v320_apply, val_main_v319_apply, w119, w316, VN_cut _ i _ 15 rfl rfl rfl rfl rfl]
  unfold VS
  rw [fmul, fadd]
  exact congrArg Real.toEReal (add_comm _ _)

/-- After chunk 13. -/
theorem w328 : val_main_v328 (F := Ideal) z.A0 z.A1 z.A2 = VS fun h b => G (z.x h b) (lgOf h) 2 := by
  funext i
  rw [val_main_v328_apply, val_main_v327_apply, w323 z, val_main_v326_apply, val_main_v325_apply, val_main_v324_apply, w119, w316, VN_cut _ i _ 14 rfl rfl rfl rfl rfl]
  unfold VS
  rw [fmul, fadd]
  exact congrArg Real.toEReal (add_comm _ _)

/-- After chunk 12. -/
theorem w333 : val_main_v333 (F := Ideal) z.A0 z.A1 z.A2 = VS fun h b => G (z.x h b) (lgOf h) 3 := by
  funext i
  rw [val_main_v333_apply, val_main_v332_apply, w328 z, val_main_v331_apply, val_main_v330_apply, val_main_v329_apply, w119, w316, VN_cut _ i _ 13 rfl rfl rfl rfl rfl]
  unfold VS
  rw [fmul, fadd]
  exact congrArg Real.toEReal (add_comm _ _)

/-- After chunk 11. -/
theorem w338 : val_main_v338 (F := Ideal) z.A0 z.A1 z.A2 = VS fun h b => G (z.x h b) (lgOf h) 4 := by
  funext i
  rw [val_main_v338_apply, val_main_v337_apply, w333 z, val_main_v336_apply, val_main_v335_apply, val_main_v334_apply, w119, w316, VN_cut _ i _ 12 rfl rfl rfl rfl rfl]
  unfold VS
  rw [fmul, fadd]
  exact congrArg Real.toEReal (add_comm _ _)

/-- After chunk 10. -/
theorem w343 : val_main_v343 (F := Ideal) z.A0 z.A1 z.A2 = VS fun h b => G (z.x h b) (lgOf h) 5 := by
  funext i
  rw [val_main_v343_apply, val_main_v342_apply, w338 z, val_main_v341_apply, val_main_v340_apply, val_main_v339_apply, w119, w316, VN_cut _ i _ 11 rfl rfl rfl rfl rfl]
  unfold VS
  rw [fmul, fadd]
  exact congrArg Real.toEReal (add_comm _ _)

/-- After chunk 9. -/
theorem w348 : val_main_v348 (F := Ideal) z.A0 z.A1 z.A2 = VS fun h b => G (z.x h b) (lgOf h) 6 := by
  funext i
  rw [val_main_v348_apply, val_main_v347_apply, w343 z, val_main_v346_apply, val_main_v345_apply, val_main_v344_apply, w119, w316, VN_cut _ i _ 10 rfl rfl rfl rfl rfl]
  unfold VS
  rw [fmul, fadd]
  exact congrArg Real.toEReal (add_comm _ _)

/-- After chunk 8. -/
theorem w353 : val_main_v353 (F := Ideal) z.A0 z.A1 z.A2 = VS fun h b => G (z.x h b) (lgOf h) 7 := by
  funext i
  rw [val_main_v353_apply, val_main_v352_apply, w348 z, val_main_v351_apply, val_main_v350_apply, val_main_v349_apply, w119, w316, VN_cut _ i _ 9 rfl rfl rfl rfl rfl]
  unfold VS
  rw [fmul, fadd]
  exact congrArg Real.toEReal (add_comm _ _)

/-- After chunk 7. -/
theorem w358 : val_main_v358 (F := Ideal) z.A0 z.A1 z.A2 = VS fun h b => G (z.x h b) (lgOf h) 8 := by
  funext i
  rw [val_main_v358_apply, val_main_v357_apply, w353 z, val_main_v356_apply, val_main_v355_apply, val_main_v354_apply, w119, w316, VN_cut _ i _ 8 rfl rfl rfl rfl rfl]
  unfold VS
  rw [fmul, fadd]
  exact congrArg Real.toEReal (add_comm _ _)

/-- After chunk 6. -/
theorem w363 : val_main_v363 (F := Ideal) z.A0 z.A1 z.A2 = VS fun h b => G (z.x h b) (lgOf h) 9 := by
  funext i
  rw [val_main_v363_apply, val_main_v362_apply, w358 z, val_main_v361_apply, val_main_v360_apply, val_main_v359_apply, w119, w316, VN_cut _ i _ 7 rfl rfl rfl rfl rfl]
  unfold VS
  rw [fmul, fadd]
  exact congrArg Real.toEReal (add_comm _ _)

/-- After chunk 5. -/
theorem w368 : val_main_v368 (F := Ideal) z.A0 z.A1 z.A2 = VS fun h b => G (z.x h b) (lgOf h) 10 := by
  funext i
  rw [val_main_v368_apply, val_main_v367_apply, w363 z, val_main_v366_apply, val_main_v365_apply, val_main_v364_apply, w119, w316, VN_cut _ i _ 6 rfl rfl rfl rfl rfl]
  unfold VS
  rw [fmul, fadd]
  exact congrArg Real.toEReal (add_comm _ _)

/-- After chunk 4. -/
theorem w373 : val_main_v373 (F := Ideal) z.A0 z.A1 z.A2 = VS fun h b => G (z.x h b) (lgOf h) 11 := by
  funext i
  rw [val_main_v373_apply, val_main_v372_apply, w368 z, val_main_v371_apply, val_main_v370_apply, val_main_v369_apply, w119, w316, VN_cut _ i _ 5 rfl rfl rfl rfl rfl]
  unfold VS
  rw [fmul, fadd]
  exact congrArg Real.toEReal (add_comm _ _)

/-- After chunk 3. -/
theorem w378 : val_main_v378 (F := Ideal) z.A0 z.A1 z.A2 = VS fun h b => G (z.x h b) (lgOf h) 12 := by
  funext i
  rw [val_main_v378_apply, val_main_v377_apply, w373 z, val_main_v376_apply, val_main_v375_apply, val_main_v374_apply, w119, w316, VN_cut _ i _ 4 rfl rfl rfl rfl rfl]
  unfold VS
  rw [fmul, fadd]
  exact congrArg Real.toEReal (add_comm _ _)

/-- After chunk 2. -/
theorem w383 : val_main_v383 (F := Ideal) z.A0 z.A1 z.A2 = VS fun h b => G (z.x h b) (lgOf h) 13 := by
  funext i
  rw [val_main_v383_apply, val_main_v382_apply, w378 z, val_main_v381_apply, val_main_v380_apply, val_main_v379_apply, w119, w316, VN_cut _ i _ 3 rfl rfl rfl rfl rfl]
  unfold VS
  rw [fmul, fadd]
  exact congrArg Real.toEReal (add_comm _ _)

/-- After chunk 1. -/
theorem w388 : val_main_v388 (F := Ideal) z.A0 z.A1 z.A2 = VS fun h b => G (z.x h b) (lgOf h) 14 := by
  funext i
  rw [val_main_v388_apply, val_main_v387_apply, w383 z, val_main_v386_apply, val_main_v385_apply, val_main_v384_apply, w119, w316, VN_cut _ i _ 2 rfl rfl rfl rfl rfl]
  unfold VS
  rw [fmul, fadd]
  exact congrArg Real.toEReal (add_comm _ _)

/-- After chunk 0. -/
theorem w393 : val_main_v393 (F := Ideal) z.A0 z.A1 z.A2 = VS fun h b => G (z.x h b) (lgOf h) 15 := by
  funext i
  rw [val_main_v393_apply, val_main_v392_apply, w388 z, val_main_v391_apply, val_main_v390_apply, val_main_v389_apply, w119, w316, VN_cut _ i _ 1 rfl rfl rfl rfl rfl]
  unfold VS
  rw [fmul, fadd]
  exact congrArg Real.toEReal (add_comm _ _)

theorem w399 (i : S16x2x4x128x128.Idx) : val_main_v399 (F := Ideal) z.A0 z.A1 z.A2 (oneIdx i) = ((G (z.x (i 2) (i 1).val) (lgOf (i 2)) 15 (i 3) (i 4) : ℝ) : EReal) := by
  rw [val_main_v399_apply, w393 z]
  rfl
theorem w400 (i : S16x2x4x128x128.Idx) : val_main_v400 (F := Ideal) z.A0 z.A1 z.A2 (oneIdx i) = ((G (z.x (i 2) (i 1).val) (lgOf (i 2)) 14 (i 3) (i 4) : ℝ) : EReal) := by
  rw [val_main_v400_apply, w388 z]
  rfl
theorem w401 (i : S16x2x4x128x128.Idx) : val_main_v401 (F := Ideal) z.A0 z.A1 z.A2 (oneIdx i) = ((G (z.x (i 2) (i 1).val) (lgOf (i 2)) 13 (i 3) (i 4) : ℝ) : EReal) := by
  rw [val_main_v401_apply, w383 z]
  rfl
theorem w402 (i : S16x2x4x128x128.Idx) : val_main_v402 (F := Ideal) z.A0 z.A1 z.A2 (oneIdx i) = ((G (z.x (i 2) (i 1).val) (lgOf (i 2)) 12 (i 3) (i 4) : ℝ) : EReal) := by
  rw [val_main_v402_apply, w378 z]
  rfl
theorem w403 (i : S16x2x4x128x128.Idx) : val_main_v403 (F := Ideal) z.A0 z.A1 z.A2 (oneIdx i) = ((G (z.x (i 2) (i 1).val) (lgOf (i 2)) 11 (i 3) (i 4) : ℝ) : EReal) := by
  rw [val_main_v403_apply, w373 z]
  rfl
theorem w404 (i : S16x2x4x128x128.Idx) : val_main_v404 (F := Ideal) z.A0 z.A1 z.A2 (oneIdx i) = ((G (z.x (i 2) (i 1).val) (lgOf (i 2)) 10 (i 3) (i 4) : ℝ) : EReal) := by
  rw [val_main_v404_apply, w368 z]
  rfl
theorem w405 (i : S16x2x4x128x128.Idx) : val_main_v405 (F := Ideal) z.A0 z.A1 z.A2 (oneIdx i) = ((G (z.x (i 2) (i 1).val) (lgOf (i 2)) 9 (i 3) (i 4) : ℝ) : EReal) := by
  rw [val_main_v405_apply, w363 z]
  rfl
theorem w406 (i : S16x2x4x128x128.Idx) : val_main_v406 (F := Ideal) z.A0 z.A1 z.A2 (oneIdx i) = ((G (z.x (i 2) (i 1).val) (lgOf (i 2)) 8 (i 3) (i 4) : ℝ) : EReal) := by
  rw [val_main_v406_apply, w358 z]
  rfl
theorem w407 (i : S16x2x4x128x128.Idx) : val_main_v407 (F := Ideal) z.A0 z.A1 z.A2 (oneIdx i) = ((G (z.x (i 2) (i 1).val) (lgOf (i 2)) 7 (i 3) (i 4) : ℝ) : EReal) := by
  rw [val_main_v407_apply, w353 z]
  rfl
theorem w408 (i : S16x2x4x128x128.Idx) : val_main_v408 (F := Ideal) z.A0 z.A1 z.A2 (oneIdx i) = ((G (z.x (i 2) (i 1).val) (lgOf (i 2)) 6 (i 3) (i 4) : ℝ) : EReal) := by
  rw [val_main_v408_apply, w348 z]
  rfl
theorem w409 (i : S16x2x4x128x128.Idx) : val_main_v409 (F := Ideal) z.A0 z.A1 z.A2 (oneIdx i) = ((G (z.x (i 2) (i 1).val) (lgOf (i 2)) 5 (i 3) (i 4) : ℝ) : EReal) := by
  rw [val_main_v409_apply, w343 z]
  rfl
theorem w410 (i : S16x2x4x128x128.Idx) : val_main_v410 (F := Ideal) z.A0 z.A1 z.A2 (oneIdx i) = ((G (z.x (i 2) (i 1).val) (lgOf (i 2)) 4 (i 3) (i 4) : ℝ) : EReal) := by
  rw [val_main_v410_apply, w338 z]
  rfl
theorem w411 (i : S16x2x4x128x128.Idx) : val_main_v411 (F := Ideal) z.A0 z.A1 z.A2 (oneIdx i) = ((G (z.x (i 2) (i 1).val) (lgOf (i 2)) 3 (i 3) (i 4) : ℝ) : EReal) := by
  rw [val_main_v411_apply, w333 z]
  rfl
theorem w412 (i : S16x2x4x128x128.Idx) : val_main_v412 (F := Ideal) z.A0 z.A1 z.A2 (oneIdx i) = ((G (z.x (i 2) (i 1).val) (lgOf (i 2)) 2 (i 3) (i 4) : ℝ) : EReal) := by
  rw [val_main_v412_apply, w328 z]
  rfl
theorem w413 (i : S16x2x4x128x128.Idx) : val_main_v413 (F := Ideal) z.A0 z.A1 z.A2 (oneIdx i) = ((G (z.x (i 2) (i 1).val) (lgOf (i 2)) 1 (i 3) (i 4) : ℝ) : EReal) := by
  rw [val_main_v413_apply, w323 z]
  rfl
theorem w414 (i : S16x2x4x128x128.Idx) : val_main_v414 (F := Ideal) (oneIdx i) = ((G (z.x (i 2) (i 1).val) (lgOf (i 2)) 0 (i 3) (i 4) : ℝ) : EReal) := by
  rw [val_main_v414_apply, w315 z]
  rfl

/-- The gradients of the states after each chunk, joined. -/
theorem w415 : val_main_v415 (F := Ideal) z.A0 z.A1 z.A2 = VN fun h b n => (G (z.x h b) (lgOf h) (15 - n)) := by
  funext i
  exact join16 _ _ _ _ _ _ _ _ _ _ _ _ _ _ _ _ (fun n => ((G (z.x (i 2) (i 1).val) (lgOf (i 2)) (15 - n) (i 3) (i 4) : ℝ) : EReal)) i _
    (w399 z i) (w400 z i) (w401 z i) (w402 z i) (w403 z i) (w404 z i) (w405 z i) (w406 z i) (w407 z i) (w408 z i) (w409 z i) (w410 z i) (w411 z i) (w412 z i) (w413 z i) (w414 z i)

theorem w416 : val_main_v416 (F := Ideal) z.A0 z.A1 z.A2 = VN fun h b n => (G (z.x h b) (lgOf h) (15 - n)) := by
  funext i
  unfold val_main_v416
  refine (concatenate_pair_apply_left (s₁ := S16x2x4x128x128) (s₂ := S0x2x4x128x128) (0 : Fin 5) _ _ _ i rfl i (fun _ => rfl)).trans ?_
  rw [w415]

end Ret

end
-- ==== Proof.RDot.lean ====
/-
  What the reference computes, seventh part: the gradients of the rotated queries, of the rotated keys and of the values.
-/
module

public import proofs.«01_k».proof.Proof.RGrad

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- The part of the queries’ gradient from the states. -/
theorem w310 : val_main_v310 (F := Ideal) z.A0 z.A1 z.A2 = V5 fun h b n => mmt ((z.x h b n).dO (O (z.x h b) (lgOf h) n)) (R (z.x h b) (lgOf h) n) := by
  funext i
  rw [val_main_v310_apply, val_main_v309_apply, w308, w221]
  unfold VB VN
  rw [sum_mul_coe]
  rfl
theorem w314 : val_main_v314 (F := Ideal) z.A0 z.A1 z.A2 = V5 fun h b n => fun i d => mmt ((z.x h b n).dO (O (z.x h b) (lgOf h) n)) (R (z.x h b) (lgOf h) n) i d * qdec (lgOf h) i := by
  funext i
  rw [val_main_v314_apply, val_main_v313_apply, w310, w231]
  unfold V5
  rw [fmul]
  rfl
/-- The part of the values’ gradient from the states. -/
theorem w418 : val_main_v418 (F := Ideal) z.A0 z.A1 z.A2 = V5 fun h b n => mm ((z.x h b n).Kd (lgOf h)) (G (z.x h b) (lgOf h) (15 - n)) := by
  funext i
  rw [val_main_v418_apply, val_main_v417_apply, w416, w114]
  unfold VN V5
  rw [sum_mul_coe]
  exact congrArg Real.toEReal (Finset.sum_congr rfl fun k _ => mul_comm _ _)
theorem w420 : val_main_v420 (F := Ideal) z.A0 z.A1 z.A2 = V5 fun h b n => mmt (z.x h b n).v (G (z.x h b) (lgOf h) (15 - n)) := by
  funext i
  rw [val_main_v420_apply, val_main_v419_apply, w416, w96]
  unfold VN V5
  rw [sum_mul_coe]
  exact congrArg Real.toEReal (Finset.sum_congr rfl fun k _ => mul_comm _ _)
/-- The part of the keys’ gradient from the states. -/
theorem w422 : val_main_v422 (F := Ideal) z.A0 z.A1 z.A2 = V5 fun h b n => fun j d => mmt (z.x h b n).v (G (z.x h b) (lgOf h) (15 - n)) j d * kdec (lgOf h) j := by
  funext i
  rw [val_main_v422_apply, val_main_v421_apply, w420, w112]
  unfold V5
  rw [fmul]
  rfl
/-- The gradient of the decayed scores. -/
theorem w425 : val_main_v425 (F := Ideal) z.A0 z.A1 z.A2 = VH fun h b n => mmt ((z.x h b n).dO (O (z.x h b) (lgOf h) n)) (z.x h b n).v := by
  funext i
  rw [val_main_v425_apply, val_main_v424_apply, w423, w96]
  unfold VB V5
  rw [sum_mul_coe]
  rfl
theorem w427 : val_main_v427 (F := Ideal) z.A0 z.A1 z.A2 = V5 fun h b n => tmm ((z.x h b n).S (lgOf h)) ((z.x h b n).dO (O (z.x h b) (lgOf h) n)) := by
  funext i
  rw [val_main_v427_apply, val_main_v426_apply, w423, w100]
  unfold VB VH
  rw [sum_mul_coe]
  exact congrArg Real.toEReal (Finset.sum_congr rfl fun k _ => mul_comm _ _)
/-- The gradient of the values in chunks. -/
theorem w428 : val_main_v428 (F := Ideal) z.A0 z.A1 z.A2 = V5 fun h b n => (z.x h b n).dv (lgOf h) (O (z.x h b) (lgOf h) n) (G (z.x h b) (lgOf h) (15 - n)) := by
  funext i
  rw [val_main_v428_apply, w418, w427]
  unfold V5
  rw [fadd]
  exact congrArg Real.toEReal (add_comm _ _)
/-- The gradient of the scores. -/
theorem w430 : val_main_v430 (F := Ideal) z.A0 z.A1 z.A2 = VH fun h b n => ((z.x h b n).dS (lgOf h) (O (z.x h b) (lgOf h) n)) := by
  funext i
  rw [val_main_v430_apply, val_main_v429_apply, w425, w98]
  unfold VH
  rw [fmul]
  rfl
theorem w432 : val_main_v432 (F := Ideal) z.A0 z.A1 z.A2 = V5 fun h b n => tmm ((z.x h b n).dS (lgOf h) (O (z.x h b) (lgOf h) n)) (z.x h b n).Q := by
  funext i
  rw [val_main_v432_apply, val_main_v431_apply, w430, w94]
  unfold VH V5
  rw [sum_mul_coe]
  rfl
/-- The gradient of the rotated keys in chunks. -/
theorem w433 : val_main_v433 (F := Ideal) z.A0 z.A1 z.A2 = V5 fun h b n => (z.x h b n).dK (lgOf h) (O (z.x h b) (lgOf h) n) (G (z.x h b) (lgOf h) (15 - n)) := by
  funext i
  rw [val_main_v433_apply, w422, w432]
  unfold V5
  rw [fadd]
  exact congrArg Real.toEReal (add_comm _ _)
theorem w435 : val_main_v435 (F := Ideal) z.A0 z.A1 z.A2 = V5 fun h b n => mm ((z.x h b n).dS (lgOf h) (O (z.x h b) (lgOf h) n)) (z.x h b n).K := by
  funext i
  rw [val_main_v435_apply, val_main_v434_apply, w430, w95]
  unfold VH V5
  rw [sum_mul_coe]
  rfl
/-- The gradient of the rotated queries in chunks. -/
theorem w436 : val_main_v436 (F := Ideal) z.A0 z.A1 z.A2 = V5 fun h b n => (z.x h b n).dQ (lgOf h) (O (z.x h b) (lgOf h) n) (R (z.x h b) (lgOf h) n) := by
  funext i
  rw [val_main_v436_apply, w314, w435]
  unfold V5
  rw [fadd]
  exact congrArg Real.toEReal (add_comm _ _)
theorem w437 : val_main_v437 (F := Ideal) z.A0 z.A1 z.A2 = V4 fun h b n => (z.x h b n).dv (lgOf h) (O (z.x h b) (lgOf h) n) (G (z.x h b) (lgOf h) (15 - n)) := by
  funext i
  rw [val_main_v437_apply, w428]
  exact V5_rows _ i
theorem w438 : val_main_v438 (F := Ideal) z.A0 z.A1 z.A2 = V4 fun h b n => (z.x h b n).dK (lgOf h) (O (z.x h b) (lgOf h) n) (G (z.x h b) (lgOf h) (15 - n)) := by
  funext i
  rw [val_main_v438_apply, w433]
  exact V5_rows _ i
theorem w439 : val_main_v439 (F := Ideal) z.A0 z.A1 z.A2 = V4 fun h b n => (z.x h b n).dQ (lgOf h) (O (z.x h b) (lgOf h) n) (R (z.x h b) (lgOf h) n) := by
  funext i
  rw [val_main_v439_apply, w436]
  exact V5_rows _ i
theorem w441 : val_main_v441 (F := Ideal) z.A0 z.A1 z.A2 = V4 fun h b n j d => (z.x h b n).dK (lgOf h) (O (z.x h b) (lgOf h) n) (G (z.x h b) (lgOf h) (15 - n)) j d * sc := by
  funext i
  rw [val_main_v441_apply, val_main_v440_apply, val_main_cst_33_apply, w438, fsc]
  unfold V4
  rw [fmul]
  rfl

/-- The gradient of the values. -/
theorem w474 : val_main_v474 (F := Ideal) z.A0 z.A1 z.A2 = V2 fun h b n => (z.x h b n).dv (lgOf h) (O (z.x h b) (lgOf h) n) (G (z.x h b) (lgOf h) (15 - n)) := by
  funext i
  rw [val_main_v474_apply, w437]
  exact V4_join _ i

end Ret

end
-- ==== Proof.RRopeT.lean ====
/-
  What the reference computes, last part: the gradients of queries and keys turned back through the rotary embedding.
-/
module

public import proofs.«01_k».proof.Proof.RDot

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- A family's rows turned back, row by row. -/
theorem rows_ropeT (h : Fin 4) (f : ℕ → ℕ → Mat) (r : ℕ) (d : Fin 128) :
    rows (fun b n => ropeT (z.x h b n).c (z.x h b n).s (f b n)) r d =
      rows f r d * cosT (r % 2048) d + rows f r (d + 64) * sinT (r % 2048) (d + 64) := by
  have e1 := rows_pos cosT r d
  have e2 := rows_pos sinT r (d + 64)
  rw [← e1, ← e2]
  rfl

/-- The lower half put above. -/
theorem pad_above_ge (x : S2x2048x4x64.Idx → EReal) (v : S_.Idx → EReal) (i : S2x2048x4x128.Idx) (k : S2x2048x4x64.Idx)
    (h0 : (i 0).val = (k 0).val) (h1 : (i 1).val = (k 1).val) (h2 : (i 2).val = (k 2).val) (h3 : (i 3).val = 64 + (k 3).val) :
    pad S2x2048x4x128 ![0, 0, 0, 64] ![0, 0, 0, 0] ![0, 0, 0, 0] x v pads_S2x2048x4x64_S2x2048x4x128_000_000_000_6400 h_S_ i = x k := by
  refine pad_apply_of_inside _ _ _ x v _ h_S_ i k fun a => ?_
  match a with
  | ⟨0, _⟩ => show (i 0).val = 0 + (k 0).val * (0 + 1); omega
  | ⟨1, _⟩ => show (i 1).val = 0 + (k 1).val * (0 + 1); omega
  | ⟨2, _⟩ => show (i 2).val = 0 + (k 2).val * (0 + 1); omega
  | ⟨3, _⟩ => show (i 3).val = 64 + (k 3).val * (0 + 1); omega
theorem pad_above_lt (x : S2x2048x4x64.Idx → EReal) (v : S_.Idx → EReal) (i : S2x2048x4x128.Idx) (h3 : (i 3).val < 64) :
    pad S2x2048x4x128 ![0, 0, 0, 64] ![0, 0, 0, 0] ![0, 0, 0, 0] x v pads_S2x2048x4x64_S2x2048x4x128_000_000_000_6400 h_S_ i = v (Shape.Idx.first h_S_) := by
  refine pad_apply_of_not_inside _ _ _ x v _ h_S_ i (3 : Fin 4) fun c => ?_
  have : 64 ≤ (i 3).val := c.1
  omega
/-- The upper half put below. -/
theorem pad_below_lt (x : S2x2048x4x64.Idx → EReal) (v : S_.Idx → EReal) (i : S2x2048x4x128.Idx) (k : S2x2048x4x64.Idx)
    (h0 : (i 0).val = (k 0).val) (h1 : (i 1).val = (k 1).val) (h2 : (i 2).val = (k 2).val) (h3 : (i 3).val = (k 3).val) :
    pad S2x2048x4x128 ![0, 0, 0, 0] ![0, 0, 0, 64] ![0, 0, 0, 0] x v pads_S2x2048x4x64_S2x2048x4x128_000_000_000_0640 h_S_ i = x k := by
  refine pad_apply_of_inside _ _ _ x v _ h_S_ i k fun a => ?_
  match a with
  | ⟨0, _⟩ => show (i 0).val = 0 + (k 0).val * (0 + 1); omega
  | ⟨1, _⟩ => show (i 1).val = 0 + (k 1).val * (0 + 1); omega
  | ⟨2, _⟩ => show (i 2).val = 0 + (k 2).val * (0 + 1); omega
  | ⟨3, _⟩ => show (i 3).val = 0 + (k 3).val * (0 + 1); omega
theorem pad_below_ge (x : S2x2048x4x64.Idx → EReal) (v : S_.Idx → EReal) (i : S2x2048x4x128.Idx) (h3 : ¬ (i 3).val < 64) :
    pad S2x2048x4x128 ![0, 0, 0, 0] ![0, 0, 0, 64] ![0, 0, 0, 0] x v pads_S2x2048x4x64_S2x2048x4x128_000_000_000_0640 h_S_ i = v (Shape.Idx.first h_S_) := by
  refine pad_apply_of_not_inside _ _ _ x v _ h_S_ i (3 : Fin 4) fun c => h3 ?_
  have : ((i 3).val - 0) / (0 + 1) < 64 := c.2.2
  omega

theorem w451 (i : S2x2048x4x64.Idx) : val_main_v451 (F := Ideal) z.A0 z.A1 z.A2 i =
    ((rows (fun b n => (fun h b n => fun j d => (z.x h b n).dK (lgOf h) (O (z.x h b) (lgOf h) n) (G (z.x h b) (lgOf h) (15 - n)) j d * sc) (i 2) b n) (2048 * (i 0).val + (i 1).val) ⟨64 + (i 3).val, by have : (i 3).val < 64 := (i 3).isLt; omega⟩ * Real.cos (ang (i 1).val (i 3).val)
      + -rows (fun b n => (fun h b n => fun j d => (z.x h b n).dK (lgOf h) (O (z.x h b) (lgOf h) n) (G (z.x h b) (lgOf h) (15 - n)) j d * sc) (i 2) b n) (2048 * (i 0).val + (i 1).val) ⟨(i 3).val, by have : (i 3).val < 64 := (i 3).isLt; omega⟩ * Real.sin (ang (i 1).val (i 3).val) : ℝ) : EReal) := by
  rw [val_main_v451_apply, val_main_v445_apply, val_main_v443_apply, val_main_v444_apply, val_main_v450_apply, val_main_v448_apply, val_main_v442_apply, val_main_v449_apply, w441, w52, w54]
  unfold V4
  rw [fneg, fmul, fmul, fadd]
  rfl
theorem w454 (i : S2x2048x4x64.Idx) : val_main_v454 (F := Ideal) z.A0 z.A1 z.A2 i =
    ((rows (fun b n => (fun h b n => fun j d => (z.x h b n).dK (lgOf h) (O (z.x h b) (lgOf h) n) (G (z.x h b) (lgOf h) (15 - n)) j d * sc) (i 2) b n) (2048 * (i 0).val + (i 1).val) ⟨64 + (i 3).val, by have : (i 3).val < 64 := (i 3).isLt; omega⟩ * Real.sin (ang (i 1).val (i 3).val)
      + rows (fun b n => (fun h b n => fun j d => (z.x h b n).dK (lgOf h) (O (z.x h b) (lgOf h) n) (G (z.x h b) (lgOf h) (15 - n)) j d * sc) (i 2) b n) (2048 * (i 0).val + (i 1).val) ⟨(i 3).val, by have : (i 3).val < 64 := (i 3).isLt; omega⟩ * Real.cos (ang (i 1).val (i 3).val) : ℝ) : EReal) := by
  rw [val_main_v454_apply, val_main_v447_apply, val_main_v443_apply, val_main_v446_apply, val_main_v453_apply, val_main_v442_apply, val_main_v452_apply, w441, w52, w54]
  unfold V4
  rw [fmul, fmul, fadd]
  rfl
theorem w457 : val_main_v457 (F := Ideal) z.A0 z.A1 z.A2 = V4 fun h b n => ropeT (z.x h b n).c (z.x h b n).s (fun j d => (z.x h b n).dK (lgOf h) (O (z.x h b) (lgOf h) n) (G (z.x h b) (lgOf h) (15 - n)) j d * sc) := by
  funext i
  have h0 : (i 0).val < 2 := (i 0).isLt
  have h1 : (i 1).val < 2048 := (i 1).isLt
  have h3 : (i 3).val < 128 := (i 3).isLt
  have hr : (2048 * (i 0).val + (i 1).val) % 2048 = (i 1).val := by omega
  have hrope := rows_ropeT z (i 2) (fun b n => (fun h b n => fun j d => (z.x h b n).dK (lgOf h) (O (z.x h b) (lgOf h) n) (G (z.x h b) (lgOf h) (15 - n)) j d * sc) (i 2) b n) (2048 * (i 0).val + (i 1).val) (i 3)
  rw [hr] at hrope
  refine Eq.trans ?_ (congrArg Real.toEReal hrope.symm)
  rw [val_main_v457_apply]
  unfold val_main_v455 val_main_v456
  by_cases h : (i 3).val < 64
  · rw [pad_above_lt _ _ i h, pad_below_lt _ _ i (fun a => match a with
      | ⟨0, _⟩ => i 0
      | ⟨1, _⟩ => i 1
      | ⟨2, _⟩ => i 2
      | ⟨3, _⟩ => ⟨(i 3).val, h⟩) rfl rfl rfl rfl, val_main_cst_34_apply, fz, w454, fadd, zero_add]
    refine congrArg Real.toEReal ?_
    rw [add64_lt _ h]
    unfold cosT sinT
    rw [if_neg (show ¬ (64 + (i 3).val < 64) by omega), Nat.mod_eq_of_lt h, show 64 + (i 3).val - 64 = (i 3).val by omega, add_comm]
    rfl
  · rw [pad_above_ge _ _ i (fun a => match a with
      | ⟨0, _⟩ => i 0
      | ⟨1, _⟩ => i 1
      | ⟨2, _⟩ => i 2
      | ⟨3, _⟩ => ⟨(i 3).val - 64, by show (i 3).val - 64 < 64; omega⟩) rfl rfl rfl (by show (i 3).val = 64 + ((i 3).val - 64); omega),
      pad_below_ge _ _ i h, val_main_cst_35_apply, fz, w451, fadd, add_zero]
    refine congrArg Real.toEReal ?_
    have e3 : (⟨64 + ((i 3).val - 64), by omega⟩ : Fin 128) = i 3 := Fin.ext (by show 64 + ((i 3).val - 64) = (i 3).val; omega)
    have e4 : (i 3).val % 64 = (i 3).val - 64 := by omega
    rw [add64_ge _ h]
    unfold cosT sinT
    rw [if_pos (show (i 3).val - 64 < 64 by omega), e4, mul_neg, ← neg_mul]
    exact congrArg₂ (· + ·) (congrArg (fun d : Fin 128 => rows (fun b n => (fun h b n => fun j d => (z.x h b n).dK (lgOf h) (O (z.x h b) (lgOf h) n) (G (z.x h b) (lgOf h) (15 - n)) j d * sc) (i 2) b n) (2048 * (i 0).val + (i 1).val) d * Real.cos (ang (i 1).val ((i 3).val - 64))) e3) rfl
/-- The gradient of the keys. -/
theorem w475 : val_main_v475 (F := Ideal) z.A0 z.A1 z.A2 = V2 fun h b n => (z.x h b n).dk (lgOf h) (O (z.x h b) (lgOf h) n) (G (z.x h b) (lgOf h) (15 - n)) := by
  funext i
  rw [val_main_v475_apply, w457]
  exact V4_join _ i

theorem w467 (i : S2x2048x4x64.Idx) : val_main_v467 (F := Ideal) z.A0 z.A1 z.A2 i =
    ((rows (fun b n => (fun h b n => (z.x h b n).dQ (lgOf h) (O (z.x h b) (lgOf h) n) (R (z.x h b) (lgOf h) n)) (i 2) b n) (2048 * (i 0).val + (i 1).val) ⟨64 + (i 3).val, by have : (i 3).val < 64 := (i 3).isLt; omega⟩ * Real.cos (ang (i 1).val (i 3).val)
      + -rows (fun b n => (fun h b n => (z.x h b n).dQ (lgOf h) (O (z.x h b) (lgOf h) n) (R (z.x h b) (lgOf h) n)) (i 2) b n) (2048 * (i 0).val + (i 1).val) ⟨(i 3).val, by have : (i 3).val < 64 := (i 3).isLt; omega⟩ * Real.sin (ang (i 1).val (i 3).val) : ℝ) : EReal) := by
  rw [val_main_v467_apply, val_main_v461_apply, val_main_v459_apply, val_main_v460_apply, val_main_v466_apply, val_main_v464_apply, val_main_v458_apply, val_main_v465_apply, w439, w23, w25]
  unfold V4
  rw [fneg, fmul, fmul, fadd]
  rfl
theorem w470 (i : S2x2048x4x64.Idx) : val_main_v470 (F := Ideal) z.A0 z.A1 z.A2 i =
    ((rows (fun b n => (fun h b n => (z.x h b n).dQ (lgOf h) (O (z.x h b) (lgOf h) n) (R (z.x h b) (lgOf h) n)) (i 2) b n) (2048 * (i 0).val + (i 1).val) ⟨64 + (i 3).val, by have : (i 3).val < 64 := (i 3).isLt; omega⟩ * Real.sin (ang (i 1).val (i 3).val)
      + rows (fun b n => (fun h b n => (z.x h b n).dQ (lgOf h) (O (z.x h b) (lgOf h) n) (R (z.x h b) (lgOf h) n)) (i 2) b n) (2048 * (i 0).val + (i 1).val) ⟨(i 3).val, by have : (i 3).val < 64 := (i 3).isLt; omega⟩ * Real.cos (ang (i 1).val (i 3).val) : ℝ) : EReal) := by
  rw [val_main_v470_apply, val_main_v463_apply, val_main_v459_apply, val_main_v462_apply, val_main_v469_apply, val_main_v458_apply, val_main_v468_apply, w439, w23, w25]
  unfold V4
  rw [fmul, fmul, fadd]
  rfl
theorem w473 : val_main_v473 (F := Ideal) z.A0 z.A1 z.A2 = V4 fun h b n => ropeT (z.x h b n).c (z.x h b n).s ((z.x h b n).dQ (lgOf h) (O (z.x h b) (lgOf h) n) (R (z.x h b) (lgOf h) n)) := by
  funext i
  have h0 : (i 0).val < 2 := (i 0).isLt
  have h1 : (i 1).val < 2048 := (i 1).isLt
  have h3 : (i 3).val < 128 := (i 3).isLt
  have hr : (2048 * (i 0).val + (i 1).val) % 2048 = (i 1).val := by omega
  have hrope := rows_ropeT z (i 2) (fun b n => (fun h b n => (z.x h b n).dQ (lgOf h) (O (z.x h b) (lgOf h) n) (R (z.x h b) (lgOf h) n)) (i 2) b n) (2048 * (i 0).val + (i 1).val) (i 3)
  rw [hr] at hrope
  refine Eq.trans ?_ (congrArg Real.toEReal hrope.symm)
  rw [val_main_v473_apply]
  unfold val_main_v471 val_main_v472
  by_cases h : (i 3).val < 64
  · rw [pad_above_lt _ _ i h, pad_below_lt _ _ i (fun a => match a with
      | ⟨0, _⟩ => i 0
      | ⟨1, _⟩ => i 1
      | ⟨2, _⟩ => i 2
      | ⟨3, _⟩ => ⟨(i 3).val, h⟩) rfl rfl rfl rfl, val_main_cst_36_apply, fz, w470, fadd, zero_add]
    refine congrArg Real.toEReal ?_
    rw [add64_lt _ h]
    unfold cosT sinT
    rw [if_neg (show ¬ (64 + (i 3).val < 64) by omega), Nat.mod_eq_of_lt h, show 64 + (i 3).val - 64 = (i 3).val by omega, add_comm]
    rfl
  · rw [pad_above_ge _ _ i (fun a => match a with
      | ⟨0, _⟩ => i 0
      | ⟨1, _⟩ => i 1
      | ⟨2, _⟩ => i 2
      | ⟨3, _⟩ => ⟨(i 3).val - 64, by show (i 3).val - 64 < 64; omega⟩) rfl rfl rfl (by show (i 3).val = 64 + ((i 3).val - 64); omega),
      pad_below_ge _ _ i h, val_main_cst_37_apply, fz, w467, fadd, add_zero]
    refine congrArg Real.toEReal ?_
    have e3 : (⟨64 + ((i 3).val - 64), by omega⟩ : Fin 128) = i 3 := Fin.ext (by show 64 + ((i 3).val - 64) = (i 3).val; omega)
    have e4 : (i 3).val % 64 = (i 3).val - 64 := by omega
    rw [add64_ge _ h]
    unfold cosT sinT
    rw [if_pos (show (i 3).val - 64 < 64 by omega), e4, mul_neg, ← neg_mul]
    exact congrArg₂ (· + ·) (congrArg (fun d : Fin 128 => rows (fun b n => (fun h b n => (z.x h b n).dQ (lgOf h) (O (z.x h b) (lgOf h) n) (R (z.x h b) (lgOf h) n)) (i 2) b n) (2048 * (i 0).val + (i 1).val) d * Real.cos (ang (i 1).val ((i 3).val - 64))) e3) rfl
/-- The gradient of the queries. -/
theorem w476 : val_main_v476 (F := Ideal) z.A0 z.A1 z.A2 = V2 fun h b n => (z.x h b n).dq (lgOf h) (O (z.x h b) (lgOf h) n) (R (z.x h b) (lgOf h) n) := by
  funext i
  rw [val_main_v476_apply, w473]
  exact V4_join _ i

end Ret

end
-- ==== Proof.RGain.lean ====
/-
  What the reference computes for the gradient of the gain: a sum over both batch rows and all positions, taken apart into
  the chunks' parts.
-/
module

public import proofs.«01_k».proof.Proof.RNorm
public import proofs.«01_k».proof.Proof.KArr1

@[expose] public section

set_option maxRecDepth 8192
set_option maxHeartbeats 400000

noncomputable section

namespace Ret

open Idealize.ShloMosaic Idealize.ShloMosaic.ValueIdx
open Cert.ReferenceIdeal Cert.ReferenceIdeal.Gen Cert.ReferenceIdeal.Read
open scoped BigOperators

variable (z : Inp)

/-- The rows of both batch rows at one column, chunk by chunk. -/
theorem sum_rows (f : Fam) (h' : S2x2048x512.ReducesTo [0, 1] S512) (c : S512.Idx) (h : Fin 4) (d : Fin 128) (hc : (c 0).val = 128 * h.val + d.val) :
    (∑ i ∈ Finset.univ.filter (fun i => h'.drop i = c), V3 f i) =
      ((∑ b : Fin 2, ∑ n : Fin 16, ∑ j : Fin 128, f h b.val n.val j d : ℝ) : EReal) := by
  have hm : ∀ i : S2x2048x512.Idx, h'.drop i = c ↔ (i 2).val = (c 0).val := fun i =>
    ⟨fun e => congrArg (fun y : S512.Idx => (y 0).val) e, fun e => funext fun a => match a with | ⟨0, _⟩ => Fin.ext e⟩
  have c0 : (c 0).val < 512 := (c 0).isLt
  have key : (∑ i ∈ Finset.univ.filter (fun i => h'.drop i = c), V3 f i) =
      ∑ p : Fin 2 × Fin 16 × Fin 128, ((f h p.1.val p.2.1.val p.2.2 d : ℝ) : EReal) := by
    refine Finset.sum_bij'
      (fun i _ => ((⟨(i 0).val, (i 0).isLt⟩ : Fin 2), (⟨(i 1).val / 128, by have : (i 1).val < 2048 := (i 1).isLt; omega⟩ : Fin 16), (⟨(i 1).val % 128, by omega⟩ : Fin 128)))
      (fun p _ => (fun a => match a with
        | ⟨0, _⟩ => ⟨p.1.val, p.1.isLt⟩
        | ⟨1, _⟩ => ⟨128 * p.2.1.val + p.2.2.val, by have := p.2.1.isLt; have := p.2.2.isLt; show 128 * p.2.1.val + p.2.2.val < 2048; omega⟩
        | ⟨2, _⟩ => ⟨(c 0).val, c0⟩ : S2x2048x512.Idx)) ?_ ?_ ?_ ?_ ?_
    · exact fun _ _ => Finset.mem_univ _
    · exact fun p _ => Finset.mem_filter.2 ⟨Finset.mem_univ _, (hm _).2 rfl⟩
    · intro i hi
      have h2 := (hm i).1 (Finset.mem_filter.1 hi).2
      exact funext fun a => match a with
        | ⟨0, _⟩ => rfl
        | ⟨1, _⟩ => Fin.ext (Nat.div_add_mod _ _)
        | ⟨2, _⟩ => Fin.ext h2.symm
    · intro p _
      have l1 := p.2.1.isLt; have l2 := p.2.2.isLt
      refine Prod.ext rfl (Prod.ext (Fin.ext ?_) (Fin.ext ?_))
      · show (128 * p.2.1.val + p.2.2.val) / 128 = p.2.1.val; omega
      · show (128 * p.2.1.val + p.2.2.val) % 128 = p.2.2.val; omega
    · intro i hi
      have h2 := (hm i).1 (Finset.mem_filter.1 hi).2
      have l1 : (i 1).val < 2048 := (i 1).isLt
      rw [V3_of f i h (2048 * (i 0).val + 128 * ((i 1).val / 128) + (i 1).val % 128) d (by omega) (by omega)]
      exact congrArg Real.toEReal (rows_chunk (f h) (i 0).val ((i 1).val / 128) (by omega) ⟨(i 1).val % 128, by omega⟩ d)
  rw [key, sum_coe, Fintype.sum_prod_type]
  exact congrArg Real.toEReal (Finset.sum_congr rfl fun b _ => Fintype.sum_prod_type _)

/-- The gain's gradient, summed from the last chunk backwards. -/
theorem gsum_sum (x : ℕ → Chk) (lg : ℝ) (d : Fin 128) (k : ℕ) : gsum x lg d k = ∑ n ∈ Finset.range k, (x (15 - n)).dgain (O x lg (15 - n)) d := by
  induction k with
  | zero => rfl
  | succ k ih => rw [Finset.sum_range_succ, ← ih]; rfl
theorem gsum_all (x : ℕ → Chk) (lg : ℝ) (d : Fin 128) : gsum x lg d 16 = ∑ n : Fin 16, (x n.val).dgain (O x lg n.val) d := by
  rw [gsum_sum, Finset.sum_range_reflect (fun n => (x n).dgain (O x lg n) d) 16, Fin.sum_univ_eq_sum_range (fun n => (x n).dgain (O x lg n) d) 16]

theorem w276 : val_main_v276 (F := Ideal) z.A0 z.A1 = V3 fun h b n i d => nrm (O (z.x h b) (lgOf h) n) i d * ((z.x h b n).dm i d * ((z.x h b n).gt i d * sgm ((z.x h b n).gt i d))) := by
  funext i
  rw [val_main_v276_apply, w261, w273]
  unfold V3
  rw [fmul]
  rfl

/-- The gradient of the gain at a head's channel. -/
theorem w277 (c : S512.Idx) (h : Fin 4) (d : Fin 128) (hc : (c 0).val = 128 * h.val + d.val) :
    val_main_v277 (F := Ideal) z.A0 z.A1 c = ((dgnF (z.hd h.val) (lgOf h) d : ℝ) : EReal) := by
  have e : val_main_v277 (F := Ideal) z.A0 z.A1 c = FloatOps.ofBits (F := Ideal) .f32 0x00000000#32 +
      ∑ i ∈ Finset.univ.filter (fun i => reducesTo_S2x2048x512_S512_d0_1.drop i = c), val_main_v276 (F := Ideal) z.A0 z.A1 i := rfl
  rw [e, w276, sum_rows _ _ c h d hc, fz0, zero_add]
  refine congrArg Real.toEReal ?_
  unfold dgnF
  rw [Fin.sum_univ_two, gsum_all, gsum_all]
  have t : ∀ b, (∑ n : Fin 16, ∑ j : Fin 128, (fun h b n i d => nrm (O (z.x h b) (lgOf h) n) i d * ((z.x h b n).dm i d * ((z.x h b n).gt i d * sgm ((z.x h b n).gt i d)))) h b n.val j d) = ∑ n : Fin 16, ((z.hd h.val).chk b n.val).dgain (O ((z.hd h.val).chk b) (lgOf h) n.val) d := fun b =>
    Finset.sum_congr rfl fun n _ => Finset.sum_congr rfl fun j _ => by
      show nrm _ _ _ * (_ * (_ * _)) = _ * nrm _ _ _ * (_ * _)
      rw [mul_left_comm, ← mul_assoc]
      rfl
  exact congrArg₂ (· + ·) (t 0) (t 1)

/-- The gradient of the gain. -/
theorem w477 : val_main_v477 (F := Ideal) z.A0 z.A1 = row fun h => dgnF (z.hd h.val) (lgOf h) := by
  funext i
  have h1 : (i 1).val < 512 := (i 1).isLt
  rw [val_main_v477_apply]
  have hm : ∀ j : S1x1x512.Idx, reducesTo_S1x1x512_S512_d0_1.drop j = idx_main_v477 i ↔ (j 2).val = (i 1).val := fun j =>
    ⟨fun e => congrArg (fun y : S512.Idx => (y 0).val) e, fun e => funext fun a => match a with | ⟨0, _⟩ => Fin.ext e⟩
  have e : val_main_v281 (F := Ideal) z.A0 z.A1 (idx_main_v477 i) = FloatOps.ofBits (F := Ideal) .f32 0x00000000#32 +
      ∑ j ∈ Finset.univ.filter (fun j => reducesTo_S1x1x512_S512_d0_1.drop j = idx_main_v477 i), val_main_v278 (F := Ideal) z.A0 z.A1 j := rfl
  let j0 : S1x1x512.Idx := fun a => match a with
    | ⟨0, _⟩ => ⟨0, Nat.one_pos⟩
    | ⟨1, _⟩ => ⟨0, Nat.one_pos⟩
    | ⟨2, _⟩ => ⟨(i 1).val, h1⟩
  rw [e, fz0, zero_add, Finset.sum_eq_single_of_mem j0 (Finset.mem_filter.2 ⟨Finset.mem_univ _, (hm j0).2 rfl⟩) ?_, val_main_v278_apply,
    w277 z _ ⟨(i 1).val / 128, by omega⟩ ⟨(i 1).val % 128, by omega⟩ (by show (0 * 1 + 0) * 512 + (i 1).val = 128 * ((i 1).val / 128) + (i 1).val % 128; omega),
    row_apply _ i ⟨(i 1).val / 128, by omega⟩ ⟨(i 1).val % 128, by omega⟩ (by show (i 1).val = (i 1).val / 128 * 128 + (i 1).val % 128; omega)]
  intro j hj hne
  refine absurd (funext fun a => ?_) hne
  have h2 := (hm j).1 (Finset.mem_filter.1 hj).2
  have l0 : (j 0).val < 1 := (j 0).isLt
  have l1 : (j 1).val < 1 := (j 1).isLt
  exact match a with
    | ⟨0, _⟩ => Fin.ext (by show (j 0).val = 0; omega)
    | ⟨1, _⟩ => Fin.ext (by show (j 1).val = 0; omega)
    | ⟨2, _⟩ => Fin.ext h2

end Ret

end
-- ==== Proof.RRun.lean ====
/-
  The reference's run: from arrays of real numbers every execution ends with the result arrays holding what the
  mathematics says, the arguments unchanged.
-/
module

public import proofs.«01_k».proof.Proof.RRopeT
public import proofs.«01_k».proof.Proof.RGain
public import proofs.«01_k».proof.Proof.Gen.ReferenceIdeal.Run
public import Idealize.ShloMosaic.Lib.Claim
public import Idealize.ShloMosaic.Lib.Quiescent

@[expose] public section

set_option maxRecDepth 8192
set_option maxHeartbeats 400000

noncomputable section

namespace Ret

open Idealize.ShloMosaic Idealize.ShloMosaic.TcCoe Idealize.SL.Sem
open Cert.ReferenceIdeal Cert.ReferenceIdeal.Read

variable (m : (ℓ : Loc nD τ sig) → Buf (Elt Ideal) ℓ) (ρ : Dev nD → PrngReg)

/-- The reference's results, of the real arrays each device holds. -/
theorem reference_run (z : Dev nD → Inp)
    (hz : ∀ c : Dev nD, m ((c.tc : Thread nD τ).loc main_arg0) = (z c).A0 ∧ m ((c.tc : Thread nD τ).loc main_arg1) = (z c).A1
      ∧ m ((c.tc : Thread nD τ).loc main_arg2) = (z c).A2) :
    θ_run (defs (F := Ideal)) (onTc (τ := τ) (main (F := Ideal))) ⟨m, fun _ => 0, ρ⟩ (fun r => ∀ c : Dev nD,
      (r.2.mem ((c.tc : Thread nD τ).loc main_v268) = (cols fun h => rows (mergedF ((z c).hd h.val) (lgOf h)))
      ∧ r.2.mem ((c.tc : Thread nD τ).loc main_v476) = (cols fun h => rows (dqF ((z c).hd h.val) (lgOf h)))
      ∧ r.2.mem ((c.tc : Thread nD τ).loc main_v475) = (cols fun h => rows (dkF ((z c).hd h.val) (lgOf h)))
      ∧ r.2.mem ((c.tc : Thread nD τ).loc main_v474) = (cols fun h => rows (dvF ((z c).hd h.val) (lgOf h)))
      ∧ r.2.mem ((c.tc : Thread nD τ).loc main_v275) = (cols fun h => rows (dgF ((z c).hd h.val) (lgOf h)))
      ∧ r.2.mem ((c.tc : Thread nD τ).loc main_v477) = (row fun h => dgnF ((z c).hd h.val) (lgOf h)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨h0, h1, h2, h3, h4, h5, k0, k1, k2⟩ := h c
  have a0 : StableHlo.launchContents m c (Proc.devRef .tc main_arg0) = (z c).A0 := (hz c).1
  have a1 : StableHlo.launchContents m c (Proc.devRef .tc main_arg1) = (z c).A1 := (hz c).2.1
  have a2 : StableHlo.launchContents m c (Proc.devRef .tc main_arg2) = (z c).A2 := (hz c).2.2
  refine ⟨⟨?_, ?_, ?_, ?_, ?_, ?_⟩, k0, k1, k2⟩
  · refine (h0.trans (val_main_v268_eq _)).trans ?_
    rw [a1, a2]; exact w268 (z c)
  · refine (h1.trans (val_main_v476_eq _)).trans ?_
    rw [a0, a1, a2]; exact w476 (z c)
  · refine (h2.trans (val_main_v475_eq _)).trans ?_
    rw [a0, a1, a2]; exact w475 (z c)
  · refine (h3.trans (val_main_v474_eq _)).trans ?_
    rw [a0, a1, a2]; exact w474 (z c)
  · refine (h4.trans (val_main_v275_eq _)).trans ?_
    rw [a0, a1, a2]; exact w275 (z c)
  · refine (h5.trans (val_main_v477_eq _)).trans ?_
    rw [a0, a1]; exact w477 (z c)

/-- The reference's frame: it ends with the arguments unchanged and no semaphore touched. -/
theorem reference_frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2, sem_eq_zero_of_no_sems (by decide) r.2⟩)
    (Cert.ReferenceIdeal.Value.run m ρ)

end Ret

end
-- ==== Proof.DwVal.lean ====
/-
  The gradient of a feed-forward block's first and third weights. A grid step multiplies half of the rows; the even step of a
  pair of shards keeps the product, the odd step adds its own and cuts the pads off. So every shard holds the sums over all rows.
-/
module

public import proofs.«01_k».proof.Proof.Gen.DwIdeal.Value
public import Idealize.ShloMosaic.Lib.MatmulPlain
public import Idealize.ShloMosaic.Lib.Pipeline.ValueKit

@[expose] public section

set_option maxRecDepth 8192
set_option maxHeartbeats 400000

noncomputable section

namespace FfnW

open Idealize.ShloMosaic Idealize.ShloMosaic.TcCoe Idealize.ShloMosaic.Tactic
open Cert.DwIdeal Cert.DwIdeal.Gen

theorem z2 : (![0, 0] : Fin 2 → ℕ) = fun _ => 0 := by decide
theorem z3 : (![0, 0, 0] : Fin 3 → ℕ) = fun _ => 0 := by decide

/-- The accumulator's column of an entry: the pair's second shard starts at column 384. -/
def col (z : S2x1024x352.Idx) : Fin 768 := ⟨384 * (z 0).val + (z 2).val, by
  have h0 : (z 0).val < 2 := (z 0).isLt
  have h2 : (z 2).val < 352 := (z 2).isLt
  omega⟩

/-- The product of one step, entry by entry. -/
theorem pay1_apply (x : Vec Ideal S1024x2048 .bf16) (y : Vec Ideal S1x2048x768 .bf16) (r : Fin 1024) (d : Fin 768) :
    k0_pay1 (F := Ideal) x y (ValueIdx.ix2 r d) = ∑ k : Fin 2048, x (ValueIdx.ix2 r k) * y (ValueIdx.ix3 0 k d) := by
  refine (Ideal.matmul_constant_zero_apply _ none x _ _).trans ?_
  refine (Equiv.sum_comp (ValueIdx.contrEquiv1 dot_S1024x2048_S2048x768_S1024x768_1_0_0_1_n_n 2048 rfl rfl).symm _).symm.trans ?_
  refine Finset.sum_congr rfl fun k _ => ?_
  have hk := ValueIdx.contrEquiv1_symm_val dot_S1024x2048_S2048x768_S1024x768_1_0_0_1_n_n 2048 rfl rfl k
  have el : dot_S1024x2048_S2048x768_S1024x768_1_0_0_1_n_n.lhsIdx (ValueIdx.ix2 r d) ((ValueIdx.contrEquiv1 _ 2048 rfl rfl).symm k) = ValueIdx.ix2 r k := by
    funext a; apply Fin.ext
    match a with
    | ⟨0, _⟩ => rfl
    | ⟨1, _⟩ => exact hk
  have er : dot_S1024x2048_S2048x768_S1024x768_1_0_0_1_n_n.rhsIdx (ValueIdx.ix2 r d) ((ValueIdx.contrEquiv1 _ 2048 rfl rfl).symm k) = ValueIdx.ix2 k d := by
    funext a; apply Fin.ext
    match a with
    | ⟨0, _⟩ => exact hk
    | ⟨1, _⟩ => rfl
  rw [el, er]
  congr 1
  refine shapeCast_apply y _ _ (ValueIdx.ix3 0 k d) ?_
  rw [Shape.rowMajor_val_two, Shape.rowMajor_val_three]
  show ((0 : ℕ) * 2048 + k.val) * 768 + d.val = k.val * 768 + d.val
  omega

/-- The second shard's columns of the sum. -/
theorem pay9_apply (x0 : Vec Ideal S1024x2048 .bf16) (x1 : Vec Ideal S1x2048x768 .bf16) (xs : Vec Ideal S1024x768 .f32) (o : Fin 1) (r : Fin 1024) (d : Fin 352) :
    k0_pay9 (F := Ideal) (k0_pay3 x0 x1 xs) (ValueIdx.ix3 o r d)
      = xs (ValueIdx.ix2 r ⟨384 + d.val, by omega⟩) + k0_pay1 x0 x1 (ValueIdx.ix2 r ⟨384 + d.val, by omega⟩) := by
  show shapeCast S1x1024x352 (k0_pay7 (F := Ideal) (k0_pay3 x0 x1 xs)) shapeCasts_S1024x352_S1x1024x352 _ = _
  refine (shapeCast_apply _ shapeCasts_S1024x352_S1x1024x352 _ (ValueIdx.ix2 r d) ?_).trans ?_
  · rw [Shape.rowMajor_val_two, Shape.rowMajor_val_three]
    show r.val * 352 + d.val = (o.val * 1024 + r.val) * 352 + d.val
    omega
  show extractStridedSlice S1024x352 ![0, 384] (shapeCast S1024x768 (addf xs (k0_pay1 (F := Ideal) x0 x1)) shapeCasts_S1024x768_S1024x768) slices_S1024x768_o0_384_S1024x352 (ValueIdx.ix2 r d) = _
  refine (extractStridedSlice_apply ![0, 384] _ slices_S1024x768_o0_384_S1024x352 (ValueIdx.ix2 r d) (ValueIdx.ix2 r ⟨384 + d.val, by omega⟩) (fun a => match a with | ⟨0, _⟩ => (Nat.zero_add _).symm | ⟨1, _⟩ => rfl)).trans ?_
  exact congrFun (shapeCast_self _ shapeCasts_S1024x768_S1024x768) _

/-- The first shard's columns of the sum. -/
theorem pay6_apply (x0 : Vec Ideal S1024x2048 .bf16) (x1 : Vec Ideal S1x2048x768 .bf16) (xs : Vec Ideal S1024x768 .f32) (o : Fin 1) (r : Fin 1024) (d : Fin 352) :
    k0_pay6 (F := Ideal) (k0_pay3 x0 x1 xs) (ValueIdx.ix3 o r d)
      = xs (ValueIdx.ix2 r ⟨d.val, by omega⟩) + k0_pay1 x0 x1 (ValueIdx.ix2 r ⟨d.val, by omega⟩) := by
  show shapeCast S1x1024x352 (k0_pay4 (F := Ideal) (k0_pay3 x0 x1 xs)) shapeCasts_S1024x352_S1x1024x352 _ = _
  refine (shapeCast_apply _ shapeCasts_S1024x352_S1x1024x352 _ (ValueIdx.ix2 r d) ?_).trans ?_
  · rw [Shape.rowMajor_val_two, Shape.rowMajor_val_three]
    show r.val * 352 + d.val = (o.val * 1024 + r.val) * 352 + d.val
    omega
  show extractStridedSlice S1024x352 ![0, 0] (shapeCast S1024x768 (addf xs (k0_pay1 (F := Ideal) x0 x1)) shapeCasts_S1024x768_S1024x768) slices_S1024x768_o0_0_S1024x352 (ValueIdx.ix2 r d) = _
  refine (extractStridedSlice_apply ![0, 0] _ slices_S1024x768_o0_0_S1024x352 (ValueIdx.ix2 r d) (ValueIdx.ix2 r ⟨d.val, by omega⟩) (fun a => match a with | ⟨0, _⟩ => (Nat.zero_add _).symm | ⟨1, _⟩ => (Nat.zero_add _).symm)).trans ?_
  exact congrFun (shapeCast_self _ shapeCasts_S1024x768_S1024x768) _

section
variable (c : Dev nD) (i : grid0.Coords) (arg2 : Memref sig .tc .vmem S1024x2048 .bf16) (harg2 : arg2.IsWhole) (arg3 : Memref sig .tc .vmem S1x2048x768 .bf16) (harg3 : arg3.IsWhole) (arg5 : Memref sig .tc .vmem S2x1x1x1024x352 .f32) (harg5 : arg5.IsWhole) (arg6 : Memref sig .tc .vmem S2x1024x352 .bf16) (harg6 : arg6.IsWhole) (arg7 : Memref sig .tc .vmem S1024x768 .f32) (harg7 : arg7.IsWhole)

/-- The even step leaves its product in the accumulator. -/
theorem soutA (hc0 : cond0_0 i) (hc1 : ¬cond0_1 i) (hc2 : ¬cond0_2 i) (x0 : Vec Ideal S1024x2048 .bf16) (x1 : Vec Ideal S1x2048x768 .bf16) :
    sout0_A_0 (F := Ideal) c i arg2 harg2 arg3 harg3 arg5 harg5 arg6 harg6 arg7 harg7 hc0 hc1 hc2 x0 x1 = k0_pay1 x0 x1 := by
  unfold sout0_A_0
  rw [View.read_writes_eq_canon _ _ _ (scover0_A_0 c i arg2 harg2 arg3 harg3 arg5 harg5 arg6 harg6 arg7 harg7 hc0 hc1 hc2 x0 x1)]
  have e : (kernelRun0_A (F := Ideal) c i arg2 harg2 arg3 harg3 arg5 harg5 arg6 harg6 arg7 harg7 hc0 hc1 hc2 x0 x1).2.2.1
      = [⟨Rect.unit (s := S1024x768) ![0, 0] S1024x768.size inb_S1024x768_S1024x768_0_0, k0_pay2 (F := Ideal)
          (View.readAt (Elt Ideal) arg2.view (Rect.unit (s := S1024x2048) ![0, 0] S1024x2048.size inb_S1024x2048_S1024x2048_0_0).toLoadRect (harg2.unread x0))
          (View.readAt (Elt Ideal) arg3.view (Rect.unit (s := S1x2048x768) ![0, 0, 0] S1x2048x768.size inb_S1x2048x768_S1x2048x768_0_0_0).toLoadRect (harg3.unread x1))⟩] := by
    delta kernelRun0_A; rfl
  rw [e, View.canon_unit_zero z2, View.readAt_eq_ld, View.readAt_eq_ld, harg2.read_unread, harg3.read_unread, View.ld_unit_zero z2, View.ld_unit_zero z3]
  exact shapeCast_self _ _

/-- The odd step's sum, cut at the two shards of the pair. -/
theorem outB (hc0 : ¬cond0_0 i) (hc1 : cond0_1 i) (hc2 : cond0_2 i) (x0 : Vec Ideal S1024x2048 .bf16) (x1 : Vec Ideal S1x2048x768 .bf16) (xs : Vec Ideal S1024x768 .f32) (z : S2x1024x352.Idx) :
    out0_B_3 (F := Ideal) c i arg2 harg2 arg3 harg3 arg5 harg5 arg6 harg6 arg7 harg7 hc0 hc1 hc2 x0 x1 xs z
      = xs (ValueIdx.ix2 (z 1) (col z)) + k0_pay1 x0 x1 (ValueIdx.ix2 (z 1) (col z)) := by
  unfold out0_B_3
  have hcov := cover0_B_3 (F := Ideal) c i arg2 harg2 arg3 harg3 arg5 harg5 arg6 harg6 arg7 harg7 hc0 hc1 hc2 x0 x1 xs
  rw [View.read_writes_eq_canon _ _ _ hcov]
  have e : (kernelRun0_B (F := Ideal) c i arg2 harg2 arg3 harg3 arg5 harg5 arg6 harg6 arg7 harg7 hc0 hc1 hc2 x0 x1 xs).2.1
      = [⟨Rect.unit (s := S2x1024x352) ![1, 0, 0] S1x1024x352.size inb_S2x1024x352_S1x1024x352_1_0_0, k0_pay9 (F := Ideal) (View.readCov arg7.view
          [⟨Rect.unit (s := S1024x768) ![0, 0] S1024x768.size inb_S1024x768_S1024x768_0_0, k0_pay3 (F := Ideal)
          (View.readAt (Elt Ideal) arg2.view (Rect.unit (s := S1024x2048) ![0, 0] S1024x2048.size inb_S1024x2048_S1024x2048_0_0).toLoadRect (harg2.unread x0))
          (View.readAt (Elt Ideal) arg3.view (Rect.unit (s := S1x2048x768) ![0, 0, 0] S1x2048x768.size inb_S1x2048x768_S1x2048x768_0_0_0).toLoadRect (harg3.unread x1))
          (View.readAt (Elt Ideal) arg7.view (Rect.unit (s := S1024x768) ![0, 0] S1024x768.size inb_S1024x768_S1024x768_0_0).toLoadRect (harg7.unread xs))⟩]
          (Rect.unit (s := S1024x768) ![0, 0] S1024x768.size inb_S1024x768_S1024x768_0_0).toLoadRect)⟩,
        ⟨Rect.unit (s := S2x1024x352) ![0, 0, 0] S1x1024x352.size inb_S2x1024x352_S1x1024x352_0_0_0, k0_pay6 (F := Ideal) (View.readCov arg7.view
          [⟨Rect.unit (s := S1024x768) ![0, 0] S1024x768.size inb_S1024x768_S1024x768_0_0, k0_pay3 (F := Ideal)
          (View.readAt (Elt Ideal) arg2.view (Rect.unit (s := S1024x2048) ![0, 0] S1024x2048.size inb_S1024x2048_S1024x2048_0_0).toLoadRect (harg2.unread x0))
          (View.readAt (Elt Ideal) arg3.view (Rect.unit (s := S1x2048x768) ![0, 0, 0] S1x2048x768.size inb_S1x2048x768_S1x2048x768_0_0_0).toLoadRect (harg3.unread x1))
          (View.readAt (Elt Ideal) arg7.view (Rect.unit (s := S1024x768) ![0, 0] S1024x768.size inb_S1024x768_S1024x768_0_0).toLoadRect (harg7.unread xs))⟩]
          (Rect.unit (s := S1024x768) ![0, 0] S1024x768.size inb_S1024x768_S1024x768_0_0).toLoadRect)⟩] := by
    delta kernelRun0_B; rfl
  rw [e] at hcov ⊢
  refine View.canon_apply_of_pieces (fun z : S2x1024x352.Idx => xs (ValueIdx.ix2 (z 1) (col z)) + k0_pay1 x0 x1 (ValueIdx.ix2 (z 1) (col z))) _ ?_ z (hcov z)
  clear hcov
  rw [View.readCov_unit_zero _ z2, View.readAt_eq_ld, View.readAt_eq_ld, View.readAt_eq_ld, harg2.read_unread, harg3.read_unread, harg7.read_unread,
    View.ld_unit_zero z2, View.ld_unit_zero z3, View.ld_unit_zero z2]
  intro p hp x
  rcases List.mem_cons.mp hp with rfl | hp
  · have h2 : (x 2).val < 352 := (x 2).isLt
    have h1 : (x 1).val < 1024 := (x 1).isLt
    have h0 : (x 0).val < 1 := (x 0).isLt
    refine (pay9_apply _ _ _ ⟨(x 0).val, h0⟩ ⟨(x 1).val, h1⟩ ⟨(x 2).val, h2⟩).trans ?_
    refine congrArg (fun w => xs w + k0_pay1 (F := Ideal) x0 x1 w) ?_
    funext a; apply Fin.ext
    match a with
    | ⟨0, _⟩ => show (x 1).val = 0 + 1 * (x 1).val; omega
    | ⟨1, _⟩ => show 384 + (x 2).val = 384 * (1 + 1 * (x 0).val) + (0 + 1 * (x 2).val); omega
  · obtain rfl := List.mem_singleton.mp hp
    have h2 : (x 2).val < 352 := (x 2).isLt
    have h1 : (x 1).val < 1024 := (x 1).isLt
    have h0 : (x 0).val < 1 := (x 0).isLt
    refine (pay6_apply _ _ _ ⟨(x 0).val, h0⟩ ⟨(x 1).val, h1⟩ ⟨(x 2).val, h2⟩).trans ?_
    refine congrArg (fun w => xs w + k0_pay1 (F := Ideal) x0 x1 w) ?_
    funext a; apply Fin.ext
    match a with
    | ⟨0, _⟩ => show (x 1).val = 0 + 1 * (x 1).val; omega
    | ⟨1, _⟩ => show (x 2).val = 384 * (0 + 1 * (x 0).val) + (0 + 1 * (x 2).val); omega

end

theorem idx_0 : ∀ t : Fin cfg0.N, win0_0.index t = ![0, t.val % 2] := by decide +kernel
theorem idx_1 : ∀ t : Fin cfg0.N, win0_1.index t = ![t.val / 2, t.val % 2, 0] := by decide +kernel
theorem idx_3 : ∀ t : Fin cfg0.N, win0_3.index t = ![t.val / 2, 0, 0] := by decide +kernel
theorem odd_3 : ∀ t : Fin cfg0.N, (cfg0.win 3).flush t = true → t.val % 2 = 1 := by decide +kernel

/-- Every shard of the gradient: the sums over all rows. -/
def dW (x : S1024x4096.Idx → EReal) (y : S4x4096x768.Idx → EReal) : S8x1024x352.Idx → EReal := fun j =>
  ∑ k : Fin 4096, x (ValueIdx.ix2 (j 1) k)
    * y (ValueIdx.ix3 ⟨(j 0).val / 2, by have h : (j 0).val < 8 := (j 0).isLt; omega⟩ k ⟨384 * ((j 0).val % 2) + (j 2).val, by have h : (j 2).val < 352 := (j 2).isLt; omega⟩)

/-- The sums over all rows, in two halves. -/
theorem dW_split (x : S1024x4096.Idx → EReal) (y : S4x4096x768.Idx → EReal) (j : S8x1024x352.Idx) (p : Fin 4) (d : Fin 768) (r : Fin 1024)
    (hp : (j 0).val / 2 = p.val) (hd : 384 * ((j 0).val % 2) + (j 2).val = d.val) (hr : (j 1).val = r.val) :
    dW x y j = (∑ k : Fin 2048, x (ValueIdx.ix2 r ⟨k.val, by omega⟩) * y (ValueIdx.ix3 p ⟨k.val, by omega⟩ d))
      + ∑ k : Fin 2048, x (ValueIdx.ix2 r ⟨2048 + k.val, by omega⟩) * y (ValueIdx.ix3 p ⟨2048 + k.val, by omega⟩ d) := by
  have er : j 1 = r := Fin.ext hr
  have ep : (⟨(j 0).val / 2, by have h : (j 0).val < 8 := (j 0).isLt; omega⟩ : Fin 4) = p := Fin.ext hp
  have ed : (⟨384 * ((j 0).val % 2) + (j 2).val, by have h : (j 2).val < 352 := (j 2).isLt; omega⟩ : Fin 768) = d := Fin.ext hd
  unfold dW
  rw [er, ep, ed]
  exact Fin.sum_univ_add (a := 2048) (b := 2048) _

variable (m : (ℓ : Loc nD τ sig) → Buf (Elt Ideal) ℓ) (c : Dev nD)

theorem in_0 (t : Fin cfg0.N) (r : Fin 1024) (k : Fin 2048) :
    iblk m c 0 t (ValueIdx.ix2 r k) = m ((c : Thread nD τ).loc main_arg0) (ValueIdx.ix2 r ⟨2048 * (t.val % 2) + k.val, by omega⟩) := by
  rw [← V_main_arg0 m c]
  blk_simp [iblk, idx_0]
  refine congrArg (V m c main_arg0) (funext fun a => Fin.ext ?_)
  match a with
  | ⟨0, _⟩ => blk_simp [idx_0]; try simp
  | ⟨1, _⟩ => blk_simp [idx_0]; try simp [Nat.mul_comm]

theorem in_1 (t : Fin cfg0.N) (k : Fin 2048) (d : Fin 768) :
    iblk m c 1 t (ValueIdx.ix3 0 k d) = m ((c : Thread nD τ).loc main_arg1) (ValueIdx.ix3 ⟨t.val / 2, by have h : t.val < 8 := lt_of_lt_of_eq t.isLt N_0; omega⟩ ⟨2048 * (t.val % 2) + k.val, by omega⟩ d) := by
  rw [← V_main_arg1 m c]
  blk_simp [iblk, idx_1]
  refine congrArg (V m c main_arg1) (funext fun a => Fin.ext ?_)
  match a with
  | ⟨0, _⟩ => blk_simp [idx_1]; try simp
  | ⟨1, _⟩ => blk_simp [idx_1]; try simp [Nat.mul_comm]
  | ⟨2, _⟩ => blk_simp [idx_1]; try simp

/-- The array of shards after the launch. -/
theorem arr_3 : (dats m 0 c).arrAt 3 cfg0.N = dW (m ((c : Thread nD τ).loc main_arg0)) (m ((c : Thread nD τ).loc main_arg1)) := by
  refine (dats m 0 c).arrAt_eq_of_covers 3 _ (by decide +kernel) fun t hf y => ?_
  have ho := odd_3 t hf
  have hN : t.val < 8 := lt_of_lt_of_eq t.isLt N_0
  blk_simp
  rw [after0_3, outsAt0_B m c t (by omega) ho ho]
  dsimp only
  rw [outB, outsAt0_A m c ⟨t.val - 1, by omega⟩ (by show (t.val - 1) % 2 = 0; omega) (by show ¬(t.val - 1) % 2 = 1; omega) (by show ¬(t.val - 1) % 2 = 1; omega)]
  dsimp only
  rw [soutA]
  have h0 : (y 0).val < 2 := (y 0).isLt
  have h1 : (y 1).val < 1024 := (y 1).isLt
  have h2 : (y 2).val < 352 := (y 2).isLt
  refine (congrArg₂ (· + ·) (pay1_apply _ _ ⟨(y 1).val, h1⟩ ⟨384 * (y 0).val + (y 2).val, by omega⟩) (pay1_apply _ _ ⟨(y 1).val, h1⟩ ⟨384 * (y 0).val + (y 2).val, by omega⟩)).trans ?_
  have e0 : (((win0_3.blk t).view.emb y) 0).val = t.val / 2 * 2 + (y 0).val := by blk_simp [idx_3]; try simp
  have e1 : (((win0_3.blk t).view.emb y) 1).val = (y 1).val := by blk_simp [idx_3]; try simp
  have e2 : (((win0_3.blk t).view.emb y) 2).val = (y 2).val := by blk_simp [idx_3]; try simp
  refine Eq.trans ?_ (dW_split _ _ _ ⟨t.val / 2, by omega⟩ ⟨384 * (y 0).val + (y 2).val, by omega⟩ ⟨(y 1).val, h1⟩ ?_ ?_ e1).symm
  · refine congrArg₂ (· + ·) (Finset.sum_congr rfl fun k _ => ?_) (Finset.sum_congr rfl fun k _ => ?_)
    · rw [in_0, in_1]
      have e : 2048 * ((t.val - 1) % 2) + k.val = k.val := by omega
      have e' : (t.val - 1) / 2 = t.val / 2 := by omega
      simp only [e, e']
    · rw [in_0, in_1]
      have e : 2048 * (t.val % 2) + k.val = 2048 + k.val := by omega
      simp only [e]
  · refine (congrArg (· / 2) e0).trans ?_
    show (t.val / 2 * 2 + (y 0).val) / 2 = t.val / 2
    omega
  · refine (congrArg₂ (fun p q => 384 * (p % 2) + q) e0 e2).trans ?_
    show 384 * ((t.val / 2 * 2 + (y 0).val) % 2) + (y 2).val = 384 * (y 0).val + (y 2).val
    omega

end FfnW

end
-- ==== Proof.DwRef.lean ====
/-
  The reference's gradient of the first weight: the shards of the sums over all rows. And the launch's: the same.
-/
module

public import proofs.«01_k».proof.Proof.DwVal
public import proofs.«01_k».proof.Proof.Gen.DwReferenceIdeal.Run
public import proofs.«01_k».proof.Proof.Gen.DwReferenceIdeal.Read
public import Idealize.ShloMosaic.Lib.Quiescent

@[expose] public section

set_option maxRecDepth 8192
set_option maxHeartbeats 400000

noncomputable section

namespace FfnW

open Idealize.ShloMosaic Idealize.ShloMosaic.TcCoe Idealize.SL.Sem
open Cert.DwReferenceIdeal Cert.DwReferenceIdeal.Read

/-- A column of the weight is a pair of shards, a shard of the pair and a column of the shard. -/
theorem split_col (k p s d : ℕ) (hp : p < 4) (hs : s < 2) (hd : d < 352) :
    (k * 2816 + ((2 * p + s) * 352 + d)) / 2816 = k ∧ (k * 2816 + ((2 * p + s) * 352 + d)) / 704 % 4 = p
      ∧ (k * 2816 + ((2 * p + s) * 352 + d)) / 352 % 2 = s ∧ (k * 2816 + ((2 * p + s) * 352 + d)) % 352 = d := by
  refine ⟨?_, ?_, ?_, ?_⟩ <;> omega

/-- An entry of the padded pairs, by pair, row, shard and column. -/
theorem split_flat (k p s d : ℕ) (hk : k < 4096) (hp : p < 4) (hs : s < 2) (hd : d < 384) :
    (((p * 4096 + k) * 2 + s) * 384 + d) / 3145728 = p ∧ (((p * 4096 + k) * 2 + s) * 384 + d) / 768 % 4096 = k
      ∧ (((p * 4096 + k) * 2 + s) * 384 + d) % 768 = 384 * s + d := by
  refine ⟨?_, ?_, ?_⟩ <;> omega

theorem ref_eq (x : (⟨S1024x4096, .bf16⟩ : BufTy).Contents (Elt Ideal)) (y : (⟨S4x4096x768, .bf16⟩ : BufTy).Contents (Elt Ideal)) :
    val_main_v13 (F := Ideal) x y = dW x y := by
  funext j
  have h0 : (j 0).val < 8 := (j 0).isLt
  have h1 : (j 1).val < 1024 := (j 1).isLt
  have h2 : (j 2).val < 352 := (j 2).isLt
  show val_main_v12 (F := Ideal) x y j = _
  rw [val_main_v12_apply, val_main_v11_apply, val_main_v10_apply, val_main_v9_apply]
  unfold dW
  refine Finset.sum_congr rfl fun k _ => ?_
  have hk := k.isLt
  rw [val_main_v6_apply, val_main_v5_apply, val_main_v4_apply, val_main_v3_apply, val_main_v1_apply, mul_comm]
  show x _ * y _ = _
  refine congrArg₂ (· * ·) (congrArg x (funext fun a => Fin.ext ?_)) (congrArg y (funext fun a => Fin.ext ?_))
  · match a with
    | ⟨0, _⟩ => show (((j 1).val * 8 + (j 0).val) * 352 + (j 2).val) / 2816 = (j 1).val; omega
    | ⟨1, _⟩ => rfl
  · have e : (((j 1).val * 8 + (j 0).val) * 352 + (j 2).val) % 2816 = (2 * ((j 0).val / 2) + (j 0).val % 2) * 352 + (j 2).val := by omega
    obtain ⟨a1, a2, a3, a4⟩ := split_col k.val ((j 0).val / 2) ((j 0).val % 2) (j 2).val (by omega) (by omega) h2
    obtain ⟨b1, b2, b3⟩ := split_flat k.val ((j 0).val / 2) ((j 0).val % 2) (j 2).val (by omega) (by omega) (by omega) (by omega)
    match a with
    | ⟨0, _⟩ =>
      show ((((k.val * 2816 + (((j 1).val * 8 + (j 0).val) * 352 + (j 2).val) % 2816) / 704 % 4 * 4096 + (k.val * 2816 + (((j 1).val * 8 + (j 0).val) * 352 + (j 2).val) % 2816) / 2816) * 2 + (k.val * 2816 + (((j 1).val * 8 + (j 0).val) * 352 + (j 2).val) % 2816) / 352 % 2) * 384 + (k.val * 2816 + (((j 1).val * 8 + (j 0).val) * 352 + (j 2).val) % 2816) % 352) / 3145728 = (j 0).val / 2
      rw [e, a1, a2, a3, a4, b1]
    | ⟨1, _⟩ =>
      show ((((k.val * 2816 + (((j 1).val * 8 + (j 0).val) * 352 + (j 2).val) % 2816) / 704 % 4 * 4096 + (k.val * 2816 + (((j 1).val * 8 + (j 0).val) * 352 + (j 2).val) % 2816) / 2816) * 2 + (k.val * 2816 + (((j 1).val * 8 + (j 0).val) * 352 + (j 2).val) % 2816) / 352 % 2) * 384 + (k.val * 2816 + (((j 1).val * 8 + (j 0).val) * 352 + (j 2).val) % 2816) % 352) / 768 % 4096 = k.val
      rw [e, a1, a2, a3, a4, b2]
    | ⟨2, _⟩ =>
      show ((((k.val * 2816 + (((j 1).val * 8 + (j 0).val) * 352 + (j 2).val) % 2816) / 704 % 4 * 4096 + (k.val * 2816 + (((j 1).val * 8 + (j 0).val) * 352 + (j 2).val) % 2816) / 2816) * 2 + (k.val * 2816 + (((j 1).val * 8 + (j 0).val) * 352 + (j 2).val) % 2816) / 352 % 2) * 384 + (k.val * 2816 + (((j 1).val * 8 + (j 0).val) * 352 + (j 2).val) % 2816) % 352) % 768 = 384 * ((j 0).val % 2) + (j 2).val
      rw [e, a1, a2, a3, a4, b3]

/-- The reference ends with the sums, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = dW (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v13_eq _ _).trans (ref_eq _ _)), (h c).2⟩)
    (Cert.DwReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩)
    (Cert.DwReferenceIdeal.Value.run (F := Ideal) m ρ)

/-- The launch ends with the sums, its arguments unchanged. -/
theorem kernel_run (m : (ℓ : Loc Cert.DwIdeal.nD Cert.DwIdeal.τ Cert.DwIdeal.sig) → Buf (Elt Ideal) ℓ) (ρ : Dev Cert.DwIdeal.nD → PrngReg) :
    θ_run Cert.DwIdeal.defs (onTc (τ := Cert.DwIdeal.τ) (Cert.DwIdeal.main (F := Ideal))) ⟨m, fun _ => 0, ρ⟩ fun r => ∀ c : Dev Cert.DwIdeal.nD,
      r.2.mem ((c.tc : Thread Cert.DwIdeal.nD Cert.DwIdeal.τ).loc Cert.DwIdeal.main_v1_1)
        = dW (m ((c.tc : Thread Cert.DwIdeal.nD Cert.DwIdeal.τ).loc Cert.DwIdeal.main_arg0)) (m ((c.tc : Thread Cert.DwIdeal.nD Cert.DwIdeal.τ).loc Cert.DwIdeal.main_arg1))
      ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1) :=
  (θ_run Cert.DwIdeal.defs _ _).mono (fun _ h c => ⟨(h c).2.1.trans (arr_3 m c), (h c).2.2⟩)
    (Cert.DwIdeal.Value.run_blocks (F := Ideal) m ρ)

end FfnW

end
-- ==== Proof.DvVal.lean ====
/-
  The gradient of a feed-forward block's second weight. A grid step multiplies half of the rows; the even step of a
  pair of shards keeps the product, the odd step adds its own and cuts the pads off. So every shard holds the sums over all rows.
-/
module

public import proofs.«01_k».proof.Proof.Gen.DvIdeal.Value
public import Idealize.ShloMosaic.Lib.MatmulPlain
public import Idealize.ShloMosaic.Lib.Pipeline.ValueKit

@[expose] public section

set_option maxRecDepth 8192
set_option maxHeartbeats 400000

noncomputable section

namespace FfnV

open Idealize.ShloMosaic Idealize.ShloMosaic.TcCoe Idealize.ShloMosaic.Tactic
open Cert.DvIdeal Cert.DvIdeal.Gen

theorem z2 : (![0, 0] : Fin 2 → ℕ) = fun _ => 0 := by decide
theorem z3 : (![0, 0, 0] : Fin 3 → ℕ) = fun _ => 0 := by decide

/-- The accumulator's row of an entry: the pair's second shard starts at row 384. -/
def row (z : S2x352x1024.Idx) : Fin 768 := ⟨384 * (z 0).val + (z 1).val, by
  have h0 : (z 0).val < 2 := (z 0).isLt
  have h1 : (z 1).val < 352 := (z 1).isLt
  omega⟩

/-- The product of one step, entry by entry. -/
theorem pay1_apply (x : Vec Ideal S1x768x2048 .bf16) (y : Vec Ideal S2048x1024 .bf16) (r : Fin 768) (d : Fin 1024) :
    k0_pay1 (F := Ideal) x y (ValueIdx.ix2 r d) = ∑ k : Fin 2048, x (ValueIdx.ix3 0 r k) * y (ValueIdx.ix2 k d) := by
  refine (Ideal.matmul_constant_zero_apply (φ₁ := .bf16) (φ₂ := .bf16) _ none (shapeCast S768x2048 x shapeCasts_S1x768x2048_S768x2048) y _).trans ?_
  refine (Equiv.sum_comp (ValueIdx.contrEquiv1 dot_S768x2048_S2048x1024_S768x1024_1_0_0_1_n_n 2048 rfl rfl).symm _).symm.trans ?_
  refine Finset.sum_congr rfl fun k _ => ?_
  have hk := ValueIdx.contrEquiv1_symm_val dot_S768x2048_S2048x1024_S768x1024_1_0_0_1_n_n 2048 rfl rfl k
  have el : dot_S768x2048_S2048x1024_S768x1024_1_0_0_1_n_n.lhsIdx (ValueIdx.ix2 r d) ((ValueIdx.contrEquiv1 _ 2048 rfl rfl).symm k) = ValueIdx.ix2 r k := by
    funext a; apply Fin.ext
    match a with
    | ⟨0, _⟩ => rfl
    | ⟨1, _⟩ => exact hk
  have er : dot_S768x2048_S2048x1024_S768x1024_1_0_0_1_n_n.rhsIdx (ValueIdx.ix2 r d) ((ValueIdx.contrEquiv1 _ 2048 rfl rfl).symm k) = ValueIdx.ix2 k d := by
    funext a; apply Fin.ext
    match a with
    | ⟨0, _⟩ => exact hk
    | ⟨1, _⟩ => rfl
  rw [el, er]
  congr 1
  refine shapeCast_apply x _ _ (ValueIdx.ix3 0 r k) ?_
  rw [Shape.rowMajor_val_two, Shape.rowMajor_val_three]
  show ((0 : ℕ) * 768 + r.val) * 2048 + k.val = r.val * 2048 + k.val
  omega

/-- The second shard's rows of the sum. -/
theorem pay9_apply (x0 : Vec Ideal S1x768x2048 .bf16) (x1 : Vec Ideal S2048x1024 .bf16) (xs : Vec Ideal S768x1024 .f32) (o : Fin 1) (r : Fin 352) (d : Fin 1024) :
    k0_pay9 (F := Ideal) (k0_pay3 x0 x1 xs) (ValueIdx.ix3 o r d)
      = xs (ValueIdx.ix2 ⟨384 + r.val, by omega⟩ d) + k0_pay1 x0 x1 (ValueIdx.ix2 ⟨384 + r.val, by omega⟩ d) := by
  show shapeCast S1x352x1024 (k0_pay7 (F := Ideal) (k0_pay3 x0 x1 xs)) shapeCasts_S352x1024_S1x352x1024 _ = _
  refine (shapeCast_apply _ shapeCasts_S352x1024_S1x352x1024 _ (ValueIdx.ix2 r d) ?_).trans ?_
  · rw [Shape.rowMajor_val_two, Shape.rowMajor_val_three]
    show r.val * 1024 + d.val = (o.val * 352 + r.val) * 1024 + d.val
    omega
  show extractStridedSlice S352x1024 ![384, 0] (shapeCast S768x1024 (addf xs (k0_pay1 (F := Ideal) x0 x1)) shapeCasts_S768x1024_S768x1024) slices_S768x1024_o384_0_S352x1024 (ValueIdx.ix2 r d) = _
  refine (extractStridedSlice_apply ![384, 0] _ slices_S768x1024_o384_0_S352x1024 (ValueIdx.ix2 r d) (ValueIdx.ix2 ⟨384 + r.val, by omega⟩ d) (fun a => match a with | ⟨0, _⟩ => rfl | ⟨1, _⟩ => (Nat.zero_add _).symm)).trans ?_
  exact congrFun (shapeCast_self _ shapeCasts_S768x1024_S768x1024) _

/-- The first shard's rows of the sum. -/
theorem pay6_apply (x0 : Vec Ideal S1x768x2048 .bf16) (x1 : Vec Ideal S2048x1024 .bf16) (xs : Vec Ideal S768x1024 .f32) (o : Fin 1) (r : Fin 352) (d : Fin 1024) :
    k0_pay6 (F := Ideal) (k0_pay3 x0 x1 xs) (ValueIdx.ix3 o r d)
      = xs (ValueIdx.ix2 ⟨r.val, by omega⟩ d) + k0_pay1 x0 x1 (ValueIdx.ix2 ⟨r.val, by omega⟩ d) := by
  show shapeCast S1x352x1024 (k0_pay4 (F := Ideal) (k0_pay3 x0 x1 xs)) shapeCasts_S352x1024_S1x352x1024 _ = _
  refine (shapeCast_apply _ shapeCasts_S352x1024_S1x352x1024 _ (ValueIdx.ix2 r d) ?_).trans ?_
  · rw [Shape.rowMajor_val_two, Shape.rowMajor_val_three]
    show r.val * 1024 + d.val = (o.val * 352 + r.val) * 1024 + d.val
    omega
  show extractStridedSlice S352x1024 ![0, 0] (shapeCast S768x1024 (addf xs (k0_pay1 (F := Ideal) x0 x1)) shapeCasts_S768x1024_S768x1024) slices_S768x1024_o0_0_S352x1024 (ValueIdx.ix2 r d) = _
  refine (extractStridedSlice_apply ![0, 0] _ slices_S768x1024_o0_0_S352x1024 (ValueIdx.ix2 r d) (ValueIdx.ix2 ⟨r.val, by omega⟩ d) (fun a => match a with | ⟨0, _⟩ => (Nat.zero_add _).symm | ⟨1, _⟩ => (Nat.zero_add _).symm)).trans ?_
  exact congrFun (shapeCast_self _ shapeCasts_S768x1024_S768x1024) _

section
variable (c : Dev nD) (i : grid0.Coords) (arg2 : Memref sig .tc .vmem S1x768x2048 .bf16) (harg2 : arg2.IsWhole) (arg3 : Memref sig .tc .vmem S2048x1024 .bf16) (harg3 : arg3.IsWhole) (arg5 : Memref sig .tc .vmem S2x1x1x352x1024 .f32) (harg5 : arg5.IsWhole) (arg6 : Memref sig .tc .vmem S2x352x1024 .bf16) (harg6 : arg6.IsWhole) (arg7 : Memref sig .tc .vmem S768x1024 .f32) (harg7 : arg7.IsWhole)

/-- The even step leaves its product in the accumulator. -/
theorem soutA (hc0 : cond0_0 i) (hc1 : ¬cond0_1 i) (hc2 : ¬cond0_2 i) (x0 : Vec Ideal S1x768x2048 .bf16) (x1 : Vec Ideal S2048x1024 .bf16) :
    sout0_A_0 (F := Ideal) c i arg2 harg2 arg3 harg3 arg5 harg5 arg6 harg6 arg7 harg7 hc0 hc1 hc2 x0 x1 = k0_pay1 x0 x1 := by
  unfold sout0_A_0
  rw [View.read_writes_eq_canon _ _ _ (scover0_A_0 c i arg2 harg2 arg3 harg3 arg5 harg5 arg6 harg6 arg7 harg7 hc0 hc1 hc2 x0 x1)]
  have e : (kernelRun0_A (F := Ideal) c i arg2 harg2 arg3 harg3 arg5 harg5 arg6 harg6 arg7 harg7 hc0 hc1 hc2 x0 x1).2.2.1
      = [⟨Rect.unit (s := S768x1024) ![0, 0] S768x1024.size inb_S768x1024_S768x1024_0_0, k0_pay2 (F := Ideal)
          (View.readAt (Elt Ideal) arg2.view (Rect.unit (s := S1x768x2048) ![0, 0, 0] S1x768x2048.size inb_S1x768x2048_S1x768x2048_0_0_0).toLoadRect (harg2.unread x0))
          (View.readAt (Elt Ideal) arg3.view (Rect.unit (s := S2048x1024) ![0, 0] S2048x1024.size inb_S2048x1024_S2048x1024_0_0).toLoadRect (harg3.unread x1))⟩] := by
    delta kernelRun0_A; rfl
  rw [e, View.canon_unit_zero z2, View.readAt_eq_ld, View.readAt_eq_ld, harg2.read_unread, harg3.read_unread, View.ld_unit_zero z3, View.ld_unit_zero z2]
  exact shapeCast_self _ _

set_option maxHeartbeats 4000000 in
/-- The odd step's sum, cut at the two shards of the pair. -/
theorem outB (hc0 : ¬cond0_0 i) (hc1 : cond0_1 i) (hc2 : cond0_2 i) (x0 : Vec Ideal S1x768x2048 .bf16) (x1 : Vec Ideal S2048x1024 .bf16) (xs : Vec Ideal S768x1024 .f32) (z : S2x352x1024.Idx) :
    out0_B_3 (F := Ideal) c i arg2 harg2 arg3 harg3 arg5 harg5 arg6 harg6 arg7 harg7 hc0 hc1 hc2 x0 x1 xs z
      = xs (ValueIdx.ix2 (row z) (z 2)) + k0_pay1 x0 x1 (ValueIdx.ix2 (row z) (z 2)) := by
  unfold out0_B_3
  have hcov := cover0_B_3 (F := Ideal) c i arg2 harg2 arg3 harg3 arg5 harg5 arg6 harg6 arg7 harg7 hc0 hc1 hc2 x0 x1 xs
  rw [View.read_writes_eq_canon _ _ _ hcov]
  have e : (kernelRun0_B (F := Ideal) c i arg2 harg2 arg3 harg3 arg5 harg5 arg6 harg6 arg7 harg7 hc0 hc1 hc2 x0 x1 xs).2.1
      = [⟨Rect.unit (s := S2x352x1024) ![1, 0, 0] S1x352x1024.size inb_S2x352x1024_S1x352x1024_1_0_0, k0_pay9 (F := Ideal) (View.readCov arg7.view
          [⟨Rect.unit (s := S768x1024) ![0, 0] S768x1024.size inb_S768x1024_S768x1024_0_0, k0_pay3 (F := Ideal)
          (View.readAt (Elt Ideal) arg2.view (Rect.unit (s := S1x768x2048) ![0, 0, 0] S1x768x2048.size inb_S1x768x2048_S1x768x2048_0_0_0).toLoadRect (harg2.unread x0))
          (View.readAt (Elt Ideal) arg3.view (Rect.unit (s := S2048x1024) ![0, 0] S2048x1024.size inb_S2048x1024_S2048x1024_0_0).toLoadRect (harg3.unread x1))
          (View.readAt (Elt Ideal) arg7.view (Rect.unit (s := S768x1024) ![0, 0] S768x1024.size inb_S768x1024_S768x1024_0_0).toLoadRect (harg7.unread xs))⟩]
          (Rect.unit (s := S768x1024) ![0, 0] S768x1024.size inb_S768x1024_S768x1024_0_0).toLoadRect)⟩,
        ⟨Rect.unit (s := S2x352x1024) ![0, 0, 0] S1x352x1024.size inb_S2x352x1024_S1x352x1024_0_0_0, k0_pay6 (F := Ideal) (View.readCov arg7.view
          [⟨Rect.unit (s := S768x1024) ![0, 0] S768x1024.size inb_S768x1024_S768x1024_0_0, k0_pay3 (F := Ideal)
          (View.readAt (Elt Ideal) arg2.view (Rect.unit (s := S1x768x2048) ![0, 0, 0] S1x768x2048.size inb_S1x768x2048_S1x768x2048_0_0_0).toLoadRect (harg2.unread x0))
          (View.readAt (Elt Ideal) arg3.view (Rect.unit (s := S2048x1024) ![0, 0] S2048x1024.size inb_S2048x1024_S2048x1024_0_0).toLoadRect (harg3.unread x1))
          (View.readAt (Elt Ideal) arg7.view (Rect.unit (s := S768x1024) ![0, 0] S768x1024.size inb_S768x1024_S768x1024_0_0).toLoadRect (harg7.unread xs))⟩]
          (Rect.unit (s := S768x1024) ![0, 0] S768x1024.size inb_S768x1024_S768x1024_0_0).toLoadRect)⟩] := by
    delta kernelRun0_B; rfl
  rw [e] at hcov ⊢
  refine View.canon_apply_of_pieces (fun z : S2x352x1024.Idx => xs (ValueIdx.ix2 (row z) (z 2)) + k0_pay1 x0 x1 (ValueIdx.ix2 (row z) (z 2))) _ ?_ z (hcov z)
  clear hcov
  rw [View.readCov_unit_zero _ z2, View.readAt_eq_ld, View.readAt_eq_ld, View.readAt_eq_ld, harg2.read_unread, harg3.read_unread, harg7.read_unread,
    View.ld_unit_zero z3, View.ld_unit_zero z2, View.ld_unit_zero z2]
  intro p hp x
  rcases List.mem_cons.mp hp with rfl | hp
  · have h2 : (x 2).val < 1024 := (x 2).isLt
    have h1 : (x 1).val < 352 := (x 1).isLt
    have h0 : (x 0).val < 1 := (x 0).isLt
    refine (pay9_apply _ _ _ ⟨(x 0).val, h0⟩ ⟨(x 1).val, h1⟩ ⟨(x 2).val, h2⟩).trans ?_
    refine congrArg (fun w => xs w + k0_pay1 (F := Ideal) x0 x1 w) ?_
    funext a; apply Fin.ext
    match a with
    | ⟨0, _⟩ => show 384 + (x 1).val = 384 * (1 + 1 * (x 0).val) + (0 + 1 * (x 1).val); omega
    | ⟨1, _⟩ => show (x 2).val = 0 + 1 * (x 2).val; omega
  · obtain rfl := List.mem_singleton.mp hp
    have h2 : (x 2).val < 1024 := (x 2).isLt
    have h1 : (x 1).val < 352 := (x 1).isLt
    have h0 : (x 0).val < 1 := (x 0).isLt
    refine (pay6_apply _ _ _ ⟨(x 0).val, h0⟩ ⟨(x 1).val, h1⟩ ⟨(x 2).val, h2⟩).trans ?_
    refine congrArg (fun w => xs w + k0_pay1 (F := Ideal) x0 x1 w) ?_
    funext a; apply Fin.ext
    match a with
    | ⟨0, _⟩ => show (x 1).val = 384 * (0 + 1 * (x 0).val) + (0 + 1 * (x 1).val); omega
    | ⟨1, _⟩ => show (x 2).val = 0 + 1 * (x 2).val; omega

end

theorem idx_0 : ∀ t : Fin cfg0.N, win0_0.index t = ![t.val / 2, 0, t.val % 2] := by decide +kernel
theorem idx_1 : ∀ t : Fin cfg0.N, win0_1.index t = ![t.val % 2, 0] := by decide +kernel
theorem idx_3 : ∀ t : Fin cfg0.N, win0_3.index t = ![t.val / 2, 0, 0] := by decide +kernel
theorem odd_3 : ∀ t : Fin cfg0.N, (cfg0.win 3).flush t = true → t.val % 2 = 1 := by decide +kernel

/-- Every shard of the gradient: the sums over all rows. -/
def dW (x : S4x768x4096.Idx → EReal) (y : S4096x1024.Idx → EReal) : S8x352x1024.Idx → EReal := fun j =>
  ∑ k : Fin 4096, x (ValueIdx.ix3 ⟨(j 0).val / 2, by have h : (j 0).val < 8 := (j 0).isLt; omega⟩ ⟨384 * ((j 0).val % 2) + (j 1).val, by have h : (j 1).val < 352 := (j 1).isLt; omega⟩ k)
    * y (ValueIdx.ix2 k (j 2))

/-- The sums over all rows, in two halves. -/
theorem dW_split (x : S4x768x4096.Idx → EReal) (y : S4096x1024.Idx → EReal) (j : S8x352x1024.Idx) (p : Fin 4) (r : Fin 768) (d : Fin 1024)
    (hp : (j 0).val / 2 = p.val) (hr : 384 * ((j 0).val % 2) + (j 1).val = r.val) (hd : (j 2).val = d.val) :
    dW x y j = (∑ k : Fin 2048, x (ValueIdx.ix3 p r ⟨k.val, by omega⟩) * y (ValueIdx.ix2 ⟨k.val, by omega⟩ d))
      + ∑ k : Fin 2048, x (ValueIdx.ix3 p r ⟨2048 + k.val, by omega⟩) * y (ValueIdx.ix2 ⟨2048 + k.val, by omega⟩ d) := by
  have ed : j 2 = d := Fin.ext hd
  have ep : (⟨(j 0).val / 2, by have h : (j 0).val < 8 := (j 0).isLt; omega⟩ : Fin 4) = p := Fin.ext hp
  have er : (⟨384 * ((j 0).val % 2) + (j 1).val, by have h : (j 1).val < 352 := (j 1).isLt; omega⟩ : Fin 768) = r := Fin.ext hr
  unfold dW
  rw [er, ep, ed]
  exact Fin.sum_univ_add (a := 2048) (b := 2048) _

variable (m : (ℓ : Loc nD τ sig) → Buf (Elt Ideal) ℓ) (c : Dev nD)

theorem in_0 (t : Fin cfg0.N) (r : Fin 768) (k : Fin 2048) :
    iblk m c 0 t (ValueIdx.ix3 0 r k) = m ((c : Thread nD τ).loc main_arg0) (ValueIdx.ix3 ⟨t.val / 2, by have h : t.val < 8 := lt_of_lt_of_eq t.isLt N_0; omega⟩ r ⟨2048 * (t.val % 2) + k.val, by omega⟩) := by
  rw [← V_main_arg0 m c]
  blk_simp [iblk, idx_0]
  refine congrArg (V m c main_arg0) (funext fun a => Fin.ext ?_)
  match a with
  | ⟨0, _⟩ => blk_simp [idx_0]; try simp
  | ⟨1, _⟩ => blk_simp [idx_0]; try simp
  | ⟨2, _⟩ => blk_simp [idx_0]; try simp [Nat.mul_comm]

theorem in_1 (t : Fin cfg0.N) (k : Fin 2048) (d : Fin 1024) :
    iblk m c 1 t (ValueIdx.ix2 k d) = m ((c : Thread nD τ).loc main_arg1) (ValueIdx.ix2 ⟨2048 * (t.val % 2) + k.val, by omega⟩ d) := by
  rw [← V_main_arg1 m c]
  blk_simp [iblk, idx_1]
  refine congrArg (V m c main_arg1) (funext fun a => Fin.ext ?_)
  match a with
  | ⟨0, _⟩ => blk_simp [idx_1]; try simp [Nat.mul_comm]
  | ⟨1, _⟩ => blk_simp [idx_1]; try simp

/-- The array of shards after the launch. -/
theorem arr_3 : (dats m 0 c).arrAt 3 cfg0.N = dW (m ((c : Thread nD τ).loc main_arg0)) (m ((c : Thread nD τ).loc main_arg1)) := by
  refine (dats m 0 c).arrAt_eq_of_covers 3 _ (by decide +kernel) fun t hf y => ?_
  have ho := odd_3 t hf
  have hN : t.val < 8 := lt_of_lt_of_eq t.isLt N_0
  blk_simp
  rw [after0_3, outsAt0_B m c t (by omega) ho ho]
  dsimp only
  rw [outB, outsAt0_A m c ⟨t.val - 1, by omega⟩ (by show (t.val - 1) % 2 = 0; omega) (by show ¬(t.val - 1) % 2 = 1; omega) (by show ¬(t.val - 1) % 2 = 1; omega)]
  dsimp only
  rw [soutA]
  have h0 : (y 0).val < 2 := (y 0).isLt
  have h1 : (y 1).val < 352 := (y 1).isLt
  have h2 : (y 2).val < 1024 := (y 2).isLt
  refine (congrArg₂ (· + ·) (pay1_apply _ _ ⟨384 * (y 0).val + (y 1).val, by omega⟩ ⟨(y 2).val, h2⟩) (pay1_apply _ _ ⟨384 * (y 0).val + (y 1).val, by omega⟩ ⟨(y 2).val, h2⟩)).trans ?_
  have e0 : (((win0_3.blk t).view.emb y) 0).val = t.val / 2 * 2 + (y 0).val := by blk_simp [idx_3]; try simp
  have e1 : (((win0_3.blk t).view.emb y) 1).val = (y 1).val := by blk_simp [idx_3]; try simp
  have e2 : (((win0_3.blk t).view.emb y) 2).val = (y 2).val := by blk_simp [idx_3]; try simp
  refine Eq.trans ?_ (dW_split _ _ _ ⟨t.val / 2, by omega⟩ ⟨384 * (y 0).val + (y 1).val, by omega⟩ ⟨(y 2).val, h2⟩ ?_ ?_ e2).symm
  · refine congrArg₂ (· + ·) (Finset.sum_congr rfl fun k _ => ?_) (Finset.sum_congr rfl fun k _ => ?_)
    · rw [in_0, in_1]
      have e : 2048 * ((t.val - 1) % 2) + k.val = k.val := by omega
      have e' : (t.val - 1) / 2 = t.val / 2 := by omega
      simp only [e, e']
    · rw [in_0, in_1]
      have e : 2048 * (t.val % 2) + k.val = 2048 + k.val := by omega
      simp only [e]
  · refine (congrArg (· / 2) e0).trans ?_
    show (t.val / 2 * 2 + (y 0).val) / 2 = t.val / 2
    omega
  · refine (congrArg₂ (fun p q => 384 * (p % 2) + q) e0 e1).trans ?_
    show 384 * ((t.val / 2 * 2 + (y 0).val) % 2) + (y 1).val = 384 * (y 0).val + (y 1).val
    omega

end FfnV

end
-- ==== Proof.DvRef.lean ====
/-
  The reference's gradient of the second weight: the shards of the sums over all rows. And the launch's: the same.
-/
module

public import proofs.«01_k».proof.Proof.DvVal
public import proofs.«01_k».proof.Proof.Gen.DvReferenceIdeal.Run
public import proofs.«01_k».proof.Proof.Gen.DvReferenceIdeal.Read
public import Idealize.ShloMosaic.Lib.Quiescent

@[expose] public section

set_option maxRecDepth 8192
set_option maxHeartbeats 400000

noncomputable section

namespace FfnV

open Idealize.ShloMosaic Idealize.ShloMosaic.TcCoe Idealize.SL.Sem
open Cert.DvReferenceIdeal Cert.DvReferenceIdeal.Read

/-- A row of the weight is a pair of shards, a shard of the pair and a row of the shard. -/
theorem split_row (k p s r : ℕ) (hk : k < 4096) (hp : p < 4) (hs : s < 2) (hr : r < 352) :
    (((2 * p + s) * 352 + r) * 4096 + k) / 2883584 = p ∧ (((2 * p + s) * 352 + r) * 4096 + k) / 1441792 % 2 = s
      ∧ (((2 * p + s) * 352 + r) * 4096 + k) / 4096 % 352 = r ∧ (((2 * p + s) * 352 + r) * 4096 + k) % 4096 = k := by
  refine ⟨?_, ?_, ?_, ?_⟩ <;> omega

/-- An entry of the padded pairs, by pair, shard, row and column. -/
theorem split_flat (k p s r : ℕ) (hk : k < 4096) (hp : p < 4) (hs : s < 2) (hr : r < 384) :
    (((p * 2 + s) * 384 + r) * 4096 + k) / 3145728 = p ∧ (((p * 2 + s) * 384 + r) * 4096 + k) / 4096 % 768 = 384 * s + r
      ∧ (((p * 2 + s) * 384 + r) * 4096 + k) % 4096 = k := by
  refine ⟨?_, ?_, ?_⟩ <;> omega

theorem ref_eq (x : (⟨S4x768x4096, .bf16⟩ : BufTy).Contents (Elt Ideal)) (y : (⟨S4096x1024, .bf16⟩ : BufTy).Contents (Elt Ideal)) :
    val_main_v11 (F := Ideal) x y = dW x y := by
  funext j
  have h0 : (j 0).val < 8 := (j 0).isLt
  have h1 : (j 1).val < 352 := (j 1).isLt
  have h2 : (j 2).val < 1024 := (j 2).isLt
  show val_main_v10 (F := Ideal) x y j = _
  rw [val_main_v10_apply, val_main_v9_apply, val_main_v8_apply]
  unfold dW
  refine Finset.sum_congr rfl fun k _ => ?_
  have hk := k.isLt
  rw [val_main_v4_apply, val_main_v3_apply, val_main_v2_apply, val_main_v1_apply, mul_comm]
  show x _ * y _ = _
  have en : (((j 0).val * 352 + (j 1).val) * 1024 + (j 2).val) / 1024 = (2 * ((j 0).val / 2) + (j 0).val % 2) * 352 + (j 1).val := by omega
  have ed : (((j 0).val * 352 + (j 1).val) * 1024 + (j 2).val) % 1024 = (j 2).val := by omega
  obtain ⟨a1, a2, a3, a4⟩ := split_row k.val ((j 0).val / 2) ((j 0).val % 2) (j 1).val hk (by omega) (by omega) h1
  obtain ⟨b1, b2, b3⟩ := split_flat k.val ((j 0).val / 2) ((j 0).val % 2) (j 1).val hk (by omega) (by omega) (by omega)
  refine congrArg₂ (· * ·) (congrArg x (funext fun a => Fin.ext ?_)) (congrArg y (funext fun a => Fin.ext ?_))
  · match a with
    | ⟨0, _⟩ =>
      show (((((((j 0).val * 352 + (j 1).val) * 1024 + (j 2).val) / 1024 * 4096 + k.val) / 2883584 * 2 + ((((j 0).val * 352 + (j 1).val) * 1024 + (j 2).val) / 1024 * 4096 + k.val) / 1441792 % 2) * 384 + ((((j 0).val * 352 + (j 1).val) * 1024 + (j 2).val) / 1024 * 4096 + k.val) / 4096 % 352) * 4096 + ((((j 0).val * 352 + (j 1).val) * 1024 + (j 2).val) / 1024 * 4096 + k.val) % 4096) / 3145728 = (j 0).val / 2
      rw [en, a1, a2, a3, a4, b1]
    | ⟨1, _⟩ =>
      show (((((((j 0).val * 352 + (j 1).val) * 1024 + (j 2).val) / 1024 * 4096 + k.val) / 2883584 * 2 + ((((j 0).val * 352 + (j 1).val) * 1024 + (j 2).val) / 1024 * 4096 + k.val) / 1441792 % 2) * 384 + ((((j 0).val * 352 + (j 1).val) * 1024 + (j 2).val) / 1024 * 4096 + k.val) / 4096 % 352) * 4096 + ((((j 0).val * 352 + (j 1).val) * 1024 + (j 2).val) / 1024 * 4096 + k.val) % 4096) / 4096 % 768 = 384 * ((j 0).val % 2) + (j 1).val
      rw [en, a1, a2, a3, a4, b2]
    | ⟨2, _⟩ =>
      show (((((((j 0).val * 352 + (j 1).val) * 1024 + (j 2).val) / 1024 * 4096 + k.val) / 2883584 * 2 + ((((j 0).val * 352 + (j 1).val) * 1024 + (j 2).val) / 1024 * 4096 + k.val) / 1441792 % 2) * 384 + ((((j 0).val * 352 + (j 1).val) * 1024 + (j 2).val) / 1024 * 4096 + k.val) / 4096 % 352) * 4096 + ((((j 0).val * 352 + (j 1).val) * 1024 + (j 2).val) / 1024 * 4096 + k.val) % 4096) % 4096 = k.val
      rw [en, a1, a2, a3, a4, b3]
  · match a with
    | ⟨0, _⟩ => rfl
    | ⟨1, _⟩ => exact ed

/-- The reference ends with the sums, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = dW (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v11_eq _ _).trans (ref_eq _ _)), (h c).2⟩)
    (Cert.DvReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩)
    (Cert.DvReferenceIdeal.Value.run (F := Ideal) m ρ)

/-- The launch ends with the sums, its arguments unchanged. -/
theorem kernel_run (m : (ℓ : Loc Cert.DvIdeal.nD Cert.DvIdeal.τ Cert.DvIdeal.sig) → Buf (Elt Ideal) ℓ) (ρ : Dev Cert.DvIdeal.nD → PrngReg) :
    θ_run Cert.DvIdeal.defs (onTc (τ := Cert.DvIdeal.τ) (Cert.DvIdeal.main (F := Ideal))) ⟨m, fun _ => 0, ρ⟩ fun r => ∀ c : Dev Cert.DvIdeal.nD,
      r.2.mem ((c.tc : Thread Cert.DvIdeal.nD Cert.DvIdeal.τ).loc Cert.DvIdeal.main_v1_1)
        = dW (m ((c.tc : Thread Cert.DvIdeal.nD Cert.DvIdeal.τ).loc Cert.DvIdeal.main_arg0)) (m ((c.tc : Thread Cert.DvIdeal.nD Cert.DvIdeal.τ).loc Cert.DvIdeal.main_arg1))
      ∧ r.2.mem ((c.tc : Thread Cert.DvIdeal.nD Cert.DvIdeal.τ).loc Cert.DvIdeal.main_arg0) = m ((c.tc : Thread Cert.DvIdeal.nD Cert.DvIdeal.τ).loc Cert.DvIdeal.main_arg0)
      ∧ r.2.mem ((c.tc : Thread Cert.DvIdeal.nD Cert.DvIdeal.τ).loc Cert.DvIdeal.main_arg1) = m ((c.tc : Thread Cert.DvIdeal.nD Cert.DvIdeal.τ).loc Cert.DvIdeal.main_arg1) :=
  (θ_run Cert.DvIdeal.defs _ _).mono (fun _ h c => ⟨(h c).2.1.trans (arr_3 m c), (h c).2.2⟩)
    (Cert.DvIdeal.Value.run_blocks (F := Ideal) m ρ)

end FfnV

end
-- ==== Proof.FwdRuns.lean ====
/-
  The launch of the Fwd program with the body's own copies: what its runs are stated over.
-/
module

public import proofs.«01_k».proof.Proof.Gen.FwdIdeal.Frame
public import proofs.«01_k».proof.Proof.Gen.FwdIdeal.Skeleton

@[expose] public section

set_option maxRecDepth 16384

noncomputable section

namespace Cert.FwdIdeal.Own

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FwdIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 3, through which its contents are stated (`View.read_writes_of_cover`: the
    choice does not matter). -/
abbrev VO0_3 : View sig .tc .vmem S4x512x768 .bf16 := (Memref.whole cc0_stg3_0 : Memref sig .tc .vmem S4x512x768 .bf16).view
/-- One staging buffer of output window 4, through which its contents are stated (`View.read_writes_of_cover`: the
    choice does not matter). -/
abbrev VO0_4 : View sig .tc .vmem S4x512x768 .bf16 := (Memref.whole cc0_stg4_0 : Memref sig .tc .vmem S4x512x768 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x768 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S4x768x1024 .bf16 := Memref.whole cc0_scratch0
abbrev scM0_1 : Memref sig .tc .vmem S4x768x1024 .bf16 := Memref.whole cc0_scratch1
abbrev scM0_2 : Memref sig .tc .vmem S4x768x1024 .bf16 := Memref.whole cc0_scratch2
/-- The scratch `arg9` the kernel carries between points, as a view: what it holds is stated through it. -/
abbrev VS0_0 : View sig .tc .vmem S4x768x1024 .bf16 := scM0_0.view
/-- The scratch `arg10` the kernel carries between points, as a view: what it holds is stated through it. -/
abbrev VS0_1 : View sig .tc .vmem S4x768x1024 .bf16 := scM0_1.view
/-- The scratch `arg11` the kernel carries between points, as a view: what it holds is stated through it. -/
abbrev VS0_2 : View sig .tc .vmem S4x768x1024 .bf16 := scM0_2.view
/-- The operands left in HBM that the body copies into scratch itself, whole. -/
abbrev hbM0_0 : Memref sig .tc .hbm S8x384x1024 .bf16 := Memref.whole main_v6
abbrev hbM0_1 : Memref sig .tc .hbm S8x384x1024 .bf16 := Memref.whole main_v8
abbrev hbM0_2 : Memref sig .tc .hbm S8x384x1024 .bf16 := Memref.whole main_v10
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 24 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32] : Fin 24 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The HBM operands the body moves, as references: unscoped, no window's array (`Pipeline.restRefs`). -/
def H0 : Finset (Ref sig .tc) := {main_v6, main_v8, main_v10}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v6) ∗ hbPt0 c hbM0_1 (V m c main_v8) ∗ hbPt0 c hbM0_2 (V m c main_v10)) := by
  rw [BI.bigSep_eq_bigSepL_of_eq [main_v6, main_v8, main_v10] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v6) ∗ hbPt0 c hbM0_1 (V m c main_v8) ∗ hbPt0 c hbM0_2 (V m c main_v10))) := by
  rw [Pipeline.ΦD_eq, scopedRest0_eq, ownSems00_eq, hbmPts0_eq]; simp only [scM0_0, scM0_1, scM0_2, owns_whole]; try rfl

end Cert.FwdIdeal.Own

end
-- ==== Proof.FwdOut.lean ====
/-
  What one point of the Fwd launch writes, as functions of the loaded blocks and the resident weights,
  and what the eight copies leave in each resident array.
-/
module

public import proofs.«01_k».proof.Proof.FwdRuns
public import Idealize.ShloMosaic.Lib.Pipeline.ValueKit

@[expose] public section

set_option maxRecDepth 16384

noncomputable section

namespace Cert.FwdIdeal.Own

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A weight array's eight shards as four pairs: what one resident array holds after the copies. -/
def wOf (g : Vec F S8x384x1024 .bf16) : Vec F S4x768x1024 .bf16 := fun y =>
  g (ValueIdx.ix3 (n0 := 8) (n1 := 384) (n2 := 1024) ⟨2 * (y 0).val + (y 1).val / 384, by have h0 : (y 0).val < 4 := (y 0).isLt; have h1 : (y 1).val < 768 := (y 1).isLt; omega⟩
    ⟨(y 1).val % 384, Nat.mod_lt _ (by decide)⟩ (y 2))

/-- The window that one copy writes. -/
abbrev win (M : Memref sig .tc .vmem S4x768x1024 .bf16) (j o : ℕ) (h : ∀ a, (![j, o, 0] : Fin 3 → ℕ) a + S1x384x1024.size a ≤ S4x768x1024.size a) :=
  ((M.slice (Rect.unit (s := S4x768x1024) ![j, o, 0] S1x384x1024.size h) (fun _ => rfl)).squeeze S384x1024 squeezes_S1x384x1024_S384x1024).view
/-- The window that one copy reads. -/
abbrev src (M : Memref sig .tc .hbm S8x384x1024 .bf16) (k : ℕ) (h : ∀ a, (![k, 0, 0] : Fin 3 → ℕ) a + S1x384x1024.size a ≤ S8x384x1024.size a) :=
  ((M.slice (Rect.unit (s := S8x384x1024) ![k, 0, 0] S1x384x1024.size h) (fun _ => rfl)).squeeze S384x1024 squeezes_S1x384x1024_S384x1024).view

/-- One copy: inside its window the resident array holds the shard, elsewhere what it held. -/
theorem win_step (M : Memref sig .tc .vmem S4x768x1024 .bf16) (S : Memref sig .tc .hbm S8x384x1024 .bf16) (j o k : ℕ) (h h') (hk : k = 2 * j + o / 384) (ho : o % 384 = 0)
    (g : S.view.ty.Contents (Elt F)) (f : M.view.ty.Contents (Elt F)) (y : S4x768x1024.Idx)
    (hy : ((y 0).val = j ∧ o ≤ (y 1).val ∧ (y 1).val < o + 384) ∨ M.view.read (Elt F) f y = wOf (S.view.read (Elt F) g) y) :
    M.view.read (Elt F) ((win M j o h).write (Elt F) f ((src S k h').read (Elt F) g) Finset.univ) y = wOf (S.view.read (Elt F) g) y := by
  by_cases hx : ∃ x, (win M j o h).emb x = M.view.emb y
  · obtain ⟨x, hx⟩ := hx
    have hy' : y = (Rect.unit (s := S4x768x1024) ![j, o, 0] S1x384x1024.size h).emb (Shape.reshapeEquiv squeezes_S1x384x1024_S384x1024.numel_eq x) := M.view.emb.injective hx.symm
    rw [View.read_apply, ← hx, View.write_emb_of_mem _ _ (Finset.mem_univ _), cast_cast, cast_eq]
    show S.view.read (Elt F) g ((Rect.unit (s := S8x384x1024) ![k, 0, 0] S1x384x1024.size h').emb (Shape.reshapeEquiv squeezes_S1x384x1024_S384x1024.numel_eq x)) = _
    generalize (Shape.reshapeEquiv squeezes_S1x384x1024_S384x1024.numel_eq x : S1x384x1024.Idx) = z at hy'
    subst hy'
    unfold wOf
    have z0 : (z 0).val < 1 := (z 0).isLt
    have z1 : (z 1).val < 384 := (z 1).isLt
    refine congrArg _ (funext fun a => Fin.ext ?_)
    match a with
    | 0 => show k + 1 * (z 0).val = 2 * (j + 1 * (z 0).val) + (o + 1 * (z 1).val) / 384; omega
    | 1 => show 0 + 1 * (z 1).val = (o + 1 * (z 1).val) % 384; omega
    | 2 => show 0 + 1 * (z 2).val = 0 + 1 * (z 2).val; rfl
  · rw [View.read_apply, View.write_of_not_mem]
    · rcases hy with hy | hy
      · refine absurd ⟨(Shape.reshapeEquiv squeezes_S1x384x1024_S384x1024.numel_eq).symm (ValueIdx.ix3 (n0 := 1) (n1 := 384) (n2 := 1024) 0 ⟨(y 1).val - o, by omega⟩ (y 2)), ?_⟩ hx
        show M.view.emb ((Rect.unit (s := S4x768x1024) ![j, o, 0] S1x384x1024.size h).emb ((Shape.reshapeEquiv squeezes_S1x384x1024_S384x1024.numel_eq) ((Shape.reshapeEquiv squeezes_S1x384x1024_S384x1024.numel_eq).symm _))) = _
        rw [Equiv.apply_symm_apply]
        refine congrArg _ (funext fun a => Fin.ext ?_)
        match a with
        | 0 => show j + 1 * 0 = (y 0).val; omega
        | 1 => show o + 1 * ((y 1).val - o) = (y 1).val; omega
        | 2 => show 0 + 1 * (y 2).val = (y 2).val; omega
      · exact hy
    · intro hm
      obtain ⟨x, -, hx'⟩ := Finset.mem_map.mp hm
      exact hx ⟨x, hx'⟩

/-- What one copy leaves. -/
def put (M : Memref sig .tc .vmem S4x768x1024 .bf16) (S : Memref sig .tc .hbm S8x384x1024 .bf16) (g : S.view.ty.Contents (Elt F)) (j o k : ℕ) (h : ∀ a, (![j, o, 0] : Fin 3 → ℕ) a + S1x384x1024.size a ≤ S4x768x1024.size a) (h' : ∀ a, (![k, 0, 0] : Fin 3 → ℕ) a + S1x384x1024.size a ≤ S8x384x1024.size a) (f : M.view.ty.Contents (Elt F)) : M.view.ty.Contents (Elt F) :=
  (win M j o h).write (Elt F) f ((src S k h').read (Elt F) g) Finset.univ

theorem inb_w_0_0 : ∀ a, (![0, 0, 0] : Fin 3 → ℕ) a + S1x384x1024.size a ≤ S4x768x1024.size a := by decide
theorem inb_s_0 : ∀ a, (![0, 0, 0] : Fin 3 → ℕ) a + S1x384x1024.size a ≤ S8x384x1024.size a := by decide
theorem inb_w_0_384 : ∀ a, (![0, 384, 0] : Fin 3 → ℕ) a + S1x384x1024.size a ≤ S4x768x1024.size a := by decide
theorem inb_s_1 : ∀ a, (![1, 0, 0] : Fin 3 → ℕ) a + S1x384x1024.size a ≤ S8x384x1024.size a := by decide
theorem inb_w_1_0 : ∀ a, (![1, 0, 0] : Fin 3 → ℕ) a + S1x384x1024.size a ≤ S4x768x1024.size a := by decide
theorem inb_s_2 : ∀ a, (![2, 0, 0] : Fin 3 → ℕ) a + S1x384x1024.size a ≤ S8x384x1024.size a := by decide
theorem inb_w_1_384 : ∀ a, (![1, 384, 0] : Fin 3 → ℕ) a + S1x384x1024.size a ≤ S4x768x1024.size a := by decide
theorem inb_s_3 : ∀ a, (![3, 0, 0] : Fin 3 → ℕ) a + S1x384x1024.size a ≤ S8x384x1024.size a := by decide
theorem inb_w_2_0 : ∀ a, (![2, 0, 0] : Fin 3 → ℕ) a + S1x384x1024.size a ≤ S4x768x1024.size a := by decide
theorem inb_s_4 : ∀ a, (![4, 0, 0] : Fin 3 → ℕ) a + S1x384x1024.size a ≤ S8x384x1024.size a := by decide
theorem inb_w_2_384 : ∀ a, (![2, 384, 0] : Fin 3 → ℕ) a + S1x384x1024.size a ≤ S4x768x1024.size a := by decide
theorem inb_s_5 : ∀ a, (![5, 0, 0] : Fin 3 → ℕ) a + S1x384x1024.size a ≤ S8x384x1024.size a := by decide
theorem inb_w_3_0 : ∀ a, (![3, 0, 0] : Fin 3 → ℕ) a + S1x384x1024.size a ≤ S4x768x1024.size a := by decide
theorem inb_s_6 : ∀ a, (![6, 0, 0] : Fin 3 → ℕ) a + S1x384x1024.size a ≤ S8x384x1024.size a := by decide
theorem inb_w_3_384 : ∀ a, (![3, 384, 0] : Fin 3 → ℕ) a + S1x384x1024.size a ≤ S4x768x1024.size a := by decide
theorem inb_s_7 : ∀ a, (![7, 0, 0] : Fin 3 → ℕ) a + S1x384x1024.size a ≤ S8x384x1024.size a := by decide

/-- After the eight copies a resident array holds the whole weight array, whatever it held before. -/
theorem scratch_eq (M : Memref sig .tc .vmem S4x768x1024 .bf16) (S : Memref sig .tc .hbm S8x384x1024 .bf16) (g : S.view.ty.Contents (Elt F)) (f : M.view.ty.Contents (Elt F)) :
    M.view.read (Elt F) (put M S g 3 384 7 inb_w_3_384 inb_s_7 (put M S g 3 0 6 inb_w_3_0 inb_s_6 (put M S g 2 384 5 inb_w_2_384 inb_s_5 (put M S g 2 0 4 inb_w_2_0 inb_s_4 (put M S g 1 384 3 inb_w_1_384 inb_s_3 (put M S g 1 0 2 inb_w_1_0 inb_s_2 (put M S g 0 384 1 inb_w_0_384 inb_s_1 (put M S g 0 0 0 inb_w_0_0 inb_s_0 (f))))))))) = wOf (S.view.read (Elt F) g) := by
  funext y
  have h0 : (y 0).val < 4 := (y 0).isLt
  have h1 : (y 1).val < 768 := (y 1).isLt
  refine win_step M S 3 384 7 _ _ rfl rfl g _ y (or_iff_not_imp_left.mpr fun n7 => ?_)
  refine win_step M S 3 0 6 _ _ rfl rfl g _ y (or_iff_not_imp_left.mpr fun n6 => ?_)
  refine win_step M S 2 384 5 _ _ rfl rfl g _ y (or_iff_not_imp_left.mpr fun n5 => ?_)
  refine win_step M S 2 0 4 _ _ rfl rfl g _ y (or_iff_not_imp_left.mpr fun n4 => ?_)
  refine win_step M S 1 384 3 _ _ rfl rfl g _ y (or_iff_not_imp_left.mpr fun n3 => ?_)
  refine win_step M S 1 0 2 _ _ rfl rfl g _ y (or_iff_not_imp_left.mpr fun n2 => ?_)
  refine win_step M S 0 384 1 _ _ rfl rfl g _ y (or_iff_not_imp_left.mpr fun n1 => ?_)
  refine win_step M S 0 0 0 _ _ rfl rfl g _ y (.inl ?_)
  omega

/-- The normed rows. -/
def hOf (x0 : Vec F S512x1024 .f32) (x1 : Vec F S1x1024 .f32) : FVec F S512x1024 .bf16 := k0_pay3 (View.ld x0 (Rect.unit (s := S512x1024) ![0, 0] S512x1024.size inb_S512x1024_S512x1024_0_0)) (View.ld x1 (Rect.unit (s := S1x1024) ![0, 0] S1x1024.size inb_S1x1024_S1x1024_0_0))
/-- The rows of the first result. -/
def yOf (x0 : Vec F S512x1024 .f32) (x1 : Vec F S1x1024 .f32) (xs0 xs1 xs2 : Vec F S4x768x1024 .bf16) : Vec F S512x1024 .f32 :=
  k0_pay2 (View.ld x0 (Rect.unit (s := S512x1024) ![0, 0] S512x1024.size inb_S512x1024_S512x1024_0_0))
    (k0_pay19 (hOf x0 x1)
      (k0_pay13 (hOf x0 x1) k0_pay4 (k0_pay5 (View.ld x0 (Rect.unit (s := S512x1024) ![0, 0] S512x1024.size inb_S512x1024_S512x1024_0_0)) (View.ld x1 (Rect.unit (s := S1x1024) ![0, 0] S1x1024.size inb_S1x1024_S1x1024_0_0)) (View.ld xs0 (Rect.unit (s := S4x768x1024) ![0, 0, 0] S1x768x1024.size inb_S4x768x1024_S1x768x1024_0_0_0))) (k0_pay6 (View.ld x0 (Rect.unit (s := S512x1024) ![0, 0] S512x1024.size inb_S512x1024_S512x1024_0_0)) (View.ld x1 (Rect.unit (s := S1x1024) ![0, 0] S1x1024.size inb_S1x1024_S1x1024_0_0)) (View.ld xs1 (Rect.unit (s := S4x768x1024) ![0, 0, 0] S1x768x1024.size inb_S4x768x1024_S1x768x1024_0_0_0))) (View.ld xs2 (Rect.unit (s := S4x768x1024) ![0, 0, 0] S1x768x1024.size inb_S4x768x1024_S1x768x1024_0_0_0)) (View.ld xs0 (Rect.unit (s := S4x768x1024) ![1, 0, 0] S1x768x1024.size inb_S4x768x1024_S1x768x1024_1_0_0)) (View.ld xs1 (Rect.unit (s := S4x768x1024) ![1, 0, 0] S1x768x1024.size inb_S4x768x1024_S1x768x1024_1_0_0)) (View.ld xs2 (Rect.unit (s := S4x768x1024) ![1, 0, 0] S1x768x1024.size inb_S4x768x1024_S1x768x1024_1_0_0)))
      (k0_pay14 (View.ld xs0 (Rect.unit (s := S4x768x1024) ![2, 0, 0] S1x768x1024.size inb_S4x768x1024_S1x768x1024_2_0_0))) (View.ld xs1 (Rect.unit (s := S4x768x1024) ![2, 0, 0] S1x768x1024.size inb_S4x768x1024_S1x768x1024_2_0_0)) (View.ld xs2 (Rect.unit (s := S4x768x1024) ![2, 0, 0] S1x768x1024.size inb_S4x768x1024_S1x768x1024_2_0_0)))
    (k0_pay20 (hOf x0 x1) (View.ld xs0 (Rect.unit (s := S4x768x1024) ![3, 0, 0] S1x768x1024.size inb_S4x768x1024_S1x768x1024_3_0_0))) (k0_pay21 (hOf x0 x1) (View.ld xs1 (Rect.unit (s := S4x768x1024) ![3, 0, 0] S1x768x1024.size inb_S4x768x1024_S1x768x1024_3_0_0))) (View.ld xs2 (Rect.unit (s := S4x768x1024) ![3, 0, 0] S1x768x1024.size inb_S4x768x1024_S1x768x1024_3_0_0))
/-- The stores of the second result. -/
def aOf (x0 : Vec F S512x1024 .f32) (x1 : Vec F S1x1024 .f32) (xs0 : Vec F S4x768x1024 .bf16) : List (View.Piece (Elt F) S4x512x768 .bf16) :=
  [⟨Rect.unit (s := S4x512x768) ![3, 0, 0] S1x512x768.size inb_S4x512x768_S1x512x768_3_0_0, k0_pay22 (hOf x0 x1) (View.ld xs0 (Rect.unit (s := S4x768x1024) ![3, 0, 0] S1x768x1024.size inb_S4x768x1024_S1x768x1024_3_0_0))⟩, ⟨Rect.unit (s := S4x512x768) ![2, 0, 0] S1x512x768.size inb_S4x512x768_S1x512x768_2_0_0, k0_pay17 (hOf x0 x1) (k0_pay14 (View.ld xs0 (Rect.unit (s := S4x768x1024) ![2, 0, 0] S1x768x1024.size inb_S4x768x1024_S1x768x1024_2_0_0)))⟩,
   ⟨Rect.unit (s := S4x512x768) ![1, 0, 0] S1x512x768.size inb_S4x512x768_S1x512x768_1_0_0, k0_pay11 (hOf x0 x1) (View.ld xs0 (Rect.unit (s := S4x768x1024) ![1, 0, 0] S1x768x1024.size inb_S4x768x1024_S1x768x1024_1_0_0))⟩, ⟨Rect.unit (s := S4x512x768) ![0, 0, 0] S1x512x768.size inb_S4x512x768_S1x512x768_0_0_0, k0_pay7 (View.ld x0 (Rect.unit (s := S512x1024) ![0, 0] S512x1024.size inb_S512x1024_S512x1024_0_0)) (View.ld x1 (Rect.unit (s := S1x1024) ![0, 0] S1x1024.size inb_S1x1024_S1x1024_0_0)) (View.ld xs0 (Rect.unit (s := S4x768x1024) ![0, 0, 0] S1x768x1024.size inb_S4x768x1024_S1x768x1024_0_0_0))⟩]
/-- The stores of the third result. -/
def bOf (x0 : Vec F S512x1024 .f32) (x1 : Vec F S1x1024 .f32) (xs1 : Vec F S4x768x1024 .bf16) : List (View.Piece (Elt F) S4x512x768 .bf16) :=
  [⟨Rect.unit (s := S4x512x768) ![3, 0, 0] S1x512x768.size inb_S4x512x768_S1x512x768_3_0_0, k0_pay1 (k0_pay23 (hOf x0 x1) (View.ld xs1 (Rect.unit (s := S4x768x1024) ![3, 0, 0] S1x768x1024.size inb_S4x768x1024_S1x768x1024_3_0_0)))⟩, ⟨Rect.unit (s := S4x512x768) ![2, 0, 0] S1x512x768.size inb_S4x512x768_S1x512x768_2_0_0, k0_pay18 (hOf x0 x1) (View.ld xs1 (Rect.unit (s := S4x768x1024) ![2, 0, 0] S1x768x1024.size inb_S4x768x1024_S1x768x1024_2_0_0))⟩,
   ⟨Rect.unit (s := S4x512x768) ![1, 0, 0] S1x512x768.size inb_S4x512x768_S1x512x768_1_0_0, k0_pay12 (hOf x0 x1) (View.ld xs1 (Rect.unit (s := S4x768x1024) ![1, 0, 0] S1x768x1024.size inb_S4x768x1024_S1x768x1024_1_0_0))⟩, ⟨Rect.unit (s := S4x512x768) ![0, 0, 0] S1x512x768.size inb_S4x512x768_S1x512x768_0_0_0, k0_pay8 (View.ld x0 (Rect.unit (s := S512x1024) ![0, 0] S512x1024.size inb_S512x1024_S512x1024_0_0)) (View.ld x1 (Rect.unit (s := S1x1024) ![0, 0] S1x1024.size inb_S1x1024_S1x1024_0_0)) (View.ld xs1 (Rect.unit (s := S4x768x1024) ![0, 0, 0] S1x768x1024.size inb_S4x768x1024_S1x768x1024_0_0_0))⟩]
theorem cov_a (x0 : Vec F S512x1024 .f32) (x1 : Vec F S1x1024 .f32) (xs0 : Vec F S4x768x1024 .bf16) (y : S4x512x768.Idx) : ∃ p ∈ aOf x0 x1 xs0, y ∈ p.1.set :=
  View.cover_of_tiledL (aOf x0 x1 xs0) S1x512x768.size (by sl_kernel_rfl) y
theorem cov_b (x0 : Vec F S512x1024 .f32) (x1 : Vec F S1x1024 .f32) (xs1 : Vec F S4x768x1024 .bf16) (y : S4x512x768.Idx) : ∃ p ∈ bOf x0 x1 xs1, y ∈ p.1.set :=
  View.cover_of_tiledL (bOf x0 x1 xs1) S1x512x768.size (by sl_kernel_rfl) y
theorem z2 : (![0, 0] : Fin 2 → ℕ) = fun _ => 0 := by decide
/-- A store of the whole block leaves what it stored. -/
theorem out_y (M : Memref sig .tc .vmem S512x1024 .f32) (f : M.view.ty.Contents (Elt F)) (p : Vec F S512x1024 .f32) (h) :
    M.view.read (Elt F) (M.view.writes (Elt F) f [⟨Rect.unit (s := S512x1024) ![0, 0] ![512, 1024] h, p⟩]) = p := by
  rw [View.read_writes_eq_canon _ _ _ (View.cover_of_tiledL [(⟨Rect.unit (s := S512x1024) ![0, 0] ![512, 1024] h, p⟩ : View.Piece (Elt F) S512x1024 .f32)] S512x1024.size (by sl_kernel_rfl)), View.canon_unit_zero z2]
end Cert.FwdIdeal.Own
end
-- ==== Proof.FwdRun.lean ====
/-
  The two runs of the Fwd launch's body: the first point copies the weights in, the others find them.
-/
module

public import proofs.«01_k».proof.Proof.FwdOut

@[expose] public section

set_option maxRecDepth 16384

noncomputable section

namespace Cert.FwdIdeal.Own

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem y_congr (x0 : Vec F S512x1024 .f32) (x1 : Vec F S1x1024 .f32) {s0 s1 s2 t0 t1 t2 : Vec F S4x768x1024 .bf16} (h0 : s0 = t0) (h1 : s1 = t1) (h2 : s2 = t2) :
    yOf x0 x1 s0 s1 s2 = yOf x0 x1 t0 t1 t2 := by rw [h0, h1, h2]
theorem a_congr (M : Memref sig .tc .vmem S4x512x768 .bf16) (f : M.view.ty.Contents (Elt F)) (x0 : Vec F S512x1024 .f32) (x1 : Vec F S1x1024 .f32) {s t : Vec F S4x768x1024 .bf16} (h : s = t) :
    M.view.read (Elt F) (M.view.writes (Elt F) f (aOf x0 x1 s)) = VO0_3.read (Elt F) (VO0_3.writes (Elt F) VO0_3.junk (aOf x0 x1 t)) := by
  subst h; exact View.read_writes_of_cover _ _ _ _ _ (cov_a x0 x1 s)
theorem b_congr (M : Memref sig .tc .vmem S4x512x768 .bf16) (f : M.view.ty.Contents (Elt F)) (x0 : Vec F S512x1024 .f32) (x1 : Vec F S1x1024 .f32) {s t : Vec F S4x768x1024 .bf16} (h : s = t) :
    M.view.read (Elt F) (M.view.writes (Elt F) f (bOf x0 x1 s)) = VO0_4.read (Elt F) (VO0_4.writes (Elt F) VO0_4.junk (bOf x0 x1 t)) := by
  subst h; exact View.read_writes_of_cover _ _ _ _ _ (cov_b x0 x1 s)

set_option maxHeartbeats 1200000 in
/-- The body at a point that finds the weights resident. -/
theorem runB (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S4x512x768 .bf16) (harg7 : arg7.IsWhole) (arg8 : Memref sig .tc .vmem S4x512x768 .bf16) (harg8 : arg8.IsWhole) (arg9 : Memref sig .tc .vmem S4x768x1024 .bf16) (harg9 : arg9.IsWhole) (arg10 : Memref sig .tc .vmem S4x768x1024 .bf16) (harg10 : arg10.IsWhole) (arg11 : Memref sig .tc .vmem S4x768x1024 .bf16) (harg11 : arg11.IsWhole) (hc0 : ¬cond0_0 i)
    (x0 : Vec F S512x1024 .f32) (x1 : Vec F S1x1024 .f32) (xs0 xs1 xs2 : Vec F S4x768x1024 .bf16) (K : PUnit → sProp 𝕄) :
        iprop(owns (c : Thread nD τ) arg1 fullShare x0 ∗ owns (c : Thread nD τ) arg2 fullShare x1 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg6 fullShare (yOf x0 x1 xs0 xs1 xs2) ∗ owns (c : Thread nD τ) arg7 fullShare (VO0_3.read (Elt F) (VO0_3.writes (Elt F) VO0_3.junk (aOf x0 x1 xs0))) ∗ owns (c : Thread nD τ) arg8 fullShare (VO0_4.read (Elt F) (VO0_4.writes (Elt F) VO0_4.junk (bOf x0 x1 xs1))) ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) Set.univ (cc0_ffn_fwd_00 i arg1 harg1 arg2 harg2 (Memref.whole main_v6) (Memref.isWhole_whole _) (Memref.whole main_v8) (Memref.isWhole_whole _) (Memref.whole main_v10) (Memref.isWhole_whole _) arg6 harg6 arg7 harg7 arg8 harg8 arg9 harg9 arg10 harg10 arg11 harg11 cc0_scratch3) K := by
    simp only [cc0_ffn_fwd_00_eq_skeleton]; unfold cc0_ffn_fwd_00_skel
    simp only [k0_part12_eq_skeleton, k0_part13_eq_skeleton, k0_part14_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    subst hf0 hf1 hfs0 hfs1 hfs2
    sl_exec (disch := first | sl_exact hc0)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; exact (out_y arg6 f2 _ _).trans (y_congr (arg1.view.read (Elt F) f0) (arg2.view.read (Elt F) f1) (Eq.refl (arg9.view.read (Elt F) fs0)) (Eq.refl (arg10.view.read (Elt F) fs1)) (Eq.refl (arg11.view.read (Elt F) fs2)))
    isplitl [H3]
    · iexists _; isplitr
      swap; · iexact H3
      ipureintro; exact (a_congr arg7 f3 (arg1.view.read (Elt F) f0) (arg2.view.read (Elt F) f1) (Eq.refl (arg9.view.read (Elt F) fs0)))
    isplitl [H4]
    · iexists _; isplitr
      swap; · iexact H4
      ipureintro; exact (b_congr arg8 f4 (arg1.view.read (Elt F) f0) (arg2.view.read (Elt F) f1) (Eq.refl (arg10.view.read (Elt F) fs1)))
    isplitl [HS0]
    · iexists _; isplitr
      swap; · iexact HS0
      ipureintro; exact (Eq.refl (arg9.view.read (Elt F) fs0))
    isplitl [HS1]
    · iexists _; isplitr
      swap; · iexact HS1
      ipureintro; exact (Eq.refl (arg10.view.read (Elt F) fs1))

    iexists _; isplitr
    swap; · iexact HS2
    ipureintro; rfl

set_option maxHeartbeats 1600000 in
set_option sl_exec.dmaWindow true in
set_option sl_exec.dmaWindowSet true in
/-- The body at the point that copies the weights in. -/
theorem runA (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S4x512x768 .bf16) (harg7 : arg7.IsWhole) (arg8 : Memref sig .tc .vmem S4x512x768 .bf16) (harg8 : arg8.IsWhole) (arg9 : Memref sig .tc .vmem S4x768x1024 .bf16) (harg9 : arg9.IsWhole) (arg10 : Memref sig .tc .vmem S4x768x1024 .bf16) (harg10 : arg10.IsWhole) (arg11 : Memref sig .tc .vmem S4x768x1024 .bf16) (harg11 : arg11.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2)
      (W : Waits sig Unit) (K : PUnit → sProp 𝕄) :
        iprop(owns (c : Thread nD τ) arg1 fullShare x0 ∗ owns (c : Thread nD τ) arg2 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare (yOf x0 x1 (wOf (hbM0_0.view.read (Elt F) fh0)) (wOf (hbM0_1.view.read (Elt F) fh1)) (wOf (hbM0_2.view.read (Elt F) fh2))) ∗ owns (c : Thread nD τ) arg7 fullShare (VO0_3.read (Elt F) (VO0_3.writes (Elt F) VO0_3.junk (aOf x0 x1 (wOf (hbM0_0.view.read (Elt F) fh0))))) ∗ owns (c : Thread nD τ) arg8 fullShare (VO0_4.read (Elt F) (VO0_4.writes (Elt F) VO0_4.junk (bOf x0 x1 (wOf (hbM0_1.view.read (Elt F) fh1))))) ∗ owns (c : Thread nD τ) arg9 fullShare (wOf (hbM0_0.view.read (Elt F) fh0)) ∗ owns (c : Thread nD τ) arg10 fullShare (wOf (hbM0_1.view.read (Elt F) fh1)) ∗ owns (c : Thread nD τ) arg11 fullShare (wOf (hbM0_2.view.read (Elt F) fh2)) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_fwd_00 i arg1 harg1 arg2 harg2 (Memref.whole main_v6) (Memref.isWhole_whole _) (Memref.whole main_v8) (Memref.isWhole_whole _) (Memref.whole main_v10) (Memref.isWhole_whole _) arg6 harg6 arg7 harg7 arg8 harg8 arg9 harg9 arg10 harg10 arg11 harg11 cc0_scratch3) K := by
    simp only [cc0_ffn_fwd_00_eq_skeleton]; unfold cc0_ffn_fwd_00_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, HW, Hk⟩
    subst hf0 hf1
    sl_exec (disch := first | sl_exact hc0)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; exact (out_y arg6 f2 _ _).trans (y_congr (arg1.view.read (Elt F) f0) (arg2.view.read (Elt F) f1) (scratch_eq arg9 hbM0_0 fh0 fs0) (scratch_eq arg10 hbM0_1 fh1 fs1) (scratch_eq arg11 hbM0_2 fh2 fs2))
    isplitl [H3]
    · iexists _; isplitr
      swap; · iexact H3
      ipureintro; exact (a_congr arg7 f3 (arg1.view.read (Elt F) f0) (arg2.view.read (Elt F) f1) (scratch_eq arg9 hbM0_0 fh0 fs0))
    isplitl [H4]
    · iexists _; isplitr
      swap; · iexact H4
      ipureintro; exact (b_congr arg8 f4 (arg1.view.read (Elt F) f0) (arg2.view.read (Elt F) f1) (scratch_eq arg10 hbM0_1 fh1 fs1))
    isplitl [HS0]
    · iexists _; isplitr
      swap; · iexact HS0
      ipureintro; exact (scratch_eq arg9 hbM0_0 fh0 fs0)
    isplitl [HS1]
    · iexists _; isplitr
      swap; · iexact HS1
      ipureintro; exact (scratch_eq arg10 hbM0_1 fh1 fs1)

    isplitl [HS2]
    · iexists _; isplitr
      swap; · iexact HS2
      ipureintro; exact (scratch_eq arg11 hbM0_2 fh2 fs2)
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    iexists _; iexact HW
end Cert.FwdIdeal.Own
end
-- ==== Proof.FwdFrame.lean ====
/-
  The frame of the Fwd program: the weights stay resident from the first point on.
-/
module

public import proofs.«01_k».proof.Proof.FwdRun

@[expose] public section

set_option maxRecDepth 16384

noncomputable section

namespace Cert.FwdIdeal.Own

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Resident array 0, once copied in. -/
def wD0 (c : Dev nD) : Vec F S4x768x1024 .bf16 := wOf (hbM0_0.view.read (Elt F) (V m c main_v6))
/-- Resident array 1, once copied in. -/
def wD1 (c : Dev nD) : Vec F S4x768x1024 .bf16 := wOf (hbM0_1.view.read (Elt F) (V m c main_v8))
/-- Resident array 2, once copied in. -/
def wD2 (c : Dev nD) : Vec F S4x768x1024 .bf16 := wOf (hbM0_2.view.read (Elt F) (V m c main_v10))

/-- The invariant: before the first point the launch's own, afterwards with the weights resident. -/
def PhiS (c : Dev nD) : (n : ℕ) → n ≤ cfg0.N → sProp 𝕄
  | 0, _ => Pipeline.ΦD osem0 spec0 H0 (V m) c
  | _ + 1, _ => iprop(iprop(owns (c : Thread nD τ) scM0_0 fullShare (wD0 m c) ∗ owns (c : Thread nD τ) scM0_1 fullShare (wD1 m c) ∗ owns (c : Thread nD τ) scM0_2 fullShare (wD2 m c)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v6) ∗ hbPt0 c hbM0_1 (V m c main_v8) ∗ hbPt0 c hbM0_2 (V m c main_v10)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop(owns (c : Thread nD τ) scM0_0 fullShare (wD0 m c) ∗ owns (c : Thread nD τ) scM0_1 fullShare (wD1 m c) ∗ owns (c : Thread nD τ) scM0_2 fullShare (wD2 m c)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) ∗ iprop(hbPt0 c hbM0_0 (V m c main_v6) ∗ hbPt0 c hbM0_1 (V m c main_v8) ∗ hbPt0 c hbM0_2 (V m c main_v10))) := by
  cases n with
  | zero => exact absurd rfl hz
  | succ n => rfl

/-- What the second and the third result's buffers hold after a point. -/
def aD (c : Dev nD) (t : Fin cfg0.N) : Vec F S4x512x768 .bf16 := VO0_3.read (Elt F) (VO0_3.writes (Elt F) VO0_3.junk (aOf (iblk m c 0 t) (iblk m c 1 t) (wD0 m c)))
def bD (c : Dev nD) (t : Fin cfg0.N) : Vec F S4x512x768 .bf16 := VO0_4.read (Elt F) (VO0_4.writes (Elt F) VO0_4.junk (bOf (iblk m c 0 t) (iblk m c 1 t) (wD1 m c)))
/-- What the first result's buffer holds after a point. -/
def yD (c : Dev nD) (t : Fin cfg0.N) : Vec F S512x1024 .f32 := yOf (iblk m c 0 t) (iblk m c 1 t) (wD0 m c) (wD1 m c) (wD2 m c)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => yD m c t
    | ⟨3, _⟩ => aD m c t
    | ⟨4, _⟩ => bD m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = yD m c t := by dsimp only [dats]
theorem after0_3 (c : Dev nD) (t : Fin cfg0.N) : (dats m 0 c).after 3 t = aD m c t := by dsimp only [dats]
theorem after0_4 (c : Dev nD) (t : Fin cfg0.N) : (dats m 0 c).after 4 t = bD m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_pos m c (t.val + 1) t.isLt (Nat.succ_ne_zero _),
    after0_0, after0_1, after0_2, after0_3, after0_4]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  unfold yD aD bD
  by_cases h0 : t.val % 8 = 0
  · have hz : t.val = 0 := by omega
    rw [PhiS_castSucc m c t, PhiS_zero m c _ _ hz, PhiD0_eq]
    iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2⟩⟩, ⟨%W, -, HW⟩, ⟨%d0, H0⟩, ⟨%d1, H1⟩, ⟨%d2, H2⟩, ⟨%d3, H3⟩, ⟨%d4, H4⟩⟩
    iapply (runA c (grid0.coords t) _ _ _ _ _ _ _ _ _ _ _ _ _ _ _ _ ((hcond0_0 t).mpr h0) (iblk m c 0 t) (iblk m c 1 t) (V m c main_v6) (V m c main_v8) (V m c main_v10) W _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    isplitl [HW]; · iexact HW
    iintro ⟨H0, H1, H2, H3, H4, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, ⟨%W', HW'⟩⟩
    isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2]
    · isplitl [HS0 HS1 HS2]
      · isplitl [HS0]; · iexact HS0
        isplitl [HS1]; · iexact HS1
        iexact HS2
      isplitl [Hg]
      · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · have hz : t.val ≠ 0 := by omega
    rw [PhiS_castSucc m c t, PhiS_pos m c _ _ hz]
    iintro ⟨⟨⟨HS0, HS1, HS2⟩, HR⟩, ⟨%W, -, HW⟩, ⟨%d0, H0⟩, ⟨%d1, H1⟩, ⟨%d2, H2⟩, ⟨%d3, H3⟩, ⟨%d4, H4⟩⟩
    iapply (runB c (grid0.coords t) _ _ _ _ _ _ _ _ _ _ _ _ _ _ _ _ (fun h => h0 ((hcond0_0 t).mp h)) (iblk m c 0 t) (iblk m c 1 t) (wD0 m c) (wD1 m c) (wD2 m c) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS⟩
    isplitl [HS HR]
    · isplitl [HS]; · iexact HS
      iexact HR
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, HR⟩
  isplitl [HS0 HS1 HS2]
  · isplitl [HS0]
    · iexists _; iexact HS0
    isplitl [HS1]
    · iexists _; iexact HS1
    iexists _; iexact HS2
  iexact HR

/-- The same after the last point. -/
theorem hout (c : Dev nD) : (dats m 0 c).Φ (Fin.last cfg0.N) ⊢ Pipeline.ΦD osem0 spec0 H0 (V m) c :=
  Phi_out m c _ (by rw [Fin.val_last]; have : cfg0.N = 8 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FwdIdeal.Own
end
-- ==== Proof.FwdVal.lean ====
/-
  The forward pass of a feed-forward block. A grid step normalizes 512 rows, multiplies them by the four pairs of
  shards of the weights, and adds the gated sum of the pairs, halved, to the rows. The pads of a shard add nothing.
-/
module

public import proofs.«01_k».proof.Proof.FwdFrame
public import Idealize.ShloMosaic.Lib.MatmulPlain
public import Idealize.ShloMosaic.Lib.KernelVsHost
public import Idealize.ShloMosaic.Lib.Pipeline.ValueKit

@[expose] public section

set_option maxRecDepth 8192
set_option maxHeartbeats 400000

noncomputable section

namespace FfnF

open Idealize.ShloMosaic Idealize.ShloMosaic.TcCoe Idealize.ShloMosaic.Tactic
open Cert.FwdIdeal Cert.FwdIdeal.Gen Cert.FwdIdeal.Own
open scoped BigOperators

/-! ## The model -/

/-- A normalized entry of a row, from the row, the entry and its gain. -/
def nrm (row : Fin 1024 → EReal) (x g : EReal) : EReal :=
  FloatOps.mulf (F := Ideal) (φ := .f32) (FloatOps.mulf (F := Ideal) (φ := .f32) x (FloatOps.rsqrt (F := Ideal) (φ := .f32)
    (FloatOps.addf (F := Ideal) (φ := .f32) (FloatOps.divf (F := Ideal) (φ := .f32) (∑ k, row k * row k) (FloatOps.ofBits (F := Ideal) .f32 0x44800000#32))
      (FloatOps.ofBits (F := Ideal) .f32 0x358637BD#32)))) g

/-- A gated product. -/
def gate (a b : EReal) : EReal := a * FloatOps.logistic (F := Ideal) (φ := .f32) a * b

/-- An entry of the residual stream after the block. -/
def fin (x s : EReal) : EReal := x + FloatOps.ofBits (F := Ideal) .f32 0x3F000000#32 * s

/-- A normalized entry of an array. -/
def hn (x : S4096x1024.Idx → EReal) (g : S1x1024.Idx → EReal) (i : Fin 4096) (k : Fin 1024) : EReal :=
  nrm (fun k => x (ValueIdx.ix2 i k)) (x (ValueIdx.ix2 i k)) (g (ValueIdx.ix2 0 k))

/-- The block's output. -/
def ffn (x : S4096x1024.Idx → EReal) (g : S1x1024.Idx → EReal) (w1 w3 : S1024x2816.Idx → EReal) (w2 : S2816x1024.Idx → EReal) : S4096x1024.Idx → EReal := fun j =>
  fin (x j) (∑ n : Fin 2816, gate (∑ k : Fin 1024, hn x g (j 0) k * w1 (ValueIdx.ix2 k n)) (∑ k : Fin 1024, hn x g (j 0) k * w3 (ValueIdx.ix2 k n)) * w2 (ValueIdx.ix2 n (j 1)))

/-! ## The padded pairs of shards -/

/-- The column of the weight at a row of a pair. -/
def col (p : Fin 4) (q : Fin 768) : ℕ := (2 * p.val + q.val / 384) * 352 + q.val % 384

theorem col_lt (p : Fin 4) (q : Fin 768) (h : q.val % 384 < 352) : col p q < 2816 := by
  unfold col; have := p.isLt; have := q.isLt; omega

/-- A sum over the pairs, the pads adding nothing, is the sum over the columns. -/
theorem sum_pairs (f : Fin 4 → Fin 768 → EReal) (g : Fin 2816 → EReal)
    (hin : ∀ p q (h : q.val % 384 < 352), f p q = g ⟨col p q, col_lt p q h⟩) (hpad : ∀ p q, ¬q.val % 384 < 352 → f p q = 0) :
    (∑ p, ∑ q, f p q) = ∑ n, g n := by
  rw [← Finset.sum_product' Finset.univ Finset.univ f]
  symm
  have key : ∀ n : Fin 2816, n.val / 704 < 4 ∧ 384 * (n.val / 352 % 2) + n.val % 352 < 768 ∧ (384 * (n.val / 352 % 2) + n.val % 352) % 384 < 352
      ∧ (2 * (n.val / 704) + (384 * (n.val / 352 % 2) + n.val % 352) / 384) * 352 + (384 * (n.val / 352 % 2) + n.val % 352) % 384 = n.val := fun n => by
    have := n.isLt; refine ⟨?_, ?_, ?_, ?_⟩ <;> omega
  have back : ∀ (p : Fin 4) (q : Fin 768), q.val % 384 < 352 → col p q / 704 = p.val ∧ 384 * (col p q / 352 % 2) + col p q % 352 = q.val := fun p q h => by
    have := p.isLt; have := q.isLt; unfold col; refine ⟨?_, ?_⟩ <;> omega
  refine Finset.sum_of_injOn (fun n : Fin 2816 => ((⟨n.val / 704, (key n).1⟩ : Fin 4), (⟨384 * (n.val / 352 % 2) + n.val % 352, (key n).2.1⟩ : Fin 768))) ?_ ?_ ?_ ?_
  · intro a _ b _ e
    have e1 := congrArg (fun z : Fin 4 × Fin 768 => z.1.val) e
    have e2 := congrArg (fun z : Fin 4 × Fin 768 => z.2.val) e
    dsimp only at e1 e2
    have ka := (key a).2.2.2
    have kb := (key b).2.2.2
    rw [e1, e2] at ka
    exact Fin.ext (ka.symm.trans kb)
  · intro a _; simp
  · rintro ⟨p, q⟩ _ hn
    refine hpad p q fun h => hn ⟨⟨col p q, col_lt p q h⟩, by simp, ?_⟩
    exact Prod.ext (Fin.ext (back p q h).1) (Fin.ext (back p q h).2)
  · intro n _
    dsimp only
    rw [hin _ _ (key n).2.2.1]
    exact congrArg g (Fin.ext (key n).2.2.2.symm)

/-! ## The body's arithmetic -/

theorem up_apply (h : FVec Ideal S512x1024 .bf16) (w : FVec Ideal S768x1024 .bf16) (r : Fin 512) (q : Fin 768) :
    matmul (F := Ideal) dot_S512x1024_S768x1024_S512x768_1_1_0_0_n_n none h w (constant (F := Ideal) S512x768 .f32 0x00000000#32) (ValueIdx.ix2 r q)
      = ∑ k : Fin 1024, h (ValueIdx.ix2 r k) * w (ValueIdx.ix2 q k) := by
  refine (Ideal.matmul_constant_zero_apply (φ₁ := .bf16) (φ₂ := .bf16) _ none h w _).trans ?_
  refine (Equiv.sum_comp (ValueIdx.contrEquiv1 dot_S512x1024_S768x1024_S512x768_1_1_0_0_n_n 1024 rfl rfl).symm _).symm.trans ?_
  refine Finset.sum_congr rfl fun k _ => ?_
  have hk := ValueIdx.contrEquiv1_symm_val dot_S512x1024_S768x1024_S512x768_1_1_0_0_n_n 1024 rfl rfl k
  refine congrArg₂ (· * ·) (congrArg h (funext fun a => Fin.ext ?_)) (congrArg w (funext fun a => Fin.ext ?_))
  · match a with
    | ⟨0, _⟩ => rfl
    | ⟨1, _⟩ => exact hk
  · match a with
    | ⟨0, _⟩ => rfl
    | ⟨1, _⟩ => exact hk

theorem down_apply (u : FVec Ideal S512x768 .bf16) (w : FVec Ideal S768x1024 .bf16) (r : Fin 512) (d : Fin 1024) :
    matmul (F := Ideal) dot_S512x768_S768x1024_S512x1024_1_0_0_1_n_n none u w (constant (F := Ideal) S512x1024 .f32 0x00000000#32) (ValueIdx.ix2 r d)
      = ∑ q : Fin 768, u (ValueIdx.ix2 r q) * w (ValueIdx.ix2 q d) := by
  refine (Ideal.matmul_constant_zero_apply (φ₁ := .bf16) (φ₂ := .bf16) _ none u w _).trans ?_
  refine (Equiv.sum_comp (ValueIdx.contrEquiv1 dot_S512x768_S768x1024_S512x1024_1_0_0_1_n_n 768 rfl rfl).symm _).symm.trans ?_
  refine Finset.sum_congr rfl fun k _ => ?_
  have hk := ValueIdx.contrEquiv1_symm_val dot_S512x768_S768x1024_S512x1024_1_0_0_1_n_n 768 rfl rfl k
  refine congrArg₂ (· * ·) (congrArg u (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A pair of shards as a matrix. -/
theorem cast_apply (x : Vec Ideal S1x768x1024 .bf16) (q : Fin 768) (k : Fin 1024) :
    shapeCast S768x1024 x shapeCasts_S1x768x1024_S768x1024 (ValueIdx.ix2 q k) = x (ValueIdx.ix3 0 q k) := by
  refine shapeCast_apply x _ _ (ValueIdx.ix3 0 q k) ?_
  rw [Shape.rowMajor_val_two, Shape.rowMajor_val_three]
  show ((0 : ℕ) * 768 + q.val) * 1024 + k.val = q.val * 1024 + k.val
  omega

/-- What one pair adds. -/
def pairSum (h : FVec Ideal S512x1024 .bf16) (a b c : Vec Ideal S1x768x1024 .bf16) : FVec Ideal S512x1024 .f32 :=
  have u : FVec Ideal S512x768 .f32 := matmul dot_S512x1024_S768x1024_S512x768_1_1_0_0_n_n none h (shapeCast S768x1024 a shapeCasts_S1x768x1024_S768x1024 : FVec Ideal S768x1024 .bf16) (constant S512x768 .f32 0x00000000#32)
  have v : FVec Ideal S512x768 .f32 := matmul dot_S512x1024_S768x1024_S512x768_1_1_0_0_n_n none h (shapeCast S768x1024 b shapeCasts_S1x768x1024_S768x1024 : FVec Ideal S768x1024 .bf16) (constant S512x768 .f32 0x00000000#32)
  matmul dot_S512x768_S768x1024_S512x1024_1_0_0_1_n_n none (truncf .bf16 (mulf (mulf u (logistic u)) v) bitsLt_bf16_f32)
    (shapeCast S768x1024 c shapeCasts_S1x768x1024_S768x1024 : FVec Ideal S768x1024 .bf16) (constant S512x1024 .f32 0x00000000#32)

theorem pairSum_apply (h : FVec Ideal S512x1024 .bf16) (a b c : Vec Ideal S1x768x1024 .bf16) (r : Fin 512) (d : Fin 1024) :
    pairSum h a b c (ValueIdx.ix2 r d) = ∑ q : Fin 768, gate (∑ k : Fin 1024, h (ValueIdx.ix2 r k) * a (ValueIdx.ix3 0 q k))
      (∑ k : Fin 1024, h (ValueIdx.ix2 r k) * b (ValueIdx.ix3 0 q k)) * c (ValueIdx.ix3 0 q d) := by
  unfold pairSum
  refine (down_apply _ _ r d).trans (Finset.sum_congr rfl fun q _ => ?_)
  refine congrArg₂ (· * ·) ?_ (cast_apply c q d)
  have ea := (up_apply h (shapeCast S768x1024 a shapeCasts_S1x768x1024_S768x1024) r q).trans (Finset.sum_congr rfl fun k _ => congrArg (h (ValueIdx.ix2 r k) * ·) (cast_apply a q k))
  have eb := (up_apply h (shapeCast S768x1024 b shapeCasts_S1x768x1024_S768x1024) r q).trans (Finset.sum_congr rfl fun k _ => congrArg (h (ValueIdx.ix2 r k) * ·) (cast_apply b q k))
  rw [← ea, ← eb]
  rfl

/-- A normalized entry of a block of rows. -/
theorem norm_apply (x : Vec Ideal S512x1024 .f32) (g : Vec Ideal S1x1024 .f32) (r : Fin 512) (k : Fin 1024) :
    k0_pay3 (F := Ideal) x g (ValueIdx.ix2 r k) = nrm (fun k => x (ValueIdx.ix2 r k)) (x (ValueIdx.ix2 r k)) (g (ValueIdx.ix2 0 k)) := by
  unfold nrm
  refine congrArg₂ (FloatOps.mulf (F := Ideal) (φ := .f32)) (congrArg₂ (FloatOps.mulf (F := Ideal) (φ := .f32)) rfl ?_) ?_
  · refine (broadcastTo_apply _ broadcasts_S512x1_S512x1024 _ (ValueIdx.ix2 r 0) ?_).trans ?_
    · intro a; match a with
      | ⟨0, _⟩ => rfl
      | ⟨1, _⟩ => rfl
    refine congrArg (FloatOps.rsqrt (F := Ideal) (φ := .f32)) (congrArg₂ (FloatOps.addf (F := Ideal) (φ := .f32)) (congrArg₂ (FloatOps.divf (F := Ideal) (φ := .f32)) ?_ rfl) rfl)
    refine (shapeCast_apply _ shapeCasts_S512_S512x1 _ (ValueIdx.ix1 r) ?_).trans ?_
    · rw [Shape.rowMajor_val_two, Shape.rowMajor_val_one]
      show r.val = r.val * 1 + 0
      omega
    refine (Ideal.multiReduction_add_single (φ := .f32) (s := S512x1024) (t := S512) (a := (1 : Fin 2)) (mulf (F := Ideal) (φ := .f32) x x) 0x00000000#32 reduces_S512x1024_S512 (.inl rfl) rfl (ValueIdx.ix1 r)).trans ?_
    refine Finset.sum_congr rfl fun k _ => ?_
    refine congrArg (fun z : S512x1024.Idx => x z * x z) (funext fun a => Fin.ext ?_)
    match a with
    | ⟨0, _⟩ => rfl
    | ⟨1, _⟩ => rfl
  · refine (broadcastTo_apply _ broadcasts_S1x1024_S512x1024 _ (ValueIdx.ix2 0 k) ?_)
    intro a; match a with
      | ⟨0, _⟩ => rfl
      | ⟨1, _⟩ => rfl

theorem zero_word : FloatOps.ofBits (F := Ideal) .f32 0x00000000#32 = (0 : EReal) := by
  show Ideal.ofBits .f32 0x00000000#32 = 0
  simp [Ideal.ofBits, Ideal.ieee]

/-- The step's output: the rows and the sum of the four pairs, halved. -/
theorem yOf_eq (x0 : Vec Ideal S512x1024 .f32) (x1 : Vec Ideal S1x1024 .f32) (xs0 xs1 xs2 : Vec Ideal S4x768x1024 .bf16) :
    yOf (F := Ideal) x0 x1 xs0 xs1 xs2
      = addf x0 (mulf (broadcast S512x1024 (Scalar.ofBits .f32 0x3F000000#32)) (addf (addf (addf (addf (constant (F := Ideal) S512x1024 .f32 0x00000000#32)
        (pairSum (k0_pay3 (F := Ideal) x0 x1) (View.ld xs0 (Rect.unit ![0, 0, 0] S1x768x1024.size inb_S4x768x1024_S1x768x1024_0_0_0)) (View.ld xs1 (Rect.unit ![0, 0, 0] S1x768x1024.size inb_S4x768x1024_S1x768x1024_0_0_0)) (View.ld xs2 (Rect.unit ![0, 0, 0] S1x768x1024.size inb_S4x768x1024_S1x768x1024_0_0_0))))
        (pairSum (k0_pay3 (F := Ideal) x0 x1) (View.ld xs0 (Rect.unit ![1, 0, 0] S1x768x1024.size inb_S4x768x1024_S1x768x1024_1_0_0)) (View.ld xs1 (Rect.unit ![1, 0, 0] S1x768x1024.size inb_S4x768x1024_S1x768x1024_1_0_0)) (View.ld xs2 (Rect.unit ![1, 0, 0] S1x768x1024.size inb_S4x768x1024_S1x768x1024_1_0_0))))
        (pairSum (k0_pay3 (F := Ideal) x0 x1) (View.ld xs0 (Rect.unit ![2, 0, 0] S1x768x1024.size inb_S4x768x1024_S1x768x1024_2_0_0)) (View.ld xs1 (Rect.unit ![2, 0, 0] S1x768x1024.size inb_S4x768x1024_S1x768x1024_2_0_0)) (View.ld xs2 (Rect.unit ![2, 0, 0] S1x768x1024.size inb_S4x768x1024_S1x768x1024_2_0_0))))
        (pairSum (k0_pay3 (F := Ideal) x0 x1) (View.ld xs0 (Rect.unit ![3, 0, 0] S1x768x1024.size inb_S4x768x1024_S1x768x1024_3_0_0)) (View.ld xs1 (Rect.unit ![3, 0, 0] S1x768x1024.size inb_S4x768x1024_S1x768x1024_3_0_0)) (View.ld xs2 (Rect.unit ![3, 0, 0] S1x768x1024.size inb_S4x768x1024_S1x768x1024_3_0_0))))) := by
  unfold yOf hOf
  rw [View.ld_unit_zero z2, View.ld_unit_zero z2]
  rfl

theorem ld_pair (xs : Vec Ideal S4x768x1024 .bf16) (p : Fin 4) (h) (q : Fin 768) (k : Fin 1024) :
    View.ld xs (Rect.unit (s := S4x768x1024) ![p.val, 0, 0] S1x768x1024.size h) (ValueIdx.ix3 0 q k) = xs (ValueIdx.ix3 p q k) := by
  refine congrArg xs (funext fun a => Fin.ext ?_)
  match a with
  | ⟨0, _⟩ => show p.val + 1 * 0 = p.val; omega
  | ⟨1, _⟩ => show 0 + 1 * q.val = q.val; omega
  | ⟨2, _⟩ => show 0 + 1 * k.val = k.val; omega

/-- What pair `p` adds, entry by entry. -/
def pairAt (h : Fin 1024 → EReal) (xs0 xs1 xs2 : Vec Ideal S4x768x1024 .bf16) (d : Fin 1024) (p : Fin 4) (q : Fin 768) : EReal :=
  gate (∑ k : Fin 1024, h k * xs0 (ValueIdx.ix3 p q k)) (∑ k : Fin 1024, h k * xs1 (ValueIdx.ix3 p q k)) * xs2 (ValueIdx.ix3 p q d)

theorem pair_ld (h : FVec Ideal S512x1024 .bf16) (xs0 xs1 xs2 : Vec Ideal S4x768x1024 .bf16) (p : Fin 4) (hp) (r : Fin 512) (d : Fin 1024) :
    pairSum h (View.ld xs0 (Rect.unit (s := S4x768x1024) ![p.val, 0, 0] S1x768x1024.size hp)) (View.ld xs1 (Rect.unit (s := S4x768x1024) ![p.val, 0, 0] S1x768x1024.size hp))
      (View.ld xs2 (Rect.unit (s := S4x768x1024) ![p.val, 0, 0] S1x768x1024.size hp)) (ValueIdx.ix2 r d) = ∑ q, pairAt (fun k => h (ValueIdx.ix2 r k)) xs0 xs1 xs2 d p q := by
  rw [pairSum_apply]
  refine Finset.sum_congr rfl fun q _ => ?_
  unfold pairAt
  refine congrArg₂ (· * ·) (congrArg₂ gate (Finset.sum_congr rfl fun k _ => congrArg (h (ValueIdx.ix2 r k) * ·) ?_) (Finset.sum_congr rfl fun k _ => congrArg (h (ValueIdx.ix2 r k) * ·) ?_)) ?_
  · exact ld_pair xs0 p hp q k
  · exact ld_pair xs1 p hp q k
  · exact ld_pair xs2 p hp q d

theorem yOf_apply (x0 : Vec Ideal S512x1024 .f32) (x1 : Vec Ideal S1x1024 .f32) (xs0 xs1 xs2 : Vec Ideal S4x768x1024 .bf16) (r : Fin 512) (d : Fin 1024) :
    yOf (F := Ideal) x0 x1 xs0 xs1 xs2 (ValueIdx.ix2 r d) = fin (x0 (ValueIdx.ix2 r d)) (∑ p, ∑ q, pairAt (fun k => k0_pay3 (F := Ideal) x0 x1 (ValueIdx.ix2 r k)) xs0 xs1 xs2 d p q) := by
  rw [yOf_eq, Fin.sum_univ_four]
  rw [← pair_ld _ xs0 xs1 xs2 0 inb_S4x768x1024_S1x768x1024_0_0_0 r d, ← pair_ld _ xs0 xs1 xs2 1 inb_S4x768x1024_S1x768x1024_1_0_0 r d,
    ← pair_ld _ xs0 xs1 xs2 2 inb_S4x768x1024_S1x768x1024_2_0_0 r d, ← pair_ld _ xs0 xs1 xs2 3 inb_S4x768x1024_S1x768x1024_3_0_0 r d]
  refine congrArg (fun z : EReal => fin (x0 (ValueIdx.ix2 r d)) (z + _ + _ + _)) ?_
  show FloatOps.ofBits (F := Ideal) .f32 0x00000000#32 + _ = _
  rw [zero_word, zero_add]
  rfl

/-! ## The host's weights -/

/-- The padded shards of a weight whose columns are the rows of `w`. -/
def shard (w : S2816x1024.Idx → EReal) : S8x384x1024.Idx → EReal :=
  pad S8x384x1024 ![0, 0, 0] ![0, 32, 0] ![0, 0, 0] (shapeCast S8x352x1024 w shapeCasts_S2816x1024_S8x352x1024) (sitofp (F := Ideal) .bf16 (constantI S_ 32 0#32))
    pads_S8x352x1024_S8x384x1024_000_0320_000 h_S_

theorem shard_in (w : S2816x1024.Idx → EReal) (i : S8x384x1024.Idx) (n : Fin 2816) (d : Fin 1024) (h : (i 1).val < 352) (hn : n.val = (i 0).val * 352 + (i 1).val) (hd : d.val = (i 2).val) :
    shard w i = w (ValueIdx.ix2 n d) := by
  unfold shard
  refine (pad_apply_of_inside _ _ _ _ _ _ _ i (ValueIdx.ix3 (n0 := 8) (n1 := 352) (n2 := 1024) (i 0) ⟨(i 1).val, h⟩ (i 2)) ?_).trans ?_
  · intro a
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · refine shapeCast_apply w _ _ (ValueIdx.ix2 n d) ?_
    rw [Shape.rowMajor_val_two, Shape.rowMajor_val_three]
    show n.val * 1024 + d.val = ((i 0).val * 352 + (i 1).val) * 1024 + (i 2).val
    rw [hn, hd]

theorem shard_pad (w : S2816x1024.Idx → EReal) (i : S8x384x1024.Idx) (h : ¬(i 1).val < 352) : shard w i = 0 := by
  unfold shard
  refine (pad_apply_of_not_inside _ _ _ _ _ _ _ i (1 : Fin 3) ?_).trans ?_
  · rintro ⟨_, _, h'⟩
    refine h ?_
    have h' : ((i 1).val - 0) / (0 + 1) < 352 := h'
    omega
  · show (((0#32 : BitVec 32).toInt : ℝ) : EReal) = 0
    simp

/-- The resident pairs: the weight's columns, zero in the pads. -/
theorem wOf_in (w : S2816x1024.Idx → EReal) (p : Fin 4) (q : Fin 768) (k : Fin 1024) (h : q.val % 384 < 352) :
    wOf (F := Ideal) (shard w) (ValueIdx.ix3 p q k) = w (ValueIdx.ix2 ⟨col p q, col_lt p q h⟩ k) := by
  unfold wOf
  exact shard_in w _ ⟨col p q, col_lt p q h⟩ k h rfl rfl

theorem wOf_pad (w : S2816x1024.Idx → EReal) (p : Fin 4) (q : Fin 768) (k : Fin 1024) (h : ¬q.val % 384 < 352) :
    wOf (F := Ideal) (shard w) (ValueIdx.ix3 p q k) = 0 := by
  unfold wOf
  exact shard_pad w _ h

/-- The sum over the resident pairs is the sum over the columns. -/
theorem sum_resident (h : Fin 1024 → EReal) (w1 w3 w2 : S2816x1024.Idx → EReal) (d : Fin 1024) :
    (∑ p, ∑ q, pairAt h (wOf (F := Ideal) (shard w1)) (wOf (F := Ideal) (shard w3)) (wOf (F := Ideal) (shard w2)) d p q)
      = ∑ n : Fin 2816, gate (∑ k : Fin 1024, h k * w1 (ValueIdx.ix2 n k)) (∑ k : Fin 1024, h k * w3 (ValueIdx.ix2 n k)) * w2 (ValueIdx.ix2 n d) := by
  refine sum_pairs _ _ (fun p q hq => ?_) (fun p q hq => ?_)
  · unfold pairAt
    simp only [wOf_in _ p q _ hq]
  · unfold pairAt
    rw [wOf_pad w2 p q d hq, mul_zero]

variable (m : (ℓ : Loc nD τ sig) → Buf (Elt Ideal) ℓ) (c : Dev nD)

theorem tr_apply (w : S1024x2816.Idx → EReal) (n : Fin 2816) (k : Fin 1024) :
    transpose S2816x1024 [1, 0] w transposes_S1024x2816_S2816x1024_1_0 (ValueIdx.ix2 n k) = w (ValueIdx.ix2 k n) := by
  refine transpose_apply _ w _ _ (ValueIdx.ix2 k n) ?_
  intro a
  match a with
  | ⟨0, _⟩ => rfl
  | ⟨1, _⟩ => rfl

theorem host6 : V m c main_v6 = shard (transpose S2816x1024 [1, 0] (m ((c : Thread nD τ).loc main_arg2) : S1024x2816.Idx → EReal) transposes_S1024x2816_S2816x1024_1_0) := by
  show StableHlo.after (List.flatten [hostOps0, hostOps0_1, hostOps0_2, hostOps0_3, hostOps0_4, hostOps0_5]) (fun b => m (c, b)) (Proc.devRef .tc main_v6) = _
  simp only [hostOps0, hostOps0_1, hostOps0_2, hostOps0_3, hostOps0_4, hostOps0_5, List.flatten_cons, List.flatten_nil, List.append_nil, List.cons_append, List.nil_append]
  after_results
  rfl
theorem host8 : V m c main_v8 = shard (transpose S2816x1024 [1, 0] (m ((c : Thread nD τ).loc main_arg3) : S1024x2816.Idx → EReal) transposes_S1024x2816_S2816x1024_1_0) := by
  show StableHlo.after (List.flatten [hostOps0, hostOps0_1, hostOps0_2, hostOps0_3, hostOps0_4, hostOps0_5]) (fun b => m (c, b)) (Proc.devRef .tc main_v8) = _
  simp only [hostOps0, hostOps0_1, hostOps0_2, hostOps0_3, hostOps0_4, hostOps0_5, List.flatten_cons, List.flatten_nil, List.append_nil, List.cons_append, List.nil_append]
  after_results
  rfl
theorem host10 : V m c main_v10 = shard (m ((c : Thread nD τ).loc main_arg4) : S2816x1024.Idx → EReal) := by
  show StableHlo.after (List.flatten [hostOps0, hostOps0_1, hostOps0_2, hostOps0_3, hostOps0_4, hostOps0_5]) (fun b => m (c, b)) (Proc.devRef .tc main_v10) = _
  simp only [hostOps0, hostOps0_1, hostOps0_2, hostOps0_3, hostOps0_4, hostOps0_5, List.flatten_cons, List.flatten_nil, List.append_nil, List.cons_append, List.nil_append]
  after_results
  rfl

/-! ## The array after the launch -/

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

theorem in_0 (t : Fin cfg0.N) (r : Fin 512) (k : Fin 1024) :
    iblk m c 0 t (ValueIdx.ix2 r k) = m ((c : Thread nD τ).loc main_arg0) (ValueIdx.ix2 ⟨512 * t.val + r.val, by have h : t.val < 8 := lt_of_lt_of_eq t.isLt N_0; omega⟩ k) := by
  rw [← V_main_arg0 m c]
  blk_simp [iblk, idx_0]
  refine congrArg (V m c main_arg0) (funext fun a => Fin.ext ?_)
  match a with
  | ⟨0, _⟩ => blk_simp [idx_0]; try simp [Nat.mul_comm]
  | ⟨1, _⟩ => blk_simp [idx_0]; try simp

theorem in_1 (t : Fin cfg0.N) (k : Fin 1024) :
    iblk m c 1 t (ValueIdx.ix2 0 k) = m ((c : Thread nD τ).loc main_arg1) (ValueIdx.ix2 0 k) := by
  rw [← V_main_arg1 m c]
  blk_simp [iblk, idx_1]
  refine congrArg (V m c main_arg1) (funext fun a => Fin.ext ?_)
  match a with
  | ⟨0, _⟩ => blk_simp [idx_1]; try simp
  | ⟨1, _⟩ => blk_simp [idx_1]; try simp

/-- The array after the launch. -/
theorem arr_2 : (dats m 0 c).arrAt 2 cfg0.N = ffn (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 2 _ (by decide +kernel) fun t hf y => ?_
  have hN : t.val < 8 := lt_of_lt_of_eq t.isLt N_0
  have h0 : (y 0).val < 512 := (y 0).isLt
  have h1 : (y 1).val < 1024 := (y 1).isLt
  have e0 : (((win0_2.blk t).view.emb y) 0).val = 512 * t.val + (y 0).val := by blk_simp [idx_2]; try simp [Nat.mul_comm]
  have e1 : (((win0_2.blk t).view.emb y) 1).val = (y 1).val := by blk_simp [idx_2]; try simp
  have e : (win0_2.blk t).view.emb y = ValueIdx.ix2 (⟨512 * t.val + (y 0).val, by omega⟩ : Fin 4096) (⟨(y 1).val, h1⟩ : Fin 1024) := funext fun a => Fin.ext (by
    match a with
    | ⟨0, _⟩ => exact e0
    | ⟨1, _⟩ => exact e1)
  refine Eq.trans ?_ (congrArg (ffn _ _ _ _ _) e).symm
  blk_simp
  rw [after0_2]
  have ey : y = ValueIdx.ix2 (⟨(y 0).val, h0⟩ : Fin 512) (⟨(y 1).val, h1⟩ : Fin 1024) := funext fun a => Fin.ext (by
    match a with
    | ⟨0, _⟩ => rfl
    | ⟨1, _⟩ => rfl)
  refine (congrArg (yD m c t) ey).trans ?_
  refine (yOf_apply (iblk m c 0 t) (iblk m c 1 t) (wD0 m c) (wD1 m c) (wD2 m c) ⟨(y 0).val, h0⟩ ⟨(y 1).val, h1⟩).trans ?_
  have w0 : wD0 m c = wOf (F := Ideal) (shard (transpose S2816x1024 [1, 0] (m ((c : Thread nD τ).loc main_arg2) : S1024x2816.Idx → EReal) transposes_S1024x2816_S2816x1024_1_0)) :=
    congrArg (wOf (F := Ideal)) (host6 m c)
  have w1 : wD1 m c = wOf (F := Ideal) (shard (transpose S2816x1024 [1, 0] (m ((c : Thread nD τ).loc main_arg3) : S1024x2816.Idx → EReal) transposes_S1024x2816_S2816x1024_1_0)) :=
    congrArg (wOf (F := Ideal)) (host8 m c)
  have w2 : wD2 m c = wOf (F := Ideal) (shard (m ((c : Thread nD τ).loc main_arg4) : S2816x1024.Idx → EReal)) :=
    congrArg (wOf (F := Ideal)) (host10 m c)
  rw [w0, w1, w2, sum_resident]
  have hh : ∀ k, k0_pay3 (F := Ideal) (iblk m c 0 t) (iblk m c 1 t) (ValueIdx.ix2 ⟨(y 0).val, h0⟩ k)
      = hn (m ((c : Thread nD τ).loc main_arg0)) (m ((c : Thread nD τ).loc main_arg1)) ⟨512 * t.val + (y 0).val, by omega⟩ k := fun k => by
    refine (norm_apply _ _ _ _).trans ?_
    unfold hn
    simp only [in_0, in_1]
  unfold ffn
  refine congrArg₂ fin (in_0 m c t _ _) (Finset.sum_congr rfl fun n _ => ?_)
  refine congrArg₂ (· * ·) (congrArg₂ gate (Finset.sum_congr rfl fun k _ => ?_) (Finset.sum_congr rfl fun k _ => ?_)) rfl
  · exact congrArg₂ (· * ·) (hh k) (tr_apply _ n k)
  · exact congrArg₂ (· * ·) (hh k) (tr_apply _ n k)

end FfnF
end
-- ==== Proof.FwdRef.lean ====
/-
  The reference's forward pass of a feed-forward block, entry by entry. And the launch's: the same.
-/
module

public import proofs.«01_k».proof.Proof.FwdVal
public import proofs.«01_k».proof.Proof.Gen.FwdReferenceIdeal.Run
public import proofs.«01_k».proof.Proof.Gen.FwdReferenceIdeal.Read
public import Idealize.ShloMosaic.Lib.Quiescent

@[expose] public section

set_option maxRecDepth 8192
set_option maxHeartbeats 400000

noncomputable section

namespace FfnF

open Idealize.ShloMosaic Idealize.ShloMosaic.TcCoe Idealize.SL.Sem
open Cert.FwdReferenceIdeal Cert.FwdReferenceIdeal.Read
open scoped BigOperators

theorem one_word : FloatOps.ofBits (F := Ideal) .f32 0x3F800000#32 = (1 : EReal) := by
  refine Eq.trans (b := ((1 : ℝ) : EReal)) ?_ EReal.coe_one
  show Ideal.ofBits .f32 0x3F800000#32 = _
  simp [Ideal.ofBits, Ideal.ieee, -EReal.coe_mul]; norm_num

section
variable (x : (⟨S4096x1024, .f32⟩ : BufTy).Contents (Elt Ideal)) (g : (⟨S1x1024, .f32⟩ : BufTy).Contents (Elt Ideal))
  (w1 w3 : (⟨S1024x2816, .f32⟩ : BufTy).Contents (Elt Ideal)) (w2 : (⟨S2816x1024, .f32⟩ : BufTy).Contents (Elt Ideal))

/-- The reference's normalized entry. -/
theorem r13 (i : S4096x1024.Idx) (a : Fin 4096) (k : Fin 1024) (ha : (i 0).val = a.val) (hk : (i 1).val = k.val) :
    val_main_v13 (F := Ideal) x g i = hn x g a k := by
  have ei : i = ValueIdx.ix2 a k := funext fun b => Fin.ext (by
    match b with
    | ⟨0, _⟩ => exact ha
    | ⟨1, _⟩ => exact hk)
  subst ei
  rw [val_main_v13_apply, val_main_v10_apply, val_main_v9_apply, val_main_v8_apply, val_main_v7_apply, val_main_v5_apply, val_main_v3_apply, val_main_v2_apply,
    val_main_v4_apply, val_main_v6_apply, val_main_v12_apply, val_main_v11_apply, val_main_v0_apply, val_main_cst_apply, zero_word, zero_add]
  unfold hn nrm
  refine congrArg₂ (FloatOps.mulf (F := Ideal) (φ := .f32)) (congrArg₂ (FloatOps.mulf (F := Ideal) (φ := .f32)) rfl
    (congrArg (FloatOps.rsqrt (F := Ideal) (φ := .f32)) (congrArg₂ (FloatOps.addf (F := Ideal) (φ := .f32)) (congrArg₂ (FloatOps.divf (F := Ideal) (φ := .f32)) ?_ rfl) rfl))) ?_
  · refine Finset.sum_congr rfl fun q _ => ?_
    rw [val_main_v1_apply]
    refine congrArg (fun z : S4096x1024.Idx => x z * x z) (funext fun b => Fin.ext ?_)
    match b with
    | ⟨0, _⟩ => rfl
    | ⟨1, _⟩ => rfl
  · refine congrArg g (funext fun b => Fin.ext ?_)
    match b with
    | ⟨0, _⟩ => rfl
    | ⟨1, _⟩ => exact Nat.mod_eq_of_lt k.isLt

theorem r14 (i : S4096x2816.Idx) : val_main_v14 (F := Ideal) x g w1 i = ∑ k : Fin 1024, hn x g (i 0) k * w1 (ValueIdx.ix2 k (i 1)) := by
  rw [val_main_v14_apply]
  refine Finset.sum_congr rfl fun k _ => congrArg₂ (· * ·) (r13 x g _ (i 0) k rfl rfl) (congrArg w1 (funext fun b => Fin.ext ?_))
  match b with
  | ⟨0, _⟩ => rfl
  | ⟨1, _⟩ => rfl

theorem r16 (i : S4096x2816.Idx) : val_main_v16 (F := Ideal) x g w3 i = ∑ k : Fin 1024, hn x g (i 0) k * w3 (ValueIdx.ix2 k (i 1)) := by
  rw [val_main_v16_apply]
  refine Finset.sum_congr rfl fun k _ => congrArg₂ (· * ·) (r13 x g _ (i 0) k rfl rfl) (congrArg w3 (funext fun b => Fin.ext ?_))
  match b with
  | ⟨0, _⟩ => rfl
  | ⟨1, _⟩ => rfl

theorem r17 (i : S4096x2816.Idx) : val_main_v17 (F := Ideal) x g w1 w3 i
    = gate (∑ k : Fin 1024, hn x g (i 0) k * w1 (ValueIdx.ix2 k (i 1))) (∑ k : Fin 1024, hn x g (i 0) k * w3 (ValueIdx.ix2 k (i 1))) := by
  rw [val_main_v17_apply, val_main_v15_apply, val_main_call0_v5_apply, val_main_call0_v4_apply, val_main_call0_v3_apply, val_main_call0_v2_apply,
    val_main_call0_v1_apply, val_main_call0_v0_apply, val_main_call0_cst_apply, val_main_call0_cst_0_apply, one_word, r14, r16]
  rfl

theorem ref_eq : val_main_v21 (F := Ideal) x g w1 w3 w2 = ffn x g w1 w3 w2 := by
  funext j
  rw [val_main_v21_apply, val_main_v20_apply, val_main_v19_apply, val_main_cst_2_apply, val_main_v18_apply]
  unfold ffn
  refine congrArg (fin (x j)) (Finset.sum_congr rfl fun n _ => congrArg₂ (· * ·) (r17 x g w1 w3 _) (congrArg w2 (funext fun b => Fin.ext ?_)))
  match b with
  | ⟨0, _⟩ => rfl
  | ⟨1, _⟩ => rfl
end

/-- The reference ends with the block's output, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v21_eq _ _ _ _ _).trans (ref_eq _ _ _ _ _)), (h c).2⟩)
    (Cert.FwdReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩)
    (Cert.FwdReferenceIdeal.Value.run (F := Ideal) m ρ)

/-- The launch ends with the block's output, its arguments unchanged. -/
theorem kernel_run (m : (ℓ : Loc Cert.FwdIdeal.nD Cert.FwdIdeal.τ Cert.FwdIdeal.sig) → Buf (Elt Ideal) ℓ) (ρ : Dev Cert.FwdIdeal.nD → PrngReg) :
    θ_run Cert.FwdIdeal.defs (onTc (τ := Cert.FwdIdeal.τ) (Cert.FwdIdeal.main (F := Ideal))) ⟨m, fun _ => 0, ρ⟩ fun r => ∀ c : Dev Cert.FwdIdeal.nD,
      r.2.mem ((c.tc : Thread Cert.FwdIdeal.nD Cert.FwdIdeal.τ).loc Cert.FwdIdeal.main_v11_0)
        = ffn (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))
      ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4) :=
  (θ_run Cert.FwdIdeal.defs _ _).mono (fun _ h c => ⟨(h.1 c).trans (arr_2 m c), h.2 c⟩)
    (θ_run_and ((θ_run Cert.FwdIdeal.defs _ _).mono (fun r h c => (h c).1 2) (Cert.FwdIdeal.Own.run_main (F := Ideal) m ρ)) (Cert.FwdIdeal.Own.unchanged (F := Ideal) m ρ))

end FfnF

end
-- ==== Proof.DxRuns.lean ====
/-
  The launch of the Dx program with the body's own copies: what its runs are stated over.
-/
module

public import proofs.«01_k».proof.Proof.Gen.DxIdeal.Frame
public import proofs.«01_k».proof.Proof.Gen.DxIdeal.Skeleton

@[expose] public section

set_option maxRecDepth 16384

noncomputable section

namespace Cert.DxIdeal.Own

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DxIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the first point only — by arithmetic of the point. -/
theorem hcond0_1 : ∀ t : Fin cfg0.N, cond0_1 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_1, e0]
    word_cmp
   : ∀ t : Fin grid0.N, cond0_1 (grid0.coords t) ↔ t.val % 16 = 0)

/-! ## The kernel body on any staging memrefs: a subtype the run finds -/

/-- One staging buffer of output window 9, through which its contents are stated (`View.read_writes_of_cover`: the
    choice does not matter). -/
abbrev VO0_9 : View sig .tc .vmem S4x768x256 .bf16 := (Memref.whole cc0_stg9_0 : Memref sig .tc .vmem S4x768x256 .bf16).view
/-- One staging buffer of output window 10, through which its contents are stated (`View.read_writes_of_cover`: the
    choice does not matter). -/
abbrev VO0_10 : View sig .tc .vmem S4x256x768 .bf16 := (Memref.whole cc0_stg10_0 : Memref sig .tc .vmem S4x256x768 .bf16).view
/-- One staging buffer of output window 11, through which its contents are stated (`View.read_writes_of_cover`: the
    choice does not matter). -/
abbrev VO0_11 : View sig .tc .vmem S4x256x768 .bf16 := (Memref.whole cc0_stg11_0 : Memref sig .tc .vmem S4x256x768 .bf16).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x256x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S1024x256 .bf16 := win0_7.stage (cfg0.slots t 7)
abbrev ms0_8 (t : Fin cfg0.N) : Memref sig .tc .vmem S256x1024 .bf16 := win0_8.stage (cfg0.slots t 8)
abbrev ms0_9 (t : Fin cfg0.N) : Memref sig .tc .vmem S4x768x256 .bf16 := win0_9.stage (cfg0.slots t 9)
abbrev ms0_10 (t : Fin cfg0.N) : Memref sig .tc .vmem S4x256x768 .bf16 := win0_10.stage (cfg0.slots t 10)
abbrev ms0_11 (t : Fin cfg0.N) : Memref sig .tc .vmem S4x256x768 .bf16 := win0_11.stage (cfg0.slots t 11)
/-- The scratch operands: whole scoped buffers of the kernel's own, passed beside the windows. -/
abbrev scM0_0 : Memref sig .tc .vmem S4x768x1024 .bf16 := Memref.whole cc0_scratch0
abbrev scM0_1 : Memref sig .tc .vmem S4x768x1024 .bf16 := Memref.whole cc0_scratch1
abbrev scM0_2 : Memref sig .tc .vmem S4x768x1024 .bf16 := Memref.whole cc0_scratch2
/-- The scratch `arg16` the kernel carries between points, as a view: what it holds is stated through it. -/
abbrev VS0_0 : View sig .tc .vmem S4x768x1024 .bf16 := scM0_0.view
/-- The scratch `arg17` the kernel carries between points, as a view: what it holds is stated through it. -/
abbrev VS0_1 : View sig .tc .vmem S4x768x1024 .bf16 := scM0_1.view
/-- The scratch `arg18` the kernel carries between points, as a view: what it holds is stated through it. -/
abbrev VS0_2 : View sig .tc .vmem S4x768x1024 .bf16 := scM0_2.view
/-- The operands left in HBM that the body copies into scratch itself, whole. -/
abbrev hbM0_0 : Memref sig .tc .hbm S8x384x1024 .bf16 := Memref.whole main_v20
abbrev hbM0_1 : Memref sig .tc .hbm S8x384x1024 .bf16 := Memref.whole main_v22
abbrev hbM0_2 : Memref sig .tc .hbm S8x384x1024 .bf16 := Memref.whole main_v24
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 24 → SemLoc sig := fun j => (![SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45] : Fin 24 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0) := by
  rw [Pipeline.ownSems0_eq_of_list c osem0 [0, 1, 2, 3, 4, 5, 6, 7, 8, 9, 10, 11, 12, 13, 14, 15, 16, 17, 18, 19, 20, 21, 22, 23] (by decide) (by decide)]; rfl
/-- The HBM operands the body moves, as references: unscoped, no window's array (`Pipeline.restRefs`). -/
def H0 : Finset (Ref sig .tc) := {main_v20, main_v22, main_v24}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v20) ∗ hbPt0 c hbM0_1 (V m c main_v22) ∗ hbPt0 c hbM0_2 (V m c main_v24)) := by
  rw [BI.bigSep_eq_bigSepL_of_eq [main_v20, main_v22, main_v24] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0) ∗ iprop(hbPt0 c hbM0_0 (V m c main_v20) ∗ hbPt0 c hbM0_1 (V m c main_v22) ∗ hbPt0 c hbM0_2 (V m c main_v24))) := by
  rw [Pipeline.ΦD_eq, scopedRest0_eq, ownSems00_eq, hbmPts0_eq]; simp only [scM0_0, scM0_1, scM0_2, owns_whole]; try rfl

end Cert.DxIdeal.Own

end
-- ==== Proof.DxOut.lean ====
/-
  What one point of the Dx launch writes, as functions of the loaded blocks and the resident weights,
  and what the eight copies leave in each resident array.
-/
module

public import proofs.«01_k».proof.Proof.DxRuns
public import Idealize.ShloMosaic.Lib.Pipeline.ValueKit

@[expose] public section

set_option maxRecDepth 16384

noncomputable section

namespace Cert.DxIdeal.Own

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A weight array's eight shards as four pairs: what one resident array holds after the copies. -/
def wOf (g : Vec F S8x384x1024 .bf16) : Vec F S4x768x1024 .bf16 := fun y =>
  g (ValueIdx.ix3 (n0 := 8) (n1 := 384) (n2 := 1024) ⟨2 * (y 0).val + (y 1).val / 384, by have h0 : (y 0).val < 4 := (y 0).isLt; have h1 : (y 1).val < 768 := (y 1).isLt; omega⟩
    ⟨(y 1).val % 384, Nat.mod_lt _ (by decide)⟩ (y 2))

/-- The window that one copy writes. -/
abbrev win (M : Memref sig .tc .vmem S4x768x1024 .bf16) (j o : ℕ) (h : ∀ a, (![j, o, 0] : Fin 3 → ℕ) a + S1x384x1024.size a ≤ S4x768x1024.size a) :=
  ((M.slice (Rect.unit (s := S4x768x1024) ![j, o, 0] S1x384x1024.size h) (fun _ => rfl)).squeeze S384x1024 squeezes_S1x384x1024_S384x1024).view
/-- The window that one copy reads. -/
abbrev src (M : Memref sig .tc .hbm S8x384x1024 .bf16) (k : ℕ) (h : ∀ a, (![k, 0, 0] : Fin 3 → ℕ) a + S1x384x1024.size a ≤ S8x384x1024.size a) :=
  ((M.slice (Rect.unit (s := S8x384x1024) ![k, 0, 0] S1x384x1024.size h) (fun _ => rfl)).squeeze S384x1024 squeezes_S1x384x1024_S384x1024).view

/-- One copy: inside its window the resident array holds the shard, elsewhere what it held. -/
theorem win_step (M : Memref sig .tc .vmem S4x768x1024 .bf16) (S : Memref sig .tc .hbm S8x384x1024 .bf16) (j o k : ℕ) (h h') (hk : k = 2 * j + o / 384) (ho : o % 384 = 0)
    (g : S.view.ty.Contents (Elt F)) (f : M.view.ty.Contents (Elt F)) (y : S4x768x1024.Idx)
    (hy : ((y 0).val = j ∧ o ≤ (y 1).val ∧ (y 1).val < o + 384) ∨ M.view.read (Elt F) f y = wOf (S.view.read (Elt F) g) y) :
    M.view.read (Elt F) ((win M j o h).write (Elt F) f ((src S k h').read (Elt F) g) Finset.univ) y = wOf (S.view.read (Elt F) g) y := by
  by_cases hx : ∃ x, (win M j o h).emb x = M.view.emb y
  · obtain ⟨x, hx⟩ := hx
    have hy' : y = (Rect.unit (s := S4x768x1024) ![j, o, 0] S1x384x1024.size h).emb (Shape.reshapeEquiv squeezes_S1x384x1024_S384x1024.numel_eq x) := M.view.emb.injective hx.symm
    rw [View.read_apply, ← hx, View.write_emb_of_mem _ _ (Finset.mem_univ _), cast_cast, cast_eq]
    show S.view.read (Elt F) g ((Rect.unit (s := S8x384x1024) ![k, 0, 0] S1x384x1024.size h').emb (Shape.reshapeEquiv squeezes_S1x384x1024_S384x1024.numel_eq x)) = _
    generalize (Shape.reshapeEquiv squeezes_S1x384x1024_S384x1024.numel_eq x : S1x384x1024.Idx) = z at hy'
    subst hy'
    unfold wOf
    have z0 : (z 0).val < 1 := (z 0).isLt
    have z1 : (z 1).val < 384 := (z 1).isLt
    refine congrArg _ (funext fun a => Fin.ext ?_)
    match a with
    | 0 => show k + 1 * (z 0).val = 2 * (j + 1 * (z 0).val) + (o + 1 * (z 1).val) / 384; omega
    | 1 => show 0 + 1 * (z 1).val = (o + 1 * (z 1).val) % 384; omega
    | 2 => show 0 + 1 * (z 2).val = 0 + 1 * (z 2).val; rfl
  · rw [View.read_apply, View.write_of_not_mem]
    · rcases hy with hy | hy
      · refine absurd ⟨(Shape.reshapeEquiv squeezes_S1x384x1024_S384x1024.numel_eq).symm (ValueIdx.ix3 (n0 := 1) (n1 := 384) (n2 := 1024) 0 ⟨(y 1).val - o, by omega⟩ (y 2)), ?_⟩ hx
        show M.view.emb ((Rect.unit (s := S4x768x1024) ![j, o, 0] S1x384x1024.size h).emb ((Shape.reshapeEquiv squeezes_S1x384x1024_S384x1024.numel_eq) ((Shape.reshapeEquiv squeezes_S1x384x1024_S384x1024.numel_eq).symm _))) = _
        rw [Equiv.apply_symm_apply]
        refine congrArg _ (funext fun a => Fin.ext ?_)
        match a with
        | 0 => show j + 1 * 0 = (y 0).val; omega
        | 1 => show o + 1 * ((y 1).val - o) = (y 1).val; omega
        | 2 => show 0 + 1 * (y 2).val = (y 2).val; omega
      · exact hy
    · intro hm
      obtain ⟨x, -, hx'⟩ := Finset.mem_map.mp hm
      exact hx ⟨x, hx'⟩

/-- What one copy leaves. -/
def put (M : Memref sig .tc .vmem S4x768x1024 .bf16) (S : Memref sig .tc .hbm S8x384x1024 .bf16) (g : S.view.ty.Contents (Elt F)) (j o k : ℕ) (h : ∀ a, (![j, o, 0] : Fin 3 → ℕ) a + S1x384x1024.size a ≤ S4x768x1024.size a) (h' : ∀ a, (![k, 0, 0] : Fin 3 → ℕ) a + S1x384x1024.size a ≤ S8x384x1024.size a) (f : M.view.ty.Contents (Elt F)) : M.view.ty.Contents (Elt F) :=
  (win M j o h).write (Elt F) f ((src S k h').read (Elt F) g) Finset.univ

theorem inb_w_0_0 : ∀ a, (![0, 0, 0] : Fin 3 → ℕ) a + S1x384x1024.size a ≤ S4x768x1024.size a := by decide
theorem inb_s_0 : ∀ a, (![0, 0, 0] : Fin 3 → ℕ) a + S1x384x1024.size a ≤ S8x384x1024.size a := by decide
theorem inb_w_0_384 : ∀ a, (![0, 384, 0] : Fin 3 → ℕ) a + S1x384x1024.size a ≤ S4x768x1024.size a := by decide
theorem inb_s_1 : ∀ a, (![1, 0, 0] : Fin 3 → ℕ) a + S1x384x1024.size a ≤ S8x384x1024.size a := by decide
theorem inb_w_1_0 : ∀ a, (![1, 0, 0] : Fin 3 → ℕ) a + S1x384x1024.size a ≤ S4x768x1024.size a := by decide
theorem inb_s_2 : ∀ a, (![2, 0, 0] : Fin 3 → ℕ) a + S1x384x1024.size a ≤ S8x384x1024.size a := by decide
theorem inb_w_1_384 : ∀ a, (![1, 384, 0] : Fin 3 → ℕ) a + S1x384x1024.size a ≤ S4x768x1024.size a := by decide
theorem inb_s_3 : ∀ a, (![3, 0, 0] : Fin 3 → ℕ) a + S1x384x1024.size a ≤ S8x384x1024.size a := by decide
theorem inb_w_2_0 : ∀ a, (![2, 0, 0] : Fin 3 → ℕ) a + S1x384x1024.size a ≤ S4x768x1024.size a := by decide
theorem inb_s_4 : ∀ a, (![4, 0, 0] : Fin 3 → ℕ) a + S1x384x1024.size a ≤ S8x384x1024.size a := by decide
theorem inb_w_2_384 : ∀ a, (![2, 384, 0] : Fin 3 → ℕ) a + S1x384x1024.size a ≤ S4x768x1024.size a := by decide
theorem inb_s_5 : ∀ a, (![5, 0, 0] : Fin 3 → ℕ) a + S1x384x1024.size a ≤ S8x384x1024.size a := by decide
theorem inb_w_3_0 : ∀ a, (![3, 0, 0] : Fin 3 → ℕ) a + S1x384x1024.size a ≤ S4x768x1024.size a := by decide
theorem inb_s_6 : ∀ a, (![6, 0, 0] : Fin 3 → ℕ) a + S1x384x1024.size a ≤ S8x384x1024.size a := by decide
theorem inb_w_3_384 : ∀ a, (![3, 384, 0] : Fin 3 → ℕ) a + S1x384x1024.size a ≤ S4x768x1024.size a := by decide
theorem inb_s_7 : ∀ a, (![7, 0, 0] : Fin 3 → ℕ) a + S1x384x1024.size a ≤ S8x384x1024.size a := by decide

/-- After the eight copies a resident array holds the whole weight array, whatever it held before. -/
theorem scratch_eq (M : Memref sig .tc .vmem S4x768x1024 .bf16) (S : Memref sig .tc .hbm S8x384x1024 .bf16) (g : S.view.ty.Contents (Elt F)) (f : M.view.ty.Contents (Elt F)) :
    M.view.read (Elt F) (put M S g 3 384 7 inb_w_3_384 inb_s_7 (put M S g 3 0 6 inb_w_3_0 inb_s_6 (put M S g 2 384 5 inb_w_2_384 inb_s_5 (put M S g 2 0 4 inb_w_2_0 inb_s_4 (put M S g 1 384 3 inb_w_1_384 inb_s_3 (put M S g 1 0 2 inb_w_1_0 inb_s_2 (put M S g 0 384 1 inb_w_0_384 inb_s_1 (put M S g 0 0 0 inb_w_0_0 inb_s_0 (f))))))))) = wOf (S.view.read (Elt F) g) := by
  funext y
  have h0 : (y 0).val < 4 := (y 0).isLt
  have h1 : (y 1).val < 768 := (y 1).isLt
  refine win_step M S 3 384 7 _ _ rfl rfl g _ y (or_iff_not_imp_left.mpr fun n7 => ?_)
  refine win_step M S 3 0 6 _ _ rfl rfl g _ y (or_iff_not_imp_left.mpr fun n6 => ?_)
  refine win_step M S 2 384 5 _ _ rfl rfl g _ y (or_iff_not_imp_left.mpr fun n5 => ?_)
  refine win_step M S 2 0 4 _ _ rfl rfl g _ y (or_iff_not_imp_left.mpr fun n4 => ?_)
  refine win_step M S 1 384 3 _ _ rfl rfl g _ y (or_iff_not_imp_left.mpr fun n3 => ?_)
  refine win_step M S 1 0 2 _ _ rfl rfl g _ y (or_iff_not_imp_left.mpr fun n2 => ?_)
  refine win_step M S 0 384 1 _ _ rfl rfl g _ y (or_iff_not_imp_left.mpr fun n1 => ?_)
  refine win_step M S 0 0 0 _ _ rfl rfl g _ y (.inl ?_)
  omega

/-- The output gradient, halved, times one pair of the third weight. -/
def du0 (x0 : Vec F S256x1024 .f32) (xs2 : Vec F S4x768x1024 .bf16) : FVec F S256x768 .f32 :=
  k0_pay9 (View.ld x0 (Rect.unit (s := S256x1024) ![0, 0] S256x1024.size inb_S256x1024_S256x1024_0_0)) (View.ld xs2 (Rect.unit (s := S4x768x1024) ![0, 0, 0] S1x768x1024.size inb_S4x768x1024_S1x768x1024_0_0_0))
def du1 (x0 : Vec F S256x1024 .f32) (xs2 : Vec F S4x768x1024 .bf16) : FVec F S256x768 .f32 :=
  k0_pay11 (k0_pay7 (View.ld x0 (Rect.unit (s := S256x1024) ![0, 0] S256x1024.size inb_S256x1024_S256x1024_0_0))) (k0_pay10 (View.ld xs2 (Rect.unit (s := S4x768x1024) ![1, 0, 0] S1x768x1024.size inb_S4x768x1024_S1x768x1024_1_0_0))) (constant S256x768 .f32 0x00000000#32)
def du2 (x0 : Vec F S256x1024 .f32) (xs2 : Vec F S4x768x1024 .bf16) : FVec F S256x768 .f32 :=
  k0_pay12 (k0_pay7 (View.ld x0 (Rect.unit (s := S256x1024) ![0, 0] S256x1024.size inb_S256x1024_S256x1024_0_0))) (View.ld xs2 (Rect.unit (s := S4x768x1024) ![2, 0, 0] S1x768x1024.size inb_S4x768x1024_S1x768x1024_2_0_0))
def du3 (x0 : Vec F S256x1024 .f32) (xs2 : Vec F S4x768x1024 .bf16) : FVec F S256x768 .f32 :=
  k0_pay13 (k0_pay7 (View.ld x0 (Rect.unit (s := S256x1024) ![0, 0] S256x1024.size inb_S256x1024_S256x1024_0_0))) (View.ld xs2 (Rect.unit (s := S4x768x1024) ![3, 0, 0] S1x768x1024.size inb_S4x768x1024_S1x768x1024_3_0_0))
/-- The gradients of the hidden arrays, pair by pair. -/
def da0 (x0 : Vec F S256x1024 .f32) (x3 : Vec F S4x256x768 .bf16) (x4 : Vec F S4x256x768 .bf16) (xs2 : Vec F S4x768x1024 .bf16) : FVec F S256x768 .bf16 :=
  k0_pay19 (du0 x0 xs2) (View.ld x3 (Rect.unit (s := S4x256x768) ![0, 0, 0] S1x256x768.size inb_S4x256x768_S1x256x768_0_0_0)) (View.ld x4 (Rect.unit (s := S4x256x768) ![0, 0, 0] S1x256x768.size inb_S4x256x768_S1x256x768_0_0_0))
def db0 (x0 : Vec F S256x1024 .f32) (x3 : Vec F S4x256x768 .bf16) (xs2 : Vec F S4x768x1024 .bf16) : FVec F S256x768 .bf16 :=
  k0_pay20 (du0 x0 xs2) (View.ld x3 (Rect.unit (s := S4x256x768) ![0, 0, 0] S1x256x768.size inb_S4x256x768_S1x256x768_0_0_0))
def da1 (x0 : Vec F S256x1024 .f32) (x3 : Vec F S4x256x768 .bf16) (x4 : Vec F S4x256x768 .bf16) (xs2 : Vec F S4x768x1024 .bf16) : FVec F S256x768 .bf16 :=
  k0_pay29 (du1 x0 xs2) (View.ld x3 (Rect.unit (s := S4x256x768) ![1, 0, 0] S1x256x768.size inb_S4x256x768_S1x256x768_1_0_0)) (View.ld x4 (Rect.unit (s := S4x256x768) ![1, 0, 0] S1x256x768.size inb_S4x256x768_S1x256x768_1_0_0))
def db1 (x0 : Vec F S256x1024 .f32) (x3 : Vec F S4x256x768 .bf16) (xs2 : Vec F S4x768x1024 .bf16) : FVec F S256x768 .bf16 :=
  k0_pay30 (du1 x0 xs2) (View.ld x3 (Rect.unit (s := S4x256x768) ![1, 0, 0] S1x256x768.size inb_S4x256x768_S1x256x768_1_0_0))
/-- The gradient of the normed rows, after one, two and three pairs. -/
def dh0 (x0 : Vec F S256x1024 .f32) (x3 : Vec F S4x256x768 .bf16) (x4 : Vec F S4x256x768 .bf16) (xs0 : Vec F S4x768x1024 .bf16) (xs1 : Vec F S4x768x1024 .bf16) (xs2 : Vec F S4x768x1024 .bf16) : FVec F S256x1024 .f32 :=
  k0_pay23 k0_pay8 (da0 x0 x3 x4 xs2) (db0 x0 x3 xs2) (View.ld xs0 (Rect.unit (s := S4x768x1024) ![0, 0, 0] S1x768x1024.size inb_S4x768x1024_S1x768x1024_0_0_0)) (View.ld xs1 (Rect.unit (s := S4x768x1024) ![0, 0, 0] S1x768x1024.size inb_S4x768x1024_S1x768x1024_0_0_0))
def dh1 (x0 : Vec F S256x1024 .f32) (x3 : Vec F S4x256x768 .bf16) (x4 : Vec F S4x256x768 .bf16) (xs0 : Vec F S4x768x1024 .bf16) (xs1 : Vec F S4x768x1024 .bf16) (xs2 : Vec F S4x768x1024 .bf16) : FVec F S256x1024 .f32 :=
  k0_pay33 (dh0 x0 x3 x4 xs0 xs1 xs2) (da1 x0 x3 x4 xs2) (db1 x0 x3 xs2) (View.ld xs0 (Rect.unit (s := S4x768x1024) ![1, 0, 0] S1x768x1024.size inb_S4x768x1024_S1x768x1024_1_0_0)) (View.ld xs1 (Rect.unit (s := S4x768x1024) ![1, 0, 0] S1x768x1024.size inb_S4x768x1024_S1x768x1024_1_0_0))
def dh2 (x0 : Vec F S256x1024 .f32) (x3 : Vec F S4x256x768 .bf16) (x4 : Vec F S4x256x768 .bf16) (xs0 : Vec F S4x768x1024 .bf16) (xs1 : Vec F S4x768x1024 .bf16) (xs2 : Vec F S4x768x1024 .bf16) : FVec F S256x1024 .f32 :=
  k0_pay46 (du2 x0 xs2) (dh1 x0 x3 x4 xs0 xs1 xs2) (k0_pay36 (View.ld x3 (Rect.unit (s := S4x256x768) ![2, 0, 0] S1x256x768.size inb_S4x256x768_S1x256x768_2_0_0))) (k0_pay37 (View.ld x3 (Rect.unit (s := S4x256x768) ![2, 0, 0] S1x256x768.size inb_S4x256x768_S1x256x768_2_0_0))) (k0_pay39 (du2 x0 xs2) (View.ld x4 (Rect.unit (s := S4x256x768) ![2, 0, 0] S1x256x768.size inb_S4x256x768_S1x256x768_2_0_0))) (k0_pay40 (View.ld x3 (Rect.unit (s := S4x256x768) ![2, 0, 0] S1x256x768.size inb_S4x256x768_S1x256x768_2_0_0))) k0_pay41 (View.ld xs0 (Rect.unit (s := S4x768x1024) ![2, 0, 0] S1x768x1024.size inb_S4x768x1024_S1x768x1024_2_0_0)) (View.ld xs1 (Rect.unit (s := S4x768x1024) ![2, 0, 0] S1x768x1024.size inb_S4x768x1024_S1x768x1024_2_0_0))
/-- The rows of the first result. -/
def yOf (x0 : Vec F S256x1024 .f32) (x1 : Vec F S256x1024 .f32) (x2 : Vec F S1x1024 .f32) (x3 : Vec F S4x256x768 .bf16) (x4 : Vec F S4x256x768 .bf16) (xs0 : Vec F S4x768x1024 .bf16) (xs1 : Vec F S4x768x1024 .bf16) (xs2 : Vec F S4x768x1024 .bf16) : Vec F S256x1024 .f32 :=
  k0_pay1 (View.ld x0 (Rect.unit (s := S256x1024) ![0, 0] S256x1024.size inb_S256x1024_S256x1024_0_0)) (k0_pay57 (View.ld x2 (Rect.unit (s := S1x1024) ![0, 0] S1x1024.size inb_S1x1024_S1x1024_0_0)) (k0_pay4 (View.ld x1 (Rect.unit (s := S256x1024) ![0, 0] S256x1024.size inb_S256x1024_S256x1024_0_0))) (k0_pay5 (View.ld x1 (Rect.unit (s := S256x1024) ![0, 0] S256x1024.size inb_S256x1024_S256x1024_0_0))) (du3 x0 xs2) (dh2 x0 x3 x4 xs0 xs1 xs2) (k0_pay47 (View.ld x3 (Rect.unit (s := S4x256x768) ![3, 0, 0] S1x256x768.size inb_S4x256x768_S1x256x768_3_0_0))) (k0_pay48 (View.ld x4 (Rect.unit (s := S4x256x768) ![3, 0, 0] S1x256x768.size inb_S4x256x768_S1x256x768_3_0_0))) (k0_pay49 (View.ld x3 (Rect.unit (s := S4x256x768) ![3, 0, 0] S1x256x768.size inb_S4x256x768_S1x256x768_3_0_0))) (k0_pay50 (View.ld x3 (Rect.unit (s := S4x256x768) ![3, 0, 0] S1x256x768.size inb_S4x256x768_S1x256x768_3_0_0))) (View.ld xs0 (Rect.unit (s := S4x768x1024) ![3, 0, 0] S1x768x1024.size inb_S4x768x1024_S1x768x1024_3_0_0)) (View.ld xs1 (Rect.unit (s := S4x768x1024) ![3, 0, 0] S1x768x1024.size inb_S4x768x1024_S1x768x1024_3_0_0)))
/-- The block's addend to the gain's gradient. -/
def sOf (x0 : Vec F S256x1024 .f32) (x1 : Vec F S256x1024 .f32) (x3 : Vec F S4x256x768 .bf16) (x4 : Vec F S4x256x768 .bf16) (xs0 : Vec F S4x768x1024 .bf16) (xs1 : Vec F S4x768x1024 .bf16) (xs2 : Vec F S4x768x1024 .bf16) : FVec F S1024 .f32 :=
  k0_pay58 (k0_pay5 (View.ld x1 (Rect.unit (s := S256x1024) ![0, 0] S256x1024.size inb_S256x1024_S256x1024_0_0))) (du3 x0 xs2) (dh2 x0 x3 x4 xs0 xs1 xs2) (k0_pay47 (View.ld x3 (Rect.unit (s := S4x256x768) ![3, 0, 0] S1x256x768.size inb_S4x256x768_S1x256x768_3_0_0))) (k0_pay48 (View.ld x4 (Rect.unit (s := S4x256x768) ![3, 0, 0] S1x256x768.size inb_S4x256x768_S1x256x768_3_0_0))) (k0_pay49 (View.ld x3 (Rect.unit (s := S4x256x768) ![3, 0, 0] S1x256x768.size inb_S4x256x768_S1x256x768_3_0_0))) (k0_pay50 (View.ld x3 (Rect.unit (s := S4x256x768) ![3, 0, 0] S1x256x768.size inb_S4x256x768_S1x256x768_3_0_0))) (View.ld xs0 (Rect.unit (s := S4x768x1024) ![3, 0, 0] S1x768x1024.size inb_S4x768x1024_S1x768x1024_3_0_0)) (View.ld xs1 (Rect.unit (s := S4x768x1024) ![3, 0, 0] S1x768x1024.size inb_S4x768x1024_S1x768x1024_3_0_0))
/-- The normed rows, transposed. -/
def hbtOf (x1 : Vec F S256x1024 .f32) (x2 : Vec F S1x1024 .f32) : Vec F S1024x256 .bf16 :=
  k0_pay6 (View.ld x2 (Rect.unit (s := S1x1024) ![0, 0] S1x1024.size inb_S1x1024_S1x1024_0_0)) (View.ld x1 (Rect.unit (s := S256x1024) ![0, 0] S256x1024.size inb_S256x1024_S256x1024_0_0))
/-- The halved output gradient. -/
def dyhOf (x0 : Vec F S256x1024 .f32) : Vec F S256x1024 .bf16 :=
  k0_pay7 (View.ld x0 (Rect.unit (s := S256x1024) ![0, 0] S256x1024.size inb_S256x1024_S256x1024_0_0))
/-- The stores of the gated products. -/
def utOf (x3 : Vec F S4x256x768 .bf16) (x4 : Vec F S4x256x768 .bf16) : List (View.Piece (Elt F) S4x768x256 .bf16) :=
  [⟨Rect.unit (s := S4x768x256) ![3, 0, 0] S1x768x256.size inb_S4x768x256_S1x768x256_3_0_0, k0_pay51 (View.ld x3 (Rect.unit (s := S4x256x768) ![3, 0, 0] S1x256x768.size inb_S4x256x768_S1x256x768_3_0_0)) (View.ld x4 (Rect.unit (s := S4x256x768) ![3, 0, 0] S1x256x768.size inb_S4x256x768_S1x256x768_3_0_0))⟩,
   ⟨Rect.unit (s := S4x768x256) ![2, 0, 0] S1x768x256.size inb_S4x768x256_S1x768x256_2_0_0, k0_pay38 (View.ld x3 (Rect.unit (s := S4x256x768) ![2, 0, 0] S1x256x768.size inb_S4x256x768_S1x256x768_2_0_0)) (View.ld x4 (Rect.unit (s := S4x256x768) ![2, 0, 0] S1x256x768.size inb_S4x256x768_S1x256x768_2_0_0))⟩,
   ⟨Rect.unit (s := S4x768x256) ![1, 0, 0] S1x768x256.size inb_S4x768x256_S1x768x256_1_0_0, k0_pay28 (View.ld x3 (Rect.unit (s := S4x256x768) ![1, 0, 0] S1x256x768.size inb_S4x256x768_S1x256x768_1_0_0)) (View.ld x4 (Rect.unit (s := S4x256x768) ![1, 0, 0] S1x256x768.size inb_S4x256x768_S1x256x768_1_0_0))⟩,
   ⟨Rect.unit (s := S4x768x256) ![0, 0, 0] S1x768x256.size inb_S4x768x256_S1x768x256_0_0_0, k0_pay18 (View.ld x3 (Rect.unit (s := S4x256x768) ![0, 0, 0] S1x256x768.size inb_S4x256x768_S1x256x768_0_0_0)) (View.ld x4 (Rect.unit (s := S4x256x768) ![0, 0, 0] S1x256x768.size inb_S4x256x768_S1x256x768_0_0_0))⟩]
/-- The stores of the hidden arrays' gradients. -/
def daOf (x0 : Vec F S256x1024 .f32) (x3 : Vec F S4x256x768 .bf16) (x4 : Vec F S4x256x768 .bf16) (xs2 : Vec F S4x768x1024 .bf16) : List (View.Piece (Elt F) S4x256x768 .bf16) :=
  [⟨Rect.unit (s := S4x256x768) ![3, 0, 0] S1x256x768.size inb_S4x256x768_S1x256x768_3_0_0, k0_pay54 (du3 x0 xs2) (k0_pay47 (View.ld x3 (Rect.unit (s := S4x256x768) ![3, 0, 0] S1x256x768.size inb_S4x256x768_S1x256x768_3_0_0))) (k0_pay48 (View.ld x4 (Rect.unit (s := S4x256x768) ![3, 0, 0] S1x256x768.size inb_S4x256x768_S1x256x768_3_0_0))) (k0_pay49 (View.ld x3 (Rect.unit (s := S4x256x768) ![3, 0, 0] S1x256x768.size inb_S4x256x768_S1x256x768_3_0_0)))⟩,
   ⟨Rect.unit (s := S4x256x768) ![2, 0, 0] S1x256x768.size inb_S4x256x768_S1x256x768_2_0_0, k0_pay44 (k0_pay36 (View.ld x3 (Rect.unit (s := S4x256x768) ![2, 0, 0] S1x256x768.size inb_S4x256x768_S1x256x768_2_0_0))) (k0_pay39 (du2 x0 xs2) (View.ld x4 (Rect.unit (s := S4x256x768) ![2, 0, 0] S1x256x768.size inb_S4x256x768_S1x256x768_2_0_0))) (k0_pay40 (View.ld x3 (Rect.unit (s := S4x256x768) ![2, 0, 0] S1x256x768.size inb_S4x256x768_S1x256x768_2_0_0))) k0_pay41⟩,
   ⟨Rect.unit (s := S4x256x768) ![1, 0, 0] S1x256x768.size inb_S4x256x768_S1x256x768_1_0_0, k0_pay31 (da1 x0 x3 x4 xs2)⟩,
   ⟨Rect.unit (s := S4x256x768) ![0, 0, 0] S1x256x768.size inb_S4x256x768_S1x256x768_0_0_0, k0_pay21 (du0 x0 xs2) (View.ld x3 (Rect.unit (s := S4x256x768) ![0, 0, 0] S1x256x768.size inb_S4x256x768_S1x256x768_0_0_0)) (View.ld x4 (Rect.unit (s := S4x256x768) ![0, 0, 0] S1x256x768.size inb_S4x256x768_S1x256x768_0_0_0))⟩]
def dbOf (x0 : Vec F S256x1024 .f32) (x3 : Vec F S4x256x768 .bf16) (xs2 : Vec F S4x768x1024 .bf16) : List (View.Piece (Elt F) S4x256x768 .bf16) :=
  [⟨Rect.unit (s := S4x256x768) ![3, 0, 0] S1x256x768.size inb_S4x256x768_S1x256x768_3_0_0, k0_pay55 (du3 x0 xs2) (k0_pay50 (View.ld x3 (Rect.unit (s := S4x256x768) ![3, 0, 0] S1x256x768.size inb_S4x256x768_S1x256x768_3_0_0)))⟩,
   ⟨Rect.unit (s := S4x256x768) ![2, 0, 0] S1x256x768.size inb_S4x256x768_S1x256x768_2_0_0, k0_pay45 (du2 x0 xs2) (k0_pay37 (View.ld x3 (Rect.unit (s := S4x256x768) ![2, 0, 0] S1x256x768.size inb_S4x256x768_S1x256x768_2_0_0)))⟩,
   ⟨Rect.unit (s := S4x256x768) ![1, 0, 0] S1x256x768.size inb_S4x256x768_S1x256x768_1_0_0, k0_pay32 (db1 x0 x3 xs2)⟩,
   ⟨Rect.unit (s := S4x256x768) ![0, 0, 0] S1x256x768.size inb_S4x256x768_S1x256x768_0_0_0, k0_pay22 (db0 x0 x3 xs2)⟩]
theorem cov_ut (x3 : Vec F S4x256x768 .bf16) (x4 : Vec F S4x256x768 .bf16) (y : S4x768x256.Idx) : ∃ p ∈ utOf x3 x4, y ∈ p.1.set :=
  View.cover_of_tiledL (utOf x3 x4) S1x768x256.size (by sl_kernel_rfl) y
theorem cov_da (x0 : Vec F S256x1024 .f32) (x3 : Vec F S4x256x768 .bf16) (x4 : Vec F S4x256x768 .bf16) (xs2 : Vec F S4x768x1024 .bf16) (y : S4x256x768.Idx) : ∃ p ∈ daOf x0 x3 x4 xs2, y ∈ p.1.set :=
  View.cover_of_tiledL (daOf x0 x3 x4 xs2) S1x256x768.size (by sl_kernel_rfl) y
theorem cov_db (x0 : Vec F S256x1024 .f32) (x3 : Vec F S4x256x768 .bf16) (xs2 : Vec F S4x768x1024 .bf16) (y : S4x256x768.Idx) : ∃ p ∈ dbOf x0 x3 xs2, y ∈ p.1.set :=
  View.cover_of_tiledL (dbOf x0 x3 xs2) S1x256x768.size (by sl_kernel_rfl) y
theorem z2 : (![0, 0] : Fin 2 → ℕ) = fun _ => 0 := by decide
/-- A store of the whole block leaves what it stored. -/
theorem out_x (M : Memref sig .tc .vmem S256x1024 .f32) (f : M.view.ty.Contents (Elt F)) (p : Vec F S256x1024 .f32) (h) (l : List (View.Piece (Elt F) S256x1024 .f32)) :
    M.view.read (Elt F) (M.view.writes (Elt F) f (⟨Rect.unit (s := S256x1024) ![0, 0] ![256, 1024] h, p⟩ :: l)) = p := by
  show M.view.read (Elt F) (M.view.writes (Elt F) (M.view.writes (Elt F) f l) [⟨Rect.unit (s := S256x1024) ![0, 0] ![256, 1024] h, p⟩]) = p
  rw [View.read_writes_eq_canon _ _ _ (View.cover_of_tiledL [(⟨Rect.unit (s := S256x1024) ![0, 0] ![256, 1024] h, p⟩ : View.Piece (Elt F) S256x1024 .f32)] S256x1024.size (by sl_kernel_rfl)), View.canon_unit_zero z2]
/-- A store of the whole block leaves what it stored. -/
theorem out_g (M : Memref sig .tc .vmem S1x1024 .f32) (f : M.view.ty.Contents (Elt F)) (p : Vec F S1x1024 .f32) (h) (l : List (View.Piece (Elt F) S1x1024 .f32)) :
    M.view.read (Elt F) (M.view.writes (Elt F) f (⟨Rect.unit (s := S1x1024) ![0, 0] ![1, 1024] h, p⟩ :: l)) = p := by
  show M.view.read (Elt F) (M.view.writes (Elt F) (M.view.writes (Elt F) f l) [⟨Rect.unit (s := S1x1024) ![0, 0] ![1, 1024] h, p⟩]) = p
  rw [View.read_writes_eq_canon _ _ _ (View.cover_of_tiledL [(⟨Rect.unit (s := S1x1024) ![0, 0] ![1, 1024] h, p⟩ : View.Piece (Elt F) S1x1024 .f32)] S1x1024.size (by sl_kernel_rfl)), View.canon_unit_zero z2]
/-- A store of the whole block leaves what it stored. -/
theorem out_t (M : Memref sig .tc .vmem S1024x256 .bf16) (f : M.view.ty.Contents (Elt F)) (p : Vec F S1024x256 .bf16) (h) (l : List (View.Piece (Elt F) S1024x256 .bf16)) :
    M.view.read (Elt F) (M.view.writes (Elt F) f (⟨Rect.unit (s := S1024x256) ![0, 0] ![1024, 256] h, p⟩ :: l)) = p := by
  show M.view.read (Elt F) (M.view.writes (Elt F) (M.view.writes (Elt F) f l) [⟨Rect.unit (s := S1024x256) ![0, 0] ![1024, 256] h, p⟩]) = p
  rw [View.read_writes_eq_canon _ _ _ (View.cover_of_tiledL [(⟨Rect.unit (s := S1024x256) ![0, 0] ![1024, 256] h, p⟩ : View.Piece (Elt F) S1024x256 .bf16)] S1024x256.size (by sl_kernel_rfl)), View.canon_unit_zero z2]
/-- A store of the whole block leaves what it stored. -/
theorem out_d (M : Memref sig .tc .vmem S256x1024 .bf16) (f : M.view.ty.Contents (Elt F)) (p : Vec F S256x1024 .bf16) (h) (l : List (View.Piece (Elt F) S256x1024 .bf16)) :
    M.view.read (Elt F) (M.view.writes (Elt F) f (⟨Rect.unit (s := S256x1024) ![0, 0] ![256, 1024] h, p⟩ :: l)) = p := by
  show M.view.read (Elt F) (M.view.writes (Elt F) (M.view.writes (Elt F) f l) [⟨Rect.unit (s := S256x1024) ![0, 0] ![256, 1024] h, p⟩]) = p
  rw [View.read_writes_eq_canon _ _ _ (View.cover_of_tiledL [(⟨Rect.unit (s := S256x1024) ![0, 0] ![256, 1024] h, p⟩ : View.Piece (Elt F) S256x1024 .bf16)] S256x1024.size (by sl_kernel_rfl)), View.canon_unit_zero z2]
end Cert.DxIdeal.Own
end
-- ==== Proof.DxRun.lean ====
/-
  The run of the Dx launch's body at a point that finds the weights.
-/
module

public import proofs.«01_k».proof.Proof.DxOut

@[expose] public section

set_option maxRecDepth 16384

noncomputable section

namespace Cert.DxIdeal.Own

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem y_congr (x0 : Vec F S256x1024 .f32) (x1 : Vec F S256x1024 .f32) (x2 : Vec F S1x1024 .f32) (x3 : Vec F S4x256x768 .bf16) (x4 : Vec F S4x256x768 .bf16) {s0 s1 s2 t0 t1 t2 : Vec F S4x768x1024 .bf16} (h0 : s0 = t0) (h1 : s1 = t1) (h2 : s2 = t2) :
    yOf x0 x1 x2 x3 x4 s0 s1 s2 = yOf x0 x1 x2 x3 x4 t0 t1 t2 := by rw [h0, h1, h2]
theorem g_congr (x0 : Vec F S256x1024 .f32) (x1 : Vec F S256x1024 .f32) (x2 : Vec F S1x1024 .f32) (x3 : Vec F S4x256x768 .bf16) (x4 : Vec F S4x256x768 .bf16) {s0 s1 s2 t0 t1 t2 : Vec F S4x768x1024 .bf16} (h0 : s0 = t0) (h1 : s1 = t1) (h2 : s2 = t2) {p q : Vec F S1x1024 .f32} (h : p = q) :
    k0_pay3 (sOf x0 x1 x3 x4 s0 s1 s2) p = k0_pay3 (sOf x0 x1 x3 x4 t0 t1 t2) q := by rw [h0, h1, h2, h]
theorem ut_eq (M : Memref sig .tc .vmem S4x768x256 .bf16) (f : M.view.ty.Contents (Elt F)) (x3 x4 : Vec F S4x256x768 .bf16) :
    M.view.read (Elt F) (M.view.writes (Elt F) f (utOf x3 x4)) = VO0_9.read (Elt F) (VO0_9.writes (Elt F) VO0_9.junk (utOf x3 x4)) :=
  View.read_writes_of_cover _ _ _ _ _ (cov_ut x3 x4)
theorem da_congr (M : Memref sig .tc .vmem S4x256x768 .bf16) (f : M.view.ty.Contents (Elt F)) (x0 : Vec F S256x1024 .f32) (x3 x4 : Vec F S4x256x768 .bf16) {s t : Vec F S4x768x1024 .bf16} (h : s = t) :
    M.view.read (Elt F) (M.view.writes (Elt F) f (daOf x0 x3 x4 s)) = VO0_10.read (Elt F) (VO0_10.writes (Elt F) VO0_10.junk (daOf x0 x3 x4 t)) := by
  subst h; exact View.read_writes_of_cover _ _ _ _ _ (cov_da x0 x3 x4 s)
theorem db_congr (M : Memref sig .tc .vmem S4x256x768 .bf16) (f : M.view.ty.Contents (Elt F)) (x0 : Vec F S256x1024 .f32) (x3 : Vec F S4x256x768 .bf16) {s t : Vec F S4x768x1024 .bf16} (h : s = t) :
    M.view.read (Elt F) (M.view.writes (Elt F) f (dbOf x0 x3 s)) = VO0_11.read (Elt F) (VO0_11.writes (Elt F) VO0_11.junk (dbOf x0 x3 t)) := by
  subst h; exact View.read_writes_of_cover _ _ _ _ _ (cov_db x0 x3 s)
/-- A load of the whole block. -/
theorem ld_g (p : Vec F S1x1024 .f32) (h) : View.ld p (Rect.unit (s := S1x1024) ![0, 0] ![1, 1024] h) = p := View.ld_unit_zero z2 ..

set_option maxHeartbeats 1200000 in
/-- The body at a point that finds the weights resident. -/
theorem runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg7 : Memref sig .tc .vmem S4x256x768 .bf16) (harg7 : arg7.IsWhole) (arg8 : Memref sig .tc .vmem S4x256x768 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x256 .bf16) (harg11 : arg11.IsWhole) (arg12 : Memref sig .tc .vmem S256x1024 .bf16) (harg12 : arg12.IsWhole) (arg13 : Memref sig .tc .vmem S4x768x256 .bf16) (harg13 : arg13.IsWhole) (arg14 : Memref sig .tc .vmem S4x256x768 .bf16) (harg14 : arg14.IsWhole) (arg15 : Memref sig .tc .vmem S4x256x768 .bf16) (harg15 : arg15.IsWhole) (arg16 : Memref sig .tc .vmem S4x768x1024 .bf16) (harg16 : arg16.IsWhole) (arg17 : Memref sig .tc .vmem S4x768x1024 .bf16) (harg17 : arg17.IsWhole) (arg18 : Memref sig .tc .vmem S4x768x1024 .bf16) (harg18 : arg18.IsWhole) (hc0 : ¬cond0_0 i) (hc1 : ¬cond0_1 i)
    (x0 : Vec F S256x1024 .f32) (x1 : Vec F S256x1024 .f32) (x2 : Vec F S1x1024 .f32) (x3 : Vec F S4x256x768 .bf16) (x4 : Vec F S4x256x768 .bf16) (xo6 : Vec F S1x1024 .f32) (xs0 xs1 xs2 : Vec F S4x768x1024 .bf16) (K : PUnit → sProp 𝕄) :
        iprop(owns (c : Thread nD τ) arg1 fullShare x0 ∗ owns (c : Thread nD τ) arg2 fullShare x1 ∗ owns (c : Thread nD τ) arg3 fullShare x2 ∗ owns (c : Thread nD τ) arg7 fullShare x3 ∗ owns (c : Thread nD τ) arg8 fullShare x4 ∗ (∃ d, owns (c : Thread nD τ) arg9 fullShare d) ∗ owns (c : Thread nD τ) arg10 fullShare xo6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2
            ∗ (iprop(owns (c : Thread nD τ) arg1 fullShare x0 ∗ owns (c : Thread nD τ) arg2 fullShare x1 ∗ owns (c : Thread nD τ) arg3 fullShare x2 ∗ owns (c : Thread nD τ) arg7 fullShare x3 ∗ owns (c : Thread nD τ) arg8 fullShare x4 ∗ owns (c : Thread nD τ) arg9 fullShare (yOf x0 x1 x2 x3 x4 xs0 xs1 xs2) ∗ owns (c : Thread nD τ) arg10 fullShare (k0_pay3 (sOf x0 x1 x3 x4 xs0 xs1 xs2) xo6) ∗ owns (c : Thread nD τ) arg11 fullShare (hbtOf x1 x2) ∗ owns (c : Thread nD τ) arg12 fullShare (dyhOf x0) ∗ owns (c : Thread nD τ) arg13 fullShare (VO0_9.read (Elt F) (VO0_9.writes (Elt F) VO0_9.junk (utOf x3 x4))) ∗ owns (c : Thread nD τ) arg14 fullShare (VO0_10.read (Elt F) (VO0_10.writes (Elt F) VO0_10.junk (daOf x0 x3 x4 xs2))) ∗ owns (c : Thread nD τ) arg15 fullShare (VO0_11.read (Elt F) (VO0_11.writes (Elt F) VO0_11.junk (dbOf x0 x3 xs2))) ∗ owns (c : Thread nD τ) arg16 fullShare xs0 ∗ owns (c : Thread nD τ) arg17 fullShare xs1 ∗ owns (c : Thread nD τ) arg18 fullShare xs2) -∗ K ⟨⟩))
          ⊢ wp frame (wpE (defs₀ (F := F)) Variants.none c none) Set.univ (cc0_ffn_dx_00 i arg1 harg1 arg2 harg2 arg3 harg3 (Memref.whole main_v20) (Memref.isWhole_whole _) (Memref.whole main_v22) (Memref.isWhole_whole _) (Memref.whole main_v24) (Memref.isWhole_whole _) arg7 harg7 arg8 harg8 arg9 harg9 arg10 harg10 arg11 harg11 arg12 harg12 arg13 harg13 arg14 harg14 arg15 harg15 arg16 harg16 arg17 harg17 arg18 harg18 cc0_scratch3) K := by
    simp only [cc0_ffn_dx_00_eq_skeleton]; unfold cc0_ffn_dx_00_skel
    simp only [k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, ⟨%fs2, %hfs2, HS2⟩, Hk⟩
    subst hf0 hf1 hf2 hf3 hf4 hf6 hfs0 hfs1 hfs2
    sl_exec (disch := first | sl_exact hc0 | sl_exact hc1)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; exact (out_x arg9 f5 _ _ _).trans (y_congr (arg1.view.read (Elt F) f0) (arg2.view.read (Elt F) f1) (arg3.view.read (Elt F) f2) (arg7.view.read (Elt F) f3) (arg8.view.read (Elt F) f4) (Eq.refl (arg16.view.read (Elt F) fs0)) (Eq.refl (arg17.view.read (Elt F) fs1)) (Eq.refl (arg18.view.read (Elt F) fs2)))
    isplitl [H6]
    · iexists _; isplitr
      swap; · iexact H6
      ipureintro; exact (out_g arg10 f6 _ _ _).trans (g_congr (arg1.view.read (Elt F) f0) (arg2.view.read (Elt F) f1) (arg3.view.read (Elt F) f2) (arg7.view.read (Elt F) f3) (arg8.view.read (Elt F) f4) (Eq.refl (arg16.view.read (Elt F) fs0)) (Eq.refl (arg17.view.read (Elt F) fs1)) (Eq.refl (arg18.view.read (Elt F) fs2)) (ld_g (arg10.view.read (Elt F) f6) _))
    isplitl [H7]
    · iexists _; isplitr
      swap; · iexact H7
      ipureintro; exact (out_t arg11 f7 _ _ _)
    isplitl [H8]
    · iexists _; isplitr
      swap; · iexact H8
      ipureintro; exact (out_d arg12 f8 _ _ _)
    isplitl [H9]
    · iexists _; isplitr
      swap; · iexact H9
      ipureintro; exact ut_eq arg13 f9 (arg7.view.read (Elt F) f3) (arg8.view.read (Elt F) f4)
    isplitl [H10]
    · iexists _; isplitr
      swap; · iexact H10
      ipureintro; exact da_congr arg14 f10 (arg1.view.read (Elt F) f0) (arg7.view.read (Elt F) f3) (arg8.view.read (Elt F) f4) (Eq.refl (arg18.view.read (Elt F) fs2))
    isplitl [H11]
    · iexists _; isplitr
      swap; · iexact H11
      ipureintro; exact db_congr arg15 f11 (arg1.view.read (Elt F) f0) (arg7.view.read (Elt F) f3) (Eq.refl (arg18.view.read (Elt F) fs2))
    isplitl [HS0]
    · iexists _; isplitr
      swap; · iexact HS0
      ipureintro; exact (Eq.refl (arg16.view.read (Elt F) fs0))
    isplitl [HS1]
    · iexists _; isplitr
      swap; · iexact HS1
      ipureintro; exact (Eq.refl (arg17.view.read (Elt F) fs1))

    iexists _; isplitr
    swap; · iexact HS2
    ipureintro; rfl
end Cert.DxIdeal.Own
end
-- ==== Proof.DxRunA.lean ====
/-
  The run of the Dx launch's body at its first point: it copies the weights in.
-/
module

public import proofs.«01_k».proof.Proof.DxRun

@[expose] public section

set_option maxRecDepth 16384

noncomputable section

namespace Cert.DxIdeal.Own

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
set_option sl_exec.rejoinHeartbeats 400000 in
set_option sl_exec.dmaWindow true in
set_option sl_exec.dmaWindowSet true in
/-- The body at the point that copies the weights in. -/
theorem runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg7 : Memref sig .tc .vmem S4x256x768 .bf16) (harg7 : arg7.IsWhole) (arg8 : Memref sig .tc .vmem S4x256x768 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1024x256 .bf16) (harg11 : arg11.IsWhole) (arg12 : Memref sig .tc .vmem S256x1024 .bf16) (harg12 : arg12.IsWhole) (arg13 : Memref sig .tc .vmem S4x768x256 .bf16) (harg13 : arg13.IsWhole) (arg14 : Memref sig .tc .vmem S4x256x768 .bf16) (harg14 : arg14.IsWhole) (arg15 : Memref sig .tc .vmem S4x256x768 .bf16) (harg15 : arg15.IsWhole) (arg16 : Memref sig .tc .vmem S4x768x1024 .bf16) (harg16 : arg16.IsWhole) (arg17 : Memref sig .tc .vmem S4x768x1024 .bf16) (harg17 : arg17.IsWhole) (arg18 : Memref sig .tc .vmem S4x768x1024 .bf16) (harg18 : arg18.IsWhole) (hc0 : cond0_0 i)
    (x0 : Vec F S256x1024 .f32) (x1 : Vec F S256x1024 .f32) (x2 : Vec F S1x1024 .f32) (x3 : Vec F S4x256x768 .bf16) (x4 : Vec F S4x256x768 .bf16) (fh0 : HbBuf0 (F := F) c hbM0_0) (fh1 : HbBuf0 (F := F) c hbM0_1) (fh2 : HbBuf0 (F := F) c hbM0_2)
      (W : Waits sig Unit) (K : PUnit → sProp 𝕄) :
        iprop(owns (c : Thread nD τ) arg1 fullShare x0 ∗ owns (c : Thread nD τ) arg2 fullShare x1 ∗ owns (c : Thread nD τ) arg3 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg7 fullShare x3 ∗ owns (c : Thread nD τ) arg8 fullShare x4 ∗ owns (c : Thread nD τ) arg9 fullShare (yOf x0 x1 x2 x3 x4 (wOf (hbM0_0.view.read (Elt F) fh0)) (wOf (hbM0_1.view.read (Elt F) fh1)) (wOf (hbM0_2.view.read (Elt F) fh2))) ∗ owns (c : Thread nD τ) arg10 fullShare (k0_pay3 (sOf x0 x1 x3 x4 (wOf (hbM0_0.view.read (Elt F) fh0)) (wOf (hbM0_1.view.read (Elt F) fh1)) (wOf (hbM0_2.view.read (Elt F) fh2))) k0_pay2) ∗ owns (c : Thread nD τ) arg11 fullShare (hbtOf x1 x2) ∗ owns (c : Thread nD τ) arg12 fullShare (dyhOf x0) ∗ owns (c : Thread nD τ) arg13 fullShare (VO0_9.read (Elt F) (VO0_9.writes (Elt F) VO0_9.junk (utOf x3 x4))) ∗ owns (c : Thread nD τ) arg14 fullShare (VO0_10.read (Elt F) (VO0_10.writes (Elt F) VO0_10.junk (daOf x0 x3 x4 (wOf (hbM0_2.view.read (Elt F) fh2))))) ∗ owns (c : Thread nD τ) arg15 fullShare (VO0_11.read (Elt F) (VO0_11.writes (Elt F) VO0_11.junk (dbOf x0 x3 (wOf (hbM0_2.view.read (Elt F) fh2))))) ∗ owns (c : Thread nD τ) arg16 fullShare (wOf (hbM0_0.view.read (Elt F) fh0)) ∗ owns (c : Thread nD τ) arg17 fullShare (wOf (hbM0_1.view.read (Elt F) fh1)) ∗ owns (c : Thread nD τ) arg18 fullShare (wOf (hbM0_2.view.read (Elt F) fh2)) ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_dx_00 i arg1 harg1 arg2 harg2 arg3 harg3 (Memref.whole main_v20) (Memref.isWhole_whole _) (Memref.whole main_v22) (Memref.isWhole_whole _) (Memref.whole main_v24) (Memref.isWhole_whole _) arg7 harg7 arg8 harg8 arg9 harg9 arg10 harg10 arg11 harg11 arg12 harg12 arg13 harg13 arg14 harg14 arg15 harg15 arg16 harg16 arg17 harg17 arg18 harg18 cc0_scratch3) K := by
    simp only [cc0_ffn_dx_00_eq_skeleton]; unfold cc0_ffn_dx_00_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, HW, Hk⟩
    subst hf0 hf1 hf2 hf3 hf4
    sl_exec (disch := first | sl_exact hc0)
    sl_step
    iapply Hk
    isplitl [H0]
    · iexists _; isplitr
      swap; · iexact H0
      ipureintro; rfl
    isplitl [H1]
    · iexists _; isplitr
      swap; · iexact H1
      ipureintro; rfl
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; exact (out_x arg9 f5 _ _ _).trans (y_congr (arg1.view.read (Elt F) f0) (arg2.view.read (Elt F) f1) (arg3.view.read (Elt F) f2) (arg7.view.read (Elt F) f3) (arg8.view.read (Elt F) f4) (scratch_eq arg16 hbM0_0 fh0 fs0) (scratch_eq arg17 hbM0_1 fh1 fs1) (scratch_eq arg18 hbM0_2 fh2 fs2))
    isplitl [H6]
    · iexists _; isplitr
      swap; · iexact H6
      ipureintro; exact (out_g arg10 f6 _ _ _).trans (g_congr (arg1.view.read (Elt F) f0) (arg2.view.read (Elt F) f1) (arg3.view.read (Elt F) f2) (arg7.view.read (Elt F) f3) (arg8.view.read (Elt F) f4) (scratch_eq arg16 hbM0_0 fh0 fs0) (scratch_eq arg17 hbM0_1 fh1 fs1) (scratch_eq arg18 hbM0_2 fh2 fs2) (by delta runA.sl.v214; first | exact (ld_g (arg10.view.read (Elt F) _) _).trans (out_g arg10 _ k0_pay2 _ []) | exact (ld_g (View.canon _) _).trans (View.canon_unit_zero z2 ..)))
    isplitl [H7]
    · iexists _; isplitr
      swap; · iexact H7
      ipureintro; exact (out_t arg11 f7 _ _ _)
    isplitl [H8]
    · iexists _; isplitr
      swap; · iexact H8
      ipureintro; exact (out_d arg12 f8 _ _ _)
    isplitl [H9]
    · iexists _; isplitr
      swap; · iexact H9
      ipureintro; exact ut_eq arg13 f9 (arg7.view.read (Elt F) f3) (arg8.view.read (Elt F) f4)
    isplitl [H10]
    · iexists _; isplitr
      swap; · iexact H10
      ipureintro; exact da_congr arg14 f10 (arg1.view.read (Elt F) f0) (arg7.view.read (Elt F) f3) (arg8.view.read (Elt F) f4) (scratch_eq arg18 hbM0_2 fh2 fs2)
    isplitl [H11]
    · iexists _; isplitr
      swap; · iexact H11
      ipureintro; exact db_congr arg15 f11 (arg1.view.read (Elt F) f0) (arg7.view.read (Elt F) f3) (scratch_eq arg18 hbM0_2 fh2 fs2)
    isplitl [HS0]
    · iexists _; isplitr
      swap; · iexact HS0
      ipureintro; exact (scratch_eq arg16 hbM0_0 fh0 fs0)
    isplitl [HS1]
    · iexists _; isplitr
      swap; · iexact HS1
      ipureintro; exact (scratch_eq arg17 hbM0_1 fh1 fs1)

    isplitl [HS2]
    · iexists _; isplitr
      swap; · iexact HS2
      ipureintro; exact (scratch_eq arg18 hbM0_2 fh2 fs2)
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    iexists _; iexact HW
end Cert.DxIdeal.Own
end
-- ==== Proof.DxFrame.lean ====
/-
  The frame of the Dx program: the weights stay resident from the first point on, and the row of sums is carried.
-/
module

public import proofs.«01_k».proof.Proof.DxRunA

@[expose] public section

set_option maxRecDepth 16384

noncomputable section

namespace Cert.DxIdeal.Own

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Resident array 0, once copied in. -/
def wD0 (c : Dev nD) : Vec F S4x768x1024 .bf16 := wOf (hbM0_0.view.read (Elt F) (V m c main_v20))
/-- Resident array 1, once copied in. -/
def wD1 (c : Dev nD) : Vec F S4x768x1024 .bf16 := wOf (hbM0_1.view.read (Elt F) (V m c main_v22))
/-- Resident array 2, once copied in. -/
def wD2 (c : Dev nD) : Vec F S4x768x1024 .bf16 := wOf (hbM0_2.view.read (Elt F) (V m c main_v24))

/-- The invariant: before the first point the launch's own, afterwards with the weights resident. -/
def PhiS (c : Dev nD) : (n : ℕ) → n ≤ cfg0.N → sProp 𝕄
  | 0, _ => Pipeline.ΦD osem0 spec0 H0 (V m) c
  | _ + 1, _ => iprop(iprop(owns (c : Thread nD τ) scM0_0 fullShare (wD0 m c) ∗ owns (c : Thread nD τ) scM0_1 fullShare (wD1 m c) ∗ owns (c : Thread nD τ) scM0_2 fullShare (wD2 m c)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0) ∗ iprop(hbPt0 c hbM0_0 (V m c main_v20) ∗ hbPt0 c hbM0_1 (V m c main_v22) ∗ hbPt0 c hbM0_2 (V m c main_v24)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop(owns (c : Thread nD τ) scM0_0 fullShare (wD0 m c) ∗ owns (c : Thread nD τ) scM0_1 fullShare (wD1 m c) ∗ owns (c : Thread nD τ) scM0_2 fullShare (wD2 m c)) ∗ (∃ r, prngReg c r) ∗ iprop(semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0) ∗ iprop(hbPt0 c hbM0_0 (V m c main_v20) ∗ hbPt0 c hbM0_1 (V m c main_v22) ∗ hbPt0 c hbM0_2 (V m c main_v24))) := by
  cases n with
  | zero => exact absurd rfl hz
  | succ n => rfl

/-- The column sums of one point's rows. -/
def sD (c : Dev nD) (t : Fin cfg0.N) : FVec F S1024 .f32 := sOf (iblk m c 0 t) (iblk m c 1 t) (iblk m c 3 t) (iblk m c 4 t) (wD0 m c) (wD1 m c) (wD2 m c)
/-- The carried row of sums after a point. -/
def gD (c : Dev nD) : (n : ℕ) → n < cfg0.N → Vec F S1x1024 .f32
  | 0, h => k0_pay3 (sD m c ⟨0, h⟩) k0_pay2
  | n + 1, h => k0_pay3 (sD m c ⟨n + 1, h⟩) (gD c n (Nat.lt_of_succ_lt h))

theorem gD_zero (c : Dev nD) (t : Fin cfg0.N) (hz : t.val = 0) : gD m c t.val t.isLt = k0_pay3 (sD m c t) k0_pay2 := by
  obtain ⟨n, hn⟩ := t
  dsimp only at hz; subst hz; rfl

theorem gD_pos (c : Dev nD) (t : Fin cfg0.N) (hz : t.val ≠ 0) :
    gD m c t.val t.isLt = k0_pay3 (sD m c t) (gD m c (t.val - 1) (Nat.lt_of_le_of_lt (Nat.sub_le _ _) t.isLt)) := by
  obtain ⟨n, hn⟩ := t
  cases n with
  | zero => exact absurd rfl hz
  | succ n => rfl

/-- What the other results' buffers hold after a point. -/
def yD (c : Dev nD) (t : Fin cfg0.N) : Vec F S256x1024 .f32 := yOf (iblk m c 0 t) (iblk m c 1 t) (iblk m c 2 t) (iblk m c 3 t) (iblk m c 4 t) (wD0 m c) (wD1 m c) (wD2 m c)
def hbtD (c : Dev nD) (t : Fin cfg0.N) : Vec F S1024x256 .bf16 := hbtOf (iblk m c 1 t) (iblk m c 2 t)
def dyhD (c : Dev nD) (t : Fin cfg0.N) : Vec F S256x1024 .bf16 := dyhOf (iblk m c 0 t)
def utD (c : Dev nD) (t : Fin cfg0.N) : Vec F S4x768x256 .bf16 := VO0_9.read (Elt F) (VO0_9.writes (Elt F) VO0_9.junk (utOf (iblk m c 3 t) (iblk m c 4 t)))
def daD (c : Dev nD) (t : Fin cfg0.N) : Vec F S4x256x768 .bf16 := VO0_10.read (Elt F) (VO0_10.writes (Elt F) VO0_10.junk (daOf (iblk m c 0 t) (iblk m c 3 t) (iblk m c 4 t) (wD2 m c)))
def dbD (c : Dev nD) (t : Fin cfg0.N) : Vec F S4x256x768 .bf16 := VO0_11.read (Elt F) (VO0_11.writes (Elt F) VO0_11.junk (dbOf (iblk m c 0 t) (iblk m c 3 t) (wD2 m c)))

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yD m c t
    | ⟨6, _⟩ => gD m c t.val t.isLt
    | ⟨7, _⟩ => hbtD m c t
    | ⟨8, _⟩ => dyhD m c t
    | ⟨9, _⟩ => utD m c t
    | ⟨10, _⟩ => daD m c t
    | ⟨11, _⟩ => dbD m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yD m c t := by dsimp only [dats]
theorem after0_6 (c : Dev nD) (t : Fin cfg0.N) : (dats m 0 c).after 6 t = gD m c t.val t.isLt := by dsimp only [dats]
theorem after0_7 (c : Dev nD) (t : Fin cfg0.N) : (dats m 0 c).after 7 t = hbtD m c t := by dsimp only [dats]
theorem after0_8 (c : Dev nD) (t : Fin cfg0.N) : (dats m 0 c).after 8 t = dyhD m c t := by dsimp only [dats]
theorem after0_9 (c : Dev nD) (t : Fin cfg0.N) : (dats m 0 c).after 9 t = utD m c t := by dsimp only [dats]
theorem after0_10 (c : Dev nD) (t : Fin cfg0.N) : (dats m 0 c).after 10 t = daD m c t := by dsimp only [dats]
theorem after0_11 (c : Dev nD) (t : Fin cfg0.N) : (dats m 0 c).after 11 t = dbD m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- After the first point the row of sums is what the point before left. -/
theorem before0_6_B (c : Dev nD) (t : Fin cfg0.N) (hz : t.val ≠ 0) (d) :
    (dats m 0 c).before 6 t d = gD m c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_pos m c (t.val + 1) t.isLt (Nat.succ_ne_zero _),
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  unfold yD hbtD dyhD utD daD dbD
  by_cases h0 : t.val % 16 = 0
  · have hz : t.val = 0 := by omega
    rw [PhiS_castSucc m c t, PhiS_zero m c _ _ hz, PhiD0_eq, gD_zero m c t hz]
    unfold sD
    iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v20) (V m c main_v22) (V m c main_v24) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, ⟨%W', HW'⟩⟩
    isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2]
    · isplitl [HS0 HS1 HS2]
      · isplitl [HS0]; · iexact HS0
        isplitl [HS1]; · iexact HS1
        iexact HS2
      isplitl [Hg]
      · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hz : t.val ≠ 0 := by omega
    simp only [before0_6_B m c t hz]
    rw [PhiS_castSucc m c t, PhiS_pos m c _ _ hz, gD_pos m c t hz]
    unfold sD
    iintro ⟨⟨⟨HS0, HS1, HS2⟩, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ _ _ _ _ _ _ (fun h => h0 ((hcond0_0 t).mp h)) (fun h => h0 ((hcond0_1 t).mp h)) (iblk m c 0 t) (iblk m c 1 t) (iblk m c 2 t) (iblk m c 3 t) (iblk m c 4 t) _ (wD0 m c) (wD1 m c) (wD2 m c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, H11, HS⟩
    isplitl [HS HR]
    · isplitl [HS]; · iexact HS
      iexact HR
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, HR⟩
  isplitl [HS0 HS1 HS2]
  · isplitl [HS0]
    · iexists _; iexact HS0
    isplitl [HS1]
    · iexists _; iexact HS1
    iexists _; iexact HS2
  iexact HR

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DxIdeal.Own
end
-- ==== Proof.DxVal.lean ====
/-
  The backward pass of a feed-forward block. A grid step takes 256 rows: the gradient of the hidden arrays pair by
  pair, the gradient of the normed rows from the four pairs, and from that the gradient of the rows and the rows'
  addend to the gradient of the gain. The pads of a shard add nothing.
-/
module

public import proofs.«01_k».proof.Proof.DxFrame
public import proofs.«01_k».proof.Proof.FwdRef

@[expose] public section

set_option maxRecDepth 8192
set_option maxHeartbeats 400000

noncomputable section

namespace FfnX

open Idealize.ShloMosaic Idealize.ShloMosaic.TcCoe Idealize.ShloMosaic.Tactic
open Cert.DxIdeal Cert.DxIdeal.Gen Cert.DxIdeal.Own
open FfnF (hn shard col col_lt sum_pairs zero_word)
open scoped BigOperators

/-! ## The model -/

/-- The reciprocal root of a row's mean square. -/
def rr (row : Fin 1024 → EReal) : EReal :=
  FloatOps.rsqrt (F := Ideal) (φ := .f32)
    (FloatOps.addf (F := Ideal) (φ := .f32) (FloatOps.divf (F := Ideal) (φ := .f32) (∑ k, row k * row k) (FloatOps.ofBits (F := Ideal) .f32 0x44800000#32))
      (FloatOps.ofBits (F := Ideal) .f32 0x358637BD#32))

/-- The halved gradient. -/
def half (y : EReal) : EReal := FloatOps.ofBits (F := Ideal) .f32 0x3F000000#32 * y

/-- The gradient of the gate's first argument. -/
def dA (du a b : EReal) : EReal :=
  du * b * (FloatOps.logistic (F := Ideal) (φ := .f32) a * (FloatOps.ofBits (F := Ideal) .f32 0x3F800000#32
    + a * (FloatOps.ofBits (F := Ideal) .f32 0x3F800000#32 - FloatOps.logistic (F := Ideal) (φ := .f32) a)))

/-- The gradient of the gate's second argument. -/
def dB (du a : EReal) : EReal := du * (a * FloatOps.logistic (F := Ideal) (φ := .f32) a)

/-- The gradient of a row from the gradient of the normed row. -/
def back (dy r dxn xn : EReal) (s : EReal) : EReal :=
  dy + r * (dxn - xn * FloatOps.divf (F := Ideal) (φ := .f32) s (FloatOps.ofBits (F := Ideal) .f32 0x44800000#32))

section
variable (dy x : S4096x1024.Idx → EReal) (g : S1x1024.Idx → EReal) (w1 w3 : S1024x2816.Idx → EReal) (w2 : S2816x1024.Idx → EReal)

/-- A row of an array. -/
def rowOf (i : Fin 4096) : Fin 1024 → EReal := fun k => x (ValueIdx.ix2 i k)
/-- A row without its gain. -/
def xh (i : Fin 4096) (k : Fin 1024) : EReal := x (ValueIdx.ix2 i k) * rr (rowOf x i)
/-- A hidden array. -/
def up (w : S1024x2816.Idx → EReal) (i : Fin 4096) (n : Fin 2816) : EReal := ∑ k : Fin 1024, hn x g i k * w (ValueIdx.ix2 k n)
/-- The gradient of the gated products. -/
def dU (i : Fin 4096) (n : Fin 2816) : EReal := ∑ k : Fin 1024, half (dy (ValueIdx.ix2 i k)) * w2 (ValueIdx.ix2 n k)
/-- The gradient of the normed rows. -/
def dH (i : Fin 4096) (d : Fin 1024) : EReal :=
  ∑ n : Fin 2816, (dA (dU dy w2 i n) (up x g w1 i n) (up x g w3 i n) * w1 (ValueIdx.ix2 d n) + dB (dU dy w2 i n) (up x g w1 i n) * w3 (ValueIdx.ix2 d n))
/-- The gradient of the rows. -/
def dX : S4096x1024.Idx → EReal := fun j =>
  back (dy j) (rr (rowOf x (j 0))) (dH dy x g w1 w3 w2 (j 0) (j 1) * g (ValueIdx.ix2 0 (j 1))) (xh x (j 0) (j 1))
    (∑ k : Fin 1024, dH dy x g w1 w3 w2 (j 0) k * g (ValueIdx.ix2 0 k) * xh x (j 0) k)
/-- The gradient of the gain. -/
def dG : S1x1024.Idx → EReal := fun j => ∑ i : Fin 4096, dH dy x g w1 w3 w2 i (j 1) * xh x i (j 1)
end

/-! ## The body's arithmetic -/

theorem up_apply (h : FVec Ideal S256x1024 .bf16) (w : FVec Ideal S768x1024 .bf16) (r : Fin 256) (q : Fin 768) :
    matmul (F := Ideal) dot_S256x1024_S768x1024_S256x768_1_1_0_0_n_n none h w (constant (F := Ideal) S256x768 .f32 0x00000000#32) (ValueIdx.ix2 r q)
      = ∑ k : Fin 1024, h (ValueIdx.ix2 r k) * w (ValueIdx.ix2 q k) := by
  refine (Ideal.matmul_constant_zero_apply (φ₁ := .bf16) (φ₂ := .bf16) _ none h w _).trans ?_
  refine (Equiv.sum_comp (ValueIdx.contrEquiv1 dot_S256x1024_S768x1024_S256x768_1_1_0_0_n_n 1024 rfl rfl).symm _).symm.trans ?_
  refine Finset.sum_congr rfl fun k _ => ?_
  have hk := ValueIdx.contrEquiv1_symm_val dot_S256x1024_S768x1024_S256x768_1_1_0_0_n_n 1024 rfl rfl k
  refine congrArg₂ (· * ·) (congrArg h (funext fun a => Fin.ext ?_)) (congrArg w (funext fun a => Fin.ext ?_))
  · match a with
    | ⟨0, _⟩ => rfl
    | ⟨1, _⟩ => exact hk
  · match a with
    | ⟨0, _⟩ => rfl
    | ⟨1, _⟩ => exact hk

theorem down_apply (u : FVec Ideal S256x768 .bf16) (w : FVec Ideal S768x1024 .bf16) (r : Fin 256) (d : Fin 1024) :
    matmul (F := Ideal) dot_S256x768_S768x1024_S256x1024_1_0_0_1_n_n none u w (constant (F := Ideal) S256x1024 .f32 0x00000000#32) (ValueIdx.ix2 r d)
      = ∑ q : Fin 768, u (ValueIdx.ix2 r q) * w (ValueIdx.ix2 q d) := by
  refine (Ideal.matmul_constant_zero_apply (φ₁ := .bf16) (φ₂ := .bf16) _ none u w _).trans ?_
  refine (Equiv.sum_comp (ValueIdx.contrEquiv1 dot_S256x768_S768x1024_S256x1024_1_0_0_1_n_n 768 rfl rfl).symm _).symm.trans ?_
  refine Finset.sum_congr rfl fun k _ => ?_
  have hk := ValueIdx.contrEquiv1_symm_val dot_S256x768_S768x1024_S256x1024_1_0_0_1_n_n 768 rfl rfl k
  refine congrArg₂ (· * ·) (congrArg u (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- A pair of shards as a matrix. -/
theorem cast_apply (x : Vec Ideal S1x768x1024 .bf16) (q : Fin 768) (k : Fin 1024) :
    shapeCast S768x1024 x shapeCasts_S1x768x1024_S768x1024 (ValueIdx.ix2 q k) = x (ValueIdx.ix3 0 q k) := by
  refine shapeCast_apply x _ _ (ValueIdx.ix3 0 q k) ?_
  rw [Shape.rowMajor_val_two, Shape.rowMajor_val_three]
  show ((0 : ℕ) * 768 + q.val) * 1024 + k.val = q.val * 1024 + k.val
  omega

/-- A pair of a hidden array as a matrix. -/
theorem cast_pair (x : Vec Ideal S1x256x768 .bf16) (r : Fin 256) (q : Fin 768) :
    shapeCast S256x768 x shapeCasts_S1x256x768_S256x768 (ValueIdx.ix2 r q) = x (ValueIdx.ix3 0 r q) := by
  refine shapeCast_apply x _ _ (ValueIdx.ix3 0 r q) ?_
  rw [Shape.rowMajor_val_two, Shape.rowMajor_val_three]
  show ((0 : ℕ) * 256 + r.val) * 768 + q.val = r.val * 768 + q.val
  omega

/-- The gradient of the gated products of one pair. -/
def pU (h : FVec Ideal S256x1024 .bf16) (c : Vec Ideal S1x768x1024 .bf16) : FVec Ideal S256x768 .f32 :=
  matmul dot_S256x1024_S768x1024_S256x768_1_1_0_0_n_n none h (shapeCast S768x1024 c shapeCasts_S1x768x1024_S768x1024 : FVec Ideal S768x1024 .bf16) (constant S256x768 .f32 0x00000000#32)
/-- A pair of a hidden array, widened. -/
def pW (a : Vec Ideal S1x256x768 .bf16) : FVec Ideal S256x768 .f32 :=
  extf .f32 (shapeCast S256x768 a shapeCasts_S1x256x768_S256x768 : FVec Ideal S256x768 .bf16) bitsLt_bf16_f32
/-- The gradients of the hidden arrays of one pair. -/
def pA (u : FVec Ideal S256x768 .f32) (a b : Vec Ideal S1x256x768 .bf16) : FVec Ideal S256x768 .bf16 :=
  truncf .bf16 (mulf (mulf u (pW b)) (mulf (logistic (pW a)) (addf (broadcast S256x768 (Scalar.ofBits .f32 0x3F800000#32))
    (mulf (pW a) (subf (broadcast S256x768 (Scalar.ofBits .f32 0x3F800000#32)) (logistic (pW a))))))) bitsLt_bf16_f32
def pB (u : FVec Ideal S256x768 .f32) (a : Vec Ideal S1x256x768 .bf16) : FVec Ideal S256x768 .bf16 :=
  truncf .bf16 (mulf u (mulf (pW a) (logistic (pW a)))) bitsLt_bf16_f32
/-- What one pair adds. -/
def pAdd (acc : FVec Ideal S256x1024 .f32) (h : FVec Ideal S256x1024 .bf16) (a b : Vec Ideal S1x256x768 .bf16) (w1 w3 w2 : Vec Ideal S1x768x1024 .bf16) : FVec Ideal S256x1024 .f32 :=
  addf (addf acc (matmul dot_S256x768_S768x1024_S256x1024_1_0_0_1_n_n none (pA (pU h w2) a b) (shapeCast S768x1024 w1 shapeCasts_S1x768x1024_S768x1024 : FVec Ideal S768x1024 .bf16) (constant S256x1024 .f32 0x00000000#32)))
    (matmul dot_S256x768_S768x1024_S256x1024_1_0_0_1_n_n none (pB (pU h w2) a) (shapeCast S768x1024 w3 shapeCasts_S1x768x1024_S768x1024 : FVec Ideal S768x1024 .bf16) (constant S256x1024 .f32 0x00000000#32))

theorem pU_apply (h : FVec Ideal S256x1024 .bf16) (c : Vec Ideal S1x768x1024 .bf16) (r : Fin 256) (q : Fin 768) :
    pU h c (ValueIdx.ix2 r q) = ∑ k : Fin 1024, h (ValueIdx.ix2 r k) * c (ValueIdx.ix3 0 q k) := by
  unfold pU
  exact (up_apply _ _ r q).trans (Finset.sum_congr rfl fun k _ => congrArg (h (ValueIdx.ix2 r k) * ·) (cast_apply c q k))

theorem pA_apply (u : FVec Ideal S256x768 .f32) (a b : Vec Ideal S1x256x768 .bf16) (r : Fin 256) (q : Fin 768) :
    pA u a b (ValueIdx.ix2 r q) = dA (u (ValueIdx.ix2 r q)) (a (ValueIdx.ix3 0 r q)) (b (ValueIdx.ix3 0 r q)) := by
  rw [← cast_pair a r q, ← cast_pair b r q]
  rfl
theorem pB_apply (u : FVec Ideal S256x768 .f32) (a : Vec Ideal S1x256x768 .bf16) (r : Fin 256) (q : Fin 768) :
    pB u a (ValueIdx.ix2 r q) = dB (u (ValueIdx.ix2 r q)) (a (ValueIdx.ix3 0 r q)) := by
  rw [← cast_pair a r q]
  rfl

theorem pAdd_apply (acc : FVec Ideal S256x1024 .f32) (h : FVec Ideal S256x1024 .bf16) (a b : Vec Ideal S1x256x768 .bf16) (w1 w3 w2 : Vec Ideal S1x768x1024 .bf16) (r : Fin 256) (d : Fin 1024) :
    pAdd acc h a b w1 w3 w2 (ValueIdx.ix2 r d) = acc (ValueIdx.ix2 r d) + ∑ q : Fin 768,
      (dA (∑ k : Fin 1024, h (ValueIdx.ix2 r k) * w2 (ValueIdx.ix3 0 q k)) (a (ValueIdx.ix3 0 r q)) (b (ValueIdx.ix3 0 r q)) * w1 (ValueIdx.ix3 0 q d)
        + dB (∑ k : Fin 1024, h (ValueIdx.ix2 r k) * w2 (ValueIdx.ix3 0 q k)) (a (ValueIdx.ix3 0 r q)) * w3 (ValueIdx.ix3 0 q d)) := by
  rw [Finset.sum_add_distrib, ← add_assoc]
  refine congrArg₂ (· + ·) (congrArg₂ (· + ·) rfl ?_) ?_
  · refine (down_apply _ _ r d).trans (Finset.sum_congr rfl fun q _ => congrArg₂ (· * ·) ?_ (cast_apply w1 q d))
    rw [pA_apply, pU_apply]
  · refine (down_apply _ _ r d).trans (Finset.sum_congr rfl fun q _ => congrArg₂ (· * ·) ?_ (cast_apply w3 q d))
    rw [pB_apply, pU_apply]

theorem ld_w (xs : Vec Ideal S4x768x1024 .bf16) (p : Fin 4) (h) (q : Fin 768) (k : Fin 1024) :
    View.ld xs (Rect.unit (s := S4x768x1024) ![p.val, 0, 0] S1x768x1024.size h) (ValueIdx.ix3 0 q k) = xs (ValueIdx.ix3 p q k) := by
  refine congrArg xs (funext fun a => Fin.ext ?_)
  match a with
  | ⟨0, _⟩ => show p.val + 1 * 0 = p.val; omega
  | ⟨1, _⟩ => show 0 + 1 * q.val = q.val; omega
  | ⟨2, _⟩ => show 0 + 1 * k.val = k.val; omega

theorem ld_h (xs : Vec Ideal S4x256x768 .bf16) (p : Fin 4) (h) (r : Fin 256) (q : Fin 768) :
    View.ld xs (Rect.unit (s := S4x256x768) ![p.val, 0, 0] S1x256x768.size h) (ValueIdx.ix3 0 r q) = xs (ValueIdx.ix3 p r q) := by
  refine congrArg xs (funext fun a => Fin.ext ?_)
  match a with
  | ⟨0, _⟩ => show p.val + 1 * 0 = p.val; omega
  | ⟨1, _⟩ => show 0 + 1 * r.val = r.val; omega
  | ⟨2, _⟩ => show 0 + 1 * q.val = q.val; omega

/-- Pair `p` of the weights and of the hidden arrays. -/
def wp (xs : Vec Ideal S4x768x1024 .bf16) (p : Fin 4) (h : ∀ a, (![p.val, 0, 0] : Fin 3 → Nat) a + S1x768x1024.size a ≤ S4x768x1024.size a) : Vec Ideal S1x768x1024 .bf16 := View.ld xs (Rect.unit (s := S4x768x1024) ![p.val, 0, 0] S1x768x1024.size h)
def hp (xs : Vec Ideal S4x256x768 .bf16) (p : Fin 4) (h : ∀ a, (![p.val, 0, 0] : Fin 3 → Nat) a + S1x256x768.size a ≤ S4x256x768.size a) : Vec Ideal S1x256x768 .bf16 := View.ld xs (Rect.unit (s := S4x256x768) ![p.val, 0, 0] S1x256x768.size h)

/-- The gradient of the normed rows of a block. -/
def dhOf (x0 : Vec Ideal S256x1024 .f32) (x3 x4 : Vec Ideal S4x256x768 .bf16) (xs0 xs1 xs2 : Vec Ideal S4x768x1024 .bf16) : FVec Ideal S256x1024 .f32 :=
  pAdd (pAdd (pAdd (pAdd (k0_pay8 (F := Ideal))
    (k0_pay7 x0) (hp x3 0 inb_S4x256x768_S1x256x768_0_0_0) (hp x4 0 inb_S4x256x768_S1x256x768_0_0_0) (wp xs0 0 inb_S4x768x1024_S1x768x1024_0_0_0) (wp xs1 0 inb_S4x768x1024_S1x768x1024_0_0_0) (wp xs2 0 inb_S4x768x1024_S1x768x1024_0_0_0))
    (k0_pay7 x0) (hp x3 1 inb_S4x256x768_S1x256x768_1_0_0) (hp x4 1 inb_S4x256x768_S1x256x768_1_0_0) (wp xs0 1 inb_S4x768x1024_S1x768x1024_1_0_0) (wp xs1 1 inb_S4x768x1024_S1x768x1024_1_0_0) (wp xs2 1 inb_S4x768x1024_S1x768x1024_1_0_0))
    (k0_pay7 x0) (hp x3 2 inb_S4x256x768_S1x256x768_2_0_0) (hp x4 2 inb_S4x256x768_S1x256x768_2_0_0) (wp xs0 2 inb_S4x768x1024_S1x768x1024_2_0_0) (wp xs1 2 inb_S4x768x1024_S1x768x1024_2_0_0) (wp xs2 2 inb_S4x768x1024_S1x768x1024_2_0_0))
    (k0_pay7 x0) (hp x3 3 inb_S4x256x768_S1x256x768_3_0_0) (hp x4 3 inb_S4x256x768_S1x256x768_3_0_0) (wp xs0 3 inb_S4x768x1024_S1x768x1024_3_0_0) (wp xs1 3 inb_S4x768x1024_S1x768x1024_3_0_0) (wp xs2 3 inb_S4x768x1024_S1x768x1024_3_0_0)

/-- What pair `p` adds at a hidden column. -/
def pairAt (dyr : Fin 1024 → EReal) (a b : Fin 4 → Fin 768 → EReal) (xs0 xs1 xs2 : Vec Ideal S4x768x1024 .bf16) (d : Fin 1024) (p : Fin 4) (q : Fin 768) : EReal :=
  dA (∑ k : Fin 1024, half (dyr k) * xs2 (ValueIdx.ix3 p q k)) (a p q) (b p q) * xs0 (ValueIdx.ix3 p q d)
    + dB (∑ k : Fin 1024, half (dyr k) * xs2 (ValueIdx.ix3 p q k)) (a p q) * xs1 (ValueIdx.ix3 p q d)

theorem pair_ld (acc : FVec Ideal S256x1024 .f32) (x0 : Vec Ideal S256x1024 .f32) (x3 x4 : Vec Ideal S4x256x768 .bf16) (xs0 xs1 xs2 : Vec Ideal S4x768x1024 .bf16) (p : Fin 4) (ha hw) (r : Fin 256) (d : Fin 1024) :
    pAdd acc (k0_pay7 (F := Ideal) x0) (hp x3 p ha) (hp x4 p ha) (wp xs0 p hw) (wp xs1 p hw) (wp xs2 p hw) (ValueIdx.ix2 r d)
      = acc (ValueIdx.ix2 r d) + ∑ q, pairAt (fun k => x0 (ValueIdx.ix2 r k)) (fun p q => x3 (ValueIdx.ix3 p r q)) (fun p q => x4 (ValueIdx.ix3 p r q)) xs0 xs1 xs2 d p q := by
  rw [pAdd_apply]
  refine congrArg (acc (ValueIdx.ix2 r d) + ·) (Finset.sum_congr rfl fun q _ => ?_)
  unfold pairAt
  have e2 : (∑ k : Fin 1024, k0_pay7 (F := Ideal) x0 (ValueIdx.ix2 r k) * wp xs2 p hw (ValueIdx.ix3 0 q k)) = ∑ k : Fin 1024, half (x0 (ValueIdx.ix2 r k)) * xs2 (ValueIdx.ix3 p q k) :=
    Finset.sum_congr rfl fun k _ => congrArg₂ (· * ·) rfl (ld_w xs2 p hw q k)
  rw [e2]
  refine congrArg₂ (· + ·) (congrArg₂ (· * ·) (congrArg₂ (dA _) (ld_h x3 p ha r q) (ld_h x4 p ha r q)) (ld_w xs0 p hw q d)) (congrArg₂ (· * ·) (congrArg (dB _) (ld_h x3 p ha r q)) (ld_w xs1 p hw q d))

theorem dhOf_apply (x0 : Vec Ideal S256x1024 .f32) (x3 x4 : Vec Ideal S4x256x768 .bf16) (xs0 xs1 xs2 : Vec Ideal S4x768x1024 .bf16) (r : Fin 256) (d : Fin 1024) :
    dhOf x0 x3 x4 xs0 xs1 xs2 (ValueIdx.ix2 r d)
      = ∑ p, ∑ q, pairAt (fun k => x0 (ValueIdx.ix2 r k)) (fun p q => x3 (ValueIdx.ix3 p r q)) (fun p q => x4 (ValueIdx.ix3 p r q)) xs0 xs1 xs2 d p q := by
  unfold dhOf
  rw [pair_ld, pair_ld, pair_ld, pair_ld, Fin.sum_univ_four]
  refine congrArg (fun z : EReal => z + _ + _ + _) ?_
  show FloatOps.ofBits (F := Ideal) .f32 0x00000000#32 + _ = _
  rw [zero_word, zero_add]

/-! ## The block's results from the gradient of its normed rows -/

/-- The gradient of the rows of a block. -/
def bwdOf (x0 x1 : Vec Ideal S256x1024 .f32) (x2 : Vec Ideal S1x1024 .f32) (dh : FVec Ideal S256x1024 .f32) : FVec Ideal S256x1024 .f32 :=
  have v195 : FVec Ideal S256x1024 .f32 := mulf dh (broadcastTo S256x1024 x2 broadcasts_S1x1024_S256x1024)
  have v196 : FVec Ideal S256x1024 .f32 := mulf v195 (k0_pay5 x1)
  have v197 : FVec Ideal S256 .f32 := multiReduction .add [1] S256 v196 0x00000000#32 reduces_S256x1024_S256 (.inl rfl) rfl
  have v198 : FVec Ideal S256x1 .f32 := shapeCast S256x1 v197 shapeCasts_S256_S256x1
  have v200 : FVec Ideal S256x1 .f32 := divf v198 (broadcast S256x1 (Scalar.ofBits .f32 0x44800000#32))
  addf x0 (mulf (broadcastTo S256x1024 (k0_pay4 x1) broadcasts_S256x1_S256x1024)
    (subf v195 (mulf (k0_pay5 x1) (broadcastTo S256x1024 v200 broadcasts_S256x1_S256x1024))))

/-- The rows' addend to the gradient of the gain. -/
def sumOf (x1 : Vec Ideal S256x1024 .f32) (dh : FVec Ideal S256x1024 .f32) : FVec Ideal S1024 .f32 :=
  multiReduction .add [0] S1024 (mulf dh (k0_pay5 x1)) 0x00000000#32 reduces_S256x1024_S1024 (.inl rfl) rfl

theorem yOf_eq (x0 x1 : Vec Ideal S256x1024 .f32) (x2 : Vec Ideal S1x1024 .f32) (x3 x4 : Vec Ideal S4x256x768 .bf16) (xs0 xs1 xs2 : Vec Ideal S4x768x1024 .bf16) :
    yOf (F := Ideal) x0 x1 x2 x3 x4 xs0 xs1 xs2 = bwdOf x0 x1 x2 (dhOf x0 x3 x4 xs0 xs1 xs2) := by
  unfold yOf dh2 dh1 dh0 da0 da1 db0 db1 du0 du1 du2 du3
  rw [View.ld_unit_zero z2, View.ld_unit_zero z2, View.ld_unit_zero z2]
  rfl

theorem sOf_eq (x0 x1 : Vec Ideal S256x1024 .f32) (x3 x4 : Vec Ideal S4x256x768 .bf16) (xs0 xs1 xs2 : Vec Ideal S4x768x1024 .bf16) :
    sOf (F := Ideal) x0 x1 x3 x4 xs0 xs1 xs2 = sumOf x1 (dhOf x0 x3 x4 xs0 xs1 xs2) := by
  unfold sOf dh2 dh1 dh0 da0 da1 db0 db1 du0 du1 du2 du3
  rw [View.ld_unit_zero z2, View.ld_unit_zero z2]
  rfl

theorem rms_apply (x : Vec Ideal S256x1024 .f32) (r : Fin 256) :
    k0_pay4 (F := Ideal) x (ValueIdx.ix2 r 0) = rr (fun k => x (ValueIdx.ix2 r k)) := by
  unfold rr
  refine congrArg (FloatOps.rsqrt (F := Ideal) (φ := .f32)) (congrArg₂ (FloatOps.addf (F := Ideal) (φ := .f32)) (congrArg₂ (FloatOps.divf (F := Ideal) (φ := .f32)) ?_ rfl) rfl)
  refine (shapeCast_apply _ shapeCasts_S256_S256x1 _ (ValueIdx.ix1 r) ?_).trans ?_
  · rw [Shape.rowMajor_val_two, Shape.rowMajor_val_one]
    show r.val = r.val * 1 + 0
    omega
  refine (Ideal.multiReduction_add_single (φ := .f32) (s := S256x1024) (t := S256) (a := (1 : Fin 2)) (mulf (F := Ideal) (φ := .f32) x x) 0x00000000#32 reduces_S256x1024_S256 (.inl rfl) rfl (ValueIdx.ix1 r)).trans ?_
  refine Finset.sum_congr rfl fun k _ => ?_
  refine congrArg (fun z : S256x1024.Idx => x z * x z) (funext fun a => Fin.ext ?_)
  match a with
  | ⟨0, _⟩ => rfl
  | ⟨1, _⟩ => rfl

theorem col_bcast (v : FVec Ideal S256x1 .f32) (r : Fin 256) (d : Fin 1024) :
    broadcastTo S256x1024 v broadcasts_S256x1_S256x1024 (ValueIdx.ix2 r d) = v (ValueIdx.ix2 r 0) := by
  refine broadcastTo_apply _ broadcasts_S256x1_S256x1024 _ (ValueIdx.ix2 r 0) ?_
  intro a; match a with
  | ⟨0, _⟩ => rfl
  | ⟨1, _⟩ => rfl

theorem row_bcast (v : Vec Ideal S1x1024 .f32) (r : Fin 256) (d : Fin 1024) :
    broadcastTo S256x1024 v broadcasts_S1x1024_S256x1024 (ValueIdx.ix2 r d) = v (ValueIdx.ix2 0 d) := by
  refine broadcastTo_apply _ broadcasts_S1x1024_S256x1024 _ (ValueIdx.ix2 0 d) ?_
  intro a; match a with
  | ⟨0, _⟩ => rfl
  | ⟨1, _⟩ => rfl

theorem xhat_apply (x : Vec Ideal S256x1024 .f32) (r : Fin 256) (d : Fin 1024) :
    k0_pay5 (F := Ideal) x (ValueIdx.ix2 r d) = x (ValueIdx.ix2 r d) * rr (fun k => x (ValueIdx.ix2 r k)) :=
  congrArg (x (ValueIdx.ix2 r d) * ·) ((col_bcast _ r d).trans (rms_apply x r))

theorem bwdOf_apply (x0 x1 : Vec Ideal S256x1024 .f32) (x2 : Vec Ideal S1x1024 .f32) (dh : FVec Ideal S256x1024 .f32) (r : Fin 256) (d : Fin 1024) :
    bwdOf x0 x1 x2 dh (ValueIdx.ix2 r d)
      = back (x0 (ValueIdx.ix2 r d)) (rr (fun k => x1 (ValueIdx.ix2 r k))) (dh (ValueIdx.ix2 r d) * x2 (ValueIdx.ix2 0 d)) (x1 (ValueIdx.ix2 r d) * rr (fun k => x1 (ValueIdx.ix2 r k)))
        (∑ k : Fin 1024, dh (ValueIdx.ix2 r k) * x2 (ValueIdx.ix2 0 k) * (x1 (ValueIdx.ix2 r k) * rr (fun k => x1 (ValueIdx.ix2 r k)))) := by
  unfold back
  refine congrArg₂ (· + ·) rfl (congrArg₂ (· * ·) ((col_bcast _ r d).trans (rms_apply x1 r)) (congrArg₂ (· - ·) (congrArg₂ (· * ·) rfl (row_bcast x2 r d))
    (congrArg₂ (· * ·) (xhat_apply x1 r d) ((col_bcast _ r d).trans (congrArg₂ (FloatOps.divf (F := Ideal) (φ := .f32)) ?_ rfl)))))
  refine (shapeCast_apply _ shapeCasts_S256_S256x1 _ (ValueIdx.ix1 r) ?_).trans ?_
  · rw [Shape.rowMajor_val_two, Shape.rowMajor_val_one]
    show r.val = r.val * 1 + 0
    omega
  refine (Ideal.multiReduction_add_single (φ := .f32) (s := S256x1024) (t := S256) (a := (1 : Fin 2)) _ 0x00000000#32 reduces_S256x1024_S256 (.inl rfl) rfl (ValueIdx.ix1 r)).trans ?_
  refine Finset.sum_congr rfl fun (k : Fin 1024) _ => ?_
  refine Eq.trans (congrArg (mulf (F := Ideal) (φ := .f32) (mulf dh (broadcastTo S256x1024 x2 broadcasts_S1x1024_S256x1024)) (k0_pay5 x1)) (?_ : _ = ValueIdx.ix2 r k)) ?_
  · funext a
    match a with
    | ⟨0, _⟩ => rfl
    | ⟨1, _⟩ => rfl
  exact congrArg₂ (· * ·) (congrArg₂ (· * ·) rfl (row_bcast x2 r k)) (xhat_apply x1 r k)

theorem sumOf_apply (x1 : Vec Ideal S256x1024 .f32) (dh : FVec Ideal S256x1024 .f32) (d : Fin 1024) :
    sumOf x1 dh (ValueIdx.ix1 d) = ∑ r : Fin 256, dh (ValueIdx.ix2 r d) * (x1 (ValueIdx.ix2 r d) * rr (fun k => x1 (ValueIdx.ix2 r k))) := by
  unfold sumOf
  refine (Ideal.multiReduction_add_single (φ := .f32) (s := S256x1024) (t := S1024) (a := (0 : Fin 2)) _ 0x00000000#32 reduces_S256x1024_S1024 (.inl rfl) rfl (ValueIdx.ix1 d)).trans ?_
  refine Finset.sum_congr rfl fun (r : Fin 256) _ => ?_
  refine Eq.trans (congrArg (mulf (F := Ideal) (φ := .f32) dh (k0_pay5 x1)) (?_ : _ = ValueIdx.ix2 r d)) ?_
  · funext a
    match a with
    | ⟨0, _⟩ => rfl
    | ⟨1, _⟩ => rfl
  exact congrArg (dh (ValueIdx.ix2 r d) * ·) (xhat_apply x1 r d)

/-- The carried row takes the addend in. -/
theorem carry_apply (s : FVec Ideal S1024 .f32) (v : Vec Ideal S1x1024 .f32) (d : Fin 1024) :
    k0_pay3 (F := Ideal) s v (ValueIdx.ix2 0 d) = v (ValueIdx.ix2 0 d) + s (ValueIdx.ix1 d) := by
  refine congrArg₂ (· + ·) (shapeCast_apply _ shapeCasts_S1x1024_S1x1024 _ (ValueIdx.ix2 0 d) rfl) (shapeCast_apply _ shapeCasts_S1024_S1x1024 _ (ValueIdx.ix1 d) ?_)
  rw [Shape.rowMajor_val_two, Shape.rowMajor_val_one]
  show d.val = 0 * 1024 + d.val
  omega

end FfnX
end
-- ==== Proof.DxArr.lean ====
/-
  The arrays after the launch of the feed-forward block's backward pass: the gradient of the rows a block of 256 at a
  time, and the gradient of the gain carried over the blocks.
-/
module

public import proofs.«01_k».proof.Proof.DxVal

@[expose] public section

set_option maxRecDepth 8192
set_option maxHeartbeats 400000

noncomputable section

namespace FfnX

open Idealize.ShloMosaic Idealize.ShloMosaic.TcCoe Idealize.ShloMosaic.Tactic
open Cert.DxIdeal Cert.DxIdeal.Gen Cert.DxIdeal.Own
open FfnF (hn shard shard_in shard_pad tr_apply col col_lt sum_pairs zero_word)
open scoped BigOperators

/-! ## The resident weights and the hidden arrays -/

theorem wOf_in (w : S2816x1024.Idx → EReal) (p : Fin 4) (q : Fin 768) (k : Fin 1024) (h : q.val % 384 < 352) :
    wOf (F := Ideal) (shard w) (ValueIdx.ix3 p q k) = w (ValueIdx.ix2 ⟨col p q, col_lt p q h⟩ k) := by
  unfold wOf
  exact shard_in w _ ⟨col p q, col_lt p q h⟩ k h rfl rfl

theorem wOf_pad (w : S2816x1024.Idx → EReal) (p : Fin 4) (q : Fin 768) (k : Fin 1024) (h : ¬q.val % 384 < 352) :
    wOf (F := Ideal) (shard w) (ValueIdx.ix3 p q k) = 0 := by
  unfold wOf
  exact shard_pad w _ h

/-- A hidden array in padded pairs. -/
def pairArr (h : S4096x2816.Idx → EReal) : S4x4096x768.Idx → EReal :=
  transpose S4x4096x768 [1, 0, 2] (shapeCast S4096x4x768 (pad S4096x8x384 ![0, 0, 0] ![0, 0, 32] ![0, 0, 0] (shapeCast S4096x8x352 h shapeCasts_S4096x2816_S4096x8x352)
    (sitofp (F := Ideal) .f32 (constantI S_ 32 0#32)) pads_S4096x8x352_S4096x8x384_000_000_0320 h_S_) shapeCasts_S4096x8x384_S4096x4x768) transposes_S4096x4x768_S4x4096x768_1_0_2

theorem pairArr_in (h : S4096x2816.Idx → EReal) (p : Fin 4) (i : Fin 4096) (q : Fin 768) (hq : q.val % 384 < 352) :
    pairArr h (ValueIdx.ix3 p i q) = h (ValueIdx.ix2 i ⟨col p q, col_lt p q hq⟩) := by
  have hp := p.isLt
  have hq' := q.isLt
  unfold pairArr
  refine (transpose_apply _ _ _ _ (ValueIdx.ix3 (n0 := 4096) (n1 := 4) (n2 := 768) i p q) ?_).trans ?_
  · intro a
    match a with
    | ⟨0, _⟩ => rfl
    | ⟨1, _⟩ => rfl
    | ⟨2, _⟩ => rfl
  refine (shapeCast_apply _ _ _ (ValueIdx.ix3 (n0 := 4096) (n1 := 8) (n2 := 384) i ⟨2 * p.val + q.val / 384, by omega⟩ ⟨q.val % 384, by omega⟩) ?_).trans ?_
  · rw [Shape.rowMajor_val_three, Shape.rowMajor_val_three]
    show (i.val * 8 + (2 * p.val + q.val / 384)) * 384 + q.val % 384 = (i.val * 4 + p.val) * 768 + q.val
    omega
  refine (pad_apply_of_inside _ _ _ _ _ _ _ _ (ValueIdx.ix3 (n0 := 4096) (n1 := 8) (n2 := 352) i ⟨2 * p.val + q.val / 384, by omega⟩ ⟨q.val % 384, hq⟩) ?_).trans ?_
  · intro a
    match a with
    | ⟨0, _⟩ => show i.val = 0 + i.val * (0 + 1); omega
    | ⟨1, _⟩ => show 2 * p.val + q.val / 384 = 0 + (2 * p.val + q.val / 384) * (0 + 1); omega
    | ⟨2, _⟩ => show q.val % 384 = 0 + q.val % 384 * (0 + 1); omega
  · refine shapeCast_apply h _ _ (ValueIdx.ix2 i ⟨col p q, col_lt p q hq⟩) ?_
    rw [Shape.rowMajor_val_two, Shape.rowMajor_val_three]
    show i.val * 2816 + col p q = (i.val * 8 + (2 * p.val + q.val / 384)) * 352 + q.val % 384
    unfold col
    omega

/-- The sum over the resident pairs is the sum over the columns. -/
theorem sum_resident (dyr : Fin 1024 → EReal) (ha hb : S4096x2816.Idx → EReal) (w1 w3 w2 : S2816x1024.Idx → EReal) (i : Fin 4096) (d : Fin 1024) :
    (∑ p, ∑ q, pairAt dyr (fun p q => pairArr ha (ValueIdx.ix3 p i q)) (fun p q => pairArr hb (ValueIdx.ix3 p i q)) (wOf (F := Ideal) (shard w1)) (wOf (F := Ideal) (shard w3)) (wOf (F := Ideal) (shard w2)) d p q)
      = ∑ n : Fin 2816, (dA (∑ k : Fin 1024, half (dyr k) * w2 (ValueIdx.ix2 n k)) (ha (ValueIdx.ix2 i n)) (hb (ValueIdx.ix2 i n)) * w1 (ValueIdx.ix2 n d)
        + dB (∑ k : Fin 1024, half (dyr k) * w2 (ValueIdx.ix2 n k)) (ha (ValueIdx.ix2 i n)) * w3 (ValueIdx.ix2 n d)) := by
  refine sum_pairs _ _ (fun p q hq => ?_) (fun p q hq => ?_)
  · unfold pairAt
    simp only [wOf_in _ p q _ hq, pairArr_in _ p i q hq]
  · unfold pairAt
    rw [wOf_pad w1 p q d hq, wOf_pad w3 p q d hq, mul_zero, mul_zero, add_zero]

variable (m : (ℓ : Loc nD τ sig) → Buf (Elt Ideal) ℓ) (c : Dev nD)

/-- The arguments. -/
abbrev aDy : S4096x1024.Idx → EReal := m ((c : Thread nD τ).loc main_arg0)
abbrev aX : S4096x1024.Idx → EReal := m ((c : Thread nD τ).loc main_arg1)
abbrev aG : S1x1024.Idx → EReal := m ((c : Thread nD τ).loc main_arg2)
abbrev aW1 : S1024x2816.Idx → EReal := m ((c : Thread nD τ).loc main_arg3)
abbrev aW3 : S1024x2816.Idx → EReal := m ((c : Thread nD τ).loc main_arg4)
abbrev aW2 : S2816x1024.Idx → EReal := m ((c : Thread nD τ).loc main_arg5)

/-- The hidden arrays. -/
def hidA : S4096x2816.Idx → EReal := Cert.FwdReferenceIdeal.Read.val_main_v14 (F := Ideal) (aX m c) (aG m c) (aW1 m c)
def hidB : S4096x2816.Idx → EReal := Cert.FwdReferenceIdeal.Read.val_main_v14 (F := Ideal) (aX m c) (aG m c) (aW3 m c)

theorem hidA_apply (i : Fin 4096) (n : Fin 2816) : hidA m c (ValueIdx.ix2 i n) = ∑ k : Fin 1024, hn (aX m c) (aG m c) i k * aW1 m c (ValueIdx.ix2 k n) := by
  unfold hidA
  exact FfnF.r14 (aX m c) (aG m c) (aW1 m c) (ValueIdx.ix2 i n)
theorem hidB_apply (i : Fin 4096) (n : Fin 2816) : hidB m c (ValueIdx.ix2 i n) = ∑ k : Fin 1024, hn (aX m c) (aG m c) i k * aW3 m c (ValueIdx.ix2 k n) := by
  unfold hidB
  exact FfnF.r14 (aX m c) (aG m c) (aW3 m c) (ValueIdx.ix2 i n)

theorem host20 : V m c main_v20 = shard (transpose S2816x1024 [1, 0] (aW1 m c) transposes_S1024x2816_S2816x1024_1_0) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v20) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem host22 : V m c main_v22 = shard (transpose S2816x1024 [1, 0] (aW3 m c) transposes_S1024x2816_S2816x1024_1_0) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v22) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem host24 : V m c main_v24 = shard (aW2 m c) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v24) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem host30 : V m c main_v30 = pairArr (hidA m c) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v30) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl
theorem host36 : V m c main_v36 = pairArr (hidB m c) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v36) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

/-! ## The blocks -/

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![0, 0] := by decide +kernel
theorem idx_3 : ∀ t : Fin cfg0.N, win0_3.index t = ![0, t.val, 0] := by decide +kernel
theorem idx_4 : ∀ t : Fin cfg0.N, win0_4.index t = ![0, t.val, 0] := by decide +kernel
theorem idx_5 : ∀ t : Fin cfg0.N, win0_5.index t = ![t.val, 0] := by decide +kernel
theorem idx_6 : ∀ t : Fin cfg0.N, win0_6.index t = ![0, 0] := by decide +kernel

/-- Row `r` of block `t`. -/
def row (t : Fin cfg0.N) (r : Fin 256) : Fin 4096 := ⟨256 * t.val + r.val, by have h : t.val < 16 := lt_of_lt_of_eq t.isLt N_0; omega⟩

theorem in_0 (t : Fin cfg0.N) (r : Fin 256) (k : Fin 1024) : iblk m c 0 t (ValueIdx.ix2 r k) = aDy m c (ValueIdx.ix2 (row t r) k) := by
  unfold aDy
  rw [← V_main_arg0 m c]
  blk_simp [iblk, idx_0]
  refine congrArg (V m c main_arg0) (funext fun a => Fin.ext ?_)
  match a with
  | ⟨0, _⟩ => blk_simp [idx_0, row]; try simp [Nat.mul_comm]
  | ⟨1, _⟩ => blk_simp [idx_0]; try simp

theorem in_1 (t : Fin cfg0.N) (r : Fin 256) (k : Fin 1024) : iblk m c 1 t (ValueIdx.ix2 r k) = aX m c (ValueIdx.ix2 (row t r) k) := by
  unfold aX
  rw [← V_main_arg1 m c]
  blk_simp [iblk, idx_1]
  refine congrArg (V m c main_arg1) (funext fun a => Fin.ext ?_)
  match a with
  | ⟨0, _⟩ => blk_simp [idx_1, row]; try simp [Nat.mul_comm]
  | ⟨1, _⟩ => blk_simp [idx_1]; try simp

theorem in_2 (t : Fin cfg0.N) (k : Fin 1024) : iblk m c 2 t (ValueIdx.ix2 0 k) = aG m c (ValueIdx.ix2 0 k) := by
  unfold aG
  rw [← V_main_arg2 m c]
  blk_simp [iblk, idx_2]
  refine congrArg (V m c main_arg2) (funext fun a => Fin.ext ?_)
  match a with
  | ⟨0, _⟩ => blk_simp [idx_2]; try simp
  | ⟨1, _⟩ => blk_simp [idx_2]; try simp

theorem in_3 (t : Fin cfg0.N) (p : Fin 4) (r : Fin 256) (q : Fin 768) : iblk m c 3 t (ValueIdx.ix3 p r q) = pairArr (hidA m c) (ValueIdx.ix3 p (row t r) q) := by
  rw [← host30 m c]
  blk_simp [iblk, idx_3]
  refine congrArg (V m c main_v30) (funext fun a => Fin.ext ?_)
  match a with
  | ⟨0, _⟩ => blk_simp [idx_3]; try simp
  | ⟨1, _⟩ => blk_simp [idx_3, row]; try simp [Nat.mul_comm]
  | ⟨2, _⟩ => blk_simp [idx_3]; try simp

theorem in_4 (t : Fin cfg0.N) (p : Fin 4) (r : Fin 256) (q : Fin 768) : iblk m c 4 t (ValueIdx.ix3 p r q) = pairArr (hidB m c) (ValueIdx.ix3 p (row t r) q) := by
  rw [← host36 m c]
  blk_simp [iblk, idx_4]
  refine congrArg (V m c main_v36) (funext fun a => Fin.ext ?_)
  match a with
  | ⟨0, _⟩ => blk_simp [idx_4]; try simp
  | ⟨1, _⟩ => blk_simp [idx_4, row]; try simp [Nat.mul_comm]
  | ⟨2, _⟩ => blk_simp [idx_4]; try simp

/-- The gradient of the normed rows, block by block. -/
theorem dh_block (t : Fin cfg0.N) (r : Fin 256) (d : Fin 1024) :
    dhOf (iblk m c 0 t) (iblk m c 3 t) (iblk m c 4 t) (wD0 m c) (wD1 m c) (wD2 m c) (ValueIdx.ix2 r d)
      = dH (aDy m c) (aX m c) (aG m c) (aW1 m c) (aW3 m c) (aW2 m c) (row t r) d := by
  have w0 : wD0 m c = wOf (F := Ideal) (shard (transpose S2816x1024 [1, 0] (aW1 m c) transposes_S1024x2816_S2816x1024_1_0)) := congrArg (wOf (F := Ideal)) (host20 m c)
  have w1 : wD1 m c = wOf (F := Ideal) (shard (transpose S2816x1024 [1, 0] (aW3 m c) transposes_S1024x2816_S2816x1024_1_0)) := congrArg (wOf (F := Ideal)) (host22 m c)
  have w2 : wD2 m c = wOf (F := Ideal) (shard (aW2 m c)) := congrArg (wOf (F := Ideal)) (host24 m c)
  rw [dhOf_apply, w0, w1, w2]
  simp only [in_0 m c t, in_3 m c t, in_4 m c t]
  rw [sum_resident]
  unfold dH dU up
  refine Finset.sum_congr rfl fun n _ => congrArg₂ (· + ·) (congrArg₂ (· * ·) ?_ (tr_apply _ n d)) (congrArg₂ (· * ·) ?_ (tr_apply _ n d))
  · exact congrArg₂ (dA _) (hidA_apply m c _ n) (hidB_apply m c _ n)
  · exact congrArg (dB _) (hidA_apply m c _ n)

/-- The array of the rows' gradient after the launch. -/
theorem arr_5 : (dats m 0 c).arrAt 5 cfg0.N = dX (aDy m c) (aX m c) (aG m c) (aW1 m c) (aW3 m c) (aW2 m c) := by
  refine (dats m 0 c).arrAt_eq_of_covers 5 _ (by decide +kernel) fun t hf y => ?_
  have h0 : (y 0).val < 256 := (y 0).isLt
  have h1 : (y 1).val < 1024 := (y 1).isLt
  have e : (win0_5.blk t).view.emb y = ValueIdx.ix2 (row t ⟨(y 0).val, h0⟩) (⟨(y 1).val, h1⟩ : Fin 1024) := funext fun a => Fin.ext (by
    match a with
    | ⟨0, _⟩ => blk_simp [idx_5, row]; try simp [Nat.mul_comm]
    | ⟨1, _⟩ => blk_simp [idx_5]; try simp)
  refine Eq.trans ?_ (congrArg (dX _ _ _ _ _ _) e).symm
  blk_simp
  rw [after0_5]
  have ey : y = ValueIdx.ix2 (⟨(y 0).val, h0⟩ : Fin 256) (⟨(y 1).val, h1⟩ : Fin 1024) := funext fun a => Fin.ext (by
    match a with
    | ⟨0, _⟩ => rfl
    | ⟨1, _⟩ => rfl)
  refine (congrArg (yD m c t) ey).trans ?_
  unfold yD
  rw [yOf_eq, bwdOf_apply]
  simp only [dh_block m c t, in_0 m c t, in_1 m c t, in_2 m c t]
  rfl

/-! ## The carried row -/

/-- A row's addend to the gradient of the gain. -/
def term (d : Fin 1024) (n : ℕ) : EReal :=
  if h : n < 4096 then dH (aDy m c) (aX m c) (aG m c) (aW1 m c) (aW3 m c) (aW2 m c) ⟨n, h⟩ d * xh (aX m c) ⟨n, h⟩ d else 0

theorem sD_apply (t : Fin cfg0.N) (d : Fin 1024) : sD m c t (ValueIdx.ix1 d) = ∑ r ∈ Finset.range 256, term m c d (256 * t.val + r) := by
  have hN : t.val < 16 := lt_of_lt_of_eq t.isLt N_0
  unfold sD
  rw [sOf_eq, sumOf_apply, Finset.sum_range]
  refine Finset.sum_congr rfl fun r _ => ?_
  have hr := r.isLt
  unfold term
  rw [dif_pos (by omega), dh_block]
  simp only [in_1 m c t]
  rfl

theorem gD_apply (n : ℕ) (h : n < cfg0.N) (d : Fin 1024) : gD m c n h (ValueIdx.ix2 0 d) = ∑ i ∈ Finset.range (256 * (n + 1)), term m c d i := by
  induction n with
  | zero =>
    refine (carry_apply (sD m c ⟨0, h⟩) (k0_pay2 (F := Ideal)) d).trans ?_
    rw [sD_apply, show k0_pay2 (F := Ideal) (ValueIdx.ix2 0 d) = (0 : EReal) from zero_word, zero_add]
    refine Finset.sum_congr rfl fun r _ => congrArg (term m c d) ?_
    show 256 * 0 + r = r
    omega
  | succ n ih =>
    refine (carry_apply (sD m c ⟨n + 1, h⟩) (gD m c n (Nat.lt_of_succ_lt h)) d).trans ?_
    rw [sD_apply, ih, show 256 * (n + 1 + 1) = 256 * (n + 1) + 256 by omega, Finset.sum_range_add]

/-- The array of the gain's gradient after the launch. -/
theorem arr_6 : (dats m 0 c).arrAt 6 cfg0.N = dG (aDy m c) (aX m c) (aG m c) (aW1 m c) (aW3 m c) (aW2 m c) := by
  refine (dats m 0 c).arrAt_eq_of_covers 6 _ (by decide +kernel) fun t hf y => ?_
  have hN : t.val < 16 := lt_of_lt_of_eq t.isLt N_0
  have h0 : (y 0).val < 1 := (y 0).isLt
  have h1 : (y 1).val < 1024 := (y 1).isLt
  have ht : t.val = 15 := by have := (flush0_6 t).mp hf; omega
  have e : (win0_6.blk t).view.emb y = ValueIdx.ix2 (0 : Fin 1) (⟨(y 1).val, h1⟩ : Fin 1024) := funext fun a => Fin.ext (by
    match a with
    | ⟨0, _⟩ => blk_simp [idx_6]; try simp
    | ⟨1, _⟩ => blk_simp [idx_6]; try simp)
  refine Eq.trans ?_ (congrArg (dG _ _ _ _ _ _) e).symm
  blk_simp
  rw [after0_6]
  have ey : y = ValueIdx.ix2 (0 : Fin 1) (⟨(y 1).val, h1⟩ : Fin 1024) := funext fun a => Fin.ext (by
    match a with
    | ⟨0, _⟩ => show (y 0).val = 0; omega
    | ⟨1, _⟩ => rfl)
  refine (congrArg (gD m c t.val t.isLt) ey).trans ?_
  rw [gD_apply, ht, Finset.sum_range]
  unfold dG
  refine Finset.sum_congr rfl fun i _ => ?_
  unfold term
  exact dif_pos i.isLt

end FfnX
end
-- ==== Proof.Finite.lean ====
/-
  The precondition: arrays whose entries are all finite are arrays of real numbers.
-/
module

public import proofs.«01_k».proof.Proof.RBase
public import proofs.«01_k».proof.Pre_finite_arrays
public import Idealize.ShloMosaic.Lib.ReduceAll

@[expose] public section

set_option maxRecDepth 8192
set_option maxHeartbeats 400000

noncomputable section

namespace Ret

open Idealize.ShloMosaic Idealize.ShloMosaic.ValueIdx
open Cert.Pre_finite_arrays

/-- The side conditions of the precondition's operations. -/
instance preFacts : Cert.Pre_finite_arrays.Facts where
  bcast_S_S4096x1024 := by decide
  reducesTo_S4096x1024_S_d0_1 := by decide
  h_S_ := by decide
  bcast_S_S4096x3072 := by decide
  reducesTo_S4096x3072_S_d0_1 := by decide
  bcast_S_S1x512 := by decide
  reducesTo_S1x512_S_d0_1 := by decide

/-- The word of infinity. -/
theorem word_inf : Ideal.ofBits .f32 0x7F800000#32 = (⊤ : EReal) := by
  simp [Ideal.ofBits, Ideal.ieee]

/-- A value whose absolute value compares below infinity is a real number. -/
theorem real_of_lt (x : EReal)
    (h : FloatOps.cmpf (F := Ideal) (φ := .f32) .olt (FloatOps.hostAbsf (F := Ideal) (φ := .f32) x) (Ideal.ofBits .f32 0x7F800000#32) = 1#1) :
    x = ((x.toReal : ℝ) : EReal) := by
  rw [word_inf] at h
  induction x using EReal.rec with
  | bot => exact absurd h (by
    show ¬ (BitVec.ofBool (decide (max (⊥ : EReal) (-⊥) < ⊤)) = 1#1)
    simp)
  | coe r => rfl
  | top => exact absurd h (by
    show ¬ (BitVec.ofBool (decide (max (⊤ : EReal) (-⊤) < ⊤)) = 1#1)
    simp)

instance : Subsingleton S_.Idx := ⟨fun a b => funext fun k => k.elim0⟩

theorem and_one (a b : BitVec 1) (h : IntOp.andi a b = 1#1) : a = 1#1 ∧ b = 1#1 := by
  revert h; revert a b; decide

/-- Arrays that meet the precondition are arrays of real numbers. -/
theorem inp_of_pre (a0 : FVec Ideal S4096x1024 .f32) (a1 : FVec Ideal S4096x3072 .f32) (a2 : FVec Ideal S1x512 .f32)
    (h : fn (F := Ideal) a0 a1 a2 = fun _ => 1#1) : ∃ z : Inp, a0 = z.A0 ∧ a1 = z.A1 ∧ a2 = z.A2 := by
  have e := congrFun h (fun k => k.elim0)
  obtain ⟨e01, e2⟩ := and_one _ _ e
  obtain ⟨e0, e1⟩ := and_one _ _ e01
  have r0 : ∀ i, a0 i = ((EReal.toReal (a0 i) : ℝ) : EReal) := fun i => real_of_lt _ (Host.reduce_andi_all _ _ _ _ _ e0 i)
  have r1 : ∀ i, a1 i = ((EReal.toReal (a1 i) : ℝ) : EReal) := fun i => real_of_lt _ (Host.reduce_andi_all _ _ _ _ _ e1 i)
  have r2 : ∀ i, a2 i = ((EReal.toReal (a2 i) : ℝ) : EReal) := fun i => real_of_lt _ (Host.reduce_andi_all _ _ _ _ _ e2 i)
  refine ⟨{ dm := fun i j => if h : i < 4096 ∧ j < 1024 then (a0 (ValueIdx.ix2 ⟨i, h.1⟩ ⟨j, h.2⟩)).toReal else 0
            p := fun i j => if h : i < 4096 ∧ j < 3072 then (a1 (ValueIdx.ix2 ⟨i, h.1⟩ ⟨j, h.2⟩)).toReal else 0
            g := fun j => if h : j < 512 then (a2 (ValueIdx.ix2 0 ⟨j, h⟩)).toReal else 0 }, ?_, ?_, ?_⟩
  · funext i
    refine (r0 i).trans ?_
    show _ = ((dite _ _ _ : ℝ) : EReal)
    rw [dif_pos ⟨(i 0).isLt, (i 1).isLt⟩]
    exact congrArg (fun k => ((EReal.toReal (a0 k) : ℝ) : EReal)) (funext fun k => by fin_cases k <;> rfl)
  · funext i
    refine (r1 i).trans ?_
    show _ = ((dite _ _ _ : ℝ) : EReal)
    rw [dif_pos ⟨(i 0).isLt, (i 1).isLt⟩]
    exact congrArg (fun k => ((EReal.toReal (a1 k) : ℝ) : EReal)) (funext fun k => by fin_cases k <;> rfl)
  · funext i
    refine (r2 i).trans ?_
    show _ = ((dite _ _ _ : ℝ) : EReal)
    rw [dif_pos (show (i 1).val < 512 from (i 1).isLt)]
    exact congrArg (fun k => ((EReal.toReal (a2 k) : ℝ) : EReal)) (funext fun k => by
      fin_cases k
      · exact Subsingleton.elim (α := Fin 1) _ _
      · rfl)

end Ret

end
-- ==== Proof.DxReal.lean ====
/-
  The scalar laws of the feed-forward block's backward pass, over the reals: the gate's derivative factored, and a
  row's gradient with the reciprocal root's derivative written out.
-/
module

public import proofs.«01_k».proof.Proof.DxVal
public import proofs.«01_k».proof.Proof.Finite
public import proofs.«01_k».proof.Pre_finite_ffn

@[expose] public section

set_option maxRecDepth 8192
set_option maxHeartbeats 400000

noncomputable section

namespace FfnX

open Idealize.ShloMosaic
open Ret (eps eps_pos sgm)
open scoped BigOperators

/-- A real number. -/
def Rl (z : EReal) : Prop := ∃ r : ℝ, z = (r : EReal)

theorem Rl.coe (r : ℝ) : Rl (r : EReal) := ⟨r, rfl⟩
theorem Rl.mul {x y : EReal} (hx : Rl x) (hy : Rl y) : Rl (x * y) := by
  obtain ⟨a, rfl⟩ := hx; obtain ⟨b, rfl⟩ := hy
  exact ⟨a * b, (EReal.coe_mul a b).symm⟩
theorem Rl.add {x y : EReal} (hx : Rl x) (hy : Rl y) : Rl (x + y) := by
  obtain ⟨a, rfl⟩ := hx; obtain ⟨b, rfl⟩ := hy
  exact ⟨a + b, (EReal.coe_add a b).symm⟩
theorem Rl.sub {x y : EReal} (hx : Rl x) (hy : Rl y) : Rl (x - y) := by
  obtain ⟨a, rfl⟩ := hx; obtain ⟨b, rfl⟩ := hy
  exact ⟨a - b, (EReal.coe_sub a b).symm⟩
theorem Rl.sum {ι : Type*} [Fintype ι] {f : ι → EReal} (h : ∀ k, Rl (f k)) : Rl (∑ k, f k) := by
  choose g hg using h
  exact ⟨∑ k, g k, (Finset.sum_congr rfl fun k _ => hg k).trans (Ret.sum_coe _ _)⟩

theorem one_r : FloatOps.ofBits (F := Ideal) .f32 0x3F800000#32 = ((1 : ℝ) : EReal) := Ret.word_one
theorem half_r : FloatOps.ofBits (F := Ideal) .f32 0x3F000000#32 = ((1/2 : ℝ) : EReal) := by
  show Ideal.ofBits .f32 0x3F000000#32 = _
  simp [Ideal.ofBits, Ideal.ieee, -EReal.coe_mul]; norm_num
theorem mhalf_r : FloatOps.ofBits (F := Ideal) .f32 0xBF000000#32 = ((-1/2 : ℝ) : EReal) := Ret.word_mhalf
theorem n_r : FloatOps.ofBits (F := Ideal) .f32 0x44800000#32 = ((1024 : ℝ) : EReal) := by
  show Ideal.ofBits .f32 0x44800000#32 = _
  simp [Ideal.ofBits, Ideal.ieee, -EReal.coe_mul]; norm_num
theorem eps_r : FloatOps.ofBits (F := Ideal) .f32 0x358637BD#32 = ((eps : ℝ) : EReal) := Ret.word_eps
theorem log_r (a : ℝ) : FloatOps.logistic (F := Ideal) (φ := .f32) (a : EReal) = ((sgm a : ℝ) : EReal) := Ret.logistic_coe a
theorem div_r (a b : ℝ) (hb : b ≠ 0) : FloatOps.divf (F := Ideal) (φ := .f32) (a : EReal) (b : EReal) = ((a / b : ℝ) : EReal) := Ret.div_coe a b hb
theorem rsqrt_r (a : ℝ) (ha : 0 < a) : FloatOps.rsqrt (F := Ideal) (φ := .f32) (a : EReal) = (((Real.sqrt a)⁻¹ : ℝ) : EReal) := Ret.rsqrt_coe a ha

/-- A row's mean square, away from zero. -/
def ms (row : Fin 1024 → EReal) : EReal :=
  FloatOps.divf (F := Ideal) (φ := .f32) (∑ k, row k * row k) (FloatOps.ofBits (F := Ideal) .f32 0x44800000#32) + FloatOps.ofBits (F := Ideal) .f32 0x358637BD#32

theorem rr_eq (row : Fin 1024 → EReal) : rr row = FloatOps.rsqrt (F := Ideal) (φ := .f32) (ms row) := rfl

theorem ms_pos {row : Fin 1024 → EReal} (h : ∀ k, Rl (row k)) : ∃ t : ℝ, 0 < t ∧ ms row = (t : EReal) := by
  choose g hg using h
  have e : row = fun k => ((g k : ℝ) : EReal) := funext hg
  subst e
  refine ⟨(∑ k, g k * g k) / 1024 + eps, add_pos_of_nonneg_of_pos (div_nonneg (Finset.sum_nonneg fun k _ => mul_self_nonneg _) (by norm_num)) eps_pos, ?_⟩
  unfold ms
  rw [Ret.sum_mul_coe, n_r, eps_r, div_r _ _ (by norm_num), ← EReal.coe_add]

theorem rr_real {row : Fin 1024 → EReal} (h : ∀ k, Rl (row k)) : Rl (rr row) := by
  obtain ⟨t, ht, e⟩ := ms_pos h
  rw [rr_eq, e, rsqrt_r t ht]
  exact Rl.coe _

theorem logi_real {a : EReal} (h : Rl a) : Rl (FloatOps.logistic (F := Ideal) (φ := .f32) a) := by
  obtain ⟨a, rfl⟩ := h
  exact ⟨sgm a, log_r a⟩

theorem half_real {y : EReal} (h : Rl y) : Rl (half y) := by
  unfold half
  rw [half_r]
  exact (Rl.coe _).mul h

theorem dA_real {du a b : EReal} (hu : Rl du) (ha : Rl a) (hb : Rl b) : Rl (dA du a b) := by
  unfold dA
  rw [one_r]
  exact (hu.mul hb).mul ((logi_real ha).mul ((Rl.coe _).add (ha.mul ((Rl.coe _).sub (logi_real ha)))))

theorem dB_real {du a : EReal} (hu : Rl du) (ha : Rl a) : Rl (dB du a) := hu.mul (ha.mul (logi_real ha))

/-- The gate's derivative, factored. -/
theorem dA_eq {du a b : EReal} (hu : Rl du) (ha : Rl a) (hb : Rl b) :
    du * b * FloatOps.logistic (F := Ideal) (φ := .f32) a + a * (du * b) * (FloatOps.logistic (F := Ideal) (φ := .f32) a
      * (FloatOps.ofBits (F := Ideal) .f32 0x3F800000#32 - FloatOps.logistic (F := Ideal) (φ := .f32) a)) = dA du a b := by
  obtain ⟨du, rfl⟩ := hu; obtain ⟨a, rfl⟩ := ha; obtain ⟨b, rfl⟩ := hb
  unfold dA
  rw [one_r, log_r]
  simp only [← EReal.coe_mul, ← EReal.coe_add, ← EReal.coe_sub]
  exact congrArg Real.toEReal (by ring)

/-- A row's gradient, the reciprocal root's derivative written out. -/
theorem back_eq {row dxn : Fin 1024 → EReal} {dy : EReal} (d : Fin 1024) (hrow : ∀ k, Rl (row k)) (hdxn : ∀ k, Rl (dxn k)) (hdy : Rl dy) (q : EReal)
    (hq : q = FloatOps.divf (F := Ideal) (φ := .f32) ((∑ k, row k * dxn k) * (FloatOps.ofBits (F := Ideal) .f32 0xBF000000#32 * FloatOps.divf (F := Ideal) (φ := .f32) (rr row) (ms row)))
      (FloatOps.ofBits (F := Ideal) .f32 0x44800000#32)) :
    dy + dxn d * rr row + row d * q + q * row d = back dy (rr row) (dxn d) (row d * rr row) (∑ k, dxn k * (row k * rr row)) := by
  subst hq
  obtain ⟨t, ht, e⟩ := ms_pos hrow
  rw [rr_eq, e, rsqrt_r t ht]
  choose g hg using hrow
  have eg : row = fun k => ((g k : ℝ) : EReal) := funext hg
  choose h hh using hdxn
  have eh : dxn = fun k => ((h k : ℝ) : EReal) := funext hh
  subst eg eh
  obtain ⟨y, rfl⟩ := hdy
  unfold back
  rw [mhalf_r, n_r, div_r _ _ ht.ne', Ret.sum_mul_coe]
  simp only [← EReal.coe_mul]
  rw [Ret.sum_coe, div_r _ _ (by norm_num), div_r _ _ (by norm_num)]
  simp only [← EReal.coe_mul, ← EReal.coe_add, ← EReal.coe_sub]
  refine congrArg Real.toEReal ?_
  have hs : (Real.sqrt t)⁻¹ / t = (Real.sqrt t)⁻¹ * ((Real.sqrt t)⁻¹ * (Real.sqrt t)⁻¹) := by
    rw [← mul_inv, Real.mul_self_sqrt ht.le, div_eq_mul_inv]
  have hS : (∑ k, h k * (g k * (Real.sqrt t)⁻¹)) = (∑ k, g k * h k) * (Real.sqrt t)⁻¹ := by
    rw [Finset.sum_mul]
    exact Finset.sum_congr rfl fun k _ => by ring
  rw [hs, hS]
  ring

/-! ## The precondition -/

/-- The side conditions of the precondition's operations. -/
instance ffnFacts : Cert.Pre_finite_ffn.Facts where
  bcast_S_S4096x1024 := by decide
  reducesTo_S4096x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

instance : Subsingleton Cert.Pre_finite_ffn.S_.Idx := ⟨fun a b => funext fun k => k.elim0⟩

open Cert.Pre_finite_ffn in
/-- Arrays that meet the precondition are arrays of real numbers. -/
theorem real_of_pre (a0 a1 : FVec Ideal S4096x1024 .f32) (a2 : FVec Ideal S1x1024 .f32) (a3 a4 : FVec Ideal S1024x2816 .f32) (a5 : FVec Ideal S2816x1024 .f32)
    (h : fn (F := Ideal) a0 a1 a2 a3 a4 a5 = fun _ => 1#1) :
    (∀ i, Rl (a0 i)) ∧ (∀ i, Rl (a1 i)) ∧ (∀ i, Rl (a2 i)) ∧ (∀ i, Rl (a3 i)) ∧ (∀ i, Rl (a4 i)) ∧ ∀ i, Rl (a5 i) := by
  have e := congrFun h (fun k => k.elim0)
  obtain ⟨e, e5⟩ := Ret.and_one _ _ e
  obtain ⟨e, e4⟩ := Ret.and_one _ _ e
  obtain ⟨e, e3⟩ := Ret.and_one _ _ e
  obtain ⟨e, e2⟩ := Ret.and_one _ _ e
  obtain ⟨e0, e1⟩ := Ret.and_one _ _ e
  exact ⟨fun i => ⟨_, Ret.real_of_lt _ (Host.reduce_andi_all _ _ _ _ _ e0 i)⟩, fun i => ⟨_, Ret.real_of_lt _ (Host.reduce_andi_all _ _ _ _ _ e1 i)⟩,
    fun i => ⟨_, Ret.real_of_lt _ (Host.reduce_andi_all _ _ _ _ _ e2 i)⟩, fun i => ⟨_, Ret.real_of_lt _ (Host.reduce_andi_all _ _ _ _ _ e3 i)⟩,
    fun i => ⟨_, Ret.real_of_lt _ (Host.reduce_andi_all _ _ _ _ _ e4 i)⟩, fun i => ⟨_, Ret.real_of_lt _ (Host.reduce_andi_all _ _ _ _ _ e5 i)⟩⟩

end FfnX
end
-- ==== Proof.DxRef.lean ====
/-
  The reference's backward pass of a feed-forward block, entry by entry. And the launch's: the same.
-/
module

public import proofs.«01_k».proof.Proof.DxArr
public import proofs.«01_k».proof.Proof.DxReal
public import proofs.«01_k».proof.Proof.Gen.DxReferenceIdeal.Run
public import proofs.«01_k».proof.Proof.Gen.DxReferenceIdeal.Read
public import Idealize.ShloMosaic.Lib.Quiescent

@[expose] public section

set_option maxRecDepth 8192
set_option maxHeartbeats 400000

noncomputable section

namespace FfnX

open Idealize.ShloMosaic Idealize.ShloMosaic.TcCoe Idealize.SL.Sem
open Cert.DxReferenceIdeal Cert.DxReferenceIdeal.Read
open FfnF (hn zero_word)
open scoped BigOperators

section
variable (dy x : (⟨S4096x1024, .f32⟩ : BufTy).Contents (Elt Ideal)) (g : (⟨S1x1024, .f32⟩ : BufTy).Contents (Elt Ideal))
  (w1 w3 : (⟨S1024x2816, .f32⟩ : BufTy).Contents (Elt Ideal)) (w2 : (⟨S2816x1024, .f32⟩ : BufTy).Contents (Elt Ideal))

theorem ix_eq (i : S4096x1024.Idx) (a : Fin 4096) (k : Fin 1024) (ha : (i 0).val = a.val) (hk : (i 1).val = k.val) : i = ValueIdx.ix2 a k :=
  funext fun b => Fin.ext (by
    match b with
    | ⟨0, _⟩ => exact ha
    | ⟨1, _⟩ => exact hk)

/-- The mean square and the reciprocal root. -/
theorem r7 (i : S4096x1.Idx) (a : Fin 4096) (ha : (i 0).val = a.val) : val_main_v7 (F := Ideal) x i = ms (rowOf x a) := by
  rw [val_main_v7_apply, val_main_v5_apply, val_main_v3_apply, val_main_v2_apply, val_main_v4_apply, val_main_v6_apply, val_main_cst_apply, zero_word, zero_add]
  unfold ms
  refine congrArg₂ (FloatOps.addf (F := Ideal) (φ := .f32)) (congrArg₂ (FloatOps.divf (F := Ideal) (φ := .f32)) ?_ rfl) rfl
  refine Finset.sum_congr rfl fun q _ => ?_
  rw [val_main_v1_apply]
  exact congrArg (fun z : S4096x1024.Idx => x z * x z) (ix_eq _ a q ha rfl)
theorem r8 (i : S4096x1.Idx) (a : Fin 4096) (ha : (i 0).val = a.val) : val_main_v8 (F := Ideal) x i = rr (rowOf x a) := by
  rw [val_main_v8_apply, r7 x i a ha]
  rfl

theorem r13x (i : S4096x1024.Idx) (a : Fin 4096) (k : Fin 1024) (ha : (i 0).val = a.val) (hk : (i 1).val = k.val) : val_main_v13 (F := Ideal) x i = xh x a k := by
  have ei := ix_eq i a k ha hk
  subst ei
  rw [val_main_v13_apply, val_main_v12_apply, r8 x _ a rfl]
  rfl

theorem gain (i : S1x1024.Idx) (k : Fin 1024) (hk : (i 1).val = k.val) : val_main_v14 (F := Ideal) g i = g (ValueIdx.ix2 0 k) := by
  rw [val_main_v14_apply, val_main_v0_apply]
  refine congrArg g (funext fun b => Fin.ext ?_)
  match b with
  | ⟨0, _⟩ => rfl
  | ⟨1, _⟩ => exact (Nat.mod_eq_of_lt (i 1).isLt).trans hk

theorem r16x (i : S4096x1024.Idx) (a : Fin 4096) (k : Fin 1024) (ha : (i 0).val = a.val) (hk : (i 1).val = k.val) : val_main_v16 (F := Ideal) x g i = hn x g a k := by
  rw [val_main_v16_apply, r13x x i a k ha hk, val_main_v15_apply, gain g _ k hk]
  rfl

theorem r17x (i : S4096x2816.Idx) (a : Fin 4096) (n : Fin 2816) (ha : (i 0).val = a.val) (hn' : (i 1).val = n.val) : val_main_v17 (F := Ideal) x g w1 i = up x g w1 a n := by
  rw [val_main_v17_apply]
  refine Finset.sum_congr rfl fun k _ => congrArg₂ (· * ·) (r16x x g _ a k ha rfl) (congrArg w1 (funext fun b => Fin.ext ?_))
  match b with
  | ⟨0, _⟩ => rfl
  | ⟨1, _⟩ => exact hn'
theorem r19x (i : S4096x2816.Idx) (a : Fin 4096) (n : Fin 2816) (ha : (i 0).val = a.val) (hn' : (i 1).val = n.val) : val_main_v19 (F := Ideal) x g w3 i = up x g w3 a n := by
  rw [val_main_v19_apply]
  refine Finset.sum_congr rfl fun k _ => congrArg₂ (· * ·) (r16x x g _ a k ha rfl) (congrArg w3 (funext fun b => Fin.ext ?_))
  match b with
  | ⟨0, _⟩ => rfl
  | ⟨1, _⟩ => exact hn'

/-- The logistic of the gate. -/
theorem rs (i : S4096x2816.Idx) (a : Fin 4096) (n : Fin 2816) (ha : (i 0).val = a.val) (hn' : (i 1).val = n.val) :
    val_main_v18_2 (F := Ideal) x g w1 i = FloatOps.logistic (F := Ideal) (φ := .f32) (up x g w1 a n) := by
  rw [val_main_v18_2_apply, val_main_call0_v4_apply, val_main_call0_v3_apply, val_main_call0_v2_apply, val_main_call0_v1_apply, val_main_call0_v0_apply,
    val_main_call0_cst_apply, val_main_call0_cst_0_apply, FfnF.one_word, r17x x g w1 i a n ha hn']
  rfl

theorem r28x (i : S4096x2816.Idx) (a : Fin 4096) (n : Fin 2816) (ha : (i 0).val = a.val) (hn' : (i 1).val = n.val) : val_main_v28 (F := Ideal) dy w2 i = dU dy w2 a n := by
  rw [val_main_v28_apply]
  refine Finset.sum_congr rfl fun k _ => congrArg₂ (· * ·) ?_ (congrArg w2 (funext fun b => Fin.ext ?_))
  · rw [val_main_v27_apply, val_main_v26_apply, val_main_cst_4_apply, val_main_v25_apply]
    unfold half
    refine congrArg (fun z : S4096x1024.Idx => FloatOps.ofBits (F := Ideal) .f32 0x3F000000#32 * dy z) (ix_eq _ a k ?_ ?_)
    · have h0 : (i 0).val < 4096 := (i 0).isLt
      have hk := k.isLt
      rw [← ha]
      show ((i 0).val * 1024 + k.val) / 1024 = (i 0).val
      omega
    · have hk := k.isLt
      show ((i 0).val * 1024 + k.val) % 1024 = k.val
      omega
  · match b with
    | ⟨0, _⟩ => exact hn'
    | ⟨1, _⟩ => rfl
end

section
variable {dy x : (⟨S4096x1024, .f32⟩ : BufTy).Contents (Elt Ideal)} {g : (⟨S1x1024, .f32⟩ : BufTy).Contents (Elt Ideal)}
  {w1 w3 : (⟨S1024x2816, .f32⟩ : BufTy).Contents (Elt Ideal)} {w2 : (⟨S2816x1024, .f32⟩ : BufTy).Contents (Elt Ideal)}
  (hdy : ∀ i, Rl (dy i)) (hx : ∀ i, Rl (x i)) (hg : ∀ i, Rl (g i)) (h1 : ∀ i, Rl (w1 i)) (h3 : ∀ i, Rl (w3 i)) (h2 : ∀ i, Rl (w2 i))

include hx hg in
theorem up_real {w : (⟨S1024x2816, .f32⟩ : BufTy).Contents (Elt Ideal)} (hw : ∀ i, Rl (w i)) (a : Fin 4096) (n : Fin 2816) : Rl (up x g w a n) :=
  Rl.sum fun k => (((hx (ValueIdx.ix2 a k)).mul (rr_real (row := rowOf x a) fun q => hx (ValueIdx.ix2 a q))).mul (hg (ValueIdx.ix2 0 k))).mul (hw (ValueIdx.ix2 k n))

include hdy h2 in
theorem dU_real (a : Fin 4096) (n : Fin 2816) : Rl (dU dy w2 a n) := Rl.sum fun k => (half_real (hdy (ValueIdx.ix2 a k))).mul (h2 (ValueIdx.ix2 n k))

include hdy hx hg h1 h3 h2 in
theorem dH_real (a : Fin 4096) (d : Fin 1024) : Rl (dH dy x g w1 w3 w2 a d) :=
  Rl.sum fun n => ((dA_real (dU_real hdy h2 a n) (up_real hx hg h1 a n) (up_real hx hg h3 a n)).mul (h1 (ValueIdx.ix2 d n))).add ((dB_real (dU_real hdy h2 a n) (up_real hx hg h1 a n)).mul (h3 (ValueIdx.ix2 d n)))

include hdy hx hg h1 h3 h2 in
/-- The gradient of the normed rows. -/
theorem r34 (i : S4096x1024.Idx) (a : Fin 4096) (d : Fin 1024) (ha : (i 0).val = a.val) (hd : (i 1).val = d.val) :
    val_main_v34 (F := Ideal) dy x g w1 w3 w2 i = dH dy x g w1 w3 w2 a d := by
  rw [val_main_v34_apply, val_main_v31_apply, val_main_v33_apply]
  unfold dH
  rw [Finset.sum_add_distrib]
  refine (add_comm _ _).trans ?_
  refine congrArg₂ (· + ·) (Finset.sum_congr rfl fun n _ => congrArg₂ (· * ·) ?_ (congrArg w1 (funext fun b => Fin.ext ?_)))
    (Finset.sum_congr rfl fun n _ => congrArg₂ (· * ·) ?_ (congrArg w3 (funext fun b => Fin.ext ?_)))
  · rw [val_main_v32_apply, val_main_call1_v1_apply, val_main_call1_v2_apply, val_main_call1_v0_apply, val_main_v30_apply, val_main_v18_1_apply, val_main_call0_v7_apply,
      val_main_call0_v6_apply, val_main_call0_cst_1_apply, rs x g w1 _ a n ha rfl, r17x x g w1 _ a n ha rfl, r19x x g w3 _ a n ha rfl, r28x dy w2 _ a n ha rfl]
    exact dA_eq (dU_real hdy h2 a n) (up_real hx hg h1 a n) (up_real hx hg h3 a n)
  · match b with
    | ⟨0, _⟩ => exact hd
    | ⟨1, _⟩ => rfl
  · rw [val_main_v29_apply, val_main_v18_0_apply, rs x g w1 _ a n ha rfl, r17x x g w1 _ a n ha rfl, r28x dy w2 _ a n ha rfl]
    exact mul_comm _ _
  · match b with
    | ⟨0, _⟩ => exact hd
    | ⟨1, _⟩ => rfl

include hdy hx hg h1 h3 h2 in
theorem r39 (i : S4096x1024.Idx) (a : Fin 4096) (d : Fin 1024) (ha : (i 0).val = a.val) (hd : (i 1).val = d.val) :
    val_main_v39 (F := Ideal) dy x g w1 w3 w2 i = dH dy x g w1 w3 w2 a d * g (ValueIdx.ix2 0 d) := by
  rw [val_main_v39_apply, r34 hdy hx hg h1 h3 h2 i a d ha hd, val_main_v38_apply, gain g _ d hd]
  rfl

include hdy hx hg h1 h3 h2 in
/-- The reciprocal root's part of a row's gradient. -/
theorem r51 (i : S4096x1024.Idx) (a : Fin 4096) (ha : (i 0).val = a.val) :
    val_main_v51 (F := Ideal) dy x g w1 w3 w2 i
      = FloatOps.divf (F := Ideal) (φ := .f32) ((∑ k, rowOf x a k * (dH dy x g w1 w3 w2 a k * g (ValueIdx.ix2 0 k))) * (FloatOps.ofBits (F := Ideal) .f32 0xBF000000#32 * FloatOps.divf (F := Ideal) (φ := .f32) (rr (rowOf x a)) (ms (rowOf x a))))
        (FloatOps.ofBits (F := Ideal) .f32 0x44800000#32) := by
  rw [val_main_v51_apply, val_main_v50_apply, val_main_cst_9_apply, zero_word, zero_add, Fintype.sum_subsingleton _ (0 : Fin 1), val_main_v49_apply, val_main_v48_apply, val_main_cst_8_apply,
    val_main_v47_apply, val_main_v43_apply, val_main_v42_apply, val_main_cst_7_apply, zero_word, zero_add, val_main_v11_apply, val_main_v10_apply, val_main_cst_2_apply, val_main_v9_apply,
    r8 x _ a ha, r7 x _ a ha]
  refine congrArg₂ (FloatOps.divf (F := Ideal) (φ := .f32)) (congrArg₂ (FloatOps.mulf (F := Ideal) (φ := .f32)) (Finset.sum_congr rfl fun k _ => ?_) rfl) rfl
  rw [val_main_v41_apply, r39 hdy hx hg h1 h3 h2 _ a k (by show (i 0).val * 1 + 0 = a.val; omega) rfl]
  exact congrArg (fun z : S4096x1024.Idx => x z * (dH dy x g w1 w3 w2 a k * g (ValueIdx.ix2 0 k))) (ix_eq _ a k (by show (i 0).val * 1 + 0 = a.val; omega) rfl)

include hdy hx hg h1 h3 h2 in
/-- The gradient of the rows. -/
theorem ref_dx : val_main_v55 (F := Ideal) dy x g w1 w3 w2 = dX dy x g w1 w3 w2 := by
  funext j
  have hj : j = ValueIdx.ix2 (j 0) (j 1) := ix_eq j (j 0) (j 1) rfl rfl
  rw [val_main_v55_apply, val_main_v53_apply, val_main_v46_apply, val_main_v45_apply, val_main_v44_apply, val_main_v52_apply, val_main_v54_apply,
    r39 hdy hx hg h1 h3 h2 j (j 0) (j 1) rfl rfl, r8 x _ (j 0) rfl]
  have hb := back_eq (row := rowOf x (j 0)) (dxn := fun k => dH dy x g w1 w3 w2 (j 0) k * g (ValueIdx.ix2 0 k)) (dy := dy j) (j 1)
    (fun k => hx (ValueIdx.ix2 (j 0) k)) (fun k => (dH_real hdy hx hg h1 h3 h2 (j 0) k).mul (hg (ValueIdx.ix2 0 k))) (hdy j)
    (val_main_v51 (F := Ideal) dy x g w1 w3 w2 j) (r51 hdy hx hg h1 h3 h2 j (j 0) rfl)
  have ex : x j = rowOf x (j 0) (j 1) := congrArg x hj
  rw [ex]
  exact hb

include hdy hx hg h1 h3 h2 in
/-- The gradient of the gain. -/
theorem ref_dg : val_main_v56 (F := Ideal) dy x g w1 w3 w2 = dG dy x g w1 w3 w2 := by
  funext j
  rw [val_main_v56_apply, val_main_v40_apply, val_main_cst_6_apply, zero_word, zero_add, Fintype.sum_subsingleton _ (0 : Fin 1), val_main_v37_apply, val_main_v36_apply, val_main_cst_5_apply,
    zero_word, zero_add]
  unfold dG
  refine Finset.sum_congr rfl fun i _ => ?_
  rw [val_main_v35_apply, r13x x _ i (j 1) rfl (by show 0 * 1024 + (j 1).val = (j 1).val; omega), r34 hdy hx hg h1 h3 h2 _ i (j 1) rfl (by show 0 * 1024 + (j 1).val = (j 1).val; omega)]
  exact mul_comm _ _
end

/-- The reference ends with the two gradients where its arguments are arrays of real numbers, its arguments unchanged. -/
theorem reference_run (m : (ℓ : Loc nD τ sig) → Buf (Elt Ideal) ℓ) (ρ : Dev nD → PrngReg)
    (hm : ∀ c : Dev nD, Cert.Pre_finite_ffn.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    θ_run defs (onTc (τ := τ) (main (F := Ideal))) ⟨m, fun _ => 0, ρ⟩ fun r => ∀ c : Dev nD,
      r.2.mem ((c.tc : Thread nD τ).loc main_v55) = dX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v56) = dG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨p0, p1, p2, p3, p4, p5⟩ := real_of_pre _ _ _ _ _ _ (hm c)
    exact ⟨(h c).1.trans ((val_main_v55_eq m c).trans (ref_dx p0 p1 p2 p3 p4 p5)), (h c).2.1.trans ((val_main_v56_eq m c).trans (ref_dg p0 p1 p2 p3 p4 p5)), (h c).2.2⟩)
    (Cert.DxReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2, sem_eq_zero_of_no_sems (by decide) r.2⟩)
    (Cert.DxReferenceIdeal.Value.run (F := Ideal) m ρ)

/-- The launch ends with the two gradients, its arguments unchanged. -/
theorem kernel_run (m : (ℓ : Loc Cert.DxIdeal.nD Cert.DxIdeal.τ Cert.DxIdeal.sig) → Buf (Elt Ideal) ℓ) (ρ : Dev Cert.DxIdeal.nD → PrngReg) :
    θ_run Cert.DxIdeal.defs (onTc (τ := Cert.DxIdeal.τ) (Cert.DxIdeal.main (F := Ideal))) ⟨m, fun _ => 0, ρ⟩ fun r => ∀ c : Dev Cert.DxIdeal.nD,
      r.2.mem ((c.tc : Thread Cert.DxIdeal.nD Cert.DxIdeal.τ).loc Cert.DxIdeal.main_v37_0) = dX (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))
      ∧ r.2.mem ((c.tc : Thread Cert.DxIdeal.nD Cert.DxIdeal.τ).loc Cert.DxIdeal.main_v37_1) = dG (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5))
      ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5) :=
  (θ_run Cert.DxIdeal.defs _ _).mono (fun _ h c => ⟨(h.1 c).trans (arr_5 m c), (h.2.1 c).trans (arr_6 m c), h.2.2 c⟩)
    (θ_run_and ((θ_run Cert.DxIdeal.defs _ _).mono (fun r h c => (h c).1 5) (Cert.DxIdeal.Own.run_main (F := Ideal) m ρ))
      (θ_run_and ((θ_run Cert.DxIdeal.defs _ _).mono (fun r h c => (h c).1 6) (Cert.DxIdeal.Own.run_main (F := Ideal) m ρ)) (Cert.DxIdeal.Own.unchanged (F := Ideal) m ρ)))

end FfnX

end
-- ==== Proof.InVal.lean ====
/-
  The product of the normalized rows with the even mixer's input weight: a grid point multiplies a block of 512 rows by half of
  the weight's columns. The reference's product is the same sum.
-/
module

public import proofs.«01_k».proof.Proof.Gen.InIdeal.Value
public import proofs.«01_k».proof.Proof.Gen.InReferenceIdeal.Run
public import proofs.«01_k».proof.Proof.Gen.InReferenceIdeal.Read
public import Idealize.ShloMosaic.Lib.MatmulPlain
public import Idealize.ShloMosaic.Lib.Pipeline.ValueKit
public import Idealize.ShloMosaic.Lib.Quiescent

@[expose] public section

set_option maxRecDepth 8192
set_option maxHeartbeats 400000

noncomputable section

namespace ProjF

open Idealize.ShloMosaic Idealize.ShloMosaic.TcCoe Idealize.ShloMosaic.Tactic Idealize.SL.Sem
open Cert.InIdeal Cert.InIdeal.Gen

theorem z2 : (![0, 0] : Fin 2 → ℕ) = fun _ => 0 := by decide

/-- The product, entry by entry. -/
def prod (x : S4096x1024.Idx → EReal) (w : S1024x3072.Idx → EReal) : S4096x3072.Idx → EReal := fun j =>
  ∑ k : Fin 1024, x (ValueIdx.ix2 (j 0) k) * w (ValueIdx.ix2 k (j 1))

/-- The product of one grid point's blocks. -/
theorem pay_apply (x : Vec Ideal S512x1024 .bf16) (w : Vec Ideal S1024x1536 .bf16) (r : Fin 512) (d : Fin 1536) :
    k0_pay1 (F := Ideal) x w (ValueIdx.ix2 r d) = ∑ k : Fin 1024, x (ValueIdx.ix2 r k) * w (ValueIdx.ix2 k d) := by
  refine (Ideal.matmul_constant_zero_apply _ none _ _ _).trans ?_
  refine (Equiv.sum_comp (ValueIdx.contrEquiv1 dot_S512x1024_S1024x1536_S512x1536_1_0_0_1_n_n 1024 rfl rfl).symm _).symm.trans ?_
  refine Finset.sum_congr rfl fun k _ => ?_
  have hk := ValueIdx.contrEquiv1_symm_val dot_S512x1024_S1024x1536_S512x1536_1_0_0_1_n_n 1024 rfl rfl k
  have el : dot_S512x1024_S1024x1536_S512x1536_1_0_0_1_n_n.lhsIdx (ValueIdx.ix2 r d) ((ValueIdx.contrEquiv1 _ 1024 rfl rfl).symm k) = ValueIdx.ix2 r k := by
    funext a; apply Fin.ext
    match a with
    | ⟨0, _⟩ => rfl
    | ⟨1, _⟩ => exact hk
  have er : dot_S512x1024_S1024x1536_S512x1536_1_0_0_1_n_n.rhsIdx (ValueIdx.ix2 r d) ((ValueIdx.contrEquiv1 _ 1024 rfl rfl).symm k) = ValueIdx.ix2 k d := by
    funext a; apply Fin.ext
    match a with
    | ⟨0, _⟩ => exact hk
    | ⟨1, _⟩ => exact rfl
  rw [el, er, shapeCast_self, shapeCast_self]

theorem idx_0 : ∀ t : Fin cfg0.N, win0_0.index t = ![t.val / 2, 0] := by decide +kernel
theorem idx_1 : ∀ t : Fin cfg0.N, win0_1.index t = ![0, t.val % 2] := by decide +kernel
theorem idx_2 : ∀ t : Fin cfg0.N, win0_2.index t = ![t.val / 2, t.val % 2] := by decide +kernel

variable (m : (ℓ : Loc nD τ sig) → Buf (Elt Ideal) ℓ) (c : Dev nD)

/-- The rounding to bfloat16 changes nothing over the extended reals. -/
theorem host_0 : V m c main_v0 = m ((c : Thread nD τ).loc main_arg0) := by
  show StableHlo.after hostOps0 (fun b => m (c, b)) (Proc.devRef .tc main_v0) = _
  simp only [hostOps0]
  after_results
  rfl

theorem host_1 : V m c main_v1 = m ((c : Thread nD τ).loc main_arg1) := by
  show StableHlo.after hostOps0 (fun b => m (c, b)) (Proc.devRef .tc main_v1) = _
  simp only [hostOps0]
  after_results
  rfl

theorem in_0 (t : Fin cfg0.N) (r : Fin 512) (k : Fin 1024) :
    iblk m c 0 t (ValueIdx.ix2 r k) = m ((c : Thread nD τ).loc main_arg0) (ValueIdx.ix2 ⟨512 * (t.val / 2) + r.val, by have h : t.val < 16 := lt_of_lt_of_eq t.isLt N_0; omega⟩ k) := by
  rw [← host_0 m c]
  blk_simp [iblk, idx_0]
  refine congrArg (V m c main_v0) (funext fun a => Fin.ext ?_)
  match a with
  | ⟨0, _⟩ => blk_simp [idx_0]; try simp [Nat.mul_comm]
  | ⟨1, _⟩ => blk_simp [idx_0]; try simp

theorem in_1 (t : Fin cfg0.N) (k : Fin 1024) (d : Fin 1536) :
    iblk m c 1 t (ValueIdx.ix2 k d) = m ((c : Thread nD τ).loc main_arg1) (ValueIdx.ix2 k ⟨1536 * (t.val % 2) + d.val, by omega⟩) := by
  rw [← host_1 m c]
  blk_simp [iblk, idx_1]
  refine congrArg (V m c main_v1) (funext fun a => Fin.ext ?_)
  match a with
  | ⟨0, _⟩ => blk_simp [idx_1]; try simp [Nat.mul_comm]
  | ⟨1, _⟩ => blk_simp [idx_1]; try simp [Nat.mul_comm]

/-- The array after the launch. -/
theorem arr_2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  have hN : t.val < 16 := lt_of_lt_of_eq t.isLt N_0
  blk_simp
  rw [after0_2]
  unfold out0_2
  rw [View.canon_unit_zero z2, View.ld_unit_zero z2, View.ld_unit_zero z2]
  have h0 : (y 0).val < 512 := (y 0).isLt
  have h1 : (y 1).val < 1536 := (y 1).isLt
  refine (pay_apply _ _ ⟨(y 0).val, h0⟩ ⟨(y 1).val, h1⟩).trans ?_
  have e0 : (((win0_2.blk t).view.emb y) 0).val = 512 * (t.val / 2) + (y 0).val := by blk_simp [idx_2]; try simp [Nat.mul_comm]
  have e1 : (((win0_2.blk t).view.emb y) 1).val = 1536 * (t.val % 2) + (y 1).val := by blk_simp [idx_2]; try simp [Nat.mul_comm]
  unfold prod
  refine Finset.sum_congr rfl fun k _ => ?_
  rw [in_0, in_1]
  refine congrArg₂ (· * ·) (congrArg _ (funext fun a => Fin.ext ?_)) (congrArg _ (funext fun a => Fin.ext ?_))
  · match a with
    | ⟨0, _⟩ => exact e0.symm
    | ⟨1, _⟩ => rfl
  · match a with
    | ⟨0, _⟩ => exact rfl
    | ⟨1, _⟩ => exact e1.symm

/-- The launch ends with the product, its arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr_2 m c), (h c).2⟩) (Cert.InIdeal.Value.run_blocks (F := Ideal) m ρ)

end ProjF

namespace ProjF.Ref

open Idealize.ShloMosaic Idealize.ShloMosaic.TcCoe Idealize.SL.Sem
open Cert.InReferenceIdeal Cert.InReferenceIdeal.Read

theorem ref_eq (x : (⟨S4096x1024, .f32⟩ : BufTy).Contents (Elt Ideal)) (w : (⟨S1024x3072, .f32⟩ : BufTy).Contents (Elt Ideal)) :
    val_main_v0 (F := Ideal) x w = ProjF.prod x w := by
  funext j
  rw [val_main_v0_apply]
  unfold ProjF.prod
  refine Finset.sum_congr rfl fun k _ => congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- The reference ends with the product, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = ProjF.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v0_eq _ _).trans (ref_eq _ _)), (h c).2⟩)
    (Cert.InReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩)
    (Cert.InReferenceIdeal.Value.run (F := Ideal) m ρ)

end ProjF.Ref

end
-- ==== Proof.IxVal.lean ====
/-
  The gradient of the even mixer's input product by its rows: a grid point multiplies a block of 512 rows of the incoming
  gradient by the transposed weight. The reference's gradient is the same sum.
-/
module

public import proofs.«01_k».proof.Proof.Gen.IxIdeal.Value
public import proofs.«01_k».proof.Proof.Gen.IxReferenceIdeal.Run
public import proofs.«01_k».proof.Proof.Gen.IxReferenceIdeal.Read
public import Idealize.ShloMosaic.Lib.MatmulPlain
public import Idealize.ShloMosaic.Lib.Pipeline.ValueKit
public import Idealize.ShloMosaic.Lib.Quiescent

@[expose] public section

set_option maxRecDepth 8192
set_option maxHeartbeats 400000

noncomputable section

namespace ProjX

open Idealize.ShloMosaic Idealize.ShloMosaic.TcCoe Idealize.ShloMosaic.Tactic Idealize.SL.Sem
open Cert.IxIdeal Cert.IxIdeal.Gen

theorem z2 : (![0, 0] : Fin 2 → ℕ) = fun _ => 0 := by decide

/-- The product, entry by entry. -/
def prod (x : S4096x3072.Idx → EReal) (w : S1024x3072.Idx → EReal) : S4096x1024.Idx → EReal := fun j =>
  ∑ k : Fin 3072, x (ValueIdx.ix2 (j 0) k) * w (ValueIdx.ix2 (j 1) k)

/-- The product of one grid point's blocks. -/
theorem pay_apply (x : Vec Ideal S512x3072 .bf16) (w : Vec Ideal S1024x3072 .bf16) (r : Fin 512) (d : Fin 1024) :
    k0_pay1 (F := Ideal) x w (ValueIdx.ix2 r d) = ∑ k : Fin 3072, x (ValueIdx.ix2 r k) * w (ValueIdx.ix2 d k) := by
  refine (Ideal.matmul_constant_zero_apply _ none _ _ _).trans ?_
  refine (Equiv.sum_comp (ValueIdx.contrEquiv1 dot_S512x3072_S1024x3072_S512x1024_1_1_0_0_n_n 3072 rfl rfl).symm _).symm.trans ?_
  refine Finset.sum_congr rfl fun k _ => ?_
  have hk := ValueIdx.contrEquiv1_symm_val dot_S512x3072_S1024x3072_S512x1024_1_1_0_0_n_n 3072 rfl rfl k
  have el : dot_S512x3072_S1024x3072_S512x1024_1_1_0_0_n_n.lhsIdx (ValueIdx.ix2 r d) ((ValueIdx.contrEquiv1 _ 3072 rfl rfl).symm k) = ValueIdx.ix2 r k := by
    funext a; apply Fin.ext
    match a with
    | ⟨0, _⟩ => rfl
    | ⟨1, _⟩ => exact hk
  have er : dot_S512x3072_S1024x3072_S512x1024_1_1_0_0_n_n.rhsIdx (ValueIdx.ix2 r d) ((ValueIdx.contrEquiv1 _ 3072 rfl rfl).symm k) = ValueIdx.ix2 d k := by
    funext a; apply Fin.ext
    match a with
    | ⟨0, _⟩ => exact rfl
    | ⟨1, _⟩ => exact hk
  rw [el, er, shapeCast_self, shapeCast_self]

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel

variable (m : (ℓ : Loc nD τ sig) → Buf (Elt Ideal) ℓ) (c : Dev nD)

/-- The rounding to bfloat16 changes nothing over the extended reals. -/
theorem host_0 : V m c main_v0 = m ((c : Thread nD τ).loc main_arg0) := by
  show StableHlo.after hostOps0 (fun b => m (c, b)) (Proc.devRef .tc main_v0) = _
  simp only [hostOps0]
  after_results
  rfl

theorem host_1 : V m c main_v1 = m ((c : Thread nD τ).loc main_arg1) := by
  show StableHlo.after hostOps0 (fun b => m (c, b)) (Proc.devRef .tc main_v1) = _
  simp only [hostOps0]
  after_results
  rfl

theorem in_0 (t : Fin cfg0.N) (r : Fin 512) (k : Fin 3072) :
    iblk m c 0 t (ValueIdx.ix2 r k) = m ((c : Thread nD τ).loc main_arg0) (ValueIdx.ix2 ⟨512 * (t.val) + r.val, by have h : t.val < 8 := lt_of_lt_of_eq t.isLt N_0; omega⟩ k) := by
  rw [← host_0 m c]
  blk_simp [iblk, idx_0]
  refine congrArg (V m c main_v0) (funext fun a => Fin.ext ?_)
  match a with
  | ⟨0, _⟩ => blk_simp [idx_0]; try simp [Nat.mul_comm]
  | ⟨1, _⟩ => blk_simp [idx_0]; try simp

theorem in_1 (t : Fin cfg0.N) (d : Fin 1024) (k : Fin 3072) :
    iblk m c 1 t (ValueIdx.ix2 d k) = m ((c : Thread nD τ).loc main_arg1) (ValueIdx.ix2 d k) := by
  rw [← host_1 m c]
  blk_simp [iblk, idx_1]
  refine congrArg (V m c main_v1) (funext fun a => Fin.ext ?_)
  match a with
  | ⟨0, _⟩ => blk_simp [idx_1]; try simp [Nat.mul_comm]
  | ⟨1, _⟩ => blk_simp [idx_1]; try simp [Nat.mul_comm]

/-- The array after the launch. -/
theorem arr_2 : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  have hN : t.val < 8 := lt_of_lt_of_eq t.isLt N_0
  blk_simp
  rw [after0_2]
  unfold out0_2
  rw [View.canon_unit_zero z2, View.ld_unit_zero z2, View.ld_unit_zero z2]
  have h0 : (y 0).val < 512 := (y 0).isLt
  have h1 : (y 1).val < 1024 := (y 1).isLt
  refine (pay_apply _ _ ⟨(y 0).val, h0⟩ ⟨(y 1).val, h1⟩).trans ?_
  have e0 : (((win0_2.blk t).view.emb y) 0).val = 512 * (t.val) + (y 0).val := by blk_simp [idx_2]; try simp [Nat.mul_comm]
  have e1 : (((win0_2.blk t).view.emb y) 1).val = (y 1).val := by blk_simp [idx_2]; try simp [Nat.mul_comm]
  unfold prod
  refine Finset.sum_congr rfl fun k _ => ?_
  rw [in_0, in_1]
  refine congrArg₂ (· * ·) (congrArg _ (funext fun a => Fin.ext ?_)) (congrArg _ (funext fun a => Fin.ext ?_))
  · match a with
    | ⟨0, _⟩ => exact e0.symm
    | ⟨1, _⟩ => rfl
  · match a with
    | ⟨0, _⟩ => exact e1.symm
    | ⟨1, _⟩ => exact rfl

/-- The launch ends with the product, its arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr_2 m c), (h c).2⟩) (Cert.IxIdeal.Value.run_blocks (F := Ideal) m ρ)

end ProjX

namespace ProjX.Ref

open Idealize.ShloMosaic Idealize.ShloMosaic.TcCoe Idealize.SL.Sem
open Cert.IxReferenceIdeal Cert.IxReferenceIdeal.Read

theorem ref_eq (x : (⟨S4096x3072, .f32⟩ : BufTy).Contents (Elt Ideal)) (w : (⟨S1024x3072, .f32⟩ : BufTy).Contents (Elt Ideal)) :
    val_main_v2 (F := Ideal) x w = ProjX.prod x w := by
  funext j
  rw [val_main_v2_apply]
  unfold ProjX.prod
  refine Finset.sum_congr rfl fun k _ => congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- The reference ends with the product, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = ProjX.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v2_eq _ _).trans (ref_eq _ _)), (h c).2⟩)
    (Cert.IxReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩)
    (Cert.IxReferenceIdeal.Value.run (F := Ideal) m ρ)

end ProjX.Ref

end
-- ==== Proof.IwVal.lean ====
/-
  The gradient of the even mixer's input weight: a grid point adds the product of 1024 rows to a third of the columns, from
  zero at the first of four points; the last point rounds the sum. The reference's gradient is the same sum over all rows.
-/
module

public import proofs.«01_k».proof.Proof.Gen.IwIdeal.Value
public import proofs.«01_k».proof.Proof.Gen.IwReferenceIdeal.Run
public import proofs.«01_k».proof.Proof.Gen.IwReferenceIdeal.Read
public import Idealize.ShloMosaic.Lib.MatmulPlain
public import Idealize.ShloMosaic.Lib.Pipeline.ValueKit
public import Idealize.ShloMosaic.Lib.Quiescent

@[expose] public section

set_option maxRecDepth 8192
set_option maxHeartbeats 400000

noncomputable section

namespace ProjW

open Idealize.ShloMosaic Idealize.ShloMosaic.TcCoe Idealize.ShloMosaic.Tactic Idealize.SL.Sem
open Cert.IwIdeal Cert.IwIdeal.Gen

theorem z2 : (![0, 0] : Fin 2 → ℕ) = fun _ => 0 := by decide

/-- The product of the transposed rows with the gradient, entry by entry. -/
def prod (x : S4096x1024.Idx → EReal) (y : S4096x3072.Idx → EReal) : S1024x3072.Idx → EReal := fun j =>
  ∑ k : Fin 4096, x (ValueIdx.ix2 k (j 0)) * y (ValueIdx.ix2 k (j 1))

/-- The sum so far and the product of one grid point's blocks. -/
theorem pay_apply (v : Vec Ideal S1024x1024 .f32) (x y : Vec Ideal S1024x1024 .bf16) (r d : Fin 1024) :
    k0_pay2 (F := Ideal) v x y (ValueIdx.ix2 r d) = v (ValueIdx.ix2 r d) + ∑ k : Fin 1024, x (ValueIdx.ix2 k r) * y (ValueIdx.ix2 k d) := by
  unfold k0_pay2
  rw [shapeCast_self, shapeCast_self, shapeCast_self]
  refine congrArg (v (ValueIdx.ix2 r d) + ·) ?_
  refine (Ideal.matmul_constant_zero_apply (φ₂ := .bf16) _ none x y _).trans ?_
  refine (Equiv.sum_comp (ValueIdx.contrEquiv1 dot_S1024x1024_S1024x1024_S1024x1024_0_0_1_1_n_n 1024 rfl rfl).symm _).symm.trans ?_
  refine Finset.sum_congr rfl fun k _ => ?_
  have hk := ValueIdx.contrEquiv1_symm_val dot_S1024x1024_S1024x1024_S1024x1024_0_0_1_1_n_n 1024 rfl rfl k
  refine congrArg₂ (· * ·) (congrArg x (funext fun a => Fin.ext ?_)) (congrArg y (funext fun a => Fin.ext ?_))
  · match a with
    | ⟨0, _⟩ => exact hk
    | ⟨1, _⟩ => rfl
  · match a with
    | ⟨0, _⟩ => exact hk
    | ⟨1, _⟩ => rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .bf16) (harg6 : arg6.IsWhole)

theorem outA (hc0 : cond0_0 i) (hc1 : ¬cond0_1 i) (x0 x1 : Vec Ideal S1024x1024 .bf16) :
    out0_A_2 (F := Ideal) c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  delta kernelRun0_A
  dsimp only
  delta kernelRun0_A.sl.v3 kernelRun0_A.sl.H2_1
  rw [View.canon_cons_unit_zero z2, View.readCov_unit_zero _ z2, View.readAt_eq_ld, View.readAt_eq_ld, harg3.read_unread, harg4.read_unread, View.ld_unit_zero z2, View.ld_unit_zero z2]

theorem outB (hc0 : ¬cond0_0 i) (hc1 : ¬cond0_1 i) (x0 x1 : Vec Ideal S1024x1024 .bf16) (v : Vec Ideal S1024x1024 .f32) :
    out0_B_2 (F := Ideal) c i arg3 harg3 arg4 harg4 arg5 harg5 arg6 harg6 hc0 hc1 x0 x1 v = k0_pay2 v x0 x1 := by
  unfold out0_B_2
  rw [View.read_writes_eq_canon _ _ _ (cover0_B_2 c i arg3 harg3 arg4 harg4 arg5 harg5 arg6 harg6 hc0 hc1 x0 x1 v)]
  delta kernelRun0_B
  dsimp only
  rw [View.canon_cons_unit_zero z2, View.readAt_eq_ld, View.readAt_eq_ld, View.readAt_eq_ld, harg3.read_unread, harg4.read_unread, harg5.read_unread, View.ld_unit_zero z2, View.ld_unit_zero z2, View.ld_unit_zero z2]

theorem outC (hc0 : ¬cond0_0 i) (hc1 : cond0_1 i) (x0 x1 : Vec Ideal S1024x1024 .bf16) (v : Vec Ideal S1024x1024 .f32) :
    out0_C_2 (F := Ideal) c i arg3 harg3 arg4 harg4 arg5 harg5 arg6 harg6 hc0 hc1 x0 x1 v = k0_pay2 v x0 x1 := by
  unfold out0_C_2
  rw [View.read_writes_eq_canon _ _ _ (cover0_C_2 c i arg3 harg3 arg4 harg4 arg5 harg5 arg6 harg6 hc0 hc1 x0 x1 v)]
  delta kernelRun0_C
  dsimp only
  delta kernelRun0_C.sl.H2_1
  rw [View.canon_cons_unit_zero z2, View.readAt_eq_ld, View.readAt_eq_ld, View.readAt_eq_ld, harg3.read_unread, harg4.read_unread, harg5.read_unread, View.ld_unit_zero z2, View.ld_unit_zero z2, View.ld_unit_zero z2]

theorem outC' (hc0 : ¬cond0_0 i) (hc1 : cond0_1 i) (x0 x1 : Vec Ideal S1024x1024 .bf16) (v : Vec Ideal S1024x1024 .f32) :
    out0_C_3 (F := Ideal) c i arg3 harg3 arg4 harg4 arg5 harg5 arg6 harg6 hc0 hc1 x0 x1 v = k0_pay2 v x0 x1 := by
  unfold out0_C_3
  rw [View.read_writes_eq_canon _ _ _ (cover0_C_3 c i arg3 harg3 arg4 harg4 arg5 harg5 arg6 harg6 hc0 hc1 x0 x1 v)]
  delta kernelRun0_C
  dsimp only
  delta kernelRun0_C.sl.v15 kernelRun0_C.sl.H2_1
  rw [View.canon_cons_unit_zero z2, View.readCov_unit_zero _ z2, View.readAt_eq_ld, View.readAt_eq_ld, View.readAt_eq_ld, harg3.read_unread, harg4.read_unread, harg5.read_unread, View.ld_unit_zero z2, View.ld_unit_zero z2, View.ld_unit_zero z2]
  unfold k0_pay3
  rw [shapeCast_self]
  rfl
end

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![0, t.val / 4] := by decide +kernel
theorem idx_3 : ∀ t : Fin cfg0.N, win0_3.index t = ![0, t.val / 4] := by decide +kernel
theorem last_2 : ∀ t : Fin cfg0.N, (cfg0.win 2).flush t = true → t.val % 4 = 3 := by decide +kernel
theorem last_3 : ∀ t : Fin cfg0.N, (cfg0.win 3).flush t = true → t.val % 4 = 3 := by decide +kernel

variable (m : (ℓ : Loc nD τ sig) → Buf (Elt Ideal) ℓ) (c : Dev nD)

abbrev aX : S4096x1024.Idx → EReal := m ((c : Thread nD τ).loc main_arg0)
abbrev aY : S4096x3072.Idx → EReal := m ((c : Thread nD τ).loc main_arg1)

/-- The rounding to bfloat16 changes nothing over the extended reals. -/
theorem host_0 : V m c main_v0 = aX m c := by
  show StableHlo.after hostOps0 (fun b => m (c, b)) (Proc.devRef .tc main_v0) = _
  simp only [hostOps0]
  after_results
  rfl

theorem host_1 : V m c main_v1 = aY m c := by
  show StableHlo.after hostOps0 (fun b => m (c, b)) (Proc.devRef .tc main_v1) = _
  simp only [hostOps0]
  after_results
  rfl

theorem in_0 (t : Fin cfg0.N) (k r : Fin 1024) :
    iblk m c 0 t (ValueIdx.ix2 k r) = aX m c (ValueIdx.ix2 ⟨1024 * (t.val % 4) + k.val, by omega⟩ r) := by
  rw [← host_0 m c]
  blk_simp [iblk, idx_0]
  refine congrArg (V m c main_v0) (funext fun a => Fin.ext ?_)
  match a with
  | ⟨0, _⟩ => blk_simp [idx_0]; try simp [Nat.mul_comm]
  | ⟨1, _⟩ => blk_simp [idx_0]; try simp

theorem in_1 (t : Fin cfg0.N) (k d : Fin 1024) :
    iblk m c 1 t (ValueIdx.ix2 k d) = aY m c (ValueIdx.ix2 ⟨1024 * (t.val % 4) + k.val, by omega⟩ ⟨1024 * (t.val / 4) + d.val, by have h : t.val < 12 := lt_of_lt_of_eq t.isLt N_0; omega⟩) := by
  rw [← host_1 m c]
  blk_simp [iblk, idx_1]
  refine congrArg (V m c main_v1) (funext fun a => Fin.ext ?_)
  match a with
  | ⟨0, _⟩ => blk_simp [idx_1]; try simp [Nat.mul_comm]
  | ⟨1, _⟩ => blk_simp [idx_1]; try simp [Nat.mul_comm]

/-- The term of row `n`, zero past the last row. -/
def term (r : Fin 1024) (e : Fin 3072) (n : ℕ) : EReal :=
  if h : n < 4096 then aX m c (ValueIdx.ix2 ⟨n, h⟩ r) * aY m c (ValueIdx.ix2 ⟨n, h⟩ e) else 0

abbrev bX (t : Fin cfg0.N) : Vec Ideal S1024x1024 .bf16 := iblk m c 0 t
abbrev bY (t : Fin cfg0.N) : Vec Ideal S1024x1024 .bf16 := iblk m c 1 t

theorem zero_apply (i : S1024x1024.Idx) : k0_pay1 (F := Ideal) i = (0 : EReal) := by
  show Ideal.ofBits .f32 0x00000000#32 = 0
  simp [Ideal.ofBits, Ideal.ieee]

theorem block_sum (t : Fin cfg0.N) (r d : Fin 1024) (e : Fin 3072) (he : e.val = 1024 * (t.val / 4) + d.val) :
    ∑ k : Fin 1024, bX m c t (ValueIdx.ix2 k r) * bY m c t (ValueIdx.ix2 k d)
      = ∑ k ∈ Finset.range 1024, term m c r e (1024 * (t.val % 4) + k) := by
  rw [Finset.sum_range]
  refine Finset.sum_congr rfl fun k _ => ?_
  have ee : e = ⟨1024 * (t.val / 4) + d.val, by have h : t.val < 12 := lt_of_lt_of_eq t.isLt N_0; omega⟩ := Fin.ext he
  unfold term
  rw [dif_pos (show 1024 * (t.val % 4) + k.val < 4096 by omega)]
  exact congrArg₂ (· * ·) (in_0 m c t k r) ((in_1 m c t k d).trans (congrArg (fun e => aY m c (ValueIdx.ix2 _ e)) ee.symm))

/-- What the first output holds after point `q` of a column block: the sum of the rows so far. -/
theorem acc (q : ℕ) : ∀ (t : Fin cfg0.N), t.val % 4 = q → ∀ (r d : Fin 1024) (e : Fin 3072), e.val = 1024 * (t.val / 4) + d.val →
    (outsAt0 m c t.val t.isLt).1 (ValueIdx.ix2 r d) = ∑ k ∈ Finset.range (1024 * q + 1024), term m c r e k := by
  induction q with
  | zero =>
    intro t ht r d e he
    rw [outsAt0_A m c t ht (by omega)]
    dsimp only
    rw [outA]
    refine (pay_apply _ (bX m c t) (bY m c t) r d).trans ?_
    rw [block_sum m c t r d e he, ht, zero_apply, zero_add]
    simp only [Nat.mul_zero, Nat.zero_add]
  | succ q ih =>
    intro t ht r d e he
    have hN : t.val < 12 := lt_of_lt_of_eq t.isLt N_0
    have h' := ih ⟨t.val - 1, by omega⟩ (by show (t.val - 1) % 4 = q; omega) r d e (by show e.val = 1024 * ((t.val - 1) / 4) + d.val; omega)
    have hs : (outsAt0 m c t.val t.isLt).1 = k0_pay2 (outsAt0 m c (t.val - 1) (lt_of_le_of_lt (Nat.sub_le _ _) t.isLt)).1 (bX m c t) (bY m c t) := by
      by_cases h3 : t.val % 4 = 3
      · rw [outsAt0_C m c t (by omega) h3]; dsimp only; rw [outC]
      · rw [outsAt0_B m c t (by omega) h3]; dsimp only; rw [outB]
    rw [hs]
    refine (pay_apply _ (bX m c t) (bY m c t) r d).trans ?_
    rw [block_sum m c t r d e he, ht, Nat.mul_succ, Finset.sum_range_add _ (1024 * q + 1024)]
    exact congrArg (· + _) h'

/-- After the last point: the sum over all rows. -/
theorem acc_all (t : Fin cfg0.N) (ht : t.val % 4 = 3) (y : S1024x1024.Idx) (j : S1024x3072.Idx) (h0 : (j 0).val = (y 0).val) (h1 : (j 1).val = 1024 * (t.val / 4) + (y 1).val) :
    (outsAt0 m c t.val t.isLt).1 y = prod (aX m c) (aY m c) j := by
  have ey : y = ValueIdx.ix2 (j 0) (y 1) := funext fun a => match a with
    | ⟨0, _⟩ => Fin.ext h0.symm
    | ⟨1, _⟩ => rfl
  rw [ey]
  refine (acc m c 3 t ht (j 0) (y 1) (j 1) h1).trans ?_
  rw [Finset.sum_range]
  unfold prod
  exact Finset.sum_congr rfl fun k _ => dif_pos k.isLt

theorem arr_2 : (dats m 0 c).arrAt 2 cfg0.N = prod (aX m c) (aY m c) := by
  refine (dats m 0 c).arrAt_eq_of_covers 2 _ (by decide +kernel) fun t hf y => ?_
  blk_simp
  rw [after0_2]
  refine acc_all m c t (last_2 t hf) y _ ?_ ?_
  · blk_simp [idx_2]; try simp
  · blk_simp [idx_2]; try simp [Nat.mul_comm]

theorem arr_3 : (dats m 0 c).arrAt 3 cfg0.N = prod (aX m c) (aY m c) := by
  refine (dats m 0 c).arrAt_eq_of_covers 3 _ (by decide +kernel) fun t hf y => ?_
  have h3 := last_3 t hf
  blk_simp
  rw [after0_3]
  have e : (outsAt0 m c t.val t.isLt).2 = (outsAt0 m c t.val t.isLt).1 := by
    rw [outsAt0_C m c t (by omega) h3]
    dsimp only
    rw [outC', outC]
  rw [e]
  refine acc_all m c t h3 y _ ?_ ?_
  · blk_simp [idx_3]; try simp
  · blk_simp [idx_3]; try simp [Nat.mul_comm]

/-- The launch ends with the sums in both results, its arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v2_0) = prod (aX m c) (aY m c)
      ∧ r.2.mem ((c.tc : Thread nD τ).loc main_v2_1) = prod (aX m c) (aY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr_2 m c), (h c).2.1.trans (arr_3 m c), (h c).2.2⟩) (Cert.IwIdeal.Value.run_blocks (F := Ideal) m ρ)

end ProjW

namespace ProjW.Ref

open Idealize.ShloMosaic Idealize.ShloMosaic.TcCoe Idealize.SL.Sem
open Cert.IwReferenceIdeal Cert.IwReferenceIdeal.Read

theorem ref_eq (x : (⟨S4096x1024, .f32⟩ : BufTy).Contents (Elt Ideal)) (y : (⟨S4096x3072, .f32⟩ : BufTy).Contents (Elt Ideal)) :
    val_main_v3 (F := Ideal) x y = ProjW.prod x y := by
  funext j
  rw [val_main_v3_apply, val_main_v2_apply]
  unfold ProjW.prod
  refine Finset.sum_congr rfl fun k _ => (mul_comm _ _).trans (congrArg₂ (· * ·) (congrArg x (funext fun a => ?_)) (congrArg y (funext fun a => ?_)))
  · match a with
    | ⟨0, _⟩ => rfl
    | ⟨1, _⟩ => rfl
  · match a with
    | ⟨0, _⟩ => rfl
    | ⟨1, _⟩ => rfl

/-- The reference ends with the sums, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = ProjW.prod (m ((c.tc : Thread nD τ).loc main_arg0)) (m ((c.tc : Thread nD τ).loc main_arg1))
      ∧ r.2.mem ((c.tc : Thread nD τ).loc main_v4) = ProjW.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v3_eq _ _).trans (ref_eq _ _)), (h c).2.1.trans ((val_main_v4_eq _ _).trans (ref_eq _ _)), (h c).2.2⟩)
    (Cert.IwReferenceIdeal.Value.run (F := Ideal) m ρ)

/-- Every run of the reference terminates with its arguments unchanged and the counters at zero. -/
theorem reference_frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, sem_eq_zero_of_no_sems (by decide) r.2⟩)
    (Cert.IwReferenceIdeal.Value.run (F := Ideal) m ρ)

end ProjW.Ref

end
-- ==== Proof.lean ====
/-
  The claims about the launches of the retention, of the feed-forward block and of the even mixer's input projection, assembled:
  the frames of kernel and reference, the named constants, and the equation of the kernels' results with the references'.
-/
module

public import proofs.«01_k».proof.Defs
public import proofs.«01_k».proof.Proof.Gen.Kernel.Frame
public import proofs.«01_k».proof.Proof.Gen.Fwd
public import proofs.«01_k».proof.Proof.Gen.Dx
public import proofs.«01_k».proof.Proof.Gen.Dw
public import proofs.«01_k».proof.Proof.Gen.Dv
public import proofs.«01_k».proof.Proof.Gen.In
public import proofs.«01_k».proof.Proof.Gen.Ix
public import proofs.«01_k».proof.Proof.Gen.Iw
public import proofs.«01_k».proof.Proof.KRun
public import proofs.«01_k».proof.Proof.RRun
public import proofs.«01_k».proof.Proof.DwRef
public import proofs.«01_k».proof.Proof.DvRef
public import proofs.«01_k».proof.Proof.FwdRef
public import proofs.«01_k».proof.Proof.DxRef
public import proofs.«01_k».proof.Proof.InVal
public import proofs.«01_k».proof.Proof.IxVal
public import proofs.«01_k».proof.Proof.IwVal
public import Idealize.ShloMosaic.Adequacy
public import Idealize.ShloMosaic.Init

@[expose] public section

noncomputable section

namespace Cert.Proof

open Idealize.ShloMosaic Idealize.SL.Sem

/-- The kernel at the ideal instance ends with the results the mathematics names, and the reference ends with the same. -/
theorem value : algebraic_KernelIdeal_ReferenceIdeal_pre_finite_arrays
    (hKernelIdeal := Cert.KernelIdeal.Gen.facts) (hReferenceIdeal := Cert.ReferenceIdeal.Gen.facts) (hPre_finite_arrays := Ret.preFacts) := by
  intro m g m' g' hpre hagree
  have hz : ∀ c, ∃ z : Ret.Inp, Ret.Holds m c z := fun c => Ret.inp_of_pre _ _ _ (hpre c)
  choose z hz using hz
  have hz' := fun c => (⟨(hagree c).1.trans (hz c).1, (hagree c).2.1.trans (hz c).2.1, (hagree c).2.2.trans (hz c).2.2⟩ :
    _ = (z c).A0 ∧ _ = (z c).A1 ∧ _ = (z c).A2)
  exact ⟨_, _, _, _, _, _,
    (θ_run Cert.KernelIdeal.defs _ _).mono (fun r h c => ⟨(h c).1.1, (h c).1.2.1, (h c).1.2.2.1, (h c).1.2.2.2.1, (h c).1.2.2.2.2.1, (h c).1.2.2.2.2.2, (h c).2⟩)
      (Ret.kernel_run m g z hz),
    (θ_run Cert.ReferenceIdeal.defs _ _).mono (fun r h c => ⟨(h c).1.1, (h c).1.2.1, (h c).1.2.2.1, (h c).1.2.2.2.1, (h c).1.2.2.2.2.1, (h c).1.2.2.2.2.2, (h c).2⟩)
      (Ret.reference_run m' g' z hz')⟩

/-- The four named constants round to the words the kernel is printed with. -/
theorem constants : preserves_Kernel_KernelIdeal :=
  ⟨IdealRules.named_const.statement Cert.KernelIdeal.κ "log_gamma_2" .f32 0xBC0080AC#32 _ rfl,
   IdealRules.named_const.statement Cert.KernelIdeal.κ "log_gamma_3" .f32 0xBB80402B#32 _ rfl,
   IdealRules.named_const.statement Cert.KernelIdeal.κ "log_gamma_1" .f32 0xBC8102B3#32 _ rfl,
   IdealRules.named_const.statement Cert.KernelIdeal.κ "log_gamma_0" .f32 0xBD020AEC#32 _ rfl⟩

/-- The launch of the first weight's gradient and the reference end with the same sums. -/
theorem value_w : algebraic_DwIdeal_DwReferenceIdeal (hDwIdeal := Cert.DwIdeal.Gen.facts) (hDwReferenceIdeal := Cert.DwReferenceIdeal.Gen.facts) := by
  intro m g m' g' _ hagree
  exact ⟨_, FfnW.kernel_run m g, (θ_run Cert.DwReferenceIdeal.defs _ _).mono
    (fun r h c => ⟨(h c).1.trans (congrArg₂ FfnW.dW (hagree c).1 (hagree c).2), (h c).2⟩) (FfnW.reference_run m' g')⟩

/-- The launch of the second weight's gradient and the reference end with the same sums. -/
theorem value_v : algebraic_DvIdeal_DvReferenceIdeal (hDvIdeal := Cert.DvIdeal.Gen.facts) (hDvReferenceIdeal := Cert.DvReferenceIdeal.Gen.facts) := by
  intro m g m' g' _ hagree
  exact ⟨_, FfnV.kernel_run m g, (θ_run Cert.DvReferenceIdeal.defs _ _).mono
    (fun r h c => ⟨(h c).1.trans (congrArg₂ FfnV.dW (hagree c).1 (hagree c).2), (h c).2⟩) (FfnV.reference_run m' g')⟩

/-- The body table of the first weight's launch is the same text over machine words and over the reals. -/
theorem defs_Dw : Cert.Dw.defs (F := Bits) = Cert.DwIdeal.defs (F := Bits) := by
  refine congrArg (Pipeline.defs _) (congrArg Defs.onTc (funext fun l => funext fun a => ?_))
  match l, a with
  | 0, (t, s) => rfl

/-- The frame of the first weight's launch over machine words, from the run over any float values. -/
theorem frame_Dw : quiescent_Dw (hDw := Cert.Dw.Gen.facts) := fun m g _ => by
  have h := Cert.DwIdeal.Gen.frame (F := Bits) m g
  rw [← defs_Dw] at h
  exact h

/-- The body table of the second weight's launch is the same text over machine words and over the reals. -/
theorem defs_Dv : Cert.Dv.defs (F := Bits) = Cert.DvIdeal.defs (F := Bits) := by
  refine congrArg (Pipeline.defs _) (congrArg Defs.onTc (funext fun l => funext fun a => ?_))
  match l, a with
  | 0, (t, s) => rfl

/-- The frame of the second weight's launch over machine words, from the run over any float values. -/
theorem frame_Dv : quiescent_Dv (hDv := Cert.Dv.Gen.facts) := fun m g _ => by
  have h := Cert.DvIdeal.Gen.frame (F := Bits) m g
  rw [← defs_Dv] at h
  exact h

/-- The forward pass of the feed-forward block: launch and reference leave the same array. -/
theorem value_f : algebraic_FwdIdeal_FwdReferenceIdeal (hFwdIdeal := Cert.FwdIdeal.Gen.facts) (hFwdReferenceIdeal := Cert.FwdReferenceIdeal.Gen.facts) := by
  intro m g m' g' _ hagree
  refine ⟨_, FfnF.kernel_run m g, (θ_run Cert.FwdReferenceIdeal.defs _ _).mono (fun r h c => ⟨(h c).1.trans ?_, (h c).2⟩) (FfnF.reference_run m' g')⟩
  obtain ⟨e0, e1, e2, e3, e4⟩ := hagree c
  rw [e0, e1, e2, e3, e4]

/-- The body table of the forward launch is the same text over machine words and over the reals. -/
theorem defs_Fwd : Cert.Fwd.defs (F := Bits) = Cert.FwdIdeal.defs (F := Bits) := by
  refine congrArg (Pipeline.defs _) (congrArg Defs.onTc (funext fun l => funext fun a => ?_))
  match l, a with
  | 0, (t, s) => rfl

/-- The frame of the forward launch over machine words, from the run over any float values. -/
theorem frame_Fwd : quiescent_Fwd (hFwd := Cert.Fwd.Gen.facts) := fun m g _ => by
  have h := Cert.FwdIdeal.Own.frame (F := Bits) m g
  rw [← defs_Fwd] at h
  exact h

/-- The backward launch of the feed-forward block and the reference end with the same two gradients. -/
theorem value_x : algebraic_DxIdeal_DxReferenceIdeal_pre_finite_ffn (hDxIdeal := Cert.DxIdeal.Gen.facts) (hDxReferenceIdeal := Cert.DxReferenceIdeal.Gen.facts) (hPre_finite_ffn := FfnX.ffnFacts) := by
  intro m g m' g' hpre hagree
  have hpre' : ∀ c, _ := fun c => by
    have h := hpre c
    obtain ⟨e0, e1, e2, e3, e4, e5⟩ := hagree c
    rw [← e0, ← e1, ← e2, ← e3, ← e4, ← e5] at h
    exact h
  refine ⟨_, _, FfnX.kernel_run m g, (θ_run Cert.DxReferenceIdeal.defs _ _).mono (fun r h c => ⟨(h c).1.trans ?_, (h c).2.1.trans ?_, (h c).2.2⟩) (FfnX.reference_run m' g' hpre')⟩
  · obtain ⟨e0, e1, e2, e3, e4, e5⟩ := hagree c
    rw [e0, e1, e2, e3, e4, e5]
  · obtain ⟨e0, e1, e2, e3, e4, e5⟩ := hagree c
    rw [e0, e1, e2, e3, e4, e5]

set_option maxHeartbeats 4000000 in
/-- The body table of the backward launch is the same text over machine words and over the reals. -/
theorem defs_Dx : Cert.Dx.defs (F := Bits) = Cert.DxIdeal.defs (F := Bits) := by
  refine congrArg (Pipeline.defs _) (congrArg Defs.onTc (funext fun l => funext fun a => ?_))
  match l, a with
  | 0, (t, s) => rfl

set_option maxHeartbeats 4000000 in
/-- The frame of the backward launch over machine words, from the run over any float values. -/
theorem frame_Dx : quiescent_Dx (hDx := Cert.Dx.Gen.facts) := fun m g _ => by
  have h := Cert.DxIdeal.Own.frame (F := Bits) m g
  rw [← defs_Dx] at h
  exact h

/-- The launch of the input projection and the reference end with the same sums. -/
theorem value_i : algebraic_InIdeal_InReferenceIdeal (hInIdeal := Cert.InIdeal.Gen.facts) (hInReferenceIdeal := Cert.InReferenceIdeal.Gen.facts) := by
  intro m g m' g' _ hagree
  exact ⟨_, ProjF.kernel_run m g, (θ_run Cert.InReferenceIdeal.defs _ _).mono
    (fun r h c => ⟨(h c).1.trans (congrArg₂ ProjF.prod (hagree c).1 (hagree c).2), (h c).2⟩) (ProjF.Ref.reference_run m' g')⟩

/-- Its body table is the same text over machine words and over the reals. -/
theorem defs_In : Cert.In.defs (F := Bits) = Cert.InIdeal.defs (F := Bits) := by
  refine congrArg (Pipeline.defs _) (congrArg Defs.onTc (funext fun l => funext fun a => ?_))
  match l, a with
  | 0, (t, s) => rfl

/-- Its frame over machine words, from the run over any float values. -/
theorem frame_In : quiescent_In (hIn := Cert.In.Gen.facts) := fun m g _ => by
  have h := Cert.InIdeal.Gen.frame (F := Bits) m g
  rw [← defs_In] at h
  exact h

/-- The launch of the projection's gradient by its rows and the reference end with the same sums. -/
theorem value_ix : algebraic_IxIdeal_IxReferenceIdeal (hIxIdeal := Cert.IxIdeal.Gen.facts) (hIxReferenceIdeal := Cert.IxReferenceIdeal.Gen.facts) := by
  intro m g m' g' _ hagree
  exact ⟨_, ProjX.kernel_run m g, (θ_run Cert.IxReferenceIdeal.defs _ _).mono
    (fun r h c => ⟨(h c).1.trans (congrArg₂ ProjX.prod (hagree c).1 (hagree c).2), (h c).2⟩) (ProjX.Ref.reference_run m' g')⟩

/-- Its body table is the same text over machine words and over the reals. -/
theorem defs_Ix : Cert.Ix.defs (F := Bits) = Cert.IxIdeal.defs (F := Bits) := by
  refine congrArg (Pipeline.defs _) (congrArg Defs.onTc (funext fun l => funext fun a => ?_))
  match l, a with
  | 0, (t, s) => rfl

/-- Its frame over machine words, from the run over any float values. -/
theorem frame_Ix : quiescent_Ix (hIx := Cert.Ix.Gen.facts) := fun m g _ => by
  have h := Cert.IxIdeal.Gen.frame (F := Bits) m g
  rw [← defs_Ix] at h
  exact h

/-- The launch of the projection's gradient by its weight and the reference end with the same sums. -/
theorem value_iw : algebraic_IwIdeal_IwReferenceIdeal (hIwIdeal := Cert.IwIdeal.Gen.facts) (hIwReferenceIdeal := Cert.IwReferenceIdeal.Gen.facts) := by
  intro m g m' g' _ hagree
  exact ⟨_, _, ProjW.kernel_run m g, (θ_run Cert.IwReferenceIdeal.defs _ _).mono
    (fun r h c => ⟨(h c).1.trans (congrArg₂ ProjW.prod (hagree c).1 (hagree c).2), (h c).2.1.trans (congrArg₂ ProjW.prod (hagree c).1 (hagree c).2), (h c).2.2⟩) (ProjW.Ref.reference_run m' g')⟩

/-- Its body table is the same text over machine words and over the reals. -/
theorem defs_Iw : Cert.Iw.defs (F := Bits) = Cert.IwIdeal.defs (F := Bits) := by
  refine congrArg (Pipeline.defs _) (congrArg Defs.onTc (funext fun l => funext fun a => ?_))
  match l, a with
  | 0, (t, s) => rfl

/-- Its frame over machine words, from the run over any float values. -/
theorem frame_Iw : quiescent_Iw (hIw := Cert.Iw.Gen.facts) := fun m g _ => by
  have h := Cert.IwIdeal.Gen.frame (F := Bits) m g
  rw [← defs_Iw] at h
  exact h

/-- Everything the certificate claims. -/
theorem claim : Cert.Claim :=
  ⟨Cert.Kernel.Gen.facts, Cert.KernelIdeal.Gen.facts, Cert.ReferenceIdeal.Gen.facts,
    Cert.Dw.Gen.facts, Cert.DwIdeal.Gen.facts, Cert.DwReferenceIdeal.Gen.facts,
    Cert.Dv.Gen.facts, Cert.DvIdeal.Gen.facts, Cert.DvReferenceIdeal.Gen.facts,
    Cert.Fwd.Gen.facts, Cert.FwdIdeal.Gen.facts, Cert.FwdReferenceIdeal.Gen.facts,
    Cert.Dx.Gen.facts, Cert.DxIdeal.Gen.facts, Cert.DxReferenceIdeal.Gen.facts,
    Cert.In.Gen.facts, Cert.InIdeal.Gen.facts, Cert.InReferenceIdeal.Gen.facts,
    Cert.Ix.Gen.facts, Cert.IxIdeal.Gen.facts, Cert.IxReferenceIdeal.Gen.facts,
    Cert.Iw.Gen.facts, Cert.IwIdeal.Gen.facts, Cert.IwReferenceIdeal.Gen.facts,
    Ret.preFacts, FfnX.ffnFacts,
    fun m g _ => Cert.Kernel.Gen.frame m g,
    fun m g _ => Cert.KernelIdeal.Gen.frame m g,
    fun m g _ => Cert.KernelIdeal.Gen.frame m g,
    fun m g _ => Ret.reference_frame m g,
    fun m g _ => Ret.reference_frame m g,
    frame_Dw,
    fun m g _ => Cert.DwIdeal.Gen.frame m g,
    fun m g _ => FfnW.reference_frame m g,
    frame_Dv,
    fun m g _ => Cert.DvIdeal.Gen.frame m g,
    fun m g _ => FfnV.reference_frame m g,
    frame_Fwd,
    fun m g _ => Cert.FwdIdeal.Own.frame m g,
    fun m g _ => FfnF.reference_frame m g,
    frame_Dx,
    fun m g _ => Cert.DxIdeal.Own.frame m g,
    fun m g _ => Cert.DxIdeal.Own.frame m g,
    fun m g _ => FfnX.reference_frame m g,
    fun m g _ => FfnX.reference_frame m g,
    frame_In,
    fun m g _ => Cert.InIdeal.Gen.frame m g,
    fun m g _ => ProjF.Ref.reference_frame m g,
    frame_Ix,
    fun m g _ => Cert.IxIdeal.Gen.frame m g,
    fun m g _ => ProjX.Ref.reference_frame m g,
    frame_Iw,
    fun m g _ => Cert.IwIdeal.Gen.frame m g,
    fun m g _ => ProjW.Ref.reference_frame m g,
    constants, value, trivial, value_w, trivial, value_v, trivial, value_f, trivial, value_x, trivial, value_i,
    trivial, value_ix, trivial, value_iw⟩

end Cert.Proof

end
